-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real3 [hPre_real3 : Cert.Pre_real3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_real3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_real3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_real3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real3 [hPre_real3 : Cert.Pre_real3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_real3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_real3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_real3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_real3 [hKernel3Ideal : Cert.Kernel3Ideal.Facts] [hPre_real3 : Cert.Pre_real3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_real3 [hReference3Ideal : Cert.Reference3Ideal.Facts] [hPre_real3 : Cert.Pre_real3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "qscale" .f32 0x3E16C740#32 (((Real.sqrt 96)⁻¹ * (Real.log 2)⁻¹ : ℝ) : EReal)

def algebraic_Kernel3Ideal_Reference3Ideal_pre_real3 [hKernel3Ideal : Cert.Kernel3Ideal.Facts] [hReference3Ideal : Cert.Reference3Ideal.Facts] [hPre_real3 : Cert.Pre_real3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v102)) (v1 : (c : Dev Cert.Kernel3Ideal.nD) → Buf (Elt Ideal) ((c.tc : Thread Cert.Kernel3Ideal.nD Cert.Kernel3Ideal.τ).loc Cert.Kernel3Ideal.main_v100_1)) (v2 : (c : Dev Cert.Kernel3Ideal.nD) → Buf (Elt Ideal) ((c.tc : Thread Cert.Kernel3Ideal.nD Cert.Kernel3Ideal.τ).loc Cert.Kernel3Ideal.main_v100_2)) (v3 : (c : Dev Cert.Kernel3Ideal.nD) → Buf (Elt Ideal) ((c.tc : Thread Cert.Kernel3Ideal.nD Cert.Kernel3Ideal.τ).loc Cert.Kernel3Ideal.main_v104)) (v4 : (c : Dev Cert.Kernel3Ideal.nD) → Buf (Elt Ideal) ((c.tc : Thread Cert.Kernel3Ideal.nD Cert.Kernel3Ideal.τ).loc Cert.Kernel3Ideal.main_v106)) (v5 : (c : Dev Cert.Kernel3Ideal.nD) → Buf (Elt Ideal) ((c.tc : Thread Cert.Kernel3Ideal.nD Cert.Kernel3Ideal.τ).loc Cert.Kernel3Ideal.main_v108)) (v6 : (c : Dev Cert.Kernel3Ideal.nD) → Buf (Elt Ideal) ((c.tc : Thread Cert.Kernel3Ideal.nD Cert.Kernel3Ideal.τ).loc Cert.Kernel3Ideal.main_v110)) (v7 : (c : Dev Cert.Kernel3Ideal.nD) → Buf (Elt Ideal) ((c.tc : Thread Cert.Kernel3Ideal.nD Cert.Kernel3Ideal.τ).loc Cert.Kernel3Ideal.main_v100_7)) (v8 : (c : Dev Cert.Kernel3Ideal.nD) → Buf (Elt Ideal) ((c.tc : Thread Cert.Kernel3Ideal.nD Cert.Kernel3Ideal.τ).loc Cert.Kernel3Ideal.main_v112)) (v9 : (c : Dev Cert.Kernel3Ideal.nD) → Buf (Elt Ideal) ((c.tc : Thread Cert.Kernel3Ideal.nD Cert.Kernel3Ideal.τ).loc Cert.Kernel3Ideal.main_v114)) (v10 : (c : Dev Cert.Kernel3Ideal.nD) → Buf (Elt Ideal) ((c.tc : Thread Cert.Kernel3Ideal.nD Cert.Kernel3Ideal.τ).loc Cert.Kernel3Ideal.main_v116)) (v11 : (c : Dev Cert.Kernel3Ideal.nD) → Buf (Elt Ideal) ((c.tc : Thread Cert.Kernel3Ideal.nD Cert.Kernel3Ideal.τ).loc Cert.Kernel3Ideal.main_v100_11)) (v12 : (c : Dev Cert.Kernel3Ideal.nD) → Buf (Elt Ideal) ((c.tc : Thread Cert.Kernel3Ideal.nD Cert.Kernel3Ideal.τ).loc Cert.Kernel3Ideal.main_v100_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v102) = v0 c
          ∧ r.2.mem ((c.tc : Thread Cert.Kernel3Ideal.nD Cert.Kernel3Ideal.τ).loc Cert.Kernel3Ideal.main_v100_1) = v1 c
          ∧ r.2.mem ((c.tc : Thread Cert.Kernel3Ideal.nD Cert.Kernel3Ideal.τ).loc Cert.Kernel3Ideal.main_v100_2) = v2 c
          ∧ r.2.mem ((c.tc : Thread Cert.Kernel3Ideal.nD Cert.Kernel3Ideal.τ).loc Cert.Kernel3Ideal.main_v104) = v3 c
          ∧ r.2.mem ((c.tc : Thread Cert.Kernel3Ideal.nD Cert.Kernel3Ideal.τ).loc Cert.Kernel3Ideal.main_v106) = v4 c
          ∧ r.2.mem ((c.tc : Thread Cert.Kernel3Ideal.nD Cert.Kernel3Ideal.τ).loc Cert.Kernel3Ideal.main_v108) = v5 c
          ∧ r.2.mem ((c.tc : Thread Cert.Kernel3Ideal.nD Cert.Kernel3Ideal.τ).loc Cert.Kernel3Ideal.main_v110) = v6 c
          ∧ r.2.mem ((c.tc : Thread Cert.Kernel3Ideal.nD Cert.Kernel3Ideal.τ).loc Cert.Kernel3Ideal.main_v100_7) = v7 c
          ∧ r.2.mem ((c.tc : Thread Cert.Kernel3Ideal.nD Cert.Kernel3Ideal.τ).loc Cert.Kernel3Ideal.main_v112) = v8 c
          ∧ r.2.mem ((c.tc : Thread Cert.Kernel3Ideal.nD Cert.Kernel3Ideal.τ).loc Cert.Kernel3Ideal.main_v114) = v9 c
          ∧ r.2.mem ((c.tc : Thread Cert.Kernel3Ideal.nD Cert.Kernel3Ideal.τ).loc Cert.Kernel3Ideal.main_v116) = v10 c
          ∧ r.2.mem ((c.tc : Thread Cert.Kernel3Ideal.nD Cert.Kernel3Ideal.τ).loc Cert.Kernel3Ideal.main_v100_11) = v11 c
          ∧ r.2.mem ((c.tc : Thread Cert.Kernel3Ideal.nD Cert.Kernel3Ideal.τ).loc Cert.Kernel3Ideal.main_v100_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v127) = v0 c
          ∧ r.2.mem ((c.tc : Thread Cert.Reference3Ideal.nD Cert.Reference3Ideal.τ).loc Cert.Reference3Ideal.main_v129) = v1 c
          ∧ r.2.mem ((c.tc : Thread Cert.Reference3Ideal.nD Cert.Reference3Ideal.τ).loc Cert.Reference3Ideal.main_v131) = v2 c
          ∧ r.2.mem ((c.tc : Thread Cert.Reference3Ideal.nD Cert.Reference3Ideal.τ).loc Cert.Reference3Ideal.main_v133) = v3 c
          ∧ r.2.mem ((c.tc : Thread Cert.Reference3Ideal.nD Cert.Reference3Ideal.τ).loc Cert.Reference3Ideal.main_v136) = v4 c
          ∧ r.2.mem ((c.tc : Thread Cert.Reference3Ideal.nD Cert.Reference3Ideal.τ).loc Cert.Reference3Ideal.main_v138) = v5 c
          ∧ r.2.mem ((c.tc : Thread Cert.Reference3Ideal.nD Cert.Reference3Ideal.τ).loc Cert.Reference3Ideal.main_v141) = v6 c
          ∧ r.2.mem ((c.tc : Thread Cert.Reference3Ideal.nD Cert.Reference3Ideal.τ).loc Cert.Reference3Ideal.main_v142) = v7 c
          ∧ r.2.mem ((c.tc : Thread Cert.Reference3Ideal.nD Cert.Reference3Ideal.τ).loc Cert.Reference3Ideal.main_v144) = v8 c
          ∧ r.2.mem ((c.tc : Thread Cert.Reference3Ideal.nD Cert.Reference3Ideal.τ).loc Cert.Reference3Ideal.main_v146) = v9 c
          ∧ r.2.mem ((c.tc : Thread Cert.Reference3Ideal.nD Cert.Reference3Ideal.τ).loc Cert.Reference3Ideal.main_v151) = v10 c
          ∧ r.2.mem ((c.tc : Thread Cert.Reference3Ideal.nD Cert.Reference3Ideal.τ).loc Cert.Reference3Ideal.main_v158) = v11 c
          ∧ r.2.mem ((c.tc : Thread Cert.Reference3Ideal.nD Cert.Reference3Ideal.τ).loc Cert.Reference3Ideal.main_v165) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_real3 : Cert.Pre_real3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_real3 (hKernel3Ideal := hKernel3Ideal) (hPre_real3 := hPre_real3)
    ∧ quiescent_Reference3Ideal (hReference3Ideal := hReference3Ideal)
    ∧ quiescent_Reference3Ideal_pre_real3 (hReference3Ideal := hReference3Ideal) (hPre_real3 := hPre_real3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_real3 (hKernel3Ideal := hKernel3Ideal) (hReference3Ideal := hReference3Ideal) (hPre_real3 := hPre_real3)
-- ==== Pre_finite.lean ====
abbrev S8x2048x8x96 : Shape := ⟨4, ![8, 2048, 8, 96]⟩
abbrev S8x2048x8x64 : Shape := ⟨4, ![8, 2048, 8, 64]⟩
abbrev S_ : Shape := ⟨0, ![]⟩

class Facts : Prop where
  bcast_S_S8x2048x8x96 : S_.BroadcastsInDim S8x2048x8x96 (![] : Fin 0 → Fin S8x2048x8x96.rank)

variable [Facts]

def fn {F : FTy → Type} [FloatOps F] (main_arg0 : FVec F S8x2048x8x96 .f32) (main_arg1 : FVec F S8x2048x8x96 .f32) (main_arg2 : FVec F S8x2048x8x64 .f32) : IVec S8x2048x8x96 1 × IVec S8x2048x8x96 1 :=
  let main_cst : FVec F S_ .f32 := constant S_ .f32 0x7F800000#32
  let main_v0 : FVec F S8x2048x8x96 .f32 := broadcastInDim S8x2048x8x96 ![] bcast_S_S8x2048x8x96 main_cst
  let main_v1 : IVec S8x2048x8x96 1 := cmpf .olt main_arg0 main_v0
  let main_cst_0 : FVec F S_ .f32 := constant S_ .f32 0xFF800000#32
  let main_v2 : FVec F S8x2048x8x96 .f32 := broadcastInDim S8x2048x8x96 ![] bcast_S_S8x2048x8x96 main_cst_0
  let main_v3 : IVec S8x2048x8x96 1 := cmpf .ogt main_arg0 main_v2
  let main_v4 : IVec S8x2048x8x96 1 := andi main_v1 main_v3
  let main_cst_1 : FVec F S_ .f32 := constant S_ .f32 0x7F800000#32
  let main_v5 : FVec F S8x2048x8x96 .f32 := broadcastInDim S8x2048x8x96 ![] bcast_S_S8x2048x8x96 main_cst_1
  let main_v6 : IVec S8x2048x8x96 1 := cmpf .olt main_arg1 main_v5
  let main_cst_2 : FVec F S_ .f32 := constant S_ .f32 0xFF800000#32
  let main_v7 : FVec F S8x2048x8x96 .f32 := broadcastInDim S8x2048x8x96 ![] bcast_S_S8x2048x8x96 main_cst_2
  let main_v8 : IVec S8x2048x8x96 1 := cmpf .ogt main_arg1 main_v7
  let main_v9 : IVec S8x2048x8x96 1 := andi main_v6 main_v8
  (main_v4, main_v9)
-- ==== Pre_real3.lean ====
abbrev S8x2048x1024 : Shape := ⟨3, ![8, 2048, 1024]⟩
abbrev S8x2048 : Shape := ⟨2, ![8, 2048]⟩
abbrev S1024 : Shape := ⟨1, ![1024]⟩
abbrev S1024x3768 : Shape := ⟨2, ![1024, 3768]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S_ : Shape := ⟨0, ![]⟩

class Facts : Prop where
  bcast_S_S1024 : S_.BroadcastsInDim S1024 (![] : Fin 0 → Fin S1024.rank)
  bcast_S_S1024x3768 : S_.BroadcastsInDim S1024x3768 (![] : Fin 0 → Fin S1024x3768.rank)
  bcast_S_S256 : S_.BroadcastsInDim S256 (![] : Fin 0 → Fin S256.rank)
  bcast_S_S256x768 : S_.BroadcastsInDim S256x768 (![] : Fin 0 → Fin S256x768.rank)

variable [Facts]

def fn_part1 {F : FTy → Type} [FloatOps F] (main_arg6 : FVec F S256x768 .f32) (main_v4 : IVec S1024 1) (main_v9 : IVec S1024x3768 1) (main_v14 : IVec S256 1) (main_v16 : IVec S256x768 1) : IVec S1024 1 × IVec S1024x3768 1 × IVec S256 1 × IVec S256x768 1 :=
  let main_cst_6 : FVec F S_ .f32 := constant S_ .f32 0xFF800000#32
  let main_v17 : FVec F S256x768 .f32 := broadcastInDim S256x768 ![] bcast_S_S256x768 main_cst_6
  let main_v18 : IVec S256x768 1 := cmpf .ogt main_arg6 main_v17
  let main_v19 : IVec S256x768 1 := andi main_v16 main_v18
  (main_v4, main_v9, main_v14, main_v19)

def fn {F : FTy → Type} [FloatOps F] (main_arg0 : FVec F S8x2048x1024 .f32) (main_arg1 : IVec S8x2048 32) (main_arg2 : FVec F S1024 .f32) (main_arg3 : FVec F S1024x3768 .f32) (main_arg4 : FVec F S256 .f32) (main_arg5 : FVec F S128 .f32) (main_arg6 : FVec F S256x768 .f32) (main_arg7 : FVec F S128x1024 .f32) : IVec S1024 1 × IVec S1024x3768 1 × IVec S256 1 × IVec S256x768 1 :=
  let main_cst : FVec F S_ .f32 := constant S_ .f32 0x7F800000#32
  let main_v0 : FVec F S1024 .f32 := broadcastInDim S1024 ![] bcast_S_S1024 main_cst
  let main_v1 : IVec S1024 1 := cmpf .olt main_arg2 main_v0
  let main_cst_0 : FVec F S_ .f32 := constant S_ .f32 0xFF800000#32
  let main_v2 : FVec F S1024 .f32 := broadcastInDim S1024 ![] bcast_S_S1024 main_cst_0
  let main_v3 : IVec S1024 1 := cmpf .ogt main_arg2 main_v2
  let main_v4 : IVec S1024 1 := andi main_v1 main_v3
  let main_cst_1 : FVec F S_ .f32 := constant S_ .f32 0x7F800000#32
  let main_v5 : FVec F S1024x3768 .f32 := broadcastInDim S1024x3768 ![] bcast_S_S1024x3768 main_cst_1
  let main_v6 : IVec S1024x3768 1 := cmpf .olt main_arg3 main_v5
  let main_cst_2 : FVec F S_ .f32 := constant S_ .f32 0xFF800000#32
  let main_v7 : FVec F S1024x3768 .f32 := broadcastInDim S1024x3768 ![] bcast_S_S1024x3768 main_cst_2
  let main_v8 : IVec S1024x3768 1 := cmpf .ogt main_arg3 main_v7
  let main_v9 : IVec S1024x3768 1 := andi main_v6 main_v8
  let main_cst_3 : FVec F S_ .f32 := constant S_ .f32 0x7F800000#32
  let main_v10 : FVec F S256 .f32 := broadcastInDim S256 ![] bcast_S_S256 main_cst_3
  let main_v11 : IVec S256 1 := cmpf .olt main_arg4 main_v10
  let main_cst_4 : FVec F S_ .f32 := constant S_ .f32 0xFF800000#32
  let main_v12 : FVec F S256 .f32 := broadcastInDim S256 ![] bcast_S_S256 main_cst_4
  let main_v13 : IVec S256 1 := cmpf .ogt main_arg4 main_v12
  let main_v14 : IVec S256 1 := andi main_v11 main_v13
  let main_cst_5 : FVec F S_ .f32 := constant S_ .f32 0x7F800000#32
  let main_v15 : FVec F S256x768 .f32 := broadcastInDim S256x768 ![] bcast_S_S256x768 main_cst_5
  let main_v16 : IVec S256x768 1 := cmpf .olt main_arg6 main_v15
  fn_part1 (F := F) main_arg6 main_v4 main_v9 main_v14 main_v16
-- ==== Kernel.lean ====
abbrev S8x2048x8x96 : Shape := ⟨4, ![8, 2048, 8, 96]⟩
abbrev S8x2048x8x64 : Shape := ⟨4, ![8, 2048, 8, 64]⟩
abbrev S_ : Shape := ⟨0, ![]⟩
abbrev S8x2048x8x128 : Shape := ⟨4, ![8, 2048, 8, 128]⟩
abbrev S16384x1024 : Shape := ⟨2, ![16384, 1024]⟩
abbrev S64x256x4x128 : Shape := ⟨4, ![64, 256, 4, 128]⟩
abbrev S64x4x128x256 : Shape := ⟨4, ![64, 4, 128, 256]⟩
abbrev S64x4x16x256 : Shape := ⟨4, ![64, 4, 16, 256]⟩
abbrev S64x4x144x256 : Shape := ⟨4, ![64, 4, 144, 256]⟩
abbrev S64x576x256 : Shape := ⟨3, ![64, 576, 256]⟩
abbrev S16384x512 : Shape := ⟨2, ![16384, 512]⟩
abbrev S512x256 : Shape := ⟨2, ![512, 256]⟩
abbrev S2048x256 : Shape := ⟨2, ![2048, 256]⟩
abbrev S8x144x256 : Shape := ⟨3, ![8, 144, 256]⟩
abbrev S512x128 : Shape := ⟨2, ![512, 128]⟩
abbrev S1x1024 : Shape := ⟨2, ![1, 1024]⟩
abbrev S128x1024 : Shape := ⟨2, ![128, 1024]⟩
abbrev S256x1024 : Shape := ⟨2, ![256, 1024]⟩
abbrev S256x256 : Shape := ⟨2, ![256, 256]⟩
abbrev S256x128 : Shape := ⟨2, ![256, 128]⟩
abbrev S256x512 : Shape := ⟨2, ![256, 512]⟩
abbrev S1024 : Shape := ⟨1, ![1024]⟩
abbrev S1x144x256 : Shape := ⟨3, ![1, 144, 256]⟩
abbrev S144x256 : Shape := ⟨2, ![144, 256]⟩
abbrev S144x1024 : Shape := ⟨2, ![144, 1024]⟩
abbrev S128x512 : Shape := ⟨2, ![128, 512]⟩

abbrev nBuf : Space → Nat
  | .hbm => 30
  | .vmem => 12
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x8x96, .f32⟩
  | .hbm, ⟨11, _⟩ => ⟨S8x2048x8x96, .f32⟩
  | .hbm, ⟨12, _⟩ => ⟨S_, .i32⟩
  | .hbm, ⟨13, _⟩ => ⟨S_, .f32⟩
  | .hbm, ⟨14, _⟩ => ⟨S8x2048x8x128, .f32⟩
  | .hbm, ⟨15, _⟩ => ⟨S16384x1024, .f32⟩
  | .hbm, ⟨16, _⟩ => ⟨S16384x1024, .bf16⟩
  | .hbm, ⟨17, _⟩ => ⟨S_, .i32⟩
  | .hbm, ⟨18, _⟩ => ⟨S_, .f32⟩
  | .hbm, ⟨19, _⟩ => ⟨S8x2048x8x128, .f32⟩
  | .hbm, ⟨20, _⟩ => ⟨S16384x1024, .f32⟩
  | .hbm, ⟨21, _⟩ => ⟨S16384x1024, .bf16⟩
  | .hbm, ⟨22, _⟩ => ⟨S64x256x4x128, .f32⟩
  | .hbm, ⟨23, _⟩ => ⟨S64x4x128x256, .f32⟩
  | .hbm, ⟨24, _⟩ => ⟨S_, .f32⟩
  | .hbm, ⟨25, _⟩ => ⟨S64x4x16x256, .f32⟩
  | .hbm, ⟨26, _⟩ => ⟨S64x4x144x256, .f32⟩
  | .hbm, ⟨27, _⟩ => ⟨S64x576x256, .f32⟩
  | .hbm, ⟨28, _⟩ => ⟨S64x576x256, .bf16⟩
  | .hbm, ⟨29, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S8x144x256, .bf16⟩
  | .local _ .vmem, ⟨5, _⟩ => ⟨S8x144x256, .bf16⟩
  | .local _ .vmem, ⟨6, _⟩ => ⟨S512x128, .bf16⟩
  | .local _ .vmem, ⟨7, _⟩ => ⟨S512x128, .bf16⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S256x1024, .bf16⟩
  | _, _ => ⟨S8x2048x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c2_i32 : BitVec 32 := 2#32
  let v8 : BitVec 32 := Scalar.muli arg2 c2_i32
  let c256_i32 : BitVec 32 := 256#32
  let v10 : BitVec 32 := Scalar.muli v8 c256_i32
  v10
def k0_off1 (i : grid0.Coords) : Fin 2 → Nat :=
  let arg2 : BitVec 32 := BitVec.ofNat 32 (i 2).val
  let c2_i32 : BitVec 32 := 2#32
  let v8 : BitVec 32 := Scalar.muli arg2 c2_i32
  let c256_i32 : BitVec 32 := 256#32
  let v10 : BitVec 32 := Scalar.muli v8 c256_i32
  let v11 : BitVec 32 := v10
  let v12 : Index := Scalar.indexCast v11
  let c0_2 : Index := 0#32
  ![v12.toNat, 0]
def k0_mult2 (i : grid0.Coords) : BitVec 32 :=
  let arg2 : BitVec 32 := BitVec.ofNat 32 (i 2).val
  let c2_i32 : BitVec 32 := 2#32
  let v8 : BitVec 32 := Scalar.muli arg2 c2_i32
  let c1_i32 : BitVec 32 := 1#32
  let v45 : BitVec 32 := Scalar.addi v8 c1_i32
  let c256_i32_17 : BitVec 32 := 256#32
  let v46 : BitVec 32 := Scalar.muli v45 c256_i32_17
  v46
def k0_off2 (i : grid0.Coords) : Fin 2 → Nat :=
  let arg2 : BitVec 32 := BitVec.ofNat 32 (i 2).val
  let c2_i32 : BitVec 32 := 2#32
  let v8 : BitVec 32 := Scalar.muli arg2 c2_i32
  let c1_i32 : BitVec 32 := 1#32
  let v45 : BitVec 32 := Scalar.addi v8 c1_i32
  let c256_i32_17 : BitVec 32 := 256#32
  let v46 : BitVec 32 := Scalar.muli v45 c256_i32_17
  let v47 : BitVec 32 := v46
  let v48 : Index := Scalar.indexCast v47
  let c0_18 : Index := 0#32
  ![v48.toNat, 0]
def k0_off3 (i : grid0.Coords) : Fin 3 → Nat :=
  let arg2 : BitVec 32 := BitVec.ofNat 32 (i 2).val
  let c2_i32 : BitVec 32 := 2#32
  let v8 : BitVec 32 := Scalar.muli arg2 c2_i32
  let c1_i32_22 : BitVec 32 := 1#32
  let v58 : BitVec 32 := Scalar.addi v8 c1_i32_22
  let c1_i32_23 : BitVec 32 := 1#32
  let v59 : BitVec 32 := Scalar.subi v58 c1_i32_23
  let v60 : Index := Scalar.indexCast v59
  let c0_24 : Index := 0#32
  let c0_25 : Index := 0#32
  ![v60.toNat, 0, 0]
@[reducible] def k0_t1_loop (i : grid0.Coords) : Scf.Loop 32 :=
  let c0_i32 : BitVec 32 := 0#32
  let arg2 : BitVec 32 := BitVec.ofNat 32 (i 2).val
  let c2_i32 : BitVec 32 := 2#32
  let v8 : BitVec 32 := Scalar.muli arg2 c2_i32
  let v98 : BitVec 32 := Scalar.subi v8 c0_i32
  let c1_i32_46 : BitVec 32 := 1#32
  let v100 : BitVec 32 := Scalar.divsi v98 c1_i32_46
  let v101 : BitVec 32 := Scalar.muli v100 c1_i32_46
  let v102 : BitVec 32 := Scalar.addi c0_i32 v101
  let c1_i32_47 : BitVec 32 := 1#32
  ⟨c0_i32, v102, c1_i32_47⟩
def k0_mult3 (i : grid0.Coords) (k0_t1 : Fin (k0_t1_loop i).trips) : BitVec 32 :=
  let c0_i32 : BitVec 32 := 0#32
  let c1_i32_47 : BitVec 32 := 1#32
  let arg11 : BitVec 32 := Scf.iv c0_i32 c1_i32_47 k0_t1
  let c256_i32_60 : BitVec 32 := 256#32
  let v127 : BitVec 32 := Scalar.muli arg11 c256_i32_60
  v127
def k0_off4 (i : grid0.Coords) (k0_t1 : Fin (k0_t1_loop i).trips) : Fin 2 → Nat :=
  let c0_i32 : BitVec 32 := 0#32
  let c1_i32_47 : BitVec 32 := 1#32
  let arg11 : BitVec 32 := Scf.iv c0_i32 c1_i32_47 k0_t1
  let c256_i32_60 : BitVec 32 := 256#32
  let v127 : BitVec 32 := Scalar.muli arg11 c256_i32_60
  let v128 : BitVec 32 := v127
  let v129 : Index := Scalar.indexCast v128
  let c0_61 : Index := 0#32
  ![v129.toNat, 0]
def k0_off5 (arg12 : BitVec 32) : Fin 3 → Nat :=
  let v137 : Index := Scalar.indexCast arg12
  let c0_64 : Index := 0#32
  let c0_65 : Index := 0#32
  ![v137.toNat, 0, 0]

def k0_chk1 (i : grid0.Coords) (k0_t1 : Fin (k0_t1_loop i).trips) (arg12 : BitVec 32) : Prop :=
  (∀ a, (k0_off5 arg12) a + S1x144x256.size a ≤ S8x144x256.size a)
theorem k0_off5_inb : ∀ (i : grid0.Coords) (k0_t1 : Fin (k0_t1_loop i).trips) (arg12 : BitVec 32) (k0_hw1 : k0_chk1 i k0_t1 arg12), ∀ a, (k0_off5 arg12) a + S1x144x256.size a ≤ S8x144x256.size a := fun i k0_t1 arg12 k0_hw1 => k0_hw1

@[reducible] def k0_t2_loop (i : grid0.Coords) : Scf.Loop 32 :=
  let c0_i32 : BitVec 32 := 0#32
  let arg2 : BitVec 32 := BitVec.ofNat 32 (i 2).val
  let c2_i32 : BitVec 32 := 2#32
  let v8 : BitVec 32 := Scalar.muli arg2 c2_i32
  let v98 : BitVec 32 := Scalar.subi v8 c0_i32
  let c1_i32_46 : BitVec 32 := 1#32
  let v100 : BitVec 32 := Scalar.divsi v98 c1_i32_46
  let v101 : BitVec 32 := Scalar.muli v100 c1_i32_46
  let v102 : BitVec 32 := Scalar.addi c0_i32 v101
  let v99 : BitVec 32 := Scalar.addi c0_i32 v98
  let c1_i32_48 : BitVec 32 := 1#32
  ⟨v102, v99, c1_i32_48⟩
def k0_mult4 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v8 : BitVec 32 := Scalar.muli arg2 c2_i32
  let v98 : BitVec 32 := Scalar.subi v8 c0_i32
  let c1_i32_46 : BitVec 32 := 1#32
  let v100 : BitVec 32 := Scalar.divsi v98 c1_i32_46
  let v101 : BitVec 32 := Scalar.muli v100 c1_i32_46
  let v102 : BitVec 32 := Scalar.addi c0_i32 v101
  let c1_i32_48 : BitVec 32 := 1#32
  let arg11 : BitVec 32 := Scf.iv v102 c1_i32_48 k0_t2
  let c256_i32_60 : BitVec 32 := 256#32
  let v127 : BitVec 32 := Scalar.muli arg11 c256_i32_60
  v127
def k0_off6 (i : grid0.Coords) (k0_t2 : Fin (k0_t2_loop i).trips) : Fin 2 → Nat :=
  let c0_i32 : BitVec 32 := 0#32
  let arg2 : BitVec 32 := BitVec.ofNat 32 (i 2).val
  let c2_i32 : BitVec 32 := 2#32
  let v8 : BitVec 32 := Scalar.muli arg2 c2_i32
  let v98 : BitVec 32 := Scalar.subi v8 c0_i32
  let c1_i32_46 : BitVec 32 := 1#32
  let v100 : BitVec 32 := Scalar.divsi v98 c1_i32_46
  let v101 : BitVec 32 := Scalar.muli v100 c1_i32_46
  let v102 : BitVec 32 := Scalar.addi c0_i32 v101
  let c1_i32_48 : BitVec 32 := 1#32
  let arg11 : BitVec 32 := Scf.iv v102 c1_i32_48 k0_t2
  let c256_i32_60 : BitVec 32 := 256#32
  let v127 : BitVec 32 := Scalar.muli arg11 c256_i32_60
  let v128 : BitVec 32 := v127
  let v129 : Index := Scalar.indexCast v128
  let c0_61 : Index := 0#32
  ![v129.toNat, 0]
def k0_off7 (arg12 : BitVec 32) : Fin 3 → Nat :=
  let v137 : Index := Scalar.indexCast arg12
  let c0_64 : Index := 0#32
  let c0_65 : Index := 0#32
  ![v137.toNat, 0, 0]

def k0_chk2 (i : grid0.Coords) (k0_t2 : Fin (k0_t2_loop i).trips) (arg12 : BitVec 32) : Prop :=
  (∀ a, (k0_off7 arg12) a + S1x144x256.size a ≤ S8x144x256.size a)
theorem k0_off7_inb : ∀ (i : grid0.Coords) (k0_t2 : Fin (k0_t2_loop i).trips) (arg12 : BitVec 32) (k0_hw2 : k0_chk2 i k0_t2 arg12), ∀ a, (k0_off7 arg12) a + S1x144x256.size a ≤ S8x144x256.size a := fun i k0_t2 arg12 k0_hw2 => k0_hw2

def k0_off8 (v104 : BitVec 32) : Fin 3 → Nat :=
  let v105 : Index := Scalar.indexCast v104
  let c0_49 : Index := 0#32
  let c0_50 : Index := 0#32
  ![v105.toNat, 0, 0]

def k0_chk3 (v104 : BitVec 32) : Prop :=
  (∀ a, (k0_off8 v104) a + S1x144x256.size a ≤ S8x144x256.size a)
theorem k0_off8_inb : ∀ (v104 : BitVec 32) (k0_hw3 : k0_chk3 v104), ∀ a, (k0_off8 v104) a + S1x144x256.size a ≤ S8x144x256.size a := fun v104 k0_hw3 => k0_hw3

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x8x96 : Shape := ⟨4, ![8, 2048, 8, 96]⟩
abbrev S8x2048x8x64 : Shape := ⟨4, ![8, 2048, 8, 64]⟩
abbrev S_ : Shape := ⟨0, ![]⟩
abbrev S8x8x2048x2048 : Shape := ⟨4, ![8, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x8x96, .f32⟩
  | .hbm, ⟨1, _⟩ => ⟨S8x2048x8x96, .f32⟩
  | .hbm, ⟨2, _⟩ => ⟨S8x2048x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x2048x8x96, .f32⟩
  | .hbm, ⟨8, _⟩ => ⟨S8x2048x8x96, .f32⟩
  | .hbm, ⟨9, _⟩ => ⟨S8x8x2048x2048, .f32⟩
  | .hbm, ⟨10, _⟩ => ⟨S2048, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x1x2048x2048, .i1⟩
  | .hbm, ⟨17, _⟩ => ⟨S_, .f32⟩
  | .hbm, ⟨18, _⟩ => ⟨S_, .f32⟩
  | .hbm, ⟨19, _⟩ => ⟨S8x8x2048x2048, .i1⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S8x8x2048, .f32⟩
  | .hbm, ⟨24, _⟩ => ⟨S8x8x2048x1, .f32⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S_, .f32⟩
  | .hbm, ⟨29, _⟩ => ⟨S_, .f32⟩
  | .hbm, ⟨30, _⟩ => ⟨S8x8x2048x2048, .i1⟩
  | .hbm, ⟨31, _⟩ => ⟨S8x8x2048x2048, .f32⟩
  | .hbm, ⟨32, _⟩ => ⟨S8x8x2048x2048, .f32⟩
  | .hbm, ⟨33, _⟩ => ⟨S_, .f32⟩
  | .hbm, ⟨34, _⟩ => ⟨S8x8x2048, .f32⟩
  | .hbm, ⟨35, _⟩ => ⟨S8x8x2048x1, .f32⟩
  | .hbm, ⟨36, _⟩ => ⟨S_, .f32⟩
  | .hbm, ⟨37, _⟩ => ⟨S8x8x2048x1, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x64x2048, .f32⟩
  | .hbm, ⟨42, _⟩ => ⟨S8x2048x8x64, .f32⟩
  | .hbm, ⟨43, _⟩ => ⟨S16384x512, .f32⟩
  | .hbm, ⟨44, _⟩ => ⟨S16384x512, .bf16⟩
  | _, _ => ⟨S8x2048x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S16384x1024 : Shape := ⟨2, ![16384, 1024]⟩
abbrev S16384x512 : Shape := ⟨2, ![16384, 512]⟩
abbrev S_ : Shape := ⟨0, ![]⟩
abbrev S1x1024 : Shape := ⟨2, ![1, 1024]⟩
abbrev S1024x16384 : Shape := ⟨2, ![1024, 16384]⟩
abbrev S16x128x16384 : Shape := ⟨3, ![16, 128, 16384]⟩
abbrev S512x512 : Shape := ⟨2, ![512, 512]⟩
abbrev S1024x512 : Shape := ⟨2, ![1024, 512]⟩
abbrev S16x128x512 : Shape := ⟨3, ![16, 128, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 45
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x1024, .f32⟩
  | .hbm, ⟨4, _⟩ => ⟨S8x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S128x128, .f32⟩
  | .hbm, ⟨11, _⟩ => ⟨S128x128, .f32⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1024x2048, .bf16⟩
  | .hbm, ⟨40, _⟩ => ⟨S128x128, .bf16⟩
  | .hbm, ⟨41, _⟩ => ⟨S128x128, .bf16⟩
  | .hbm, ⟨42, _⟩ => ⟨S16384x1024, .f32⟩
  | .hbm, ⟨43, _⟩ => ⟨S1024x16384, .bf16⟩
  | .hbm, ⟨44, _⟩ => ⟨S16x128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S128x128, .bf16⟩
  | .local _ .vmem, ⟨16, _⟩ => ⟨S128x128, .bf16⟩
  | .local _ .vmem, ⟨17, _⟩ => ⟨S512x1024, .f32⟩
  | .local _ .vmem, ⟨18, _⟩ => ⟨S512x1024, .f32⟩
  | .local _ .vmem, ⟨19, _⟩ => ⟨S1024x512, .bf16⟩
  | .local _ .vmem, ⟨20, _⟩ => ⟨S1024x512, .bf16⟩
  | .local _ .vmem, ⟨21, _⟩ => ⟨S16x128x512, .f32⟩
  | .local _ .vmem, ⟨22, _⟩ => ⟨S16x128x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x2048x1024 : Shape := ⟨3, ![8, 2048, 1024]⟩
abbrev S8x2048x512 : Shape := ⟨3, ![8, 2048, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x8x2x128 : Shape := ⟨5, ![8, 2048, 8, 2, 128]⟩
abbrev S8x2048x8x1x128 : Shape := ⟨5, ![8, 2048, 8, 1, 128]⟩
abbrev S8x2048x8x128 : Shape := ⟨4, ![8, 2048, 8, 128]⟩
abbrev S16384x16x128 : Shape := ⟨3, ![16384, 16, 128]⟩
abbrev S16384x1024 : Shape := ⟨2, ![16384, 1024]⟩
abbrev S1024x16384 : Shape := ⟨2, ![1024, 16384]⟩
abbrev S16x128x16384 : Shape := ⟨3, ![16, 128, 16384]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x2048x1024, .f32⟩
  | .hbm, ⟨4, _⟩ => ⟨S8x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S128x128, .f32⟩
  | .hbm, ⟨11, _⟩ => ⟨S128x128, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S8x2048x2048, .f32⟩
  | .hbm, ⟨52, _⟩ => ⟨S8x2048x8x2x128, .f32⟩
  | .hbm, ⟨53, _⟩ => ⟨S8x2048x8x1x128, .f32⟩
  | .hbm, ⟨54, _⟩ => ⟨S8x2048x8x128, .f32⟩
  | .hbm, ⟨55, _⟩ => ⟨S8x2048x8x128, .f32⟩
  | .hbm, ⟨56, _⟩ => ⟨S8x2048x8x1x128, .f32⟩
  | .hbm, ⟨57, _⟩ => ⟨S8x2048x8x128, .f32⟩
  | .hbm, ⟨58, _⟩ => ⟨S8x2048x8x128, .f32⟩
  | .hbm, ⟨59, _⟩ => ⟨S8x2048x8x1x128, .f32⟩
  | .hbm, ⟨60, _⟩ => ⟨S8x2048x8x1x128, .f32⟩
  | .hbm, ⟨61, _⟩ => ⟨S8x2048x8x2x128, .f32⟩
  | .hbm, ⟨62, _⟩ => ⟨S16384x16x128, .f32⟩
  | .hbm, ⟨63, _⟩ => ⟨S16384x1024, .f32⟩
  | .hbm, ⟨64, _⟩ => ⟨S16384x1024, .f32⟩
  | .hbm, ⟨65, _⟩ => ⟨S1024x16384, .f32⟩
  | .hbm, ⟨66, _⟩ => ⟨S1024x16384, .bf16⟩
  | .hbm, ⟨67, _⟩ => ⟨S16x128x16384, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048 : Shape := ⟨2, ![8, 2048]⟩
abbrev S1024 : Shape := ⟨1, ![1024]⟩
abbrev S1024x3768 : Shape := ⟨2, ![1024, 3768]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S8x6 : Shape := ⟨2, ![8, 6]⟩
abbrev S16384x1024 : Shape := ⟨2, ![16384, 1024]⟩
abbrev S16384x1 : Shape := ⟨2, ![16384, 1]⟩
abbrev S1024x512 : Shape := ⟨2, ![1024, 512]⟩
abbrev S1024x128 : Shape := ⟨2, ![1024, 128]⟩
abbrev S1024x24 : Shape := ⟨2, ![1024, 24]⟩
abbrev S1024x256 : Shape := ⟨2, ![1024, 256]⟩
abbrev S1024x32 : Shape := ⟨2, ![1024, 32]⟩
abbrev S1024x1024 : Shape := ⟨2, ![1024, 1024]⟩
abbrev S_ : Shape := ⟨0, ![]⟩
abbrev S1024x16 : Shape := ⟨2, ![1024, 16]⟩
abbrev S1024x8x64 : Shape := ⟨3, ![1024, 8, 64]⟩
abbrev S1024x8x128 : Shape := ⟨3, ![1024, 8, 128]⟩
abbrev S1024x2x64 : Shape := ⟨3, ![1024, 2, 64]⟩
abbrev S1024x2x128 : Shape := ⟨3, ![1024, 2, 128]⟩
abbrev S512x1024 : Shape := ⟨2, ![512, 1024]⟩
abbrev S1024x4608 : Shape := ⟨2, ![1024, 4608]⟩
abbrev S256x8x96 : Shape := ⟨3, ![256, 8, 96]⟩
abbrev S256x8x128 : Shape := ⟨3, ![256, 8, 128]⟩
abbrev S256x1024 : Shape := ⟨2, ![256, 1024]⟩
abbrev S256x8x64 : Shape := ⟨3, ![256, 8, 64]⟩
abbrev S256x8x32 : Shape := ⟨3, ![256, 8, 32]⟩
abbrev S256x8x16 : Shape := ⟨3, ![256, 8, 16]⟩
abbrev S128x8x128 : Shape := ⟨3, ![128, 8, 128]⟩
abbrev S128x8x64 : Shape := ⟨3, ![128, 8, 64]⟩
abbrev S128x512 : Shape := ⟨2, ![128, 512]⟩
abbrev S512x128 : Shape := ⟨2, ![512, 128]⟩
abbrev S16 : Shape := ⟨1, ![16]⟩
abbrev S32 : Shape := ⟨1, ![32]⟩
abbrev S1x128 : Shape := ⟨2, ![1, 128]⟩
abbrev S8x128 : Shape := ⟨2, ![8, 128]⟩
abbrev S1x1024 : Shape := ⟨2, ![1, 1024]⟩
abbrev S128x24 : Shape := ⟨2, ![128, 24]⟩
abbrev S128x24x1 : Shape := ⟨3, ![128, 24, 1]⟩
abbrev S128x24x1x64 : Shape := ⟨4, ![128, 24, 1, 64]⟩
abbrev S128x24x64 : Shape := ⟨3, ![128, 24, 64]⟩
abbrev S128x1536 : Shape := ⟨2, ![128, 1536]⟩
abbrev S1x256 : Shape := ⟨2, ![1, 256]⟩
abbrev S16384x128 : Shape := ⟨2, ![16384, 128]⟩
abbrev S16384x256 : Shape := ⟨2, ![16384, 256]⟩
abbrev S64x288x256 : Shape := ⟨3, ![64, 288, 256]⟩
abbrev S16384x1536 : Shape := ⟨2, ![16384, 1536]⟩
abbrev S64x576x256 : Shape := ⟨3, ![64, 576, 256]⟩
abbrev S512x1 : Shape := ⟨2, ![512, 1]⟩
abbrev S512x256 : Shape := ⟨2, ![512, 256]⟩
abbrev S2x288x256 : Shape := ⟨3, ![2, 288, 256]⟩
abbrev S512x1536 : Shape := ⟨2, ![512, 1536]⟩
abbrev S2x576x256 : Shape := ⟨3, ![2, 576, 256]⟩
abbrev S256x1 : Shape := ⟨2, ![256, 1]⟩
abbrev S256x128 : Shape := ⟨2, ![256, 128]⟩
abbrev S256x256 : Shape := ⟨2, ![256, 256]⟩
abbrev S128x256 : Shape := ⟨2, ![128, 256]⟩
abbrev S1x128x256 : Shape := ⟨3, ![1, 128, 256]⟩
abbrev S16x256 : Shape := ⟨2, ![16, 256]⟩
abbrev S1x16x256 : Shape := ⟨3, ![1, 16, 256]⟩
abbrev S256x512 : Shape := ⟨2, ![256, 512]⟩
abbrev S128x128 : Shape := ⟨2, ![128, 128]⟩
abbrev S16384x8x128 : Shape := ⟨3, ![16384, 8, 128]⟩
abbrev S16384x8x64 : Shape := ⟨3, ![16384, 8, 64]⟩
abbrev S16384x2x128 : Shape := ⟨3, ![16384, 2, 128]⟩
abbrev S16384x2x64 : Shape := ⟨3, ![16384, 2, 64]⟩
abbrev S64x2x144x256 : Shape := ⟨4, ![64, 2, 144, 256]⟩
abbrev S64x2x64x256 : Shape := ⟨4, ![64, 2, 64, 256]⟩
abbrev S16384x8x96 : Shape := ⟨3, ![16384, 8, 96]⟩
abbrev S64x4x144x256 : Shape := ⟨4, ![64, 4, 144, 256]⟩
abbrev S64x4x128x256 : Shape := ⟨4, ![64, 4, 128, 256]⟩

abbrev nBuf : Space → Nat
  | .hbm => 169
  | .vmem => 42
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x3768, .f32⟩
  | 4 => ⟨S256, .f32⟩
  | 5 => ⟨S128, .f32⟩
  | 6 => ⟨S256x768, .f32⟩
  | 7 => ⟨S128x1024, .f32⟩
  | 8 => ⟨S8x6, .f32⟩
  | 9 => ⟨S16384x1024, .f32⟩
  | 10 => ⟨S16384x1, .i32⟩
  | 11 => ⟨S1024x512, .f32⟩
  | 12 => ⟨S1024x128, .f32⟩
  | 13 => ⟨S1024x128, .f32⟩
  | 14 => ⟨S1024x128, .f32⟩
  | 15 => ⟨S1024x128, .f32⟩
  | 16 => ⟨S1024x128, .f32⟩
  | 17 => ⟨S1024x128, .f32⟩
  | 18 => ⟨S1024x24, .f32⟩
  | 19 => ⟨S1024x256, .f32⟩
  | 20 => ⟨S1024x128, .f32⟩
  | 21 => ⟨S1024x32, .f32⟩
  | 22 => ⟨S1024x1024, .f32⟩
  | 23 => ⟨S1024x1024, .f32⟩
  | 24 => ⟨S_, .i32⟩
  | 25 => ⟨S_, .f32⟩
  | 26 => ⟨S1024x128, .f32⟩
  | 27 => ⟨S_, .i32⟩
  | 28 => ⟨S_, .f32⟩
  | 29 => ⟨S1024x128, .f32⟩
  | 30 => ⟨S1024x16, .f32⟩
  | 31 => ⟨S1024x16, .f32⟩
  | 32 => ⟨S1024x16, .f32⟩
  | 33 => ⟨S1024x32, .f32⟩
  | 34 => ⟨S_, .i32⟩
  | 35 => ⟨S_, .f32⟩
  | 36 => ⟨S1024x128, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1024x512, .f32⟩
  | 45 => ⟨S1024x512, .f32⟩
  | 46 => ⟨S1024x8x64, .f32⟩
  | 47 => ⟨S_, .i32⟩
  | 48 => ⟨S_, .f32⟩
  | 49 => ⟨S1024x8x128, .f32⟩
  | 50 => ⟨S1024x1024, .f32⟩
  | 51 => ⟨S1024x2x64, .f32⟩
  | 52 => ⟨S_, .i32⟩
  | 53 => ⟨S_, .f32⟩
  | 54 => ⟨S1024x2x128, .f32⟩
  | 55 => ⟨S1024x256, .f32⟩
  | 56 => ⟨S1024x2x64, .f32⟩
  | 57 => ⟨S_, .i32⟩
  | 58 => ⟨S_, .f32⟩
  | 59 => ⟨S1024x2x128, .f32⟩
  | 60 => ⟨S1024x256, .f32⟩
  | 61 => ⟨S1024x2x64, .f32⟩
  | 62 => ⟨S1024x2x128, .f32⟩
  | 63 => ⟨S1024x256, .f32⟩
  | 64 => ⟨S1024x2x64, .f32⟩
  | 65 => ⟨S1024x2x128, .f32⟩
  | 66 => ⟨S1024x256, .f32⟩
  | 67 => ⟨S1024x512, .f32⟩
  | 68 => ⟨S512x1024, .f32⟩
  | 69 => ⟨S1024x4608, .f32⟩
  | 70 => ⟨S1024x4608, .bf16⟩
  | 71 => ⟨S512x1024, .bf16⟩
  | 72 => ⟨S256x8x96, .f32⟩
  | 73 => ⟨S_, .i32⟩
  | 74 => ⟨S_, .f32⟩
  | 75 => ⟨S256x8x128, .f32⟩
  | 76 => ⟨S256x1024, .f32⟩
  | 77 => ⟨S256x1024, .bf16⟩
  | 78 => ⟨S256x8x64, .f32⟩
  | 79 => ⟨S_, .f32⟩
  | 80 => ⟨S256x8x64, .f32⟩
  | 81 => ⟨S256x8x32, .f32⟩
  | 82 => ⟨S256x8x16, .f32⟩
  | 83 => ⟨S256x8x16, .f32⟩
  | 84 => ⟨S256x8x16, .f32⟩
  | 85 => ⟨S256x8x32, .f32⟩
  | 86 => ⟨S256x8x96, .f32⟩
  | 87 => ⟨S_, .i32⟩
  | 88 => ⟨S_, .f32⟩
  | 89 => ⟨S256x8x128, .f32⟩
  | 90 => ⟨S256x1024, .f32⟩
  | 91 => ⟨S256x1024, .bf16⟩
  | 92 => ⟨S128x8x128, .f32⟩
  | 93 => ⟨S128x8x64, .f32⟩
  | 94 => ⟨S_, .i32⟩
  | 95 => ⟨S_, .f32⟩
  | 96 => ⟨S128x8x128, .f32⟩
  | 97 => ⟨S128x1024, .f32⟩
  | 98 => ⟨S128x1024, .bf16⟩
  | 99 => ⟨S128x8x64, .f32⟩
  | 100 => ⟨S128x512, .f32⟩
  | 101 => ⟨S512x128, .f32⟩
  | 102 => ⟨S512x128, .bf16⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S32, .f32⟩
  | 118 => ⟨S_, .i32⟩
  | 119 => ⟨S_, .f32⟩
  | 120 => ⟨S128, .f32⟩
  | 121 => ⟨S1x128, .f32⟩
  | 122 => ⟨S_, .i32⟩
  | 123 => ⟨S_, .f32⟩
  | 124 => ⟨S8x128, .f32⟩
  | 125 => ⟨S1x1024, .f32⟩
  | 126 => ⟨S128x24, .i32⟩
  | 127 => ⟨S128x24, .i32⟩
  | _ => ⟨S8x2048x1024, .f32⟩

abbrev hbmTy0_1 (i : Nat) : BufTy := match i % 128 with
  | 0 => ⟨S_, .i32⟩
  | 1 => ⟨S128x24, .i32⟩
  | 2 => ⟨S128x24, .i32⟩
  | 3 => ⟨S128x24, .i1⟩
  | 4 => ⟨S128x24, .bf16⟩
  | 5 => ⟨S128x24x1, .bf16⟩
  | 6 => ⟨S128x24x1x64, .bf16⟩
  | 7 => ⟨S128x24x64, .bf16⟩
  | 8 => ⟨S128x1536, .bf16⟩
  | 9 => ⟨S1x1024, .f32⟩
  | 10 => ⟨S1x256, .f32⟩
  | 11 => ⟨S1x128, .f32⟩
  | 12 => ⟨S16384x1024, .bf16⟩
  | 13 => ⟨S16384x128, .bf16⟩
  | 14 => ⟨S16384x128, .bf16⟩
  | 15 => ⟨S16384x256, .bf16⟩
  | 16 => ⟨S64x288x256, .bf16⟩
  | 17 => ⟨S16384x256, .bf16⟩
  | 18 => ⟨S64x288x256, .bf16⟩
  | 19 => ⟨S16384x1536, .f32⟩
  | 20 => ⟨S16384x1024, .bf16⟩
  | 21 => ⟨S16384x1024, .bf16⟩
  | 22 => ⟨S64x576x256, .bf16⟩
  | 23 => ⟨S16384x1024, .f32⟩
  | 24 => ⟨S16384x1024, .f32⟩
  | 25 => ⟨S16384x8x128, .bf16⟩
  | 26 => ⟨S16384x8x64, .bf16⟩
  | 27 => ⟨S16384x2x128, .bf16⟩
  | 28 => ⟨S16384x2x64, .bf16⟩
  | 29 => ⟨S64x2x144x256, .bf16⟩
  | 30 => ⟨S64x2x64x256, .bf16⟩
  | 31 => ⟨S16384x2x128, .bf16⟩
  | 32 => ⟨S16384x2x64, .bf16⟩
  | 33 => ⟨S64x2x144x256, .bf16⟩
  | 34 => ⟨S64x2x64x256, .bf16⟩
  | 35 => ⟨S16384x8x128, .bf16⟩
  | 36 => ⟨S16384x8x96, .bf16⟩
  | 37 => ⟨S16384x8x128, .bf16⟩
  | 38 => ⟨S16384x8x96, .bf16⟩
  | 39 => ⟨S64x4x144x256, .bf16⟩
  | 40 => ⟨S64x4x128x256, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .f32⟩
  | .local _ .vmem, ⟨5, _⟩ => ⟨S1024x4608, .bf16⟩
  | .local _ .vmem, ⟨6, _⟩ => ⟨S512x1024, .bf16⟩
  | .local _ .vmem, ⟨7, _⟩ => ⟨S1x256, .f32⟩
  | .local _ .vmem, ⟨8, _⟩ => ⟨S1x128, .f32⟩
  | .local _ .vmem, ⟨9, _⟩ => ⟨S256x1024, .bf16⟩
  | .local _ .vmem, ⟨10, _⟩ => ⟨S256x1024, .bf16⟩
  | .local _ .vmem, ⟨11, _⟩ => ⟨S128x1024, .bf16⟩
  | .local _ .vmem, ⟨12, _⟩ => ⟨S512x128, .bf16⟩
  | .local _ .vmem, ⟨13, _⟩ => ⟨S1x128, .f32⟩
  | .local _ .vmem, ⟨14, _⟩ => ⟨S1x1024, .f32⟩
  | .local _ .vmem, ⟨15, _⟩ => ⟨S128x1536, .bf16⟩
  | .local _ .vmem, ⟨16, _⟩ => ⟨S512x1024, .bf16⟩
  | .local _ .vmem, ⟨17, _⟩ => ⟨S512x1024, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x256, .bf16⟩
  | .local _ .vmem, ⟨23, _⟩ => ⟨S512x256, .bf16⟩
  | .local _ .vmem, ⟨24, _⟩ => ⟨S2x288x256, .bf16⟩
  | .local _ .vmem, ⟨25, _⟩ => ⟨S2x288x256, .bf16⟩
  | .local _ .vmem, ⟨26, _⟩ => ⟨S512x256, .bf16⟩
  | .local _ .vmem, ⟨27, _⟩ => ⟨S512x256, .bf16⟩
  | .local _ .vmem, ⟨28, _⟩ => ⟨S2x288x256, .bf16⟩
  | .local _ .vmem, ⟨29, _⟩ => ⟨S2x288x256, .bf16⟩
  | .local _ .vmem, ⟨30, _⟩ => ⟨S512x1536, .f32⟩
  | .local _ .vmem, ⟨31, _⟩ => ⟨S512x1536, .f32⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S2x576x256, .bf16⟩
  | .local _ .vmem, ⟨37, _⟩ => ⟨S2x576x256, .bf16⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_call2_v0 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_call3_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_call4_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_call5_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_call6_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_call7_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_call8_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_cst_13 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_14 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_16 : Ref sig .tc := ⟨.hbm, 118, rfl⟩
abbrev main_call9_v0 : Ref sig .tc := ⟨.hbm, 119, rfl⟩
abbrev main_v83 : Ref sig .tc := ⟨.hbm, 120, rfl⟩
abbrev main_v84 : Ref sig .tc := ⟨.hbm, 121, rfl⟩
abbrev main_c_17 : Ref sig .tc := ⟨.hbm, 122, rfl⟩
abbrev main_call10_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100_0 : Ref sig .tc := ⟨.hbm, 140, rfl⟩
abbrev main_v100_1 : Ref sig .tc := ⟨.hbm, 141, rfl⟩
abbrev main_v100_2 : Ref sig .tc := ⟨.hbm, 142, rfl⟩
abbrev main_v100_3 : Ref sig .tc := ⟨.hbm, 143, rfl⟩
abbrev main_v100_4 : Ref sig .tc := ⟨.hbm, 144, rfl⟩
abbrev main_v100_5 : Ref sig .tc := ⟨.hbm, 145, rfl⟩
abbrev main_v100_6 : Ref sig .tc := ⟨.hbm, 146, rfl⟩
abbrev main_v100_7 : Ref sig .tc := ⟨.hbm, 147, rfl⟩
abbrev main_v100_8 : Ref sig .tc := ⟨.hbm, 148, rfl⟩
abbrev main_v100_9 : Ref sig .tc := ⟨.hbm, 149, rfl⟩
abbrev main_v100_10 : Ref sig .tc := ⟨.hbm, 150, rfl⟩
abbrev main_v100_11 : Ref sig .tc := ⟨.hbm, 151, rfl⟩
abbrev main_v100_12 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x288x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x288x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1536 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x576x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Kernel3Ideal.lean ====
variable {F : FTy → Type} [FloatOps F] [Named F]
def κ : String → Option EReal := fun
  | "qscale" => some (((Real.sqrt 96)⁻¹ * (Real.log 2)⁻¹ : ℝ) : EReal)
  | _ => none
-- ==== Reference3Ideal.lean ====
abbrev S8x2048x1024 : Shape := ⟨3, ![8, 2048, 1024]⟩
abbrev S8x2048 : Shape := ⟨2, ![8, 2048]⟩
abbrev S1024 : Shape := ⟨1, ![1024]⟩
abbrev S1024x3768 : Shape := ⟨2, ![1024, 3768]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S_ : Shape := ⟨0, ![]⟩
abbrev S8x2048x1 : Shape := ⟨3, ![8, 2048, 1]⟩
abbrev S1x1x1024 : Shape := ⟨3, ![1, 1, 1024]⟩
abbrev S8x2048x3768 : Shape := ⟨3, ![8, 2048, 3768]⟩
abbrev S8x2048x512 : Shape := ⟨3, ![8, 2048, 512]⟩
abbrev S8x2048x128 : Shape := ⟨3, ![8, 2048, 128]⟩
abbrev S8x2048x24 : Shape := ⟨3, ![8, 2048, 24]⟩
abbrev S8x2048x256 : Shape := ⟨3, ![8, 2048, 256]⟩
abbrev S8x2048x32 : Shape := ⟨3, ![8, 2048, 32]⟩
abbrev S1x1x256 : Shape := ⟨3, ![1, 1, 256]⟩
abbrev S8x2048x768 : Shape := ⟨3, ![8, 2048, 768]⟩
abbrev S8x2048x8x96 : Shape := ⟨4, ![8, 2048, 8, 96]⟩
abbrev S1x1x128 : Shape := ⟨3, ![1, 1, 128]⟩
abbrev S8x2048x8x128 : Shape := ⟨4, ![8, 2048, 8, 128]⟩
abbrev S16 : Shape := ⟨1, ![16]⟩
abbrev S1x1x16 : Shape := ⟨3, ![1, 1, 16]⟩
abbrev S8x2048x16 : Shape := ⟨3, ![8, 2048, 16]⟩
abbrev S8x2048x8x32 : Shape := ⟨4, ![8, 2048, 8, 32]⟩
abbrev S8x2048x1x16 : Shape := ⟨4, ![8, 2048, 1, 16]⟩
abbrev S8x2048x8x16 : Shape := ⟨4, ![8, 2048, 8, 16]⟩
abbrev S8x2048x8x64 : Shape := ⟨4, ![8, 2048, 8, 64]⟩
abbrev S8x2048x1x32 : Shape := ⟨4, ![8, 2048, 1, 32]⟩
abbrev S8x2048x24x1 : Shape := ⟨4, ![8, 2048, 24, 1]⟩
abbrev S8x2048x24x64 : Shape := ⟨4, ![8, 2048, 24, 64]⟩
abbrev S16384x8x64 : Shape := ⟨3, ![16384, 8, 64]⟩
abbrev S16384x128 : Shape := ⟨2, ![16384, 128]⟩
abbrev S16384x2x64 : Shape := ⟨3, ![16384, 2, 64]⟩
abbrev S64x256x2x64 : Shape := ⟨4, ![64, 256, 2, 64]⟩
abbrev S64x2x64x256 : Shape := ⟨4, ![64, 2, 64, 256]⟩
abbrev S16384x1536 : Shape := ⟨2, ![16384, 1536]⟩
abbrev S16384x8x96 : Shape := ⟨3, ![16384, 8, 96]⟩
abbrev S16384x512 : Shape := ⟨2, ![16384, 512]⟩
abbrev S64x256x4x128 : Shape := ⟨4, ![64, 256, 4, 128]⟩
abbrev S64x4x128x256 : Shape := ⟨4, ![64, 4, 128, 256]⟩
abbrev S16384x1024 : Shape := ⟨2, ![16384, 1024]⟩

abbrev nBuf : Space → Nat
  | .hbm => 199
  | .vmem => 0
  | .smem => 0
  | _ => 0

abbrev hbmTy0_0 (i : Nat) : BufTy := match i % 128 with
  | 0 => ⟨S8x2048x1024, .f32⟩
  | 1 => ⟨S8x2048, .i32⟩
  | 2 => ⟨S1024, .f32⟩
  | 3 => ⟨S1024x3768, .f32⟩
  | 4 => ⟨S256, .f32⟩
  | 5 => ⟨S128, .f32⟩
  | 6 => ⟨S256x768, .f32⟩
  | 7 => ⟨S128x1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x2048x3768, .f32⟩
  | 25 => ⟨S8x2048x512, .f32⟩
  | 26 => ⟨S8x2048x128, .f32⟩
  | 27 => ⟨S8x2048x128, .f32⟩
  | 28 => ⟨S8x2048x128, .f32⟩
  | 29 => ⟨S8x2048x128, .f32⟩
  | 30 => ⟨S8x2048x128, .f32⟩
  | 31 => ⟨S8x2048x128, .f32⟩
  | 32 => ⟨S8x2048x24, .f32⟩
  | 33 => ⟨S8x2048x256, .f32⟩
  | 34 => ⟨S8x2048x128, .f32⟩
  | 35 => ⟨S8x2048x32, .f32⟩
  | 36 => ⟨S8x2048x1024, .f32⟩
  | 37 => ⟨S8x2048x1024, .f32⟩
  | 38 => ⟨S8x2048x256, .f32⟩
  | 39 => ⟨S_, .f32⟩
  | 40 => ⟨S8x2048, .f32⟩
  | 41 => ⟨S8x2048x1, .f32⟩
  | 42 => ⟨S_, .f32⟩
  | 43 => ⟨S8x2048x1, .f32⟩
  | 44 => ⟨S8x2048x1, .f32⟩
  | 45 => ⟨S_, .f32⟩
  | 46 => ⟨S8x2048x1, .f32⟩
  | 47 => ⟨S8x2048x1, .f32⟩
  | 48 => ⟨S8x2048x1, .f32⟩
  | 49 => ⟨S8x2048x256, .f32⟩
  | 50 => ⟨S8x2048x256, .f32⟩
  | 51 => ⟨S1x1x256, .f32⟩
  | 52 => ⟨S8x2048x256, .f32⟩
  | 53 => ⟨S8x2048x256, .f32⟩
  | 54 => ⟨S8x2048x768, .f32⟩
  | 55 => ⟨S8x2048x8x96, .f32⟩
  | 56 => ⟨S8x2048x128, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S_, .f32⟩
  | 64 => ⟨S8x2048x1, .f32⟩
  | 65 => ⟨S8x2048x1, .f32⟩
  | 66 => ⟨S8x2048x1, .f32⟩
  | 67 => ⟨S8x2048x128, .f32⟩
  | 68 => ⟨S8x2048x128, .f32⟩
  | 69 => ⟨S1x1x128, .f32⟩
  | 70 => ⟨S8x2048x128, .f32⟩
  | 71 => ⟨S8x2048x128, .f32⟩
  | 72 => ⟨S8x2048x1024, .f32⟩
  | 73 => ⟨S8x2048x8x128, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S16, .f32⟩
  | 82 => ⟨S_, .f32⟩
  | 83 => ⟨S16, .f32⟩
  | 84 => ⟨S16, .f32⟩
  | 85 => ⟨S_, .f32⟩
  | 86 => ⟨S16, .f32⟩
  | 87 => ⟨S16, .f32⟩
  | 88 => ⟨S8x2048, .f32⟩
  | 89 => ⟨S8x2048x1, .f32⟩
  | 90 => ⟨S1x1x16, .f32⟩
  | 91 => ⟨S8x2048x16, .f32⟩
  | 92 => ⟨S8x2048x16, .f32⟩
  | 93 => ⟨S8x2048x16, .f32⟩
  | 94 => ⟨S8x2048x16, .f32⟩
  | 95 => ⟨S8x2048x16, .f32⟩
  | 96 => ⟨S8x2048x8x32, .f32⟩
  | 97 => ⟨S8x2048x1x16, .f32⟩
  | 98 => ⟨S8x2048x1x16, .f32⟩
  | 99 => ⟨S8x2048x8x16, .f32⟩
  | 100 => ⟨S8x2048x8x16, .f32⟩
  | 101 => ⟨S8x2048x8x16, .f32⟩
  | 102 => ⟨S8x2048x8x16, .f32⟩
  | 103 => ⟨S8x2048x8x16, .f32⟩
  | 104 => ⟨S8x2048x8x16, .f32⟩
  | 105 => ⟨S8x2048x8x16, .f32⟩
  | 106 => ⟨S8x2048x8x16, .f32⟩
  | 107 => ⟨S8x2048x8x16, .f32⟩
  | 108 => ⟨S8x2048x8x16, .f32⟩
  | 109 => ⟨S8x2048x8x16, .f32⟩
  | 110 => ⟨S8x2048x8x16, .f32⟩
  | 111 => ⟨S8x2048x8x32, .f32⟩
  | 112 => ⟨S8x2048x16, .f32⟩
  | 113 => ⟨S8x2048x16, .f32⟩
  | 114 => ⟨S8x2048x16, .f32⟩
  | 115 => ⟨S8x2048x16, .f32⟩
  | 116 => ⟨S8x2048x16, .f32⟩
  | 117 => ⟨S8x2048x16, .f32⟩
  | 118 => ⟨S8x2048x16, .f32⟩
  | 119 => ⟨S8x2048x16, .f32⟩
  | 120 => ⟨S8x2048x32, .f32⟩
  | 121 => ⟨S8x2048x8x64, .f32⟩
  | 122 => ⟨S8x2048x8x96, .f32⟩
  | 123 => ⟨S_, .f32⟩
  | 124 => ⟨S_, .f32⟩
  | 125 => ⟨S_, .f32⟩
  | 126 => ⟨S_, .f32⟩
  | 127 => ⟨S_, .f32⟩
  | _ => ⟨S8x2048x1024, .f32⟩

abbrev hbmTy0_1 (i : Nat) : BufTy := match i % 128 with
  | 0 => ⟨S_, .f32⟩
  | 1 => ⟨S_, .f32⟩
  | 2 => ⟨S8x2048x8x96, .f32⟩
  | 3 => ⟨S8x2048x8x96, .f32⟩
  | 4 => ⟨S8x2048x8x64, .f32⟩
  | 5 => ⟨S8x2048x1x32, .f32⟩
  | 6 => ⟨S8x2048x8x32, .f32⟩
  | 7 => ⟨S8x2048x8x96, .f32⟩
  | 8 => ⟨S8x2048x24, .f32⟩
  | 9 => ⟨S8x2048x24, .f32⟩
  | 10 => ⟨S_, .f32⟩
  | 11 => ⟨S8x2048x24, .f32⟩
  | 12 => ⟨S8x2048x24, .f32⟩
  | 13 => ⟨S_, .f32⟩
  | 14 => ⟨S8x2048x24, .f32⟩
  | 15 => ⟨S8x2048x24, .f32⟩
  | 16 => ⟨S8x2048x24x1, .f32⟩
  | 17 => ⟨S8x2048x24x64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S8x2048x512, .f32⟩
  | 26 => ⟨S8x2048x512, .f32⟩
  | 27 => ⟨S16384x8x64, .f32⟩
  | 28 => ⟨S16384x8x64, .bf16⟩
  | 29 => ⟨S16384x128, .f32⟩
  | 30 => ⟨S16384x128, .bf16⟩
  | 31 => ⟨S16384x128, .f32⟩
  | 32 => ⟨S16384x128, .bf16⟩
  | 33 => ⟨S16384x2x64, .f32⟩
  | 34 => ⟨S16384x2x64, .bf16⟩
  | 35 => ⟨S64x256x2x64, .f32⟩
  | 36 => ⟨S64x2x64x256, .f32⟩
  | 37 => ⟨S64x2x64x256, .bf16⟩
  | 38 => ⟨S16384x2x64, .f32⟩
  | 39 => ⟨S16384x2x64, .bf16⟩
  | 40 => ⟨S64x256x2x64, .f32⟩
  | 41 => ⟨S64x2x64x256, .f32⟩
  | 42 => ⟨S64x2x64x256, .bf16⟩
  | 43 => ⟨S16384x1536, .f32⟩
  | 44 => ⟨S16384x8x96, .f32⟩
  | 45 => ⟨S16384x8x96, .bf16⟩
  | 46 => ⟨S16384x8x96, .f32⟩
  | 47 => ⟨S16384x8x96, .bf16⟩
  | 48 => ⟨S8x2048x8x64, .f32⟩
  | 49 => ⟨S16384x512, .f32⟩
  | 50 => ⟨S64x256x4x128, .f32⟩
  | 51 => ⟨S64x4x128x256, .f32⟩
  | 52 => ⟨S64x4x128x256, .bf16⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S16384x1024, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S_, .f32⟩
  | 68 => ⟨S8x2048x1024, .f32⟩
  | 69 => ⟨S8x2048x1024, .f32⟩
  | 70 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_12 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_v104 : Ref sig .tc := ⟨.hbm, 127, rfl⟩
abbrev main_cst_14 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_15 : Ref sig .tc := ⟨.hbm, 138, rfl⟩
abbrev main_v114 : Ref sig .tc := ⟨.hbm, 139, rfl⟩
abbrev main_v115 : Ref sig .tc := ⟨.hbm, 140, rfl⟩
abbrev main_cst_16 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_17 : Ref sig .tc := ⟨.hbm, 146, rfl⟩
abbrev main_v120 : Ref sig .tc := ⟨.hbm, 147, rfl⟩
abbrev main_cst_18 : Ref sig .tc := ⟨.hbm, 148, rfl⟩
abbrev main_v121 : Ref sig .tc := ⟨.hbm, 149, rfl⟩
abbrev main_v122 : Ref sig .tc := ⟨.hbm, 150, rfl⟩
abbrev main_cst_19 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_20 : Ref sig .tc := ⟨.hbm, 183, rfl⟩
abbrev main_v154 : Ref sig .tc := ⟨.hbm, 184, rfl⟩
abbrev main_v155 : Ref sig .tc := ⟨.hbm, 185, rfl⟩
abbrev main_cst_21 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_22 : Ref sig .tc := ⟨.hbm, 192, rfl⟩
abbrev main_v161 : Ref sig .tc := ⟨.hbm, 193, rfl⟩
abbrev main_v162 : Ref sig .tc := ⟨.hbm, 194, rfl⟩
abbrev main_cst_23 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none

local notation "𝕄" => MT nD τ sig Unit (Elt F) ℕ (UU nD τ) ℕ

/-! ## The running state -/

/-- What the four scratch buffers hold: the running maximum, the running sum, the weighted rows, and the weights of the
    key block taken last (their product with the values is taken one block later). -/
structure St (F : FTy → Type) where
  m : Vec F S1x1024 .f32
  l : Vec F S1x1024 .f32
  a : Vec F S128x1024 .f32
  p : Vec F S256x1024 .bf16

theorem St.mk_congr {m m' l l' : Vec F S1x1024 .f32} {a a' : Vec F S128x1024 .f32} {p p' : Vec F S256x1024 .bf16}
    (hm : m = m') (hl : l = l') (ha : a = a') (hp : p = p') : St.mk m l a p = St.mk m' l' a' p' := by
  subst hm hl ha hp; rfl

/-- Key block `j` of the 2048 keys in the window. -/
def kb (K : Vec F S2048x256 .bf16) (j : Fin 8) : Vec F S256x256 .bf16 :=
  VecWindow.window (s := S2048x256) K ![256 * j.val, 0] S256x256.size (by intro a; have := j.isLt; fin_cases a <;> simp <;> omega)

/-- Value block `j`, transposed, with its rows of ones. -/
def vb (V : Vec F S8x144x256 .bf16) (j : Fin 8) : Vec F S1x144x256 .bf16 :=
  VecWindow.window (s := S8x144x256) V ![j.val, 0, 0] S1x144x256.size (by intro a; have := j.isLt; fin_cases a <;> simp <;> omega)

/-- Block number `n` as an index: the numbers met are below eight. -/
def jx (n : ℕ) : Fin 8 := ⟨n % 8, Nat.mod_lt _ (by decide)⟩

theorem jx_val {n : ℕ} (h : n < 8) : (jx n).val = n := Nat.mod_eq_of_lt h

/-- The loop's trip: key block `k` scored, its weights left for the next trip; the weights left by the last trip multiplied
    with value block `j`. -/
def trip (v5 v7 : FVec F S512x128 .bf16) (K : Vec F S256x256 .bf16) (V : Vec F S1x144x256 .bf16) (s : St F) : St F where
  l := k0_pay6 v5 v7 K V s.p s.m s.l
  a := k0_pay7 v5 v7 K V s.p s.m s.a
  p := k0_pay31 (k0_pay2 v5 v7 K) (k0_pay4 v5 v7 K s.m)
  m := k0_pay32 (k0_pay4 v5 v7 K s.m)

/-- The block whose weights are still to be multiplied before trip `k`: the second diagonal block, then the last trip's. -/
def carried (n k : ℕ) : ℕ := if k = 0 then 2 * n + 1 else k - 1

section Trip

variable (c : Dev nD) (i : grid0.Coords) (arg3 : Memref sig .tc .vmem S512x256 .bf16) (harg3 : arg3.IsWhole) (arg4 : Memref sig .tc .vmem S2048x256 .bf16) (harg4 : arg4.IsWhole) (arg5 : Memref sig .tc .vmem S8x144x256 .bf16) (harg5 : arg5.IsWhole) (arg6 : Memref sig .tc .vmem S512x128 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x1024 .f32) (harg9 : arg9.IsWhole) (arg10 : Memref sig .tc .vmem S256x1024 .bf16) (harg10 : arg10.IsWhole)
  (v5 v7 : FVec F S512x128 .bf16)

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The word the loop carries before trip `k`. -/
def accW (init : BitVec 32) (k : ℕ) : BitVec 32 := match k with | 0 => init | k + 1 => Scf.iv 0#32 1#32 k

/-- The buffers' contents as one state. -/
def rd (g7 : Bf (F := F) c arg7) (g8 : Bf (F := F) c arg8) (g9 : Bf (F := F) c arg9) (g10 : Bf (F := F) c arg10) : St F :=
  ⟨arg7.view.read (Elt F) g7, arg8.view.read (Elt F) g8, arg9.view.read (Elt F) g9, arg10.view.read (Elt F) g10⟩

end Trip

/-- The state before trip `k` of the loop, from the one at its entry. -/
def stL (v5 v7 : FVec F S512x128 .bf16) (K : Vec F S2048x256 .bf16) (V : Vec F S8x144x256 .bf16) (n : ℕ) (s : St F) : ℕ → St F
  | 0 => s
  | k + 1 => trip v5 v7 (kb K (jx k)) (vb V (jx (carried n k))) (stL v5 v7 K V n s k)

/-- A whole buffer's contents before trip `k`: as found before the first, then the ones that read `x k`. -/
def cont (c : Dev nD) {sp : Space} {S : Shape} {e : EltTy} (M : Memref sig .tc sp S e) (h : M.IsWhole) (g : Bf (F := F) c M) (x : ℕ → Vec F S e) : ℕ → Bf (F := F) c M
  | 0 => g
  | k + 1 => h.unread (x (k + 1))

theorem read_cont (c : Dev nD) {sp : Space} {S : Shape} {e : EltTy} (M : Memref sig .tc sp S e) (h : M.IsWhole) (g : Bf (F := F) c M) (x : ℕ → Vec F S e)
    (h0 : M.view.read (Elt F) g = x 0) (k : ℕ) : M.view.read (Elt F) (cont c M h g x k) = x k := by
  cases k with
  | zero => exact h0
  | succ k => exact h.read_unread _

theorem trips_eq : ∀ i : grid0.Coords, (k0_t1_loop i).trips = 2 * (i 2).val := by decide +kernel

/-- The carried word before trip `k` names a block: it is `carried`. -/
theorem accW_toNat (i : grid0.Coords) (init : BitVec 32) (hinit : init.toNat = 2 * (i 2).val + 1) (k : ℕ) (hk : k ≤ (k0_t1_loop i).trips) :
    (accW init k).toNat = carried (i 2).val k ∧ (accW init k).toNat < 8 := by
  have h6 := (k0_t1_abs i).2.1
  have hi : (i 2).val < 4 := (i 2).isLt
  cases k with
  | zero => simp only [accW, carried, if_pos]; omega
  | succ k =>
    have e : (accW init (k + 1)).toNat = k := by
      simp only [accW, Scf.iv]
      rw [BitVec.toNat_add, BitVec.toNat_mul]
      simp [BitVec.toNat_ofNat]
      omega
    rw [e]
    refine ⟨?_, by omega⟩
    unfold carried
    rw [if_neg (Nat.succ_ne_zero k)]; rfl

theorem off5_eq (w : BitVec 32) : k0_off5 w = ![w.toNat, 0, 0] := rfl
theorem off8_eq (w : BitVec 32) : k0_off8 w = ![w.toNat, 0, 0] := rfl

theorem chk_of (w : BitVec 32) (h : w.toNat < 8) : ∀ a, (k0_off5 w) a + S1x144x256.size a ≤ S8x144x256.size a := by
  rw [off5_eq]; intro a; fin_cases a <;> simp <;> omega

/-- A buffer stored whole with `x` is the one that reads `x`. -/
theorem pt_stored (c : Dev nD) {sp : Space} {S : Shape} {e : EltTy} (M : Memref sig .tc sp S e) (h : M.IsWhole) (g : Bf (F := F) c M) (x : Vec F S e)
    {off : Fin S.rank → ℕ} (inb : ∀ a, off a + S.size a ≤ S.size a) (w : (Rect.unit off S.size inb).shape.Idx → Elt F e) (L : List (View.Piece (Elt F) S e)) (hw : w = x) :
    (pt c M (M.view.writes (Elt F) g (⟨Rect.unit off S.size inb, w⟩ :: L)) : sProp 𝕄) ⊢ pt c M (h.unread x) :=
  Entails.of_eq (by subst hw; rw [← h.eq_unread (View.read_writes_full M.view g inb w L)])

/-- The block of keys a load at row `256 j` reads. -/
theorem readAt_kb {κ : Kind} {sp : Space} (v : View sig κ sp S2048x256 .bf16) (f : v.ty.Contents (Elt F)) (j : Fin 8) (off : Fin 2 → ℕ) (inb) (h : off = ![256 * j.val, 0]) :
    v.readAt (Elt F) (Rect.unit (s := S2048x256) off S256x256.size inb).toLoadRect f = kb (v.read (Elt F) f) j :=
  View.readAt_unit v f inb h _

theorem readAt_vb {κ : Kind} {sp : Space} (v : View sig κ sp S8x144x256 .bf16) (f : v.ty.Contents (Elt F)) (j : Fin 8) (off : Fin 3 → ℕ) (inb) (h : off = ![j.val, 0, 0]) :
    v.readAt (Elt F) (Rect.unit (s := S8x144x256) off S1x144x256.size inb).toLoadRect f = vb (v.read (Elt F) f) j :=
  View.readAt_unit v f inb h _

/-- The queries of the block's two heads. -/
def q0 (q : Vec F S512x256 .bf16) : Vec F S512x128 .bf16 := VecWindow.window (s := S512x256) q ![0, 0] S512x128.size inb_S512x256_S512x128_0_0
def q1 (q : Vec F S512x256 .bf16) : Vec F S512x128 .bf16 := VecWindow.window (s := S512x256) q ![0, 128] S512x128.size inb_S512x256_S512x128_0_128

/-- The state after the first diagonal block: its maximum and weights; no product taken yet. -/
def st0 (n : ℕ) (q : Vec F S512x256 .bf16) (K : Vec F S2048x256 .bf16) : St F where
  m := k0_pay19 (q0 q) (q1 q) (kb K (jx (2 * n)))
  l := k0_pay20
  a := k0_pay21
  p := k0_pay22 (k0_pay17 (q0 q) (q1 q) (kb K (jx (2 * n)))) (k0_pay18 (q0 q) (q1 q) (kb K (jx (2 * n))))

/-- The second diagonal block: masked with the key rows moved by 256, else the loop's trip. -/
def diag2 (v4 v6 : Vec F S512x128 .bf16) (K : Vec F S256x256 .bf16) (V : Vec F S1x144x256 .bf16) (s : St F) : St F where
  m := k0_pay30 (k0_pay25 (iota .tc S256x1024 32 [0] iota_S256x1024_d0_w32) k0_pay14 (k0_pay15 v4) (k0_pay16 v6) K s.m)
  l := k0_pay27 (k0_pay24 V s.p) (k0_pay26 (iota .tc S256x1024 32 [0] iota_S256x1024_d0_w32) k0_pay14 (k0_pay15 v4) (k0_pay16 v6) K s.m) s.l
  a := k0_pay28 (k0_pay24 V s.p) (k0_pay26 (iota .tc S256x1024 32 [0] iota_S256x1024_d0_w32) k0_pay14 (k0_pay15 v4) (k0_pay16 v6) K s.m) s.a
  p := k0_pay29 (k0_pay23 (iota .tc S256x1024 32 [0] iota_S256x1024_d0_w32) k0_pay14 (k0_pay15 v4) (k0_pay16 v6) K)
    (k0_pay25 (iota .tc S256x1024 32 [0] iota_S256x1024_d0_w32) k0_pay14 (k0_pay15 v4) (k0_pay16 v6) K s.m)

/-- The state after the two diagonal blocks. -/
def st1 (n : ℕ) (q : Vec F S512x256 .bf16) (K : Vec F S2048x256 .bf16) (V : Vec F S8x144x256 .bf16) : St F :=
  diag2 (q0 q) (q1 q) (kb K (jx (2 * n + 1))) (vb V (jx (2 * n))) (st0 n q K)

/-- The output block: the last product taken, the rows divided by the sums. -/
def outS (V : Vec F S1x144x256 .bf16) (s : St F) : Vec F S512x128 .bf16 := k0_pay1 (k0_pay35 V) s.p s.a s.l

/-- The output block of query block `n`, from the point's three windows. -/
def outV (n : Fin 4) (q : Vec F S512x256 .bf16) (K : Vec F S2048x256 .bf16) (V : Vec F S8x144x256 .bf16) : Vec F S512x128 .bf16 :=
  outS (vb V (jx (carried n.val (2 * n.val)))) (stL (k0_pay15 (q0 q)) (k0_pay16 (q1 q)) K V n.val (st1 n.val q K V) (2 * n.val))

section Trip

variable (c : Dev nD) (i : grid0.Coords) (arg3 : Memref sig .tc .vmem S512x256 .bf16) (harg3 : arg3.IsWhole) (arg4 : Memref sig .tc .vmem S2048x256 .bf16) (harg4 : arg4.IsWhole) (arg5 : Memref sig .tc .vmem S8x144x256 .bf16) (harg5 : arg5.IsWhole) (arg6 : Memref sig .tc .vmem S512x128 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S128x1024 .f32) (harg9 : arg9.IsWhole) (arg10 : Memref sig .tc .vmem S256x1024 .bf16) (harg10 : arg10.IsWhole)
  (v5 v7 : FVec F S512x128 .bf16) (v8 : BitVec 32) (v57 : FVec F S256x1024 .f32) (v64 : FVec F S144x1024 .f32) (v68 : FVec F S1x1024 .f32) (v70 : FVec F S1x1024 .f32) (v71 : Vec F S1x1024 .f32)

/-- The six buffers the loop touches. -/
abbrev res (f4 : Bf (F := F) c arg4) (f5 : Bf (F := F) c arg5) (g7 : Bf (F := F) c arg7) (g8 : Bf (F := F) c arg8) (g9 : Bf (F := F) c arg9) (g10 : Bf (F := F) c arg10) : sProp 𝕄 :=
  iprop(pt c arg4 f4 ∗ pt c arg5 f5 ∗ pt c arg7 g7 ∗ pt c arg8 g8 ∗ pt c arg9 g9 ∗ pt c arg10 g10)

/-- One trip: from buffers that read the state `s` to buffers that read the next. -/
theorem tripRun (k : Fin (k0_t1_loop i).trips) (acc : BitVec 32) (hacc : acc.toNat = carried (i 2).val k.val ∧ acc.toNat < 8)
    (f4 : Bf (F := F) c arg4) (f5 : Bf (F := F) c arg5) (g7 : Bf (F := F) c arg7) (g8 : Bf (F := F) c arg8) (g9 : Bf (F := F) c arg9) (g10 : Bf (F := F) c arg10)
    (s s' : St F) (hs : rd c arg7 arg8 arg9 arg10 g7 g8 g9 g10 = s)
    (hs' : s' = trip v5 v7 (kb (arg4.view.read (Elt F) f4) (jx k.val)) (vb (arg5.view.read (Elt F) f5) (jx (carried (i 2).val k.val))) s) :
    res c arg4 arg5 arg7 arg8 arg9 arg10 f4 f5 g7 g8 g9 g10
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 v5 v7 v8 v57 v64 v68 v70 v71 k acc)
          (fun r => iprop(⌜r = Scf.iv 0#32 1#32 k.val⌝ ∗ res c arg4 arg5 arg7 arg8 arg9 arg10 f4 f5 (harg7.unread s'.m) (harg8.unread s'.l) (harg9.unread s'.a) (harg10.unread s'.p))) := by
  have hchk : k0_chk1 i k acc := chk_of acc hacc.2
  have h6 := (k0_t1_abs i).2.1
  have hk := k.isLt
  have hoff4 : k0_off4 i k = ![256 * (jx k.val).val, 0] := by rw [k0_off4_eq, jx_val (by omega)]
  have hoff5 : k0_off5 acc = ![(jx (carried (i 2).val k.val)).val, 0, 0] := by rw [off5_eq, hacc.1, jx_val (by omega)]
  unfold res pt
  iintro ⟨H4, H5, H7, H8, H9, H10⟩
  sl_unfold [k0_t1_body]
  sl_exec
  sl_step
  have hkb : kb (arg4.view.read (Elt F) f4) (jx k.val) = _ := (readAt_kb arg4.view f4 (jx k.val) (k0_off4 i k) (k0_off4_inb i k) hoff4).symm
  have hvb : vb (arg5.view.read (Elt F) f5) (jx (carried (i 2).val k.val)) = _ := (readAt_vb arg5.view f5 _ (k0_off5 acc) (k0_off5_inb i k acc hchk) hoff5).symm
  have h7 : arg7.view.read (Elt F) g7 = _ := (View.readAt_full arg7.view g7 (off := ![0, 0]) inb_S1x1024_S1x1024_0_0).symm
  have h8 : arg8.view.read (Elt F) g8 = _ := (View.readAt_full arg8.view g8 (off := ![0, 0]) inb_S1x1024_S1x1024_0_0).symm
  have h9 : arg9.view.read (Elt F) g9 = _ := (View.readAt_full arg9.view g9 (off := ![0, 0]) inb_S128x1024_S128x1024_0_0).symm
  have h10 : arg10.view.read (Elt F) g10 = _ := (View.readAt_full arg10.view g10 (off := ![0, 0]) inb_S256x1024_S256x1024_0_0).symm
  subst hs' hs
  isplitr; · ipureintro; rfl
  isplitl [H4]; · iexact H4
  isplitl [H5]; · iexact H5
  isplitl [H7]
  · iapply (pt_stored c arg7 harg7 g7 _ inb_S1x1024_S1x1024_0_0 _ [] ?_) $$ H7
    unfold rd trip; dsimp only; rw [hkb, h7]; rfl
  isplitl [H8]
  · iapply (pt_stored c arg8 harg8 g8 _ inb_S1x1024_S1x1024_0_0 _ [] ?_) $$ H8
    unfold rd trip; dsimp only; rw [hkb, hvb, h7, h8, h10]; rfl
  isplitl [H9]
  · iapply (pt_stored c arg9 harg9 g9 _ inb_S128x1024_S128x1024_0_0 _ [] ?_) $$ H9
    unfold rd trip; dsimp only; rw [hkb, hvb, h7, h9, h10]; rfl
  iapply (pt_stored c arg10 harg10 g10 _ inb_S256x1024_S256x1024_0_0 _ [] ?_) $$ H10
  unfold rd trip; dsimp only; rw [hkb, h7]; rfl

/-- The buffers before trip `k` read the state `x k`. -/
theorem rd_cont (g7 : Bf (F := F) c arg7) (g8 : Bf (F := F) c arg8) (g9 : Bf (F := F) c arg9) (g10 : Bf (F := F) c arg10) (x : ℕ → St F)
    (h : rd c arg7 arg8 arg9 arg10 g7 g8 g9 g10 = x 0) (k : ℕ) :
    rd c arg7 arg8 arg9 arg10 (cont c arg7 harg7 g7 (fun k => (x k).m) k) (cont c arg8 harg8 g8 (fun k => (x k).l) k)
      (cont c arg9 harg9 g9 (fun k => (x k).a) k) (cont c arg10 harg10 g10 (fun k => (x k).p) k) = x k := by
  unfold rd
  rw [read_cont c arg7 harg7 g7 (fun k => (x k).m) (congrArg St.m h) k, read_cont c arg8 harg8 g8 (fun k => (x k).l) (congrArg St.l h) k,
    read_cont c arg9 harg9 g9 (fun k => (x k).a) (congrArg St.a h) k, read_cont c arg10 harg10 g10 (fun k => (x k).p) (congrArg St.p h) k]

/-- The first loop: from buffers that read `s` to buffers that read the state after all its trips. -/
theorem loopRun (init : BitVec 32) (hinit : init.toNat = 2 * (i 2).val + 1)
    (f4 : Bf (F := F) c arg4) (f5 : Bf (F := F) c arg5) (g7 : Bf (F := F) c arg7) (g8 : Bf (F := F) c arg8) (g9 : Bf (F := F) c arg9) (g10 : Bf (F := F) c arg10)
    (s : St F) (hs : rd c arg7 arg8 arg9 arg10 g7 g8 g9 g10 = s) (x : ℕ → St F)
    (hx : x = stL v5 v7 (arg4.view.read (Elt F) f4) (arg5.view.read (Elt F) f5) (i 2).val s) :
    res c arg4 arg5 arg7 arg8 arg9 arg10 f4 f5 g7 g8 g9 g10
      ⊢ wp frame (wpE (defs₀ (F := F)) 𝒱₀ (c : Thread nD τ) none) Set.univ
          (Scf.Loop.for (k0_t1_loop i) (k0_t1_ok i) init (k0_t1_body (F := F) i arg3 harg3 arg4 harg4 arg5 harg5 arg6 harg6 arg7 harg7 arg8 harg8 arg9 harg9 arg10 harg10 v5 v7 v8 v57 v64 v68 v70 v71))
          (fun r => iprop(⌜r = accW init (k0_t1_loop i).trips⌝ ∗ ∃ g7 g8 g9 g10,
            ⌜rd c arg7 arg8 arg9 arg10 g7 g8 g9 g10 = x (k0_t1_loop i).trips⌝ ∗ res c arg4 arg5 arg7 arg8 arg9 arg10 f4 f5 g7 g8 g9 g10)) := by
  have hx0 : rd c arg7 arg8 arg9 arg10 g7 g8 g9 g10 = x 0 := by rw [hs, hx]; rfl
  have hxs : ∀ k, x (k + 1) = trip v5 v7 (kb (arg4.view.read (Elt F) f4) (jx k)) (vb (arg5.view.read (Elt F) f5) (jx (carried (i 2).val k))) (x k) := by
    subst hx; intro k; rfl
  refine BIBase.Entails.trans ?_ (Scf.wp_for Idealize.ShloMosaic.frame _ Set.univ _ _ _ (k0_t1_ok i) init _
    (fun k r => iprop(⌜r = accW init k ∧ k ≤ (k0_t1_loop i).trips⌝ ∗ res c arg4 arg5 arg7 arg8 arg9 arg10 f4 f5
      (cont c arg7 harg7 g7 (fun k => (x k).m) k) (cont c arg8 harg8 g8 (fun k => (x k).l) k)
      (cont c arg9 harg9 g9 (fun k => (x k).a) k) (cont c arg10 harg10 g10 (fun k => (x k).p) k))) ?_)
  · iintro H
    isplitl [H]
    · isplitr; · ipureintro; exact ⟨rfl, Nat.zero_le _⟩
      iexact H
    · iintro %r ⟨%hr, H⟩
      isplitr; · ipureintro; exact hr.1
      iexists _, _, _, _
      isplitr; · ipureintro; exact rd_cont c arg7 harg7 arg8 harg8 arg9 harg9 arg10 harg10 g7 g8 g9 g10 x hx0 (k0_t1_loop i).trips
      iexact H
  · intro k acc
    iintro ⟨%hr, H⟩
    iapply (wp_wand_r Idealize.ShloMosaic.frame (wpE (defs₀ (F := F)) 𝒱₀ (c : Thread nD τ) none) Set.univ)
    isplitl [H]
    · iapply (tripRun c i arg3 harg3 arg4 harg4 arg5 harg5 arg6 harg6 arg7 harg7 arg8 harg8 arg9 harg9 arg10 harg10 v5 v7 v8 v57 v64 v68 v70 v71 k acc
        (by rw [hr.1]; exact accW_toNat i init hinit k.val hr.2) f4 f5 _ _ _ _ (x k.val) (x (k.val + 1))
        (rd_cont c arg7 harg7 arg8 harg8 arg9 harg9 arg10 harg10 g7 g8 g9 g10 x hx0 k.val) (hxs k.val))
      iexact H
    · iintro %r ⟨%hr', H⟩
      isplitr; · ipureintro; exact ⟨hr', k.isLt⟩
      iexact H

/-- The second loop takes no trip. -/
theorem loop2Run (v102 init : BitVec 32) {P : sProp 𝕄} :
    P ⊢ wp frame (wpE (defs₀ (F := F)) 𝒱₀ (c : Thread nD τ) none) Set.univ
          (Scf.Loop.for (k0_t2_loop i) (k0_t2_ok i) init (k0_t2_body (F := F) i arg3 harg3 arg4 harg4 arg5 harg5 arg6 harg6 arg7 harg7 arg8 harg8 arg9 harg9 arg10 harg10 v5 v7 v8 v57 v64 v68 v70 v71 v102))
          (fun r => iprop(⌜r = init⌝ ∗ P)) := by
  refine BIBase.Entails.trans ?_ (Scf.wp_for Idealize.ShloMosaic.frame _ Set.univ _ _ _ (k0_t2_ok i) init _ (fun _ r => iprop(⌜r = init⌝ ∗ P)) ?_)
  · iintro H
    isplitl [H]
    · isplitr; · ipureintro; rfl
      iexact H
    · iintro %r H
      iexact H
  · intro k acc
    exact (Nat.not_lt_zero _ (Nat.lt_of_lt_of_le k.isLt (k0_t2_abs i).2.1)).elim

theorem init_eq : ∀ i : grid0.Coords, (Scalar.subi (Scalar.addi (Scalar.muli (BitVec.ofNat 32 (i 2).val) 2#32) 2#32) 1#32).toNat = 2 * (i 2).val + 1 := by decide +kernel

theorem kernelRun (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) :
    iprop(pt c arg3 f3 ∗ pt c arg6 f6 ∗ res c arg4 arg5 arg7 arg8 arg9 arg10 f4 f5 f7 f8 f9 f10)
      ⊢ wp frame (wpE (defs₀ (F := F)) 𝒱₀ (c : Thread nD τ) none) Set.univ
          (cc0__mla_attn_kernel (F := F) i arg3 harg3 arg4 harg4 arg5 harg5 arg6 harg6 arg7 harg7 arg8 harg8 arg9 harg9 arg10 harg10)
          (fun _ => iprop(pt c arg3 f3 ∗ (∃ g6, ⌜arg6.view.read (Elt F) g6 = outV (i 2) (arg3.view.read (Elt F) f3) (arg4.view.read (Elt F) f4) (arg5.view.read (Elt F) f5)⌝ ∗ pt c arg6 g6) ∗ (∃ g7 g8 g9 g10, res c arg4 arg5 arg7 arg8 arg9 arg10 f4 f5 g7 g8 g9 g10))) := by
  have hi : (i 2).val < 4 := (i 2).isLt
  have hq0 : q0 (arg3.view.read (Elt F) f3) = _ := (View.readAt_unit arg3.view f3 (off := ![0, 0]) inb_S512x256_S512x128_0_0 rfl inb_S512x256_S512x128_0_0).symm
  have hq1 : q1 (arg3.view.read (Elt F) f3) = _ := (View.readAt_unit arg3.view f3 (off := ![0, 128]) inb_S512x256_S512x128_0_128 rfl inb_S512x256_S512x128_0_128).symm
  have hk0 : kb (arg4.view.read (Elt F) f4) (jx (2 * (i 2).val)) = _ := (readAt_kb arg4.view f4 _ (k0_off1 i) (k0_off1_inb i) (by rw [k0_off1_eq, jx_val (by omega)]; congr 1; omega)).symm
  have hk1 : kb (arg4.view.read (Elt F) f4) (jx (2 * (i 2).val + 1)) = _ := (readAt_kb arg4.view f4 _ (k0_off2 i) (k0_off2_inb i) (by rw [k0_off2_eq, jx_val (by omega)]; congr 1; omega)).symm
  have hv0 : vb (arg5.view.read (Elt F) f5) (jx (2 * (i 2).val)) = _ := (readAt_vb arg5.view f5 _ (k0_off3 i) (k0_off3_inb i) (by rw [k0_off3_eq, jx_val (by omega)])).symm
  have hm0 : (st0 (i 2).val (arg3.view.read (Elt F) f3) (arg4.view.read (Elt F) f4)).m = _ := (View.readCov_full arg7.view (off := ![0, 0]) (off' := ![0, 0]) inb_S1x1024_S1x1024_0_0 inb_S1x1024_S1x1024_0_0 _ []).symm
  have hl0 : (st0 (i 2).val (arg3.view.read (Elt F) f3) (arg4.view.read (Elt F) f4)).l = _ := (View.readCov_full arg8.view (off := ![0, 0]) (off' := ![0, 0]) inb_S1x1024_S1x1024_0_0 inb_S1x1024_S1x1024_0_0 _ []).symm
  have ha0 : (st0 (i 2).val (arg3.view.read (Elt F) f3) (arg4.view.read (Elt F) f4)).a = _ := (View.readCov_full arg9.view (off := ![0, 0]) (off' := ![0, 0]) inb_S128x1024_S128x1024_0_0 inb_S128x1024_S128x1024_0_0 _ []).symm
  have hp0 : (st0 (i 2).val (arg3.view.read (Elt F) f3) (arg4.view.read (Elt F) f4)).p = _ := (View.readCov_full arg10.view (off := ![0, 0]) (off' := ![0, 0]) inb_S256x1024_S256x1024_0_0 inb_S256x1024_S256x1024_0_0 _ []).symm
  unfold res pt
  iintro ⟨H3, H6, H4, H5, H7, H8, H9, H10⟩
  rw [cc0__mla_attn_kernel_eq_skeleton]
  sl_unfold [cc0__mla_attn_kernel_skel]
  sl_exec
  rw [wp_bind]
  iapply (wp_wand_r Idealize.ShloMosaic.frame (wpE (defs₀ (F := F)) 𝒱₀ (c : Thread nD τ) none) Set.univ)
  isplitl [H4 H5 H7 H8 H9 H10]
  · iapply (loopRun c i arg3 harg3 arg4 harg4 arg5 harg5 arg6 harg6 arg7 harg7 arg8 harg8 arg9 harg9 arg10 harg10 _ _ 0#32 (constant S256x1024 .f32 0#32) (constant S144x1024 .f32 0#32) k0_pay20 k0_pay20 k0_pay20 _ (init_eq i) f4 f5 _ _ _ _
      (st1 (i 2).val (arg3.view.read (Elt F) f3) (arg4.view.read (Elt F) f4) (arg5.view.read (Elt F) f5)) ?_ _ rfl)
    swap
    · isplitl [H4]; · iexact H4
      isplitl [H5]; · iexact H5
      isplitl [H7]; · iexact H7
      isplitl [H8]; · iexact H8
      isplitl [H9]; · iexact H9
      iexact H10
    · unfold rd
      unfold st1 diag2
      dsimp only
      rw [hm0, hp0, hl0, ha0]
      unfold st0
      dsimp only
      rw [hq0, hq1, hk0, hk1, hv0]
      refine St.mk_congr ?_ ?_ ?_ ?_
      · exact View.read_writes_full arg7.view _ (off := ![0, 0]) inb_S1x1024_S1x1024_0_0 _ _
      · exact View.read_writes_full arg8.view _ (off := ![0, 0]) inb_S1x1024_S1x1024_0_0 _ _
      · exact View.read_writes_full arg9.view _ (off := ![0, 0]) inb_S128x1024_S128x1024_0_0 _ _
      · exact View.read_writes_full arg10.view _ (off := ![0, 0]) inb_S256x1024_S256x1024_0_0 _ _
  iintro %r ⟨%hr, %g7, %g8, %g9, %g10, %hg, H4, H5, H7, H8, H9, H10⟩
  rw [wp_bind]
  iapply (wp_wand_r Idealize.ShloMosaic.frame (wpE (defs₀ (F := F)) 𝒱₀ (c : Thread nD τ) none) Set.univ)
  isplitl []
  · iapply (loop2Run (P := iprop(True)) c i arg3 harg3 arg4 harg4 arg5 harg5 arg6 harg6 arg7 harg7 arg8 harg8 arg9 harg9 arg10 harg10 _ _ 0#32 (constant S256x1024 .f32 0#32) (constant S144x1024 .f32 0#32) k0_pay20 k0_pay20 k0_pay20 _ r)
    ipureintro; trivial
  iintro %r' ⟨%hr', -⟩
  subst hr'
  have htr := accW_toNat i _ (init_eq i) _ (le_refl (k0_t1_loop i).trips)
  rw [← hr] at htr
  have hchk : k0_chk3 r' := chk_of r' htr.2
  have hv : vb (arg5.view.read (Elt F) f5) (jx (carried (i 2).val (2 * (i 2).val))) = _ :=
    (readAt_vb arg5.view f5 _ (k0_off8 r') (k0_off8_inb r' hchk) (by rw [off8_eq, htr.1, trips_eq, jx_val (by have := htr.1; rw [trips_eq] at this; omega)])).symm
  sl_exec
  sl_step
  isplitl [H3]; · iexact H3
  isplitl [H6]
  · iexists _
    isplitr; swap; · iexact H6
    ipureintro
    refine (View.read_writes_full _ _ _ _ _).trans ?_
    unfold outV outS
    rw [← trips_eq i] at hv ⊢
    rw [hq0, hq1, hv]
    have e : stL (k0_pay15 _) (k0_pay16 _) (arg4.view.read (Elt F) f4) (arg5.view.read (Elt F) f5) (i 2).val _ (k0_t1_loop i).trips = rd c arg7 arg8 arg9 arg10 g7 g8 g9 g10 := hg.symm
    have h8 : arg8.view.read (Elt F) g8 = _ := (View.readAt_full arg8.view g8 (off := ![0, 0]) inb_S1x1024_S1x1024_0_0).symm
    have h9 : arg9.view.read (Elt F) g9 = _ := (View.readAt_full arg9.view g9 (off := ![0, 0]) inb_S128x1024_S128x1024_0_0).symm
    have h10 : arg10.view.read (Elt F) g10 = _ := (View.readAt_full arg10.view g10 (off := ![0, 0]) inb_S256x1024_S256x1024_0_0).symm
    rw [e]
    unfold rd
    dsimp only
    rw [h8, h9, h10]
    rfl
  iexists _, _, _, _
  isplitl [H4]; · iexact H4
  isplitl [H5]; · iexact H5
  isplitl [H7]; · iexact H7
  isplitl [H8]; · iexact H8
  isplitl [H9]; · iexact H9
  iexact H10

end Trip

end Cert.KernelIdeal.Body

end
-- ==== Proof.Run.lean ====
module

public import proofs.«01_k».proof.Proof.Body
public import Idealize.ShloMosaic.Lib.Pipeline.Value
public import Idealize.ShloMosaic.Lib.Quiescent

/-!
The pipeline of the kernel's one call: each point's body by `Body.kernelRun`, the launch by the library's frame run, and
the result array read block by block: block `(b·4 + i, g)` is `Body.outV` of the point `(b, g, i)`'s three windows.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- What point `t` leaves in the result's staging buffer. -/
def outsAt (c : Dev nD) (t : Fin cfg0.N) : Vec F S512x128 .bf16 := outV (grid0.coords t 2) (iblk m c 0 t) (iblk m c 1 t) (iblk m c 2 t)

/-- The arrays as the region finds them; after the body each input's buffer at its block, the result's at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- A whole buffer's points-to is the whole memref's. -/
theorem pt_whole (c : Dev nD) (b : Ref sig .tc) (f : Buf (Elt F) ((c : Thread nD τ).loc b)) :
    (pt c (Memref.whole b) f : sProp 𝕄) = (((c : Thread nD τ).loc b) ↦{fullShare} f) := by
  unfold pt; simp only [Memref.view_whole, View.set_whole]

/-- The body on staging memrefs `M3 … M6` and the four scratch buffers at anything. -/
theorem pointRun (c : Dev nD) (i : grid0.Coords) (M3 : Memref sig .tc .vmem S512x256 .bf16) (h3 : M3.IsWhole) (M4 : Memref sig .tc .vmem S2048x256 .bf16) (h4 : M4.IsWhole)
    (M5 : Memref sig .tc .vmem S8x144x256 .bf16) (h5 : M5.IsWhole) (M6 : Memref sig .tc .vmem S512x128 .bf16) (h6 : M6.IsWhole)
    (x3 : Vec F S512x256 .bf16) (x4 : Vec F S2048x256 .bf16) (x5 : Vec F S8x144x256 .bf16) :
    iprop(owns (c : Thread nD τ) M3 fullShare x3 ∗ owns (c : Thread nD τ) M4 fullShare x4 ∗ owns (c : Thread nD τ) M5 fullShare x5 ∗ (∃ d, owns (c : Thread nD τ) M6 fullShare d)
        ∗ Pipeline.scopedRest (Ix := Unit) (Name := ℕ) (U := UU nD τ) (Lvl := ℕ) (Val := Elt F) spec0 c)
      ⊢ wp frame (wpE (defs₀ (F := F)) 𝒱₀ (c : Thread nD τ) none) Set.univ
          (cc0__mla_attn_kernel (F := F) i M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _))
          (fun _ => iprop(owns (c : Thread nD τ) M3 fullShare x3 ∗ owns (c : Thread nD τ) M4 fullShare x4 ∗ owns (c : Thread nD τ) M5 fullShare x5 ∗ owns (c : Thread nD τ) M6 fullShare (outV (i 2) x3 x4 x5)
            ∗ Pipeline.scopedRest (Ix := Unit) (Name := ℕ) (U := UU nD τ) (Lvl := ℕ) (Val := Elt F) spec0 c)) := by
  rw [scopedRest0_eq]
  simp only [← pt_whole]
  unfold owns
  iintro ⟨⟨%f3, %h3, H3⟩, ⟨%f4, %h4, H4⟩, ⟨%f5, %h5, H5⟩, ⟨%d3, %f6, -, H6⟩, ⟨%f7, H7⟩, ⟨%f8, H8⟩, ⟨%f9, H9⟩, ⟨%f10, H10⟩⟩
  subst h3 h4 h5
  iapply (wp_wand_r Idealize.ShloMosaic.frame (wpE (defs₀ (F := F)) 𝒱₀ (c : Thread nD τ) none) Set.univ)
  isplitl [H3 H4 H5 H6 H7 H8 H9 H10]
  · iapply (kernelRun c i M3 _ M4 _ M5 _ M6 _ (Memref.whole cc0_scratch0) (Memref.isWhole_whole _) (Memref.whole cc0_scratch1) (Memref.isWhole_whole _) (Memref.whole cc0_scratch2) (Memref.isWhole_whole _) (Memref.whole cc0_scratch3) (Memref.isWhole_whole _) f3 f4 f5 f6 f7 f8 f9 f10)
    isplitl [H3]; · iexact H3
    isplitl [H6]; · iexact H6
    unfold res
    isplitl [H4]; · iexact H4
    isplitl [H5]; · iexact H5
    isplitl [H7]; · iexact H7
    isplitl [H8]; · iexact H8
    isplitl [H9]; · iexact H9
    iexact H10
  unfold res
  iintro %_ ⟨H3, ⟨%g6, %hg, H6⟩, ⟨%g7, %g8, %g9, %g10, H4, H5, H7, H8, H9, H10⟩⟩
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists g6; isplitr; · ipureintro; exact hg
                  iexact H6
  isplitl [H7]; · iexists g7; iexact H7
  isplitl [H8]; · iexists g8; iexact H8
  isplitl [H9]; · iexists g9; iexact H9
  iexists g10; iexact H10

/-- Each point's body: its windows at their blocks, its scratch at anything, left as `dats` says. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0, before1, before2]
  rw [show (dats m 0 c).Φ t.succ = (dats m 0 c).Φ t.castSucc from rfl,
    show (dats m 0 c).owesAt () t.succ = (dats m 0 c).owesAt () t.castSucc from rfl, after0, after1, after2, after3]
  rw [show (dats m 0 c).Φ t.castSucc = Pipeline.ΦA spec0 c from rfl]
  unfold Pipeline.ΦA outsAt
  iintro ⟨⟨Hs, Hρ⟩, Ho, ⟨%d0, H3⟩, ⟨%d1, H4⟩, ⟨%d2, H5⟩, ⟨%d3, H6⟩⟩
  iapply (wp_wand_r Idealize.ShloMosaic.frame (wpE (defs₀ (F := F)) 𝒱₀ (c : Thread nD τ) none) Set.univ)
  isplitl [H3 H4 H5 H6 Hs]
  · iapply (pointRun c (grid0.coords t) _ _ _ _ _ _ _ _ (iblk m c 0 t) (iblk m c 1 t) (iblk m c 2 t))
    isplitl [H3]; · iexact H3
    isplitl [H4]; · iexact H4
    isplitl [H5]; · iexact H5
    isplitl [H6]; · iexists _; iexact H6
    iexact Hs
  iintro %_ ⟨H3, H4, H5, H6, Hs⟩
  isplitl [Hs Hρ]
  · isplitl [Hs]; · iexact Hs
    iexact Hρ
  isplitl [Ho]; · iexact Ho
  isplitl [H3]; · iexact H3
  isplitl [H4]; · iexact H4
  isplitl [H5]; · iexact H5
  iexact H6

set_option backward.isDefEq.respectTransparency.types false in
/-- From any memory with zero counters every execution of @main terminates, nothing faulting, every array of the pipeline at
    what the library computes from `dats` and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun c w => A_eq m c w) (hΦ := fun _ _ => rfl)

/-- The arguments end as launched and every counter at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun c w => A_eq m c w) (run_main m ρ)

end Cert.KernelIdeal.Body

end
-- ==== Proof.Reads.lean ====
module

public import proofs.«01_k».proof.Proof.Body
public import Idealize.ShloMosaic.Lib.Pointwise

/-!
The kernel's vector expressions over the extended reals, read at an index: a score, a product with the value rows, a column's
maximum, a weight.
-/

@[expose] public section

set_option maxRecDepth 16384

noncomputable section

namespace Cert.KernelIdeal.Reads

open Cert.KernelIdeal Cert.KernelIdeal.Gen
open Idealize.ShloMosaic Idealize.ShloMosaic.TcCoe Idealize.ShloMosaic.Pointwise

/-- The score of key `κ` of a block against column `x`: the first 512 columns are the first head's queries, the others the
    second's. -/
def score (v5 v7 : FVec Ideal S512x128 .bf16) (K : Vec Ideal S256x256 .bf16) (κ : Fin 256) (x : Fin 1024) : EReal :=
  if h : x.val < 512 then ∑ d : Fin 128, K (ix2 κ ⟨d.val, by omega⟩) * v5 (ix2 ⟨x.val, h⟩ d)
  else ∑ d : Fin 128, K (ix2 κ ⟨128 + d.val, by omega⟩) * v7 (ix2 ⟨x.val - 512, by omega⟩ d)

theorem neg_inf : Ideal.ofBits FTy.f32 0xFF800000#32 = ⊥ := by simp [Ideal.ofBits, Ideal.ieee]

theorem mask_eq : (Named.named Cert.KernelIdeal.κ "mask" 0xF149F2CA#32 : Ideal .f32) = ⊥ := IdealRules.named_const.ideal_named_scalar _ _ _ _ rfl

/-- A comparison of two small words, as natural numbers. -/
theorem sle_iff (a b : BitVec 32) (ha : a.toNat < 2 ^ 31) (hb : b.toNat < 2 ^ 31) : IntOp.cmpi .sle a b = 1#1 ↔ a.toNat ≤ b.toNat := by
  have e : IntOp.cmpi .sle a b = BitVec.ofBool (a.sle b) := rfl
  rw [e, BitVec.sle_eq_decide, BitVec.toInt_eq_toNat_of_lt (by omega), BitVec.toInt_eq_toNat_of_lt (by omega)]
  by_cases h : a.toNat ≤ b.toNat <;> simp [h]

theorem and_toNat (x : Fin 1024) : (IntOp.andi (BitVec.ofNat 32 x.val) 511#32).toNat = x.val % 512 := by
  show (BitVec.ofNat 32 x.val &&& 511#32).toNat = _
  have := x.isLt
  rw [BitVec.toNat_and, BitVec.toNat_ofNat, Nat.mod_eq_of_lt (by omega : x.val < 2 ^ 32)]
  exact Nat.and_two_pow_sub_one_eq_mod x.val 9

theorem select_ite {α : Type} (b : BitVec 1) (p : Prop) [Decidable p] (h : b = 1#1 ↔ p) (x y : α) : Scalar.select b x y = if p then x else y := by
  unfold Scalar.select
  by_cases hp : p
  · rw [if_pos hp, h.2 hp]; rfl
  · rw [if_neg hp]
    have hb : b ≠ 1#1 := fun e => hp (h.1 e)
    simp [hb]

theorem pay2_read (v5 v7 : FVec Ideal S512x128 .bf16) (K : Vec Ideal S256x256 .bf16) (κ : Fin 256) (x : Fin 1024) :
    k0_pay2 v5 v7 K (ix2 κ x) = score v5 v7 K κ x := by
  pointwise [k0_pay2, score]

theorem pay17_read (v5 v7 : FVec Ideal S512x128 .bf16) (K : Vec Ideal S256x256 .bf16) (κ : Fin 256) (x : Fin 1024) :
    k0_pay17 v5 v7 K (ix2 κ x) = if κ.val ≤ x.val % 512 then score v5 v7 K κ x else ⊥ := by
  have hκ := κ.isLt
  pointwise [k0_pay17, k0_pay14, k0_pay15, k0_pay16, score]
  rw [mask_eq]
  refine select_ite _ _ ?_ _ _
  rw [sle_iff _ _ (by rw [BitVec.toNat_ofNat]; omega) (by rw [and_toNat]; omega), and_toNat, BitVec.toNat_ofNat, Nat.mod_eq_of_lt (by omega)]

theorem pay23_read (v5 v7 : FVec Ideal S512x128 .bf16) (K : Vec Ideal S256x256 .bf16) (κ : Fin 256) (x : Fin 1024) :
    k0_pay23 (iota .tc S256x1024 32 [0] iota_S256x1024_d0_w32) k0_pay14 v5 v7 K (ix2 κ x) = if κ.val + 256 ≤ x.val % 512 then score v5 v7 K κ x else ⊥ := by
  have hκ := κ.isLt
  pointwise [k0_pay23, k0_pay14, score]
  rw [mask_eq]
  refine select_ite _ _ ?_ _ _
  have e : (IntOp.addi (BitVec.ofNat 32 κ.val) 256#32).toNat = κ.val + 256 := by
    show (BitVec.ofNat 32 κ.val + 256#32).toNat = _
    rw [BitVec.toNat_add, BitVec.toNat_ofNat]; simp; omega
  rw [sle_iff _ _ (by rw [e]; omega) (by rw [and_toNat]; omega), and_toNat, e]

theorem pay4_read (v5 v7 : FVec Ideal S512x128 .bf16) (K : Vec Ideal S256x256 .bf16) (M : Vec Ideal S1x1024 .f32) (x : Fin 1024) :
    k0_pay4 v5 v7 K M (ix2 0 x) = max (M (ix2 0 x)) ((Finset.univ : Finset (Fin 256)).fold max ⊥ fun κ => score v5 v7 K κ x) := by
  simp only [← pay2_read]
  pointwise [k0_pay4]
  rw [neg_inf]

theorem pay25_read (v5 v7 : FVec Ideal S512x128 .bf16) (K : Vec Ideal S256x256 .bf16) (M : Vec Ideal S1x1024 .f32) (x : Fin 1024) (v0 v3) :
    k0_pay25 v0 v3 v5 v7 K M (ix2 0 x) = max (M (ix2 0 x)) ((Finset.univ : Finset (Fin 256)).fold max ⊥ fun κ => k0_pay23 v0 v3 v5 v7 K (ix2 κ x)) := by
  pointwise [k0_pay25]
  rw [neg_inf]

theorem pay18_read (v5 v7 : FVec Ideal S512x128 .bf16) (K : Vec Ideal S256x256 .bf16) (x : Fin 1024) :
    k0_pay18 v5 v7 K (ix2 0 x) = (Finset.univ : Finset (Fin 256)).fold max ⊥ fun κ => k0_pay17 v5 v7 K (ix2 κ x) := by
  pointwise [k0_pay18]
  rw [neg_inf]

theorem pay6_read (v5 v7 : FVec Ideal S512x128 .bf16) (K : Vec Ideal S256x256 .bf16) (V : Vec Ideal S1x144x256 .bf16) (p : Vec Ideal S256x1024 .bf16)
    (M l : Vec Ideal S1x1024 .f32) (x : Fin 1024) :
    k0_pay6 v5 v7 K V p M l (ix2 0 x) = (l (ix2 0 x) + ∑ κ : Fin 256, V (ix3 0 128 κ) * p (ix2 κ x)) * Ideal.exp2 (M (ix2 0 x) - k0_pay4 v5 v7 K M (ix2 0 x)) := by
  pointwise [k0_pay6, k0_pay3, k0_pay5]
  rfl

theorem pay7_read (v5 v7 : FVec Ideal S512x128 .bf16) (K : Vec Ideal S256x256 .bf16) (V : Vec Ideal S1x144x256 .bf16) (p : Vec Ideal S256x1024 .bf16)
    (M : Vec Ideal S1x1024 .f32) (a : Vec Ideal S128x1024 .f32) (r : Fin 128) (x : Fin 1024) :
    k0_pay7 v5 v7 K V p M a (ix2 r x) = (a (ix2 r x) + ∑ κ : Fin 256, V (ix3 0 ⟨r.val, by omega⟩ κ) * p (ix2 κ x)) * Ideal.exp2 (M (ix2 0 x) - k0_pay4 v5 v7 K M (ix2 0 x)) := by
  pointwise [k0_pay7, k0_pay3, k0_pay5]
  rfl

theorem pay31_read (S : FVec Ideal S256x1024 .f32) (M : Vec Ideal S1x1024 .f32) (κ : Fin 256) (x : Fin 1024) :
    k0_pay31 S M (ix2 κ x) = Ideal.exp2 (S (ix2 κ x) - M (ix2 0 x)) := by
  pointwise [k0_pay31]
  rfl

theorem pay29_read (S : FVec Ideal S256x1024 .f32) (M : Vec Ideal S1x1024 .f32) (κ : Fin 256) (x : Fin 1024) :
    k0_pay29 S M (ix2 κ x) = Ideal.exp2 (S (ix2 κ x) - M (ix2 0 x)) := by
  pointwise [k0_pay29]
  rfl

theorem pay22_read (S : FVec Ideal S256x1024 .f32) (M : Vec Ideal S1x1024 .f32) (κ : Fin 256) (x : Fin 1024) :
    k0_pay22 S M (ix2 κ x) = Ideal.exp2 (S (ix2 κ x) - M (ix2 0 x)) := by
  pointwise [k0_pay22]
  rfl

theorem pay27_read (V : Vec Ideal S1x144x256 .bf16) (p : Vec Ideal S256x1024 .bf16) (al l : Vec Ideal S1x1024 .f32) (x : Fin 1024) :
    k0_pay27 (k0_pay24 V p) al l (ix2 0 x) = (l (ix2 0 x) + ∑ κ : Fin 256, V (ix3 0 128 κ) * p (ix2 κ x)) * al (ix2 0 x) := by
  pointwise [k0_pay27, k0_pay24]

theorem pay28_read (V : Vec Ideal S1x144x256 .bf16) (p : Vec Ideal S256x1024 .bf16) (al : Vec Ideal S1x1024 .f32) (a : Vec Ideal S128x1024 .f32) (r : Fin 128) (x : Fin 1024) :
    k0_pay28 (k0_pay24 V p) al a (ix2 r x) = (a (ix2 r x) + ∑ κ : Fin 256, V (ix3 0 ⟨r.val, by omega⟩ κ) * p (ix2 κ x)) * al (ix2 0 x) := by
  pointwise [k0_pay28, k0_pay24]

theorem pay26_read (v5 v7 : FVec Ideal S512x128 .bf16) (K : Vec Ideal S256x256 .bf16) (M : Vec Ideal S1x1024 .f32) (x : Fin 1024) (v0 v3) :
    k0_pay26 v0 v3 v5 v7 K M (ix2 0 x) = Ideal.exp2 (M (ix2 0 x) - k0_pay25 v0 v3 v5 v7 K M (ix2 0 x)) := by
  pointwise [k0_pay26]
  rfl

/-- The column of the scores that lane `r` of query `i` of the output reads: the first head's for lanes below 64. -/
def colOf (i : Fin 512) (r : Fin 128) : Fin 1024 := if r.val < 64 then ⟨i.val, by omega⟩ else ⟨512 + i.val, by omega⟩

theorem out_read (V : Vec Ideal S1x144x256 .bf16) (p : Vec Ideal S256x1024 .bf16) (a : Vec Ideal S128x1024 .f32) (l : Vec Ideal S1x1024 .f32) (i : Fin 512) (r : Fin 128) :
    k0_pay1 (k0_pay35 V) p a l (ix2 i r)
      = Ideal.div (a (ix2 r (colOf i r)) + ∑ κ : Fin 256, V (ix3 0 ⟨r.val, by omega⟩ κ) * p (ix2 κ (colOf i r)))
          (l (ix2 0 (colOf i r)) + ∑ κ : Fin 256, V (ix3 0 128 κ) * p (ix2 κ (colOf i r))) := by
  pointwise [k0_pay1, k0_pay35]
  have hr := r.isLt
  have hs : IntOp.cmpi .slt (BitVec.ofNat 32 r.val) 64#32 = 1#1 ↔ r.val < 64 := by
    have e : IntOp.cmpi .slt (BitVec.ofNat 32 r.val) 64#32 = BitVec.ofBool ((BitVec.ofNat 32 r.val).slt 64#32) := rfl
    have ht : (BitVec.ofNat 32 r.val).toNat = r.val := by rw [BitVec.toNat_ofNat, Nat.mod_eq_of_lt (by omega)]
    rw [e, BitVec.slt_eq_decide, BitVec.toInt_eq_toNat_of_lt (by omega), BitVec.toInt_eq_toNat_of_lt (by simp), ht]
    by_cases h : r.val < 64 <;> simp [h]
  rw [select_ite _ _ hs]
  unfold colOf
  by_cases h : r.val < 64
  · rw [if_pos h, if_pos h]
  · rw [if_neg h, if_neg h]

theorem pay15_eq (v : Vec Ideal S512x128 .bf16) : k0_pay15 v = v := by
  funext j; pointwise [k0_pay15]

theorem pay16_eq (v : Vec Ideal S512x128 .bf16) : k0_pay16 v = v := by
  funext j; pointwise [k0_pay16]

/-! ## The state after a block, from the one before it -/

open Cert.KernelIdeal.Body

/-- `s'` is `s` after a block of scores `f` (masked ones at `−∞`), the block before it having the value rows `V`: the new
    maximum, the sum and the rows with the block before it taken in and brought to that maximum, the block's own weights. -/
structure Step (f : Fin 256 → Fin 1024 → EReal) (V : Vec Ideal S1x144x256 .bf16) (s s' : St Ideal) : Prop where
  m : ∀ x, s'.m (ix2 0 x) = max (s.m (ix2 0 x)) ((Finset.univ : Finset (Fin 256)).fold max ⊥ fun κ => f κ x)
  l : ∀ x, s'.l (ix2 0 x) = (s.l (ix2 0 x) + ∑ κ : Fin 256, V (ix3 0 128 κ) * s.p (ix2 κ x)) * Ideal.exp2 (s.m (ix2 0 x) - s'.m (ix2 0 x))
  a : ∀ (r : Fin 128) x, s'.a (ix2 r x) = (s.a (ix2 r x) + ∑ κ : Fin 256, V (ix3 0 ⟨r.val, by omega⟩ κ) * s.p (ix2 κ x)) * Ideal.exp2 (s.m (ix2 0 x) - s'.m (ix2 0 x))
  p : ∀ κ x, s'.p (ix2 κ x) = Ideal.exp2 (f κ x - s'.m (ix2 0 x))

theorem pay32_eq (M : FVec Ideal S1x1024 .f32) : k0_pay32 M = M := by funext j; pointwise [k0_pay32]
theorem pay30_eq (M : FVec Ideal S1x1024 .f32) : k0_pay30 M = M := by funext j; pointwise [k0_pay30]
theorem pay19_eq (v4 v6 K) : k0_pay19 (F := Ideal) v4 v6 K = k0_pay18 v4 v6 K := by funext j; pointwise [k0_pay19]

theorem trip_step (v5 v7 : FVec Ideal S512x128 .bf16) (K : Vec Ideal S256x256 .bf16) (V : Vec Ideal S1x144x256 .bf16) (s : St Ideal) :
    Step (score v5 v7 K) V s (trip v5 v7 K V s) where
  m x := by unfold trip; dsimp only; rw [pay32_eq, pay4_read]
  l x := by unfold trip; dsimp only; rw [pay32_eq, pay6_read]
  a r x := by unfold trip; dsimp only; rw [pay32_eq, pay7_read]
  p κ x := by unfold trip; dsimp only; rw [pay32_eq, pay31_read, pay2_read]

/-- The second block on the diagonal: key `κ` of it is seen by the queries from `256 + κ` on. -/
theorem diag_step (v4 v6 : Vec Ideal S512x128 .bf16) (K : Vec Ideal S256x256 .bf16) (V : Vec Ideal S1x144x256 .bf16) (s : St Ideal) :
    Step (fun κ x => if κ.val + 256 ≤ x.val % 512 then score v4 v6 K κ x else ⊥) V s (diag2 v4 v6 K V s) where
  m x := by unfold diag2; dsimp only; rw [pay30_eq, pay25_read, pay15_eq, pay16_eq]; exact congrArg (max _) (Finset.fold_congr fun κ _ => pay23_read _ _ _ κ x)
  l x := by unfold diag2; dsimp only; rw [pay30_eq, pay27_read, pay26_read]
  a r x := by unfold diag2; dsimp only; rw [pay30_eq, pay28_read, pay26_read]
  p κ x := by unfold diag2; dsimp only; rw [pay30_eq, pay29_read, pay15_eq, pay16_eq, pay23_read]

/-- The first block on the diagonal starts the state: nothing summed yet, its own weights against its own maximum. -/
theorem st0_m (n : ℕ) (q : Vec Ideal S512x256 .bf16) (K : Vec Ideal S2048x256 .bf16) (x : Fin 1024) :
    (st0 n q K).m (ix2 0 x) = (Finset.univ : Finset (Fin 256)).fold max ⊥ fun κ => if κ.val ≤ x.val % 512 then score (q0 q) (q1 q) (kb K (jx (2 * n))) κ x else ⊥ := by
  unfold st0; dsimp only; rw [pay19_eq, pay18_read]; simp only [pay17_read]

theorem st0_p (n : ℕ) (q : Vec Ideal S512x256 .bf16) (K : Vec Ideal S2048x256 .bf16) (κ : Fin 256) (x : Fin 1024) :
    (st0 n q K).p (ix2 κ x) = Ideal.exp2 ((if κ.val ≤ x.val % 512 then score (q0 q) (q1 q) (kb K (jx (2 * n))) κ x else ⊥) - (st0 n q K).m (ix2 0 x)) := by
  unfold st0; dsimp only; rw [pay22_read, pay17_read, pay19_eq]

theorem st0_l (n : ℕ) (q : Vec Ideal S512x256 .bf16) (K : Vec Ideal S2048x256 .bf16) (x : Fin 1024) : (st0 n q K).l (ix2 0 x) = 0 := by
  unfold st0; dsimp only; pointwise [k0_pay20]

theorem st0_a (n : ℕ) (q : Vec Ideal S512x256 .bf16) (K : Vec Ideal S2048x256 .bf16) (r : Fin 128) (x : Fin 1024) : (st0 n q K).a (ix2 r x) = 0 := by
  unfold st0; dsimp only; pointwise [k0_pay21]

end Cert.KernelIdeal.Reads

end
-- ==== Proof.Softmax.lean ====
module

public import Idealize.ShloMosaic.PureOps.Ideal

/-!
The arithmetic of a softmax taken block by block, over the extended reals: weights against a running shift, the sums brought
from one shift to the next, and the quotient, in which the shift cancels.
-/

@[expose] public section

noncomputable section

namespace Cert.Softmax

open Idealize.ShloMosaic

/-- A sum times a nonnegative real factor, term by term; the terms may be infinite. -/
theorem sum_mul_coe {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top _) _ _

theorem add_mul_coe (a b : EReal) (c : ℝ) (hc : 0 ≤ c) : (a + b) * (c : EReal) = a * (c : EReal) + b * (c : EReal) :=
  EReal.right_distrib_of_nonneg_of_ne_top (by exact_mod_cast hc) (EReal.coe_ne_top _) _ _

/-- `w` is the weight `2 ^ f` of the score `f`: a real score's, or zero of a masked one. -/
def Wt (f : EReal) (w : ℝ) : Prop := (f = ⊥ ∧ w = 0) ∨ ∃ t : ℝ, f = (t : EReal) ∧ w = (2 : ℝ) ^ t

theorem Wt.nonneg {f : EReal} {w : ℝ} (h : Wt f w) : 0 ≤ w := by
  rcases h with ⟨-, rfl⟩ | ⟨t, -, rfl⟩
  · exact le_rfl
  · positivity

theorem Wt.ne_top {f : EReal} {w : ℝ} (h : Wt f w) : f ≠ ⊤ := by
  rcases h with ⟨rfl, -⟩ | ⟨t, rfl, -⟩
  · exact bot_ne_top
  · exact EReal.coe_ne_top _

/-- A score's weight against the shift `μ`. -/
theorem Wt.exp2_sub {f : EReal} {w : ℝ} (h : Wt f w) (μ : ℝ) : Ideal.exp2 (f - (μ : EReal)) = ((w * (2 : ℝ) ^ (-μ) : ℝ) : EReal) := by
  rcases h with ⟨rfl, rfl⟩ | ⟨t, rfl, rfl⟩
  · rw [EReal.bot_sub, Ideal.exp2_bot, zero_mul, EReal.coe_zero]
  · rw [← EReal.coe_sub, Ideal.exp2_coe, ← Real.rpow_add two_pos]; rfl

theorem fold_ne_top {ι : Type} (S : Finset ι) (f : ι → EReal) (h : ∀ i ∈ S, f i ≠ ⊤) : S.fold max ⊥ f ≠ ⊤ := by
  classical
  induction S using Finset.induction_on with
  | empty => simp
  | insert a S ha ih =>
    rw [Finset.fold_insert ha]
    rcases max_choice (f a) (S.fold max ⊥ f) with e | e <;> rw [e]
    · exact h a (Finset.mem_insert_self a S)
    · exact ih fun i hi => h i (Finset.mem_insert_of_mem hi)

theorem le_fold {ι : Type} (S : Finset ι) (f : ι → EReal) (i : ι) (hi : i ∈ S) : f i ≤ S.fold max ⊥ f :=
  Finset.le_fold_max (b := ⊥) (f := f) (s := S) (f i) |>.2 (Or.inr ⟨i, hi, le_rfl⟩)

theorem eq_coe {x : EReal} (hb : x ≠ ⊥) (ht : x ≠ ⊤) : ∃ r : ℝ, x = (r : EReal) := ⟨x.toReal, (EReal.coe_toReal ht hb).symm⟩

/-- The maximum of a block with a real score in it is real. -/
theorem fold_real {ι : Type} (S : Finset ι) (f : ι → EReal) (w : ι → ℝ) (h : ∀ i, Wt (f i) (w i)) (i : ι) (hi : i ∈ S) (hf : f i ≠ ⊥) :
    ∃ μ : ℝ, S.fold max ⊥ f = (μ : EReal) :=
  eq_coe (fun e => hf (le_bot_iff.1 (e ▸ le_fold S f i hi))) (fold_ne_top S f fun i _ => (h i).ne_top)

/-- So is a real running maximum with any block taken in. -/
theorem max_fold_real {ι : Type} (S : Finset ι) (f : ι → EReal) (w : ι → ℝ) (h : ∀ i, Wt (f i) (w i)) (m : ℝ) :
    ∃ μ : ℝ, max (m : EReal) (S.fold max ⊥ f) = (μ : EReal) := by
  refine eq_coe (fun e => ?_) fun e => ?_
  · exact EReal.coe_ne_bot m (le_bot_iff.1 (e ▸ le_max_left _ _))
  · rcases max_choice (m : EReal) (S.fold max ⊥ f) with h' | h' <;> rw [h'] at e
    · exact EReal.coe_ne_top m e
    · exact fold_ne_top S f (fun i _ => (h i).ne_top) e

/-- The factor that brings sums from the shift `μ` to the shift `μ'`. -/
theorem exp2_shift (μ μ' : ℝ) : Ideal.exp2 ((μ : EReal) - (μ' : EReal)) = ((2 : ℝ) ^ (μ - μ') : ℝ) := by
  rw [← EReal.coe_sub, Ideal.exp2_coe]; rfl

theorem shift_mul (μ μ' : ℝ) : (2 : ℝ) ^ (-μ) * (2 : ℝ) ^ (μ - μ') = (2 : ℝ) ^ (-μ') := by
  rw [← Real.rpow_add two_pos]; congr 1; ring

/-- Rows weighted against the shift `μ`, added to rows summed against it, brought to the shift `μ'`. -/
theorem rows_step {ι : Type} [Fintype ι] (A : EReal) (v : ι → EReal) (w : ι → ℝ) (hw : ∀ i, 0 ≤ w i) (μ μ' : ℝ) :
    (A * ((2 : ℝ) ^ (-μ) : ℝ) + ∑ i, v i * ((w i * (2 : ℝ) ^ (-μ) : ℝ) : EReal)) * ((2 : ℝ) ^ (μ - μ') : ℝ)
      = (A + ∑ i, v i * (w i : EReal)) * ((2 : ℝ) ^ (-μ') : ℝ) := by
  have e : ∑ i, v i * ((w i * (2 : ℝ) ^ (-μ) : ℝ) : EReal) = (∑ i, v i * (w i : EReal)) * ((2 : ℝ) ^ (-μ) : ℝ) := by
    rw [sum_mul_coe _ _ _ (by positivity)]
    exact Finset.sum_congr rfl fun i _ => by rw [EReal.coe_mul, mul_assoc]
  rw [e, ← add_mul_coe _ _ _ (by positivity), mul_assoc, ← EReal.coe_mul, shift_mul]

theorem coe_sum {ι : Type} (S : Finset ι) (w : ι → ℝ) : ((∑ i ∈ S, w i : ℝ) : EReal) = ∑ i ∈ S, (w i : EReal) := by
  classical
  induction S using Finset.induction_on with
  | empty => simp
  | insert a S ha ih => rw [Finset.sum_insert ha, Finset.sum_insert ha, EReal.coe_add, ih]

/-- A real sum of weights as an extended real, each under a factor of one. -/
theorem ones_sum {ι : Type} [Fintype ι] (w : ι → ℝ) : ∑ i, (1 : EReal) * (w i : EReal) = ((∑ i, w i : ℝ) : EReal) := by
  simp only [one_mul]
  exact (coe_sum _ w).symm

/-- The quotient of the rows by the sum, both against one shift: the shift cancels. -/
theorem quotient {ι : Type} [Fintype ι] (A : EReal) (L : ℝ) (v : ι → EReal) (w : ι → ℝ) (hw : ∀ i, 0 ≤ w i) (μ : ℝ) (hL : 0 < L + ∑ i, w i) :
    Ideal.div (A * ((2 : ℝ) ^ (-μ) : ℝ) + ∑ i, v i * ((w i * (2 : ℝ) ^ (-μ) : ℝ) : EReal))
        (((L * (2 : ℝ) ^ (-μ) : ℝ) : EReal) + ∑ i, (1 : EReal) * ((w i * (2 : ℝ) ^ (-μ) : ℝ) : EReal))
      = (A + ∑ i, v i * (w i : EReal)) * ((1 / (L + ∑ i, w i) : ℝ) : EReal) := by
  have h2 : (0 : ℝ) < (2 : ℝ) ^ (-μ) := by positivity
  have e : ∑ i, v i * ((w i * (2 : ℝ) ^ (-μ) : ℝ) : EReal) = (∑ i, v i * (w i : EReal)) * ((2 : ℝ) ^ (-μ) : ℝ) := by
    rw [sum_mul_coe _ _ _ h2.le]
    exact Finset.sum_congr rfl fun i _ => by rw [EReal.coe_mul, mul_assoc]
  rw [e, ← add_mul_coe _ _ _ h2.le, ones_sum, ← EReal.coe_add, ← Finset.sum_mul, ← add_mul, Ideal.div_coe (by positivity), mul_assoc, ← EReal.coe_mul]
  congr 2
  field_simp

/-! ## The masked softmax of one row -/

/-- The weight of key `k` for the query at position `R`: the exponential of its score, or zero where the key comes later. -/
def wt (s : Fin 2048 → ℝ) (R : ℕ) (k : Fin 2048) : ℝ := if k.val ≤ R then Real.exp (s k) else 0

/-- The values `v` weighted by the softmax of the scores `s` over the keys up to `R`. -/
def row (s : Fin 2048 → ℝ) (R : ℕ) (v : Fin 2048 → EReal) : EReal := (∑ k, v k * (wt s R k : EReal)) * ((1 / ∑ k, wt s R k : ℝ) : EReal)

theorem wt_nonneg (s : Fin 2048 → ℝ) (R : ℕ) (k : Fin 2048) : 0 ≤ wt s R k := by
  unfold wt; split
  · exact (Real.exp_pos _).le
  · exact le_rfl

theorem wt_zero_pos (s : Fin 2048 → ℝ) (R : ℕ) : 0 < wt s R 0 := by
  unfold wt; rw [if_pos (show ((0 : Fin 2048) : ℕ) ≤ R from Nat.zero_le R)]; exact Real.exp_pos _

theorem wt_sum_pos (s : Fin 2048 → ℝ) (R : ℕ) : 0 < ∑ k, wt s R k :=
  Finset.sum_pos' (fun k _ => wt_nonneg s R k) ⟨0, Finset.mem_univ _, wt_zero_pos s R⟩

/-- Key `κ` of block `j`. -/
def key (j : Fin 8) (κ : Fin 256) : Fin 2048 := ⟨256 * j.val + κ.val, by omega⟩

/-- A sum over the keys, block by block. -/
theorem sum_keys {M : Type} [AddCommMonoid M] (g : Fin 2048 → M) : ∑ k, g k = ∑ j : Fin 8, ∑ κ : Fin 256, g (key j κ) := by
  rw [← Fintype.sum_prod_type']
  refine (Fintype.sum_equiv (finProdFinEquiv (m := 8) (n := 256)) _ _ fun x => ?_).symm
  congr 1
  apply Fin.ext
  show 256 * x.1.val + x.2.val = x.2.val + 256 * x.1.val
  omega

/-- The weight as a power of two of the score over `log 2`, where the key is not masked. -/
theorem two_rpow (x : ℝ) : (2 : ℝ) ^ (x / Real.log 2) = Real.exp x := by
  rw [Real.rpow_def_of_pos two_pos]; congr 1
  have : Real.log 2 ≠ 0 := (Real.log_pos one_lt_two).ne'
  field_simp

theorem Wt_masked (s : Fin 2048 → ℝ) (R : ℕ) (k : Fin 2048) : Wt (if k.val ≤ R then ((s k / Real.log 2 : ℝ) : EReal) else ⊥) (wt s R k) := by
  unfold wt; split
  · exact Or.inr ⟨_, rfl, (two_rpow _).symm⟩
  · exact Or.inl ⟨rfl, rfl⟩

/-- A sum over eight blocks whose later ones are zero. -/
theorem sum_blocks {M : Type} [AddCommMonoid M] (B : ℕ → M) (n : ℕ) (hn : n < 4) (h0 : ∀ j, 2 * n + 2 ≤ j → j < 8 → B j = 0) :
    ∑ j : Fin 8, B j.val = ∑ j ∈ Finset.range (2 * n), B j + B (2 * n) + B (2 * n + 1) := by
  rw [Fin.sum_univ_eq_sum_range B 8, ← Finset.sum_range_succ, ← Finset.sum_range_succ]
  refine (Finset.sum_subset (fun j hj => ?_) fun j hj hj' => h0 j ?_ (Finset.mem_range.1 hj)).symm
  · rw [Finset.mem_range] at hj ⊢; omega
  · rw [Finset.mem_range] at hj'; omega

end Cert.Softmax

end
-- ==== Proof.Column.lean ====
module

public import proofs.«01_k».proof.Proof.Reads
public import proofs.«01_k».proof.Proof.Softmax
public import Idealize.ShloMosaic.Lib.Pipeline.ValueKit.Geometry

/-!
One column of the kernel's state through a point's blocks: the sums against the running maximum are the plain sums of the
weights seen so far, and the block left at the end is the softmax of the row.
-/

@[expose] public section

set_option maxRecDepth 16384

noncomputable section

namespace Cert.KernelIdeal.Column

open Cert.KernelIdeal Cert.KernelIdeal.Gen Cert.KernelIdeal.Body Cert.KernelIdeal.Reads Cert.Softmax
open Idealize.ShloMosaic Idealize.ShloMosaic.TcCoe Idealize.ShloMosaic.Pointwise

theorem kb_read (K : Vec Ideal S2048x256 .bf16) (j : Fin 8) (κ y : Fin 256) : kb K j (ix2 κ y) = K (ix2 (key j κ) y) := by
  unfold kb VecWindow.window
  congr 1; funext a; apply Fin.ext
  refine (ValueKit.rect_emb_unit_val _ _ _ _ _).trans ?_
  match a with
  | ⟨0, _⟩ => rfl
  | ⟨1, _⟩ => exact Nat.zero_add _

theorem vb_read (V : Vec Ideal S8x144x256 .bf16) (j : Fin 8) (r : Fin 144) (κ : Fin 256) : vb V j (ix3 0 r κ) = V (ix3 j r κ) := by
  unfold vb VecWindow.window
  congr 1; funext a; apply Fin.ext
  refine (ValueKit.rect_emb_unit_val _ _ _ _ _).trans ?_
  match a with
  | ⟨0, _⟩ => rfl
  | ⟨1, _⟩ => exact Nat.zero_add _
  | ⟨2, _⟩ => exact Nat.zero_add _

theorem q0_read (q : Vec Ideal S512x256 .bf16) (i : Fin 512) (d : Fin 128) : q0 q (ix2 i d) = q (ix2 i ⟨d.val, by omega⟩) := by
  unfold q0 VecWindow.window
  congr 1; funext a; apply Fin.ext
  refine (ValueKit.rect_emb_unit_val _ _ _ _ _).trans ?_
  match a with
  | ⟨0, _⟩ => exact Nat.zero_add _
  | ⟨1, _⟩ => exact Nat.zero_add _

theorem q1_read (q : Vec Ideal S512x256 .bf16) (i : Fin 512) (d : Fin 128) : q1 q (ix2 i d) = q (ix2 i ⟨128 + d.val, by omega⟩) := by
  unfold q1 VecWindow.window
  congr 1; funext a; apply Fin.ext
  refine (ValueKit.rect_emb_unit_val _ _ _ _ _).trans ?_
  match a with
  | ⟨0, _⟩ => exact Nat.zero_add _
  | ⟨1, _⟩ => rfl

/-- Column `x` of the state against some shift `μ`: its last block's weights `w`, and the sums which, with that block taken
    in (its value row `v`), are `T` and `L`. -/
def Inv (s : St Ideal) (r : Fin 128) (x : Fin 1024) (v : Fin 256 → EReal) (w : Fin 256 → ℝ) (T : EReal) (L : ℝ) : Prop :=
  (∀ κ, 0 ≤ w κ) ∧ ∃ (μ : ℝ) (A : EReal) (B : ℝ), s.m (ix2 0 x) = (μ : EReal) ∧ (∀ κ, s.p (ix2 κ x) = ((w κ * (2 : ℝ) ^ (-μ) : ℝ) : EReal))
    ∧ s.l (ix2 0 x) = ((B * (2 : ℝ) ^ (-μ) : ℝ) : EReal) ∧ s.a (ix2 r x) = A * (((2 : ℝ) ^ (-μ) : ℝ) : EReal)
    ∧ A + ∑ κ, v κ * (w κ : EReal) = T ∧ B + ∑ κ, w κ = L

theorem Inv.step {s s' : St Ideal} {r : Fin 128} {x : Fin 1024} {v : Fin 256 → EReal} {w : Fin 256 → ℝ} {T : EReal} {L : ℝ} (h : Inv s r x v w T L)
    {f : Fin 256 → Fin 1024 → EReal} {V : Vec Ideal S1x144x256 .bf16} (hs : Step f V s s') (hv : ∀ κ, V (ix3 0 ⟨r.val, by omega⟩ κ) = v κ) (h1 : ∀ κ, V (ix3 0 128 κ) = 1)
    (v' : Fin 256 → EReal) (w' : Fin 256 → ℝ) (hw' : ∀ κ, Wt (f κ x) (w' κ)) :
    Inv s' r x v' w' (T + ∑ κ, v' κ * (w' κ : EReal)) (L + ∑ κ, w' κ) := by
  obtain ⟨hw, μ, A, B, hm, hp, hl, ha, rfl, rfl⟩ := h
  obtain ⟨μ', hμ'⟩ := max_fold_real Finset.univ (fun κ => f κ x) w' hw' μ
  have hm' : s'.m (ix2 0 x) = (μ' : EReal) := by rw [hs.m, hm, hμ']
  refine ⟨fun κ => (hw' κ).nonneg, μ', A + ∑ κ, v κ * (w κ : EReal), B + ∑ κ, w κ, hm', fun κ => ?_, ?_, ?_, rfl, rfl⟩
  · rw [hs.p, hm', (hw' κ).exp2_sub]
  · rw [hs.l, hl, hm, hm', exp2_shift]
    simp only [h1, hp]
    rw [ones_sum, ← EReal.coe_add, ← EReal.coe_mul, ← Finset.sum_mul, ← add_mul, mul_assoc, shift_mul]
  · rw [hs.a, ha, hm, hm', exp2_shift]
    simp only [hv, hp]
    exact rows_step A v w hw μ μ'

section Point

variable (n : ℕ) (q : Vec Ideal S512x256 .bf16) (K : Vec Ideal S2048x256 .bf16) (V : Vec Ideal S8x144x256 .bf16)
variable (r : Fin 128) (x : Fin 1024) (s : Fin 2048 → ℝ)

/-- The weights of block `j` for column `x`. -/
def bw (j : ℕ) (κ : Fin 256) : ℝ := wt s (512 * n + x.val % 512) (key (jx j) κ)

/-- The value row `r` of block `j`. -/
def bv (j : ℕ) (κ : Fin 256) : EReal := V (ix3 (jx j) ⟨r.val, by omega⟩ κ)

variable (hn : n < 4) (hs : ∀ j κ, score (q0 q) (q1 q) (kb K j) κ x = ((s (key j κ) / Real.log 2 : ℝ) : EReal)) (h1 : ∀ j κ, V (ix3 j 128 κ) = 1)
include hn hs

theorem Wt_first (κ : Fin 256) : Wt (if κ.val ≤ x.val % 512 then score (q0 q) (q1 q) (kb K (jx (2 * n))) κ x else ⊥) (bw n x s (2 * n) κ) := by
  have h := Wt_masked s (512 * n + x.val % 512) (key (jx (2 * n)) κ)
  rw [hs]
  have e : (key (jx (2 * n)) κ).val ≤ 512 * n + x.val % 512 ↔ κ.val ≤ x.val % 512 := by
    show 256 * (jx (2 * n)).val + κ.val ≤ _ ↔ _
    rw [jx_val (by omega)]; omega
  simp only [e] at h; exact h

theorem Wt_second (κ : Fin 256) : Wt (if κ.val + 256 ≤ x.val % 512 then score (q0 q) (q1 q) (kb K (jx (2 * n + 1))) κ x else ⊥) (bw n x s (2 * n + 1) κ) := by
  have h := Wt_masked s (512 * n + x.val % 512) (key (jx (2 * n + 1)) κ)
  rw [hs]
  have e : (key (jx (2 * n + 1)) κ).val ≤ 512 * n + x.val % 512 ↔ κ.val + 256 ≤ x.val % 512 := by
    show 256 * (jx (2 * n + 1)).val + κ.val ≤ _ ↔ _
    rw [jx_val (by omega)]; omega
  simp only [e] at h; exact h

theorem Wt_earlier (k : ℕ) (hk : k < 2 * n) (κ : Fin 256) : Wt (score (k0_pay15 (q0 q)) (k0_pay16 (q1 q)) (kb K (jx k)) κ x) (bw n x s k κ) := by
  have h := Wt_masked s (512 * n + x.val % 512) (key (jx k) κ)
  rw [pay15_eq, pay16_eq, hs]
  have e : (key (jx k) κ).val ≤ 512 * n + x.val % 512 := by
    show 256 * (jx k).val + κ.val ≤ _
    rw [jx_val (by omega)]; omega
  rw [if_pos e] at h; exact h

omit hs in
theorem later_zero (j : ℕ) (hj : 2 * n + 2 ≤ j) (hj8 : j < 8) (κ : Fin 256) : bw n x s j κ = 0 := by
  unfold bw wt
  refine if_neg ?_
  show ¬ 256 * (jx j).val + κ.val ≤ _
  rw [jx_val hj8]; omega

/-- The first diagonal block. -/
theorem inv0 : Inv (st0 n q K) r x (bv V r (2 * n)) (bw n x s (2 * n)) (∑ κ, bv V r (2 * n) κ * (bw n x s (2 * n) κ : EReal)) (∑ κ, bw n x s (2 * n) κ) := by
  have hw := Wt_first n q K x s hn hs
  obtain ⟨μ, hμ⟩ := fold_real Finset.univ _ _ hw 0 (Finset.mem_univ _) (by
    rw [if_pos (show ((0 : Fin 256) : ℕ) ≤ _ from Nat.zero_le _), hs]; exact EReal.coe_ne_bot _)
  have hm : (st0 n q K).m (ix2 0 x) = (μ : EReal) := by rw [st0_m, hμ]
  refine ⟨fun κ => (hw κ).nonneg, μ, 0, 0, hm, fun κ => ?_, ?_, ?_, by rw [zero_add], by rw [zero_add]⟩
  · rw [st0_p, hm, (hw κ).exp2_sub]
  · rw [st0_l, zero_mul, EReal.coe_zero]
  · rw [st0_a, zero_mul]

include h1

/-- Both diagonal blocks. -/
theorem inv1 : Inv (st1 n q K V) r x (bv V r (2 * n + 1)) (bw n x s (2 * n + 1))
    (∑ κ, bv V r (2 * n) κ * (bw n x s (2 * n) κ : EReal) + ∑ κ, bv V r (2 * n + 1) κ * (bw n x s (2 * n + 1) κ : EReal))
    (∑ κ, bw n x s (2 * n) κ + ∑ κ, bw n x s (2 * n + 1) κ) :=
  (inv0 n q K V r x s hn hs).step (diag_step _ _ _ _ _) (fun κ => vb_read V _ _ κ) (fun κ => (vb_read V _ _ κ).trans (h1 _ κ)) _ _ (Wt_second n q K x s hn hs)

/-- The diagonal blocks and the first `k` of the ones before. -/
theorem invL : ∀ k, k ≤ 2 * n → Inv (stL (k0_pay15 (q0 q)) (k0_pay16 (q1 q)) K V n (st1 n q K V) k) r x (bv V r (carried n k)) (bw n x s (carried n k))
    (∑ j ∈ Finset.range k, (∑ κ, bv V r j κ * (bw n x s j κ : EReal)) + ∑ κ, bv V r (2 * n) κ * (bw n x s (2 * n) κ : EReal) + ∑ κ, bv V r (2 * n + 1) κ * (bw n x s (2 * n + 1) κ : EReal))
    (∑ j ∈ Finset.range k, (∑ κ, bw n x s j κ) + ∑ κ, bw n x s (2 * n) κ + ∑ κ, bw n x s (2 * n + 1) κ)
  | 0, _ => by
    have h := inv1 n q K V r x s hn hs h1
    rw [Finset.sum_range_zero, Finset.sum_range_zero, zero_add, zero_add]
    exact h
  | k + 1, hk => by
    have h := (invL k (by omega)).step (trip_step (k0_pay15 (q0 q)) (k0_pay16 (q1 q)) (kb K (jx k)) (vb V (jx (carried n k))) _) (fun κ => vb_read V _ _ κ)
      (fun κ => (vb_read V _ _ κ).trans (h1 _ κ)) (bv V r k) (bw n x s k) (Wt_earlier n q K x s hn hs k (by omega))
    have ec : carried n (k + 1) = k := by unfold carried; rw [if_neg (Nat.succ_ne_zero k)]; rfl
    rw [ec, Finset.sum_range_succ, Finset.sum_range_succ]
    have e1 : ∀ {M : Type} [AddCommMonoid M] (a b c d : M), a + b + c + d = a + d + b + c := fun a b c d => by
      rw [add_right_comm (a + b) c d, add_right_comm a b d]
    rw [e1, e1 (∑ j ∈ Finset.range k, ∑ κ, bw n x s j κ)] at h
    exact h

/-- The blocks' sums together are the sums over all keys. -/
theorem all_blocks : ∑ j ∈ Finset.range (2 * n), (∑ κ, bv V r j κ * (bw n x s j κ : EReal)) + ∑ κ, bv V r (2 * n) κ * (bw n x s (2 * n) κ : EReal) + ∑ κ, bv V r (2 * n + 1) κ * (bw n x s (2 * n + 1) κ : EReal)
      = ∑ k : Fin 2048, V (ix3 ⟨k.val / 256, by omega⟩ ⟨r.val, by omega⟩ ⟨k.val % 256, by omega⟩) * (wt s (512 * n + x.val % 512) k : EReal) := by
  rw [← sum_blocks (fun j => ∑ κ, bv V r j κ * (bw n x s j κ : EReal)) n hn fun j h h8 =>
    Finset.sum_eq_zero fun κ _ => by rw [later_zero n x s hn j h h8, EReal.coe_zero, mul_zero], sum_keys]
  refine Finset.sum_congr rfl fun j _ => Finset.sum_congr rfl fun κ _ => ?_
  have ej : jx j.val = j := Fin.ext (jx_val j.isLt)
  unfold bv bw
  rw [ej]
  congr 2
  congr 1
  · exact Fin.ext (by show j.val = (256 * j.val + κ.val) / 256; omega)
  · exact Fin.ext (by show κ.val = (256 * j.val + κ.val) % 256; omega)

theorem all_weights : ∑ j ∈ Finset.range (2 * n), (∑ κ, bw n x s j κ) + ∑ κ, bw n x s (2 * n) κ + ∑ κ, bw n x s (2 * n + 1) κ
      = ∑ k : Fin 2048, wt s (512 * n + x.val % 512) k := by
  rw [← sum_blocks (fun j => ∑ κ, bw n x s j κ) n hn fun j h h8 => Finset.sum_eq_zero fun κ _ => later_zero n x s hn j h h8 κ, sum_keys]
  refine Finset.sum_congr rfl fun j _ => Finset.sum_congr rfl fun κ _ => ?_
  have ej : jx j.val = j := Fin.ext (jx_val j.isLt)
  unfold bw
  rw [ej]

end Point

/-- A point's output block at query `i` and lane `r`: the softmax of that query's row over the values of that lane. -/
theorem outV_read (n : Fin 4) (q : Vec Ideal S512x256 .bf16) (K : Vec Ideal S2048x256 .bf16) (V : Vec Ideal S8x144x256 .bf16) (i : Fin 512) (r : Fin 128) (s : Fin 2048 → ℝ)
    (hs : ∀ j κ, score (q0 q) (q1 q) (kb K j) κ (colOf i r) = ((s (key j κ) / Real.log 2 : ℝ) : EReal)) (h1 : ∀ j κ, V (ix3 j 128 κ) = 1) :
    outV n q K V (ix2 i r) = row s (512 * n.val + i.val) fun k => V (ix3 ⟨k.val / 256, by omega⟩ ⟨r.val, by omega⟩ ⟨k.val % 256, by omega⟩) := by
  obtain ⟨hw, μ, A, B, -, hp, hl, ha, hT, hL⟩ := invL n.val q K V r (colOf i r) s n.isLt hs h1 (2 * n.val) le_rfl
  have hx : (colOf i r).val % 512 = i.val := by
    have := i.isLt
    unfold colOf; split
    · show i.val % 512 = _; omega
    · show (512 + i.val) % 512 = _; omega
  rw [all_blocks n.val q K V r (colOf i r) s n.isLt hs h1, hx] at hT
  rw [all_weights n.val q K V (colOf i r) s n.isLt hs h1, hx] at hL
  unfold outV outS
  rw [out_read, ha, hl]
  simp only [vb_read, h1, hp]
  refine (quotient A B _ _ hw μ ?_).trans ?_
  · rw [hL]; exact wt_sum_pos _ _
  · unfold row
    rw [← hT, hL]
    rfl

end Cert.KernelIdeal.Column

end
-- ==== Proof.Spec.lean ====
module

public import proofs.«01_k».proof.Proof.Softmax

/-!
The attention both programs compute, head by head, over the extended reals: real scores of real queries and keys, their
softmax over the keys up to the query, the values weighted by it. The second part is the masked softmax as the reference
writes it, brought to that form.
-/

@[expose] public section

noncomputable section

namespace Cert.Spec

open Idealize.ShloMosaic Cert.Softmax

/-- The score of the key at `κ` against the query at `p` of head `h`. -/
def sR (q k : Fin 8 → Fin 2048 → Fin 8 → Fin 96 → EReal) (b : Fin 8) (h : Fin 8) (p : Fin 2048) (κ : Fin 2048) : ℝ :=
  ∑ d, (q b p h d).toReal * (1 / √96) * (k b κ h d).toReal

/-- The attention's result for the query at `p`, lane `e` of head `h`. -/
def attn (q k : Fin 8 → Fin 2048 → Fin 8 → Fin 96 → EReal) (v : Fin 8 → Fin 2048 → Fin 8 → Fin 64 → EReal) (b : Fin 8) (h : Fin 8) (p : Fin 2048) (e : Fin 64) : EReal :=
  row (sR q k b h p) p.val fun κ => v b κ h e

/-! ## The literals -/

theorem bits_96 : Ideal.ofBits FTy.f32 1119879168#32 = ((96 : ℝ) : EReal) := by
  simp [Ideal.ofBits, Ideal.ieee, -EReal.coe_mul]; norm_num

theorem bits_2 : Ideal.ofBits FTy.f32 1073741824#32 = ((2 : ℝ) : EReal) := by
  simp [Ideal.ofBits, Ideal.ieee, -EReal.coe_mul]; norm_num

theorem bits_1 : Ideal.ofBits FTy.f32 1065353216#32 = ((1 : ℝ) : EReal) := by
  simp [Ideal.ofBits, Ideal.ieee, -EReal.coe_mul]; norm_num

theorem bits_inf : Ideal.ofBits FTy.f32 0x7F800000#32 = ⊤ := by simp [Ideal.ofBits, Ideal.ieee]

theorem bits_ninf : Ideal.ofBits FTy.f32 0xFF800000#32 = ⊥ := by simp [Ideal.ofBits, Ideal.ieee]

theorem bits_tiny : Ideal.ofBits FTy.f32 0x0DA24260#32 = ((10633824 / 2 ^ 123 : ℝ) : EReal) := by
  simp [Ideal.ofBits, Ideal.ieee, -EReal.coe_mul]; norm_num

/-- The floor under the reference's row sum is at most one. -/
theorem bits_tiny_le : Ideal.ofBits FTy.f32 0x0DA24260#32 ≤ ((1 : ℝ) : EReal) := by
  rw [bits_tiny, EReal.coe_le_coe_iff]; norm_num

theorem scale_ref : Ideal.div ((1 : ℝ) : EReal) (Ideal.sqrt ((96 : ℝ) : EReal)) = ((1 / √96 : ℝ) : EReal) := by
  rw [Ideal.sqrt_coe, if_neg (by norm_num), Ideal.div_coe (by positivity), ← EReal.coe_mul, one_mul]

theorem scale_kernel : Ideal.div 1 (Ideal.sqrt ((96 : ℝ) : EReal) * Ideal.log ((2 : ℝ) : EReal)) = ((1 / √96 * (1 / Real.log 2) : ℝ) : EReal) := by
  have h2 : Real.log 2 ≠ 0 := (Real.log_pos one_lt_two).ne'
  rw [Ideal.sqrt_coe, Ideal.log_coe, if_neg (by norm_num), if_neg (by norm_num), ← EReal.coe_mul, Ideal.div_coe (by positivity), one_mul]
  congr 1
  field_simp

/-! ## The masked softmax, as written with its maximum subtracted and its sum kept off zero -/

section Plain

variable (s : Fin 2048 → ℝ) (R : ℕ)

/-- The masked scores. -/
def masked (k : Fin 2048) : EReal := if k.val ≤ R then (s k : EReal) else ⊥

/-- Their maximum is a real number and the score of a key that is not masked. -/
theorem max_attained : ∃ (μ : ℝ) (k : Fin 2048), k.val ≤ R ∧ s k = μ ∧ (Finset.univ : Finset (Fin 2048)).fold max ⊥ (masked s R) = (μ : EReal) := by
  have hle : ∀ k, masked s R k ≤ (Finset.univ : Finset (Fin 2048)).fold max ⊥ (masked s R) := fun k => le_fold _ _ k (Finset.mem_univ k)
  have h0 : masked s R 0 = (s 0 : EReal) := if_pos (show ((0 : Fin 2048) : ℕ) ≤ R from Nat.zero_le R)
  have hex : ∃ k, masked s R k = (Finset.univ : Finset (Fin 2048)).fold max ⊥ (masked s R) := by
    rcases (Finset.le_fold_max (b := (⊥ : EReal)) (f := masked s R) (s := Finset.univ) ((Finset.univ : Finset (Fin 2048)).fold max ⊥ (masked s R))).1 le_rfl with h | ⟨k, -, h⟩
    · have := (h0 ▸ (hle 0).trans h : (s 0 : EReal) ≤ ⊥)
      exact absurd (le_bot_iff.1 this) (EReal.coe_ne_bot _)
    · exact ⟨k, le_antisymm (hle k) h⟩
  obtain ⟨k, hk⟩ := hex
  by_cases hkR : k.val ≤ R
  · exact ⟨s k, k, hkR, rfl, by rw [← hk]; exact if_pos hkR⟩
  · have hb : masked s R k = ⊥ := if_neg hkR
    have := hle 0
    rw [← hk, hb, h0] at this
    exact absurd (le_bot_iff.1 this) (EReal.coe_ne_bot _)

/-- The row in the reference's own form is the row in the common one. -/
theorem plain_row (v : Fin 2048 → EReal) (tiny : EReal) (ht : tiny ≤ ((1 : ℝ) : EReal)) (M : EReal) (hM : M = (Finset.univ : Finset (Fin 2048)).fold max ⊥ (masked s R))
    (p : Fin 2048 → EReal) (hp : ∀ k, p k = if k.val ≤ R then Ideal.exp (masked s R k - M) else 0) :
    ∑ k, v k * Ideal.div (p k) (max (∑ k, p k) tiny) = row s R v := by
  obtain ⟨μ, k₀, hk₀, hs₀, hμ⟩ := max_attained s R
  have hpe : ∀ k, p k = ((wt s R k * Real.exp (-μ) : ℝ) : EReal) := fun k => by
    rw [hp, hM, hμ]
    unfold masked wt
    split
    · rw [← EReal.coe_sub, Ideal.exp_coe, ← Real.exp_add]; rfl
    · rw [zero_mul, EReal.coe_zero]
  have hsum : ∑ k, p k = (((∑ k, wt s R k) * Real.exp (-μ) : ℝ) : EReal) := by
    rw [Finset.sum_mul, coe_sum]; exact Finset.sum_congr rfl fun k _ => hpe k
  have hone : (1 : ℝ) ≤ (∑ k, wt s R k) * Real.exp (-μ) := by
    have h : wt s R k₀ ≤ ∑ k, wt s R k := Finset.single_le_sum (fun k _ => wt_nonneg s R k) (Finset.mem_univ k₀)
    have h' : wt s R k₀ * Real.exp (-μ) = 1 := by
      unfold wt; rw [if_pos hk₀, hs₀, ← Real.exp_add, add_neg_cancel, Real.exp_zero]
    rw [← h']; exact mul_le_mul_of_nonneg_right h (Real.exp_pos _).le
  have hW := wt_sum_pos s R
  rw [hsum, max_eq_left (ht.trans (EReal.coe_le_coe_iff.2 hone))]
  unfold row
  rw [sum_mul_coe _ _ _ (by positivity)]
  refine Finset.sum_congr rfl fun k _ => ?_
  rw [hpe, Ideal.div_coe (by positivity), mul_assoc, ← EReal.coe_mul, ← EReal.coe_mul]
  congr 2
  have := (Real.exp_pos (-μ)).ne'
  field_simp

end Plain

end Cert.Spec

end
-- ==== Proof.Windows.lean ====
module

public import proofs.«01_k».proof.Proof.Column
public import proofs.«01_k».proof.Proof.Spec
public import proofs.«01_k».proof.Proof.Run
public import Idealize.ShloMosaic.Lib.StableHlo.ReadAt
public import Idealize.ShloMosaic.Lib.Tactic.WordOmega

/-!
The call's three arrays and the windows' blocks of them, read in the arguments.
-/

@[expose] public section

set_option maxRecDepth 16384

noncomputable section

namespace Cert.KernelIdeal.Windows

open Cert.KernelIdeal Cert.KernelIdeal.Gen Cert.KernelIdeal.Body Cert.KernelIdeal.Reads Cert.Softmax Cert.Spec
open Idealize.ShloMosaic Idealize.ShloMosaic.TcCoe Idealize.ShloMosaic.Pointwise

variable (m : (ℓ : Loc nD τ sig) → Buf (Elt Ideal) ℓ) (c : Dev nD)

/-- The queries, keys and values by batch, position, head and lane. -/
def qA (b : Fin 8) (p : Fin 2048) (h : Fin 8) (d : Fin 96) : EReal := (m (c.tc.loc main_arg0) : Vec Ideal S8x2048x8x96 .f32) (ix4 b p h d)
def kA (b : Fin 8) (p : Fin 2048) (h : Fin 8) (d : Fin 96) : EReal := (m (c.tc.loc main_arg1) : Vec Ideal S8x2048x8x96 .f32) (ix4 b p h d)
def vA (b : Fin 8) (p : Fin 2048) (h : Fin 8) (d : Fin 64) : EReal := (m (c.tc.loc main_arg2) : Vec Ideal S8x2048x8x64 .f32) (ix4 b p h d)

theorem zero_word : (FloatOps.sitofp FTy.f32 0#32 : Ideal .f32) = (0 : EReal) := by
  show ((((0#32 : BitVec 32).toInt : ℤ) : ℝ) : EReal) = 0
  simp

/-- The queries' array: each head's 96 lanes scaled, then 32 zeros. -/
theorem v8_read (R : Fin 16384) (y : Fin 1024) : (V m c main_v8 : Vec Ideal S16384x1024 .bf16) (ix2 R y)
    = (if h : y.val % 128 < 96 then qA m c ⟨R.val / 2048, by omega⟩ ⟨R.val % 2048, by omega⟩ ⟨y.val / 128, by omega⟩ ⟨y.val % 128, h⟩ * ((1 / √96 * (1 / Real.log 2) : ℝ) : EReal)
      else 0 : EReal) := by
  rw [← scale_kernel, ← bits_96, ← bits_2]
  unfold V
  after_reads_at
  by_cases h : y.val % 128 < 96
  · refine (dif_pos ⟨by omega, by omega, by omega, h⟩).trans (Eq.trans ?_ (dif_pos h).symm); rfl
  · refine (dif_neg fun e => h e.2.2.2).trans (Eq.trans ?_ (dif_neg h).symm); exact zero_word

/-- The keys' array: each head's 96 lanes, then 32 zeros. -/
theorem v11_read (R : Fin 16384) (y : Fin 1024) : (V m c main_v11 : Vec Ideal S16384x1024 .bf16) (ix2 R y)
    = (if h : y.val % 128 < 96 then kA m c ⟨R.val / 2048, by omega⟩ ⟨R.val % 2048, by omega⟩ ⟨y.val / 128, by omega⟩ ⟨y.val % 128, h⟩ else 0 : EReal) := by
  unfold V
  after_reads_at
  by_cases h : y.val % 128 < 96
  · refine (dif_pos ⟨by omega, by omega, by omega, h⟩).trans (Eq.trans ?_ (dif_pos h).symm); rfl
  · refine (dif_neg fun e => h e.2.2.2).trans (Eq.trans ?_ (dif_neg h).symm); exact zero_word

theorem v17_read (R : Fin 64) (y : Fin 576) (z : Fin 256) : (V m c main_v17 : Vec Ideal S64x576x256 .bf16) (ix3 R y z) =
    (if h : y.val % 144 < 128 then vA m c ⟨R.val / 8, by omega⟩ ⟨R.val % 8 * 256 + z.val, by omega⟩ ⟨2 * (y.val / 144) + y.val % 144 / 64, by omega⟩ ⟨y.val % 144 % 64, by omega⟩ else 1 : EReal) := by
  unfold V
  after_reads_at
  by_cases h : y.val % 144 < 128
  · rw [dif_pos h, dif_pos h]
    after_reads_at
    unfold vA
    congr 2
    exact Fin.ext (by show y.val / 144 * 2 + _ = 2 * (y.val / 144) + _; rw [Nat.mul_comm])
  · rw [dif_neg h, dif_neg h]
    after_reads_at

theorem idx0 : ∀ t : Fin cfg0.N, win0_0.index t 0 = (grid0.coords t 0).val * 4 + (grid0.coords t 2).val ∧ win0_0.index t 1 = (grid0.coords t 1).val := by decide +kernel
theorem idx1 : ∀ t : Fin cfg0.N, win0_1.index t 0 = (grid0.coords t 0).val ∧ win0_1.index t 1 = (grid0.coords t 1).val := by decide +kernel
theorem idx2 : ∀ t : Fin cfg0.N, win0_2.index t 0 = (grid0.coords t 0).val ∧ win0_2.index t 1 = (grid0.coords t 1).val ∧ win0_2.index t 2 = 0 := by decide +kernel
theorem idx3 : ∀ t : Fin cfg0.N, win0_3.index t 0 = (grid0.coords t 0).val * 4 + (grid0.coords t 2).val ∧ win0_3.index t 1 = (grid0.coords t 1).val := by decide +kernel

theorem coordsB (t : Fin cfg0.N) : (grid0.coords t 0).val < 8 := (grid0.coords t 0).isLt
theorem coordsG (t : Fin cfg0.N) : (grid0.coords t 1).val < 4 := (grid0.coords t 1).isLt
theorem coordsN (t : Fin cfg0.N) : (grid0.coords t 2).val < 4 := (grid0.coords t 2).isLt

/-- Point `t`'s queries: rows `512·(4 b + n)` on, columns `256 g` on. -/
theorem iblk0 (t : Fin cfg0.N) (i : Fin 512) (y : Fin 256) : (iblk m c 0 t : Vec Ideal S512x256 .bf16) (ix2 i y)
    = (V m c main_v8 : Vec Ideal S16384x1024 .bf16) (ix2 ⟨((grid0.coords t 0).val * 4 + (grid0.coords t 2).val) * 512 + i.val, by have := coordsB t; have := coordsN t; omega⟩
        ⟨(grid0.coords t 1).val * 256 + y.val, by have := coordsG t; omega⟩) := by
  obtain ⟨h0, h1⟩ := idx0 t
  unfold iblk
  rw [View.read_apply]
  show V m c main_v8 _ = V m c main_v8 _
  congr 1; funext a; apply Fin.ext
  match a with
  | ⟨0, _⟩ => show win0_0.index t 0 * 512 + 1 * i.val = _; rw [h0, one_mul]; rfl
  | ⟨1, _⟩ => show win0_0.index t 1 * 256 + 1 * y.val = _; rw [h1, one_mul]; rfl

theorem iblk1 (t : Fin cfg0.N) (i : Fin 2048) (y : Fin 256) : (iblk m c 1 t : Vec Ideal S2048x256 .bf16) (ix2 i y)
    = (V m c main_v11 : Vec Ideal S16384x1024 .bf16) (ix2 ⟨(grid0.coords t 0).val * 2048 + i.val, by have := coordsB t; omega⟩
        ⟨(grid0.coords t 1).val * 256 + y.val, by have := coordsG t; omega⟩) := by
  obtain ⟨h0, h1⟩ := idx1 t
  unfold iblk
  rw [View.read_apply]
  show V m c main_v11 _ = V m c main_v11 _
  congr 1; funext a; apply Fin.ext
  match a with
  | ⟨0, _⟩ => show win0_1.index t 0 * 2048 + 1 * i.val = _; rw [h0, one_mul]; rfl
  | ⟨1, _⟩ => show win0_1.index t 1 * 256 + 1 * y.val = _; rw [h1, one_mul]; rfl

theorem iblk2 (t : Fin cfg0.N) (j : Fin 8) (r : Fin 144) (κ : Fin 256) : (iblk m c 2 t : Vec Ideal S8x144x256 .bf16) (ix3 j r κ)
    = (V m c main_v17 : Vec Ideal S64x576x256 .bf16) (ix3 ⟨(grid0.coords t 0).val * 8 + j.val, by have := coordsB t; omega⟩
        ⟨(grid0.coords t 1).val * 144 + r.val, by have := coordsG t; omega⟩ κ) := by
  obtain ⟨h0, h1, h2⟩ := idx2 t
  unfold iblk
  rw [View.read_apply]
  show V m c main_v17 _ = V m c main_v17 _
  congr 1; funext a; apply Fin.ext
  match a with
  | ⟨0, _⟩ => show win0_2.index t 0 * 8 + 1 * j.val = _; rw [h0, one_mul]; rfl
  | ⟨1, _⟩ => show win0_2.index t 1 * 144 + 1 * r.val = _; rw [h1, one_mul]; rfl
  | ⟨2, _⟩ => show win0_2.index t 2 * 256 + 1 * κ.val = _; rw [h2, one_mul, zero_mul, zero_add]; rfl

end Cert.KernelIdeal.Windows

end
-- ==== Proof.Result.lean ====
module

public import proofs.«01_k».proof.Proof.Windows

/-!
The kernel's result array, element by element: the attention of the arguments, where every query and key is real.
-/

@[expose] public section

set_option maxRecDepth 16384

noncomputable section

namespace Cert.KernelIdeal.Result

open Cert.KernelIdeal Cert.KernelIdeal.Gen Cert.KernelIdeal.Body Cert.KernelIdeal.Reads Cert.KernelIdeal.Column Cert.KernelIdeal.Windows Cert.Softmax Cert.Spec
open Idealize.ShloMosaic Idealize.ShloMosaic.TcCoe Idealize.ShloMosaic.Pointwise Idealize.SL.Sem

/-- A product over 128 lanes of which 96 hold numbers and the others zeros. -/
theorem pad_sum (f g : Fin 96 → EReal) (hf : ∀ d, f d = ((f d).toReal : EReal)) (hg : ∀ d, g d = ((g d).toReal : EReal)) (a : ℝ) :
    ∑ d : Fin 128, (if h : d.val < 96 then f ⟨d.val, h⟩ else 0) * (if h : d.val < 96 then g ⟨d.val, h⟩ * (a : EReal) else 0)
      = ((∑ d, (f d).toReal * ((g d).toReal * a) : ℝ) : EReal) := by
  rw [coe_sum, show (∑ d : Fin 128, (if h : d.val < 96 then f ⟨d.val, h⟩ else 0) * (if h : d.val < 96 then g ⟨d.val, h⟩ * (a : EReal) else 0))
    = ∑ d : Fin (96 + 32), (if h : d.val < 96 then f ⟨d.val, h⟩ else 0) * (if h : d.val < 96 then g ⟨d.val, h⟩ * (a : EReal) else 0) from rfl, Fin.sum_univ_add]
  have hz : ∑ i : Fin 32, (if h : (Fin.natAdd 96 i).val < 96 then f ⟨(Fin.natAdd 96 i).val, h⟩ else 0) * (if h : (Fin.natAdd 96 i).val < 96 then g ⟨(Fin.natAdd 96 i).val, h⟩ * (a : EReal) else 0) = 0 :=
    Finset.sum_eq_zero fun i _ => by rw [dif_neg (by simp), zero_mul]
  rw [hz, add_zero]
  refine Finset.sum_congr rfl fun d _ => ?_
  have hd : (Fin.castAdd 32 d).val < 96 := d.isLt
  rw [dif_pos hd, dif_pos hd]
  show f d * (g d * _) = _
  rw [hf d, hg d, ← EReal.coe_mul, ← EReal.coe_mul, EReal.toReal_coe, EReal.toReal_coe]

variable (m : (ℓ : Loc nD τ sig) → Buf (Elt Ideal) ℓ) (c : Dev nD)

/-- The batch of a point, its head pair's head `e`, its query `i`. -/
def bOf (t : Fin cfg0.N) : Fin 8 := ⟨(grid0.coords t 0).val, coordsB t⟩
def hOf (t : Fin cfg0.N) (e : ℕ) (he : e < 2) : Fin 8 := ⟨2 * (grid0.coords t 1).val + e, by have := coordsG t; omega⟩
def pOf (t : Fin cfg0.N) (i : Fin 512) : Fin 2048 := ⟨512 * (grid0.coords t 2).val + i.val, by have := coordsN t; omega⟩

/-- Point `t`'s blocks of the three arrays. -/
def qB (t : Fin cfg0.N) : Vec Ideal S512x256 .bf16 := iblk m c 0 t
def kB (t : Fin cfg0.N) : Vec Ideal S2048x256 .bf16 := iblk m c 1 t
def vB (t : Fin cfg0.N) : Vec Ideal S8x144x256 .bf16 := iblk m c 2 t

theorem kblk (t : Fin cfg0.N) (κ : Fin 2048) (e : ℕ) (he : e < 2) (d : Fin 128) : kB m c t (ix2 κ ⟨128 * e + d.val, by omega⟩)
    = (if h : d.val < 96 then kA m c (bOf t) κ (hOf t e he) ⟨d.val, h⟩ else 0 : EReal) := by
  have hb := coordsB t
  have hg := coordsG t
  refine (iblk1 m c t _ _).trans ((v11_read m c _ _).trans ?_)
  have e1 : ((grid0.coords t 1).val * 256 + (128 * e + d.val)) % 128 = d.val := by omega
  by_cases h : d.val < 96
  · refine (dif_pos (by show ((grid0.coords t 1).val * 256 + (128 * e + d.val)) % 128 < 96; omega)).trans (Eq.trans ?_ (dif_pos h).symm)
    congr 1
    · exact Fin.ext (by show ((grid0.coords t 0).val * 2048 + κ.val) / 2048 = (grid0.coords t 0).val; omega)
    · exact Fin.ext (by show ((grid0.coords t 0).val * 2048 + κ.val) % 2048 = κ.val; omega)
    · exact Fin.ext (by show ((grid0.coords t 1).val * 256 + (128 * e + d.val)) / 128 = 2 * (grid0.coords t 1).val + e; omega)
    · exact Fin.ext e1
  · refine (dif_neg (by show ¬ ((grid0.coords t 1).val * 256 + (128 * e + d.val)) % 128 < 96; omega)).trans (Eq.trans ?_ (dif_neg h).symm); rfl

theorem qblk (t : Fin cfg0.N) (i : Fin 512) (e : ℕ) (he : e < 2) (d : Fin 128) : qB m c t (ix2 i ⟨128 * e + d.val, by omega⟩)
    = (if h : d.val < 96 then qA m c (bOf t) (pOf t i) (hOf t e he) ⟨d.val, h⟩ * ((1 / √96 * (1 / Real.log 2) : ℝ) : EReal) else 0 : EReal) := by
  have hb := coordsB t
  have hg := coordsG t
  have hn := coordsN t
  refine (iblk0 m c t _ _).trans ((v8_read m c _ _).trans ?_)
  have e1 : ((grid0.coords t 1).val * 256 + (128 * e + d.val)) % 128 = d.val := by omega
  by_cases h : d.val < 96
  · refine (dif_pos (by show ((grid0.coords t 1).val * 256 + (128 * e + d.val)) % 128 < 96; omega)).trans (Eq.trans ?_ (dif_pos h).symm)
    congr 2
    · exact Fin.ext (by show (((grid0.coords t 0).val * 4 + (grid0.coords t 2).val) * 512 + i.val) / 2048 = (grid0.coords t 0).val; omega)
    · exact Fin.ext (by show (((grid0.coords t 0).val * 4 + (grid0.coords t 2).val) * 512 + i.val) % 2048 = 512 * (grid0.coords t 2).val + i.val; omega)
    · exact Fin.ext (by show ((grid0.coords t 1).val * 256 + (128 * e + d.val)) / 128 = 2 * (grid0.coords t 1).val + e; omega)
    · exact Fin.ext e1
  · refine (dif_neg (by show ¬ ((grid0.coords t 1).val * 256 + (128 * e + d.val)) % 128 < 96; omega)).trans (Eq.trans ?_ (dif_neg h).symm); rfl

theorem vblk (t : Fin cfg0.N) (j : Fin 8) (r : Fin 144) (κ : Fin 256) : vB m c t (ix3 j r κ)
    = (if h : r.val < 128 then vA m c (bOf t) (key j κ) (hOf t (r.val / 64) (by omega)) ⟨r.val % 64, by omega⟩ else 1 : EReal) := by
  have hb := coordsB t
  have hg := coordsG t
  refine (iblk2 m c t _ _ _).trans ((v17_read m c _ _ _).trans ?_)
  have e1 : ((grid0.coords t 1).val * 144 + r.val) % 144 = r.val := by omega
  by_cases h : r.val < 128
  · refine (dif_pos (by show ((grid0.coords t 1).val * 144 + r.val) % 144 < 128; omega)).trans (Eq.trans ?_ (dif_pos h).symm)
    congr 1
    · exact Fin.ext (by show ((grid0.coords t 0).val * 8 + j.val) / 8 = (grid0.coords t 0).val; omega)
    · exact Fin.ext (by show ((grid0.coords t 0).val * 8 + j.val) % 8 * 256 + κ.val = 256 * j.val + κ.val; omega)
    · exact Fin.ext (by show 2 * (((grid0.coords t 1).val * 144 + r.val) / 144) + ((grid0.coords t 1).val * 144 + r.val) % 144 / 64 = 2 * (grid0.coords t 1).val + r.val / 64; omega)
    · exact Fin.ext (by show ((grid0.coords t 1).val * 144 + r.val) % 144 % 64 = r.val % 64; omega)
  · refine (dif_neg (by show ¬ ((grid0.coords t 1).val * 144 + r.val) % 144 < 128; omega)).trans (Eq.trans ?_ (dif_neg h).symm); rfl

/-- Every query and key is real. -/
def Real' : Prop := (∀ b p h d, qA m c b p h d = ((qA m c b p h d).toReal : EReal)) ∧ ∀ b p h d, kA m c b p h d = ((kA m c b p h d).toReal : EReal)

theorem real_score (hr : Real' m c) (t : Fin cfg0.N) (i : Fin 512) (e : ℕ) (he : e < 2) (κ : Fin 2048) :
    ∑ d : Fin 128, kB m c t (ix2 κ ⟨128 * e + d.val, by omega⟩) * qB m c t (ix2 i ⟨128 * e + d.val, by omega⟩)
      = ((sR (qA m c) (kA m c) (bOf t) (hOf t e he) (pOf t i) κ / Real.log 2 : ℝ) : EReal) := by
  simp only [kblk m c t κ e he, qblk m c t i e he]
  refine (pad_sum (kA m c (bOf t) κ (hOf t e he)) (qA m c (bOf t) (pOf t i) (hOf t e he)) (hr.2 _ _ _) (hr.1 _ _ _) _).trans ?_
  congr 1
  unfold sR
  rw [Finset.sum_div]
  refine Finset.sum_congr rfl fun d _ => ?_
  ring

theorem score_eq (hr : Real' m c) (t : Fin cfg0.N) (i : Fin 512) (r : Fin 128) (j : Fin 8) (κ : Fin 256) :
    score (q0 (qB m c t)) (q1 (qB m c t)) (kb (kB m c t) j) κ (colOf i r)
      = ((sR (qA m c) (kA m c) (bOf t) (hOf t (r.val / 64) (by omega)) (pOf t i) (key j κ) / Real.log 2 : ℝ) : EReal) := by
  have hi := i.isLt
  unfold score
  by_cases h : r.val < 64
  · have e0 : r.val / 64 = 0 := by omega
    have hc : colOf i r = ⟨i.val, by omega⟩ := if_pos h
    rw [hc, dif_pos hi]
    simp only [kb_read, q0_read]
    refine Eq.trans ?_ ((real_score m c hr t i 0 (by omega) (key j κ)).trans ?_)
    · refine Finset.sum_congr rfl fun d _ => ?_
      exact congrArg (fun a => kB m c t (ix2 (key j κ) a) * qB m c t (ix2 i a)) (Fin.ext (by show d.val = 128 * 0 + d.val; omega))
    · congr 2; simp only [e0]
  · have e1 : r.val / 64 = 1 := by omega
    have hc : colOf i r = ⟨512 + i.val, by omega⟩ := if_neg h
    rw [hc, dif_neg (by show ¬ 512 + i.val < 512; omega)]
    simp only [kb_read, q1_read]
    refine Eq.trans ?_ ((real_score m c hr t i 1 (by omega) (key j κ)).trans ?_)
    · refine Finset.sum_congr rfl fun d _ => ?_
      exact congrArg (fun a => kB m c t (ix2 (key j κ) ⟨128 + d.val, by omega⟩) * qB m c t (ix2 a ⟨128 + d.val, by omega⟩)) (Fin.ext (by show 512 + i.val - 512 = i.val; omega))
    · congr 2; simp only [e1]

/-- What a point leaves in its output block. -/
theorem outsAt_read (hr : Real' m c) (t : Fin cfg0.N) (i : Fin 512) (r : Fin 128) :
    outsAt m c t (ix2 i r) = attn (qA m c) (kA m c) (vA m c) (bOf t) (hOf t (r.val / 64) (by omega)) (pOf t i) ⟨r.val % 64, by omega⟩ := by
  unfold outsAt
  refine (outV_read (grid0.coords t 2) (qB m c t) (kB m c t) (vB m c t) i r _ (score_eq m c hr t i r) fun j κ => vblk m c t j 128 κ).trans ?_
  unfold attn
  show row _ (512 * (grid0.coords t 2).val + i.val) _ = row _ (512 * (grid0.coords t 2).val + i.val) _
  congr 1
  funext k
  refine (vblk m c t _ _ _).trans ((dif_pos r.isLt).trans ?_)
  congr 1
  exact Fin.ext (by show 256 * (k.val / 256) + k.val % 256 = k.val; omega)

/-- The result array. -/
def result : Buf (Elt Ideal) ((c.tc : Thread nD τ).loc main_v18) := fun i : S16384x512.Idx =>
  attn (qA m c) (kA m c) (vA m c) ⟨(i 0).val / 2048, by have h : (i 0).val < 16384 := (i 0).isLt; omega⟩ ⟨(i 1).val / 64, by have h : (i 1).val < 512 := (i 1).isLt; omega⟩
    ⟨(i 0).val % 2048, by omega⟩ ⟨(i 1).val % 64, by omega⟩

theorem attn_congr (q k v) {b b' h h' p p' e e'} (hb : b = b') (hh : h = h') (hp : p = p') (he : e = e') : attn q k v b h p e = attn q k v b' h' p' e' := by
  subst hb hh hp he; rfl

theorem flushed_eq (hr : Real' m c) (t : Fin cfg0.N) (_ : (cfg0.win 3).flush t = true) :
    (dats m 0 c).flushed 3 t = ((cfg0.win 3).blk t).view.read (Elt Ideal) (result m c) := by
  obtain ⟨h0, h1⟩ := idx3 t
  have hb := coordsB t
  have hg := coordsG t
  have hn := coordsN t
  show (cfg0.win 3).cut (grid0.coords t) ((dats m 0 c).after 3 t) = _
  rw [after3]
  funext j
  rw [View.read_apply]
  have hi : (j 0).val < 512 := (j 0).isLt
  have hl : (j 1).val < 128 := (j 1).isLt
  refine (show _ = outsAt m c t (ix2 ⟨(j 0).val, hi⟩ ⟨(j 1).val, hl⟩) from ?_).trans ((outsAt_read m c hr t _ _).trans ?_)
  · show outsAt m c t _ = outsAt m c t _
    congr 1; funext a; apply Fin.ext
    match a with
    | ⟨0, _⟩ => rfl
    | ⟨1, _⟩ => rfl
  · have e0 : ((((cfg0.win 3).blk t).view.emb j) 0).val = ((grid0.coords t 0).val * 4 + (grid0.coords t 2).val) * 512 + (j 0).val := by
      show win0_3.index t 0 * 512 + 1 * (j 0).val = _; rw [h0, one_mul]
    have e1 : ((((cfg0.win 3).blk t).view.emb j) 1).val = (grid0.coords t 1).val * 128 + (j 1).val := by
      show win0_3.index t 1 * 128 + 1 * (j 1).val = _; rw [h1, one_mul]
    unfold result
    refine attn_congr _ _ _ (Fin.ext ?_) (Fin.ext ?_) (Fin.ext ?_) (Fin.ext ?_)
    · show (grid0.coords t 0).val = _ / 2048; rw [e0]; omega
    · show 2 * (grid0.coords t 1).val + (j 1).val / 64 = _ / 64; rw [e1]; omega
    · show 512 * (grid0.coords t 2).val + (j 0).val = _ % 2048; rw [e0]; omega
    · show (j 1).val % 64 = _ % 64; rw [e1]; omega

/-- The point whose block holds rows `2048 b + 512 n` on and columns `128 g` on. -/
theorem point_of : ∀ (b : Fin 8) (g : Fin 4) (n : Fin 4), ∃ t : Fin cfg0.N, (grid0.coords t 0).val = b.val ∧ (grid0.coords t 1).val = g.val ∧ (grid0.coords t 2).val = n.val := by
  decide +kernel

theorem xsize3 (t : Fin cfg0.N) : win0_3.xsize (grid0.coords t) 0 = 512 ∧ win0_3.xsize (grid0.coords t) 1 = 128 := ⟨rfl, rfl⟩

theorem final_o (hr : Real' m c) : (dats m 0 c).arrAt 3 cfg0.N = result m c :=
  (dats m 0 c).arrAt_eq_of_cover 3 (result m c) (flushed_eq m c hr) fun i => by
    have hi0 : ((i : S16384x512.Idx) 0).val < 16384 := (i 0).isLt
    have hi1 : ((i : S16384x512.Idx) 1).val < 512 := (i 1).isLt
    obtain ⟨t, hb, hg, hn⟩ := point_of ⟨(i 0).val / 2048, by omega⟩ ⟨(i 1).val / 128, by omega⟩ ⟨(i 0).val % 2048 / 512, by omega⟩
    refine ⟨t, flush0_3 t, ?_⟩
    obtain ⟨h0, h1⟩ := idx3 t
    show i ∈ ((View.whole main_v18).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [h0, hb, hn]; dsimp only; omega
    | ⟨1, _⟩ => show win0_3.index t 1 * 128 ≤ (i 1 : Nat) ∧ (i 1 : Nat) < win0_3.index t 1 * 128 + 128
                rw [h1, hg]; dsimp only; omega

/-- The run, read: the result array at the attention of the arguments, the arguments unchanged. -/
theorem run (ρ : Dev nD → PrngReg) (hr : ∀ c, Real' m c) : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun _ h c => ⟨((h.1 c).1 3).trans (final_o m c (hr c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

end Cert.KernelIdeal.Result

end
-- ==== Proof.RefValue.lean ====
module

public import proofs.«01_k».proof.Proof.Spec
public import proofs.«01_k».proof.Proof.Gen.ReferenceIdeal.Run
public import proofs.«01_k».proof.Proof.Gen.ReferenceIdeal.Read
public import Idealize.ShloMosaic.Lib.Pointwise
public import Idealize.ShloMosaic.Lib.Tactic.WordOmega

/-!
The reference's result, element by element: the attention of its arguments, where every query and key is real.
-/

@[expose] public section

set_option maxRecDepth 16384

noncomputable section

namespace Cert.ReferenceIdeal.RefValue

open Cert.ReferenceIdeal Cert.ReferenceIdeal.Gen Cert.ReferenceIdeal.Read Cert.Softmax Cert.Spec
open Idealize.ShloMosaic Idealize.ShloMosaic.TcCoe Idealize.ShloMosaic.Pointwise

variable (x0 x1 : Vec Ideal S8x2048x8x96 .f32) (x2 : Vec Ideal S8x2048x8x64 .f32)

/-- An array of one value per batch, position, head and lane. -/
def cur {n : ℕ} (x : Vec Ideal ⟨4, ![8, 2048, 8, n]⟩ .f32) (b : Fin 8) (p : Fin 2048) (h : Fin 8) (d : Fin n) : EReal := x (ix4 b p h d)

/-- Every element is real. -/
def AllReal {n : ℕ} (x : Vec Ideal ⟨4, ![8, 2048, 8, n]⟩ .f32) : Prop := ∀ b p h d, cur x b p h d = ((cur x b p h d).toReal : EReal)

/-- The scaled queries. -/
theorem scaled (i : S8x2048x8x96.Idx) : val_main_v3 (F := Ideal) x0 i = (x0 i : EReal) * ((1 / √96 : ℝ) : EReal) := by
  rw [← scale_ref, ← bits_96, ← bits_1]
  rfl

/-- The scores. -/
theorem scores (hq : AllReal x0) (hk : AllReal x1) (b h : Fin 8) (p κ : Fin 2048) :
    val_main_v4 (F := Ideal) x0 x1 (ix4 b h p κ) = ((sR (cur x0) (cur x1) b h p κ : ℝ) : EReal) := by
  rw [val_main_v4_apply]
  unfold sR
  rw [coe_sum]
  refine Finset.sum_congr rfl fun d _ => ?_
  rw [scaled, EReal.coe_mul, EReal.coe_mul, ← hq, ← hk]
  have e1 : lidx_main_v4 (ix4 b h p κ) d = ix4 b p h d := by
    funext a; apply Fin.ext
    match a with
    | ⟨0, _⟩ => rfl
    | ⟨1, _⟩ => rfl
    | ⟨2, _⟩ => rfl
    | ⟨3, _⟩ => rfl
  have e2 : ridx_main_v4 (ix4 b h p κ) d = ix4 b κ h d := by
    funext a; apply Fin.ext
    match a with
    | ⟨0, _⟩ => rfl
    | ⟨1, _⟩ => rfl
    | ⟨2, _⟩ => rfl
    | ⟨3, _⟩ => rfl
  rw [e1, e2]
  rfl

/-- The causal mask as a select's word. -/
theorem mask_word (p κ : Fin 2048) : IntOp.cmpi .sge (BitVec.ofNat 32 p.val) (BitVec.ofNat 32 κ.val) = 1#1 ↔ κ.val ≤ p.val := by
  have hp := p.isLt
  have hκ := κ.isLt
  have e : IntOp.cmpi .sge (BitVec.ofNat 32 p.val) (BitVec.ofNat 32 κ.val) = BitVec.ofBool ((BitVec.ofNat 32 κ.val).sle (BitVec.ofNat 32 p.val)) := rfl
  have h1 : (BitVec.ofNat 32 p.val).toNat = p.val := by rw [BitVec.toNat_ofNat, Nat.mod_eq_of_lt (by omega)]
  have h2 : (BitVec.ofNat 32 κ.val).toNat = κ.val := by rw [BitVec.toNat_ofNat, Nat.mod_eq_of_lt (by omega)]
  rw [e, BitVec.sle_eq_decide, BitVec.toInt_eq_toNat_of_lt (by omega), BitVec.toInt_eq_toNat_of_lt (by omega), h1, h2]
  by_cases h : κ.val ≤ p.val <;> simp [h]

theorem select_mask {α : Type} (p κ : Fin 2048) (x y : α) :
    Scalar.select (IntOp.cmpi .sge (BitVec.ofNat 32 p.val) (BitVec.ofNat 32 κ.val)) x y = if κ.val ≤ p.val then x else y := by
  unfold Scalar.select
  by_cases h : κ.val ≤ p.val
  · rw [if_pos h, (mask_word p κ).2 h]; rfl
  · have hb : IntOp.cmpi .sge (BitVec.ofNat 32 p.val) (BitVec.ofNat 32 κ.val) ≠ 1#1 := fun e => h ((mask_word p κ).1 e)
    rw [if_neg h]; simp [hb]

theorem word0 (b h : Fin 8) (p κ : Fin 2048) : val_main_call0_v1 (F := Ideal) (ix4 b h p κ) = IntOp.cmpi .sge (BitVec.ofNat 32 p.val) (BitVec.ofNat 32 κ.val) := by
  rw [val_main_call0_v1_apply, val_main_v11_apply, val_main_v10_apply, val_main_v8_apply, val_main_v9_apply, val_main_v6_apply, val_main_v7_apply]
  rfl

theorem word1 (b h : Fin 8) (p κ : Fin 2048) : val_main_call1_v1 (F := Ideal) (ix4 b h p κ) = IntOp.cmpi .sge (BitVec.ofNat 32 p.val) (BitVec.ofNat 32 κ.val) := by
  rw [val_main_call1_v1_apply, val_main_v11_apply, val_main_v10_apply, val_main_v8_apply, val_main_v9_apply, val_main_v6_apply, val_main_v7_apply]
  rfl

/-- The masked scores. -/
theorem masked_scores (hq : AllReal x0) (hk : AllReal x1) (b h : Fin 8) (p κ : Fin 2048) :
    val_main_v12 (F := Ideal) x0 x1 (ix4 b h p κ) = masked (sR (cur x0) (cur x1) b h p) p.val κ := by
  rw [val_main_v12_apply, word0, select_mask, scores x0 x1 hq hk, val_main_call0_v2_apply]
  unfold masked
  congr 1

/-- Their row maximum. -/
theorem row_max (hq : AllReal x0) (hk : AllReal x1) (b h : Fin 8) (p : Fin 2048) :
    val_main_v13 (F := Ideal) x0 x1 (ix3 b h p) = (Finset.univ : Finset (Fin 2048)).fold max ⊥ (masked (sR (cur x0) (cur x1) b h p) p.val) := by
  unfold val_main_v13
  have hm := masked_scores x0 x1 hq hk b h p
  generalize val_main_v12 (F := Ideal) x0 x1 = y at hm
  pointwise [val_main_cst_2]
  rw [bits_ninf]
  simp only [hm]

/-- The exponentials, zero where masked. -/
theorem weights (hq : AllReal x0) (hk : AllReal x1) (b h : Fin 8) (p κ : Fin 2048) :
    val_main_v18 (F := Ideal) x0 x1 (ix4 b h p κ)
      = if κ.val ≤ p.val then Ideal.exp (masked (sR (cur x0) (cur x1) b h p) p.val κ - val_main_v13 (F := Ideal) x0 x1 (ix3 b h p)) else 0 := by
  rw [val_main_v18_apply, word1, select_mask, val_main_v17_apply, val_main_v16_apply, masked_scores x0 x1 hq hk, val_main_v15_apply, val_main_v14_apply, val_main_call1_v2_apply]
  have e : idx_main_v14 (idx_main_v15 (ix4 b h p κ)) = ix3 b h p := by
    funext a; apply Fin.ext
    match a with
    | ⟨0, _⟩ => rfl
    | ⟨1, _⟩ => rfl
    | ⟨2, _⟩ => rfl
  rw [e]
  have hz : (val_main_call1_v0 (F := Ideal) (idx_main_call1_v2 (ix4 b h p κ)) : EReal) = 0 := by
    show Ideal.ofBits FTy.f32 0x00000000#32 = 0
    simp [Ideal.ofBits, Ideal.ieee]
  rw [hz]
  rfl

/-- A weight over the row's sum, that kept off zero. -/
theorem normalized (b h : Fin 8) (p κ : Fin 2048) : val_main_v24 (F := Ideal) x0 x1 (ix4 b h p κ)
    = Ideal.div (val_main_v18 (F := Ideal) x0 x1 (ix4 b h p κ)) (max (∑ k : Fin 2048, (val_main_v18 (F := Ideal) x0 x1 (ix4 b h p k) : EReal)) (Ideal.ofBits FTy.f32 0x0DA24260#32)) := by
  rw [val_main_v24_apply, val_main_v23_apply, val_main_v22_apply, val_main_v20_apply, val_main_v21_apply, val_main_v19_apply]
  have hz : (val_main_cst_4 (F := Ideal) (Shape.Idx.first h_S_) : EReal) = 0 := by
    show Ideal.ofBits FTy.f32 0x00000000#32 = 0
    simp [Ideal.ofBits, Ideal.ieee]
  have e : ∀ k : Fin 2048, idx_main_v19 (idx_main_v20 (idx_main_v23 (ix4 b h p κ))) k = ix4 b h p k := fun k => by
    funext a; apply Fin.ext
    match a with
    | ⟨0, _⟩ => rfl
    | ⟨1, _⟩ => rfl
    | ⟨2, _⟩ => rfl
    | ⟨3, _⟩ => rfl
  rw [hz, zero_add]
  simp only [e]
  rfl

/-- The result of a head. -/
theorem head (hq : AllReal x0) (hk : AllReal x1) (b h : Fin 8) (e : Fin 64) (p : Fin 2048) :
    val_main_v25 (F := Ideal) x0 x1 x2 (ix4 b h e p) = attn (cur x0) (cur x1) (cur x2) b h p e := by
  rw [val_main_v25_apply]
  unfold attn
  rw [← plain_row _ _ _ _ bits_tiny_le _ (row_max x0 x1 hq hk b h p) _ (weights x0 x1 hq hk b h p)]
  refine Finset.sum_congr rfl fun k _ => ?_
  have e1 : lidx_main_v25 (ix4 b h e p) k = ix4 b k h e := by
    funext a; apply Fin.ext
    match a with
    | ⟨0, _⟩ => rfl
    | ⟨1, _⟩ => rfl
    | ⟨2, _⟩ => rfl
    | ⟨3, _⟩ => rfl
  have e2 : ridx_main_v25 (ix4 b h e p) k = ix4 b h p k := by
    funext a; apply Fin.ext
    match a with
    | ⟨0, _⟩ => rfl
    | ⟨1, _⟩ => rfl
    | ⟨2, _⟩ => rfl
    | ⟨3, _⟩ => rfl
  rw [e1, e2, normalized]
  rfl

/-- The result array: row `2048 b + p`, column `64 h + e`. -/
theorem result (hq : AllReal x0) (hk : AllReal x1) (i : S16384x512.Idx) : val_main_v28 (F := Ideal) x0 x1 x2 i
    = attn (cur x0) (cur x1) (cur x2) ⟨(i 0).val / 2048, by have h : (i 0).val < 16384 := (i 0).isLt; omega⟩ ⟨(i 1).val / 64, by have h : (i 1).val < 512 := (i 1).isLt; omega⟩
        ⟨(i 0).val % 2048, by omega⟩ ⟨(i 1).val % 64, by omega⟩ := by
  have h0 : (i 0).val < 16384 := (i 0).isLt
  have h1 : (i 1).val < 512 := (i 1).isLt
  rw [val_main_v28_apply]
  show val_main_v27 (F := Ideal) x0 x1 x2 i = _
  rw [val_main_v27_apply, val_main_v26_apply, ← head x0 x1 x2 hq hk]
  congr 1
  funext a; apply Fin.ext
  match a with
  | ⟨0, _⟩ => show ((i 0).val * 512 + (i 1).val) / 1048576 = (i 0).val / 2048; omega
  | ⟨1, _⟩ => show ((i 0).val * 512 + (i 1).val) / 64 % 8 = (i 1).val / 64; omega
  | ⟨2, _⟩ => show ((i 0).val * 512 + (i 1).val) % 64 = (i 1).val % 64; omega
  | ⟨3, _⟩ => show ((i 0).val * 512 + (i 1).val) / 512 % 2048 = (i 0).val % 2048; omega

end Cert.ReferenceIdeal.RefValue

end
-- ==== Proof.Algebraic.lean ====
module

public import proofs.«01_k».proof.Defs
public import proofs.«01_k».proof.Proof.Gen.Pre_finite
public import proofs.«01_k».proof.Proof.Result
public import proofs.«01_k».proof.Proof.RefValue

/-!
Kernel and reference end with the same array: both with the attention of the arguments.
-/

@[expose] public section

set_option maxRecDepth 16384

noncomputable section

namespace Cert.Algebraic

open Idealize.ShloMosaic Idealize.ShloMosaic.TcCoe Idealize.ShloMosaic.Pointwise Idealize.SL.Sem Cert.Spec

theorem real_of (x : EReal) (h : IntOp.andi (Ideal.cmp .olt x (Ideal.ofBits FTy.f32 0x7F800000#32)) (Ideal.cmp .ogt x (Ideal.ofBits FTy.f32 0xFF800000#32)) = 1#1) :
    x = (x.toReal : EReal) := by
  rw [bits_inf, bits_ninf] at h
  refine (EReal.coe_toReal ?_ ?_).symm
  · rintro rfl
    simp [Ideal.cmp, IntOp.andi] at h
  · rintro rfl
    simp [Ideal.cmp, IntOp.andi] at h

/-- What the precondition says: every query and every key is real. -/
theorem real_args (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Result.Real' m c :=
  ⟨fun b p e d => real_of _ (congrFun (h c).1 (ix4 b p e d)), fun b p e d => real_of _ (congrFun (h c).2 (ix4 b p e d))⟩

theorem algebraic : Cert.algebraic_KernelIdeal_ReferenceIdeal_pre_finite := fun m g m' g' hpre hagree =>
  ⟨fun c => Cert.KernelIdeal.Result.result m c, Cert.KernelIdeal.Result.run m g (real_args m hpre),
    (θ_run Cert.ReferenceIdeal.defs _ _).mono (fun r h c => ⟨(h c).1.trans (by
      obtain ⟨e0, e1, e2⟩ := hagree c
      have hr := real_args m hpre c
      rw [Cert.ReferenceIdeal.Read.val_main_v28_eq, e0, e1, e2]
      funext i
      exact Cert.ReferenceIdeal.RefValue.result _ _ _ hr.1 hr.2 i), (h c).2⟩)
      (Cert.ReferenceIdeal.Value.run (F := Ideal) m' g')⟩

end Cert.Algebraic

end
-- ==== Proof.Mix.Spec.lean ====
module

public import Idealize.ShloMosaic.PureOps.Ideal
public import Idealize.ShloMosaic.Lib.Pointwise

/-!
What the mixing call computes of one token, over the extended reals: the gated sum of the two mixers' branches, the residual
stream after the output projection, its norm, and the scores of the sub-keys.
-/

@[expose] public section

noncomputable section

namespace Cert.Mix

open Idealize.ShloMosaic

/-- The logistic function of a gate's logit, as both programs write it. -/
def gate (x : EReal) : EReal := Ideal.div 1 (1 + Ideal.exp (-x))

/-- The two branches `o₁ w₁` and `o₂ w₂` under their gates. -/
def merged (g₁ g₂ : Fin 1024 → EReal) (o₁ o₂ : Fin 512 → EReal) (w₁ w₂ : Fin 512 → Fin 1024 → EReal) (j : Fin 1024) : EReal :=
  g₁ j * (∑ l, o₁ l * w₁ l j) + g₂ j * (∑ l, o₂ l * w₂ l j)

/-- The residual stream after the output projection of `u`. -/
def stream (x u : Fin 1024 → EReal) (w : Fin 1024 → Fin 1024 → EReal) (j : Fin 1024) : EReal := x j + ∑ k, u k * w k j

/-- The root-mean-square norm of `h` with the gains `g`. -/
def normed (h g : Fin 1024 → EReal) (j : Fin 1024) : EReal :=
  h j * Ideal.rsqrt (Ideal.div (∑ k, h k * h k) (Ideal.ofBits FTy.f32 0x44800000#32) + Ideal.ofBits FTy.f32 0x358637BD#32) * g j

/-- The score of a sub-key `κ` against the part of the query `y w` that begins at column `128 r`. -/
def score (y : Fin 1024 → EReal) (w : Fin 1024 → Fin 2048 → EReal) (κ : Fin 128 → EReal) (r : Fin 16) : EReal :=
  ∑ d : Fin 128, κ d * ∑ k, y k * w k ⟨128 * r.val + d.val, by omega⟩

open Pointwise

variable (x : Vec Ideal ⟨3, ![8, 2048, 1024]⟩ .f32) (o₁ o₂ : Vec Ideal ⟨3, ![8, 2048, 512]⟩ .f32) (l₁ l₂ : Vec Ideal ⟨3, ![8, 2048, 1024]⟩ .f32)
  (w₁ w₂ : Vec Ideal ⟨2, ![512, 1024]⟩ .f32) (w : Vec Ideal ⟨2, ![1024, 1024]⟩ .f32) (g : Vec Ideal ⟨1, ![1024]⟩ .f32)
  (wq : Vec Ideal ⟨2, ![1024, 2048]⟩ .f32) (κ₁ κ₂ : Vec Ideal ⟨2, ![128, 128]⟩ .f32)

/-- The residual stream of token `p` of batch `b`, of the call's arguments. -/
def streamA (b : Fin 8) (p : Fin 2048) : Fin 1024 → EReal :=
  stream (fun j => x (ix3 b p j)) (merged (fun j => gate (l₁ (ix3 b p j))) (fun j => gate (l₂ (ix3 b p j))) (fun l => o₁ (ix3 b p l)) (fun l => o₂ (ix3 b p l))
    (fun l j => w₁ (ix2 l j)) fun l j => w₂ (ix2 l j)) fun k j => w (ix2 k j)

/-- Its norm. -/
def normA (b : Fin 8) (p : Fin 2048) : Fin 1024 → EReal := normed (streamA x o₁ o₂ l₁ l₂ w₁ w₂ w b p) fun j => g (ix1 j)

/-- Its score of sub-key `n` of table `r`: the even tables are the first, the odd ones the second. -/
def scoreA (r : Fin 16) (n : Fin 128) (b : Fin 8) (p : Fin 2048) : EReal :=
  score (normA x o₁ o₂ l₁ l₂ w₁ w₂ w g b p) (fun k j => wq (ix2 k j)) (fun d => if r.val % 2 = 0 then κ₁ (ix2 n d) else κ₂ (ix2 n d)) r

end Cert.Mix

end
-- ==== Proof.Mix.Reads.lean ====
module

public import proofs.«01_k».proof.Proof.Mix.Spec
public import proofs.«01_k».proof.Proof.Gen.Kernel2Ideal.Value
public import Idealize.ShloMosaic.Lib.Pointwise
public import Idealize.ShloMosaic.Lib.Pipeline.ValueKit.Geometry

/-!
The mixing kernel's vector expressions over the extended reals, read at an index of a half block.
-/

@[expose] public section

set_option maxRecDepth 16384

noncomputable section

namespace Cert.Kernel2Ideal.Reads

open Cert.Kernel2Ideal Cert.Kernel2Ideal.Gen Cert.Mix
open Idealize.ShloMosaic Idealize.ShloMosaic.TcCoe Idealize.ShloMosaic.Pointwise

/-- The gated sum of the branches. -/
theorem pay5_read (v0 : Vec Ideal S256x1024 .f32) (v2 : Vec Ideal S256x512 .bf16) (v4 : Vec Ideal S512x1024 .bf16) (v8 : Vec Ideal S256x1024 .f32)
    (v10 : Vec Ideal S256x512 .bf16) (v12 : Vec Ideal S512x1024 .bf16) (i : Fin 256) (j : Fin 1024) :
    k0_pay5 v0 v2 v4 v8 v10 v12 (ix2 i j)
      = merged (fun j => v0 (ix2 i j)) (fun j => v8 (ix2 i j)) (fun l => v2 (ix2 i l)) (fun l => v10 (ix2 i l)) (fun l j => v4 (ix2 l j)) (fun l j => v12 (ix2 l j)) j := by
  pointwise [k0_pay5, merged]

/-- The residual stream of the first half block. -/
theorem pay10_read (v16 : FVec Ideal S256x1024 .f32) (v34 : Vec Ideal S256x1024 .f32) (v37 : Vec Ideal S1024x1024 .bf16) (i : Fin 256) (j : Fin 1024) :
    k0_pay10 v16 v34 v37 (ix2 i j) = stream (fun j => v34 (ix2 i j)) (fun k => v16 (ix2 i k)) (fun k j => v37 (ix2 k j)) j := by
  pointwise [k0_pay10, stream]

/-- The residual stream of the second half block is the same expression. -/
theorem pay11_eq (v0 : Vec Ideal S256x1024 .f32) (v2 : Vec Ideal S256x512 .bf16) (v4 : Vec Ideal S512x1024 .bf16) (v8 : Vec Ideal S256x1024 .f32)
    (v10 : Vec Ideal S256x512 .bf16) (v12 : Vec Ideal S512x1024 .bf16) (v41 : Vec Ideal S256x1024 .f32) (v44 : Vec Ideal S1024x1024 .bf16) :
    k0_pay11 (k0_pay6 v0 v2 v4) (k0_pay7 v8) (k0_pay8 v10) (k0_pay9 v12) (constant S256x1024 .f32 0x00000000#32) v41 v44 = k0_pay10 (k0_pay5 v0 v2 v4 v8 v10 v12) v41 v44 := rfl

/-- The norm. -/
theorem pay15_read (v47 : FVec Ideal S256x1024 .f32) (v68 : Vec Ideal S1x1024 .f32) (i : Fin 256) (j : Fin 1024) :
    k0_pay15 v47 v68 (ix2 i j) = normed (fun j => v47 (ix2 i j)) (fun j => v68 (ix2 0 j)) j := by
  pointwise [k0_pay15, normed]

theorem pay12_eq (v16 : FVec Ideal S256x1024 .f32) (v34 : Vec Ideal S256x1024 .f32) (v37 : Vec Ideal S1024x1024 .bf16) (v49 : Vec Ideal S1x1024 .f32) :
    k0_pay12 v16 v34 v37 v49 = k0_pay15 (k0_pay10 v16 v34 v37) v49 := rfl

/-- The scores of the first table's sub-keys. -/
theorem pay20_read (v66 : FVec Ideal S256x1024 .bf16) (v86 : Vec Ideal S1024x256 .bf16) (v94 : Vec Ideal S128x128 .bf16) (n : Fin 128) (i : Fin 256) :
    k0_pay20 v66 v86 v94 (ix3 0 n i) = ∑ d : Fin 128, (v94 (ix2 n d) : EReal) * ∑ k : Fin 1024, v66 (ix2 i k) * v86 (ix2 k ⟨d.val, by omega⟩) := by
  pointwise [k0_pay20, k0_pay18]

/-- The scores of the second table's sub-keys. -/
theorem pay23_read (v66 : FVec Ideal S256x1024 .bf16) (v86 : Vec Ideal S1024x256 .bf16) (v94 : Vec Ideal S128x128 .bf16) (n : Fin 128) (i : Fin 256) :
    k0_pay23 (k0_pay21 v94) (k0_pay22 v66 v86) (ix3 0 n i) = ∑ d : Fin 128, (v94 (ix2 n d) : EReal) * ∑ k : Fin 1024, v66 (ix2 i k) * v86 (ix2 k ⟨128 + d.val, by omega⟩) := by
  pointwise [k0_pay23, k0_pay21, k0_pay22, k0_pay18]

end Cert.Kernel2Ideal.Reads

end
-- ==== Proof.Mix.Blocks.lean ====
module

public import proofs.«01_k».proof.Proof.Mix.Reads

/-!
What the mixing kernel leaves in its three output blocks, as functions of its input blocks.
-/

@[expose] public section

set_option maxRecDepth 16384

noncomputable section

namespace Cert.Kernel2Ideal.Blocks

open Cert.Kernel2Ideal Cert.Kernel2Ideal.Gen Cert.Kernel2Ideal.Reads Cert.Mix
open Idealize.ShloMosaic Idealize.ShloMosaic.TcCoe Idealize.ShloMosaic.Pointwise

/-- Reading a rectangle of a matrix. -/
theorem ld2 {a b n k : ℕ} {φ : EltTy} (x : Vec Ideal ⟨2, ![a, b]⟩ φ) (o p : ℕ) (inb : ∀ d, (![o, p] : Fin 2 → ℕ) d + (⟨2, ![n, k]⟩ : Shape).size d ≤ (⟨2, ![a, b]⟩ : Shape).size d)
    (i : Fin n) (j : Fin k) (hi : o + i.val < a) (hj : p + j.val < b) :
    View.ld x (Rect.unit (s := ⟨2, ![a, b]⟩) ![o, p] (⟨2, ![n, k]⟩ : Shape).size inb) (ix2 i j) = x (ix2 ⟨o + i.val, hi⟩ ⟨p + j.val, hj⟩) := by
  show x _ = x _
  congr 1; funext d; apply Fin.ext
  refine (ValueKit.rect_emb_unit_val _ _ _ _ _).trans ?_
  match d with
  | ⟨0, _⟩ => rfl
  | ⟨1, _⟩ => rfl

variable (x0 : Vec Ideal S512x1024 .f32) (x1 : Vec Ideal S512x512 .bf16) (x2 : Vec Ideal S512x512 .bf16) (x3 : Vec Ideal S512x1024 .f32) (x4 : Vec Ideal S512x1024 .f32) (x5 : Vec Ideal S512x1024 .bf16)
  (x6 : Vec Ideal S512x1024 .bf16) (x7 : Vec Ideal S1024x1024 .bf16) (x8 : Vec Ideal S1x1024 .f32) (x9 : Vec Ideal S1024x2048 .bf16) (x10 : Vec Ideal S128x128 .bf16) (x11 : Vec Ideal S128x128 .bf16)

/-- The residual stream of row `R` of the block. -/
def H (R : Fin 512) : Fin 1024 → EReal :=
  stream (fun j => x0 (ix2 R j)) (merged (fun j => x3 (ix2 R j)) (fun j => x4 (ix2 R j)) (fun l => x1 (ix2 R l)) (fun l => x2 (ix2 R l)) (fun l j => x5 (ix2 l j)) fun l j => x6 (ix2 l j)) fun k j => x7 (ix2 k j)

/-- Its norm. -/
def N (R : Fin 512) : Fin 1024 → EReal := normed (H x0 x1 x2 x3 x4 x5 x6 x7 R) fun j => x8 (ix2 0 j)

/-- The scores of sub-key `n`: even tables are the first, odd ones the second. -/
def Sc (r : Fin 16) (n : Fin 128) (R : Fin 512) : EReal :=
  score (N x0 x1 x2 x3 x4 x5 x6 x7 x8 R) (fun k j => x9 (ix2 k j)) (fun d => if r.val % 2 = 0 then x10 (ix2 n d) else x11 (ix2 n d)) r

theorem ld_all {a b : ℕ} {φ : EltTy} (x : Vec Ideal ⟨2, ![a, b]⟩ φ) (inb) (i : Fin a) (j : Fin b) :
    View.ld x (Rect.unit (s := ⟨2, ![a, b]⟩) ![0, 0] (⟨2, ![a, b]⟩ : Shape).size inb) (ix2 i j) = x (ix2 i j) := by
  refine (ld2 x 0 0 inb i j (by omega) (by omega)).trans ?_
  congr 2 <;> exact Fin.ext (Nat.zero_add _)

/-- The residual stream of a half block that begins at row `o`. -/
theorem half_stream (o : ℕ) (ho : o ≤ 256) (inb1 inb2) (i : Fin 256) (j : Fin 1024) :
    k0_pay10 (k0_pay5 (View.ld x3 (Rect.unit (s := S512x1024) ![o, 0] S256x1024.size inb1)) (View.ld x1 (Rect.unit (s := S512x512) ![o, 0] S256x512.size inb2)) (View.ld x5 r0_2)
        (View.ld x4 (Rect.unit (s := S512x1024) ![o, 0] S256x1024.size inb1)) (View.ld x2 (Rect.unit (s := S512x512) ![o, 0] S256x512.size inb2)) (View.ld x6 r0_2))
      (View.ld x0 (Rect.unit (s := S512x1024) ![o, 0] S256x1024.size inb1)) (View.ld x7 r0_5) (ix2 i j) = H x0 x1 x2 x3 x4 x5 x6 x7 ⟨o + i.val, by omega⟩ j := by
  have e1 : ∀ (x : Vec Ideal S512x1024 .f32) (j : Fin 1024), View.ld x (Rect.unit (s := S512x1024) ![o, 0] S256x1024.size inb1) (ix2 i j) = x (ix2 ⟨o + i.val, by omega⟩ j) := fun x j =>
    (ld2 x o 0 inb1 i j (by omega) (by omega)).trans (by congr 2; exact Fin.ext (Nat.zero_add _))
  have e2 : ∀ (x : Vec Ideal S512x512 .bf16) (l : Fin 512), View.ld x (Rect.unit (s := S512x512) ![o, 0] S256x512.size inb2) (ix2 i l) = x (ix2 ⟨o + i.val, by omega⟩ l) := fun x j =>
    (ld2 x o 0 inb2 i j (by omega) (by omega)).trans (by congr 2; exact Fin.ext (Nat.zero_add _))
  have e3 : ∀ (x : Vec Ideal S512x1024 .bf16) (l : Fin 512) (j : Fin 1024), View.ld x r0_2 (ix2 l j) = x (ix2 l j) := fun x l j => ld_all x _ l j
  have e4 : ∀ (k j : Fin 1024), View.ld x7 r0_5 (ix2 k j) = x7 (ix2 k j) := fun k j => ld_all x7 _ k j
  rw [pay10_read]
  unfold H
  congr 1
  · exact funext fun j => e1 x0 j
  · funext k
    rw [pay5_read]
    congr 1
    · exact funext fun j => e1 x3 j
    · exact funext fun j => e1 x4 j
    · exact funext fun l => e2 x1 l
    · exact funext fun l => e2 x2 l
    · exact funext fun l => funext fun j => e3 x5 l j
    · exact funext fun l => funext fun j => e3 x6 l j
  · exact funext fun k => funext fun j => e4 k j

theorem first_stream (i : Fin 256) (j : Fin 1024) : k0_pay10 (k0_pay71 x0 x1 x2 x3 x4 x5 x6 x7 x8 x9 x10 x11) (View.ld x0 r0_0) (View.ld x7 r0_5) (ix2 i j) = H x0 x1 x2 x3 x4 x5 x6 x7 ⟨0 + i.val, by omega⟩ j :=
  half_stream x0 x1 x2 x3 x4 x5 x6 x7 0 (by omega) _ _ i j

theorem second_stream (i : Fin 256) (j : Fin 1024) : k0_pay72 x0 x1 x2 x3 x4 x5 x6 x7 x8 x9 x10 x11 (ix2 i j) = H x0 x1 x2 x3 x4 x5 x6 x7 ⟨256 + i.val, by omega⟩ j :=
  (congrFun (pay11_eq _ _ _ _ _ _ _ _) (ix2 i j)).trans (half_stream x0 x1 x2 x3 x4 x5 x6 x7 256 (by omega) _ _ i j)

theorem half_norm (v : FVec Ideal S256x1024 .f32) (o : ℕ) (ho : o ≤ 256) (i : Fin 256) (hv : ∀ j, v (ix2 i j) = H x0 x1 x2 x3 x4 x5 x6 x7 ⟨o + i.val, by omega⟩ j) (j : Fin 1024) :
    k0_pay15 v (View.ld x8 r0_6) (ix2 i j) = N x0 x1 x2 x3 x4 x5 x6 x7 x8 ⟨o + i.val, by omega⟩ j := by
  have e : ∀ j : Fin 1024, View.ld x8 r0_6 (ix2 0 j) = x8 (ix2 0 j) := fun j => ld_all x8 _ 0 j
  rw [pay15_read]
  unfold N
  simp only [hv, e]

theorem first_norm (i : Fin 256) (j : Fin 1024) : k0_pay12 (k0_pay71 x0 x1 x2 x3 x4 x5 x6 x7 x8 x9 x10 x11) (View.ld x0 r0_0) (View.ld x7 r0_5) (View.ld x8 r0_6) (ix2 i j) = N x0 x1 x2 x3 x4 x5 x6 x7 x8 ⟨0 + i.val, by omega⟩ j :=
  (congrFun (pay12_eq _ _ _ _) (ix2 i j)).trans (half_norm x0 x1 x2 x3 x4 x5 x6 x7 x8 _ 0 (by omega) i (first_stream x0 x1 x2 x3 x4 x5 x6 x7 x8 x9 x10 x11 i) j)

theorem second_norm (i : Fin 256) (j : Fin 1024) : k0_pay15 (k0_pay72 x0 x1 x2 x3 x4 x5 x6 x7 x8 x9 x10 x11) (View.ld x8 r0_6) (ix2 i j) = N x0 x1 x2 x3 x4 x5 x6 x7 x8 ⟨256 + i.val, by omega⟩ j :=
  half_norm x0 x1 x2 x3 x4 x5 x6 x7 x8 _ 256 (by omega) i (second_stream x0 x1 x2 x3 x4 x5 x6 x7 x8 x9 x10 x11 i) j

/-- A piece that begins at `(o, p)` of a matrix, at an index of its own. -/
theorem emb2 {a b n k : ℕ} (o p : ℕ) (inb : ∀ d, (![o, p] : Fin 2 → ℕ) d + (⟨2, ![n, k]⟩ : Shape).size d ≤ (⟨2, ![a, b]⟩ : Shape).size d)
    (i : Fin n) (j : Fin k) (hi : o + i.val < a) (hj : p + j.val < b) :
    (Rect.unit (s := ⟨2, ![a, b]⟩) ![o, p] (⟨2, ![n, k]⟩ : Shape).size inb).emb (ix2 i j) = ix2 ⟨o + i.val, hi⟩ ⟨p + j.val, hj⟩ := by
  funext d; apply Fin.ext
  refine (ValueKit.rect_emb_unit_val _ _ _ _ _).trans ?_
  match d with
  | ⟨0, _⟩ => rfl
  | ⟨1, _⟩ => rfl

/-- The first output block: the residual stream. -/
theorem out12 (y : S512x1024.Idx) : out0_12 (F := Ideal) x0 x1 x2 x3 x4 x5 x6 x7 x8 x9 x10 x11 y = H x0 x1 x2 x3 x4 x5 x6 x7 (y 0) (y 1) := by
  unfold out0_12
  refine View.canon_apply_of_pieces (Val := Elt Ideal) (fun y : S512x1024.Idx => H x0 x1 x2 x3 x4 x5 x6 x7 (y 0) (y 1)) _ ?_ y (cover0_12 _ _ y)
  intro p hp
  rcases List.mem_cons.1 hp with rfl | hp
  · intro x
    obtain ⟨i, j, rfl⟩ : ∃ (i : Fin 256) (j : Fin 1024), x = ix2 i j := ⟨x 0, x 1, eq_ix2 x⟩
    refine (second_stream x0 x1 x2 x3 x4 x5 x6 x7 x8 x9 x10 x11 i j).trans ?_
    show _ = H x0 x1 x2 x3 x4 x5 x6 x7 (r0_3.emb (ix2 i j) 0) (r0_3.emb (ix2 i j) 1)
    rw [show r0_3.emb (ix2 i j) = ix2 ⟨256 + i.val, by omega⟩ ⟨0 + j.val, by omega⟩ from emb2 256 0 _ i j _ _]
    exact congrArg _ (Fin.ext (Nat.zero_add _).symm)
  · obtain rfl := List.mem_singleton.1 hp
    intro x
    obtain ⟨i, j, rfl⟩ : ∃ (i : Fin 256) (j : Fin 1024), x = ix2 i j := ⟨x 0, x 1, eq_ix2 x⟩
    refine (first_stream x0 x1 x2 x3 x4 x5 x6 x7 x8 x9 x10 x11 i j).trans ?_
    show _ = H x0 x1 x2 x3 x4 x5 x6 x7 (r0_0.emb (ix2 i j) 0) (r0_0.emb (ix2 i j) 1)
    rw [show r0_0.emb (ix2 i j) = ix2 ⟨0 + i.val, by omega⟩ ⟨0 + j.val, by omega⟩ from emb2 0 0 _ i j _ _]
    exact congrArg _ (Fin.ext (Nat.zero_add _).symm)

/-- The second output block: the norm, transposed. -/
theorem out13 (y : S1024x512.Idx) : out0_13 (F := Ideal) x0 x1 x2 x3 x4 x5 x6 x7 x8 x9 x10 x11 y = N x0 x1 x2 x3 x4 x5 x6 x7 x8 (y 1) (y 0) := by
  unfold out0_13
  refine View.canon_apply_of_pieces (Val := Elt Ideal) (fun y : S1024x512.Idx => N x0 x1 x2 x3 x4 x5 x6 x7 x8 (y 1) (y 0)) _ ?_ y (cover0_13 _ _ y)
  have tr : ∀ v : FVec Ideal S256x1024 .f32, ∀ (j : Fin 1024) (i : Fin 256), transpose S1024x256 [1, 0] v transposes_S256x1024_p1_0_S1024x256 (ix2 j i) = v (ix2 i j) := fun v j i => by pointwise
  intro p hp
  rcases List.mem_cons.1 hp with rfl | hp
  · intro x
    obtain ⟨j, i, rfl⟩ : ∃ (j : Fin 1024) (i : Fin 256), x = ix2 j i := ⟨x 0, x 1, eq_ix2 x⟩
    refine (tr _ j i).trans ((second_norm x0 x1 x2 x3 x4 x5 x6 x7 x8 x9 x10 x11 i j).trans ?_)
    show _ = N x0 x1 x2 x3 x4 x5 x6 x7 x8 (r0_8.emb (ix2 j i) 1) (r0_8.emb (ix2 j i) 0)
    rw [show r0_8.emb (ix2 j i) = ix2 ⟨0 + j.val, by omega⟩ ⟨256 + i.val, by omega⟩ from emb2 0 256 _ j i _ _]
    exact congrArg _ (Fin.ext (Nat.zero_add _).symm)
  · obtain rfl := List.mem_singleton.1 hp
    intro x
    obtain ⟨j, i, rfl⟩ : ∃ (j : Fin 1024) (i : Fin 256), x = ix2 j i := ⟨x 0, x 1, eq_ix2 x⟩
    refine (tr _ j i).trans ((first_norm x0 x1 x2 x3 x4 x5 x6 x7 x8 x9 x10 x11 i j).trans ?_)
    show _ = N x0 x1 x2 x3 x4 x5 x6 x7 x8 (r0_7.emb (ix2 j i) 1) (r0_7.emb (ix2 j i) 0)
    rw [show r0_7.emb (ix2 j i) = ix2 ⟨0 + j.val, by omega⟩ ⟨0 + i.val, by omega⟩ from emb2 0 0 _ j i _ _]
    exact congrArg _ (Fin.ext (Nat.zero_add _).symm)

/-- The third output block's piece for table `2 h` and the half that begins at row `o`. -/
theorem lo_piece (v : FVec Ideal S256x1024 .bf16) (h o : ℕ) (hh : h < 8) (ho : o ≤ 256) (inb9 inb)
    (hv : ∀ (i : Fin 256) j, v (ix2 i j) = N x0 x1 x2 x3 x4 x5 x6 x7 x8 ⟨o + i.val, by omega⟩ j) (x : S1x128x256.Idx) :
    k0_pay20 v (View.ld x9 (Rect.unit (s := S1024x2048) ![0, 256 * h] S1024x256.size inb9)) (View.ld x10 r0_10) x
      = (fun y : S16x128x512.Idx => Sc x0 x1 x2 x3 x4 x5 x6 x7 x8 x9 x10 x11 (y 0) (y 1) (y 2)) ((Rect.unit (s := S16x128x512) ![2 * h, 0, o] S1x128x256.size inb).emb x) := by
  obtain ⟨z, n, i, rfl⟩ : ∃ (z : Fin 1) (n : Fin 128) (i : Fin 256), x = ix3 z n i := ⟨x 0, x 1, x 2, eq_ix3 x⟩
  obtain rfl : z = 0 := Subsingleton.elim _ _
  rw [pay20_read]
  have e : (Rect.unit (s := S16x128x512) ![2 * h, 0, o] S1x128x256.size inb).emb (ix3 0 n i) = ix3 ⟨2 * h, by omega⟩ n ⟨o + i.val, by omega⟩ := by
    funext d; apply Fin.ext
    refine (ValueKit.rect_emb_unit_val _ _ _ _ _).trans ?_
    match d with
    | ⟨0, _⟩ => rfl
    | ⟨1, _⟩ => exact Nat.zero_add _
    | ⟨2, _⟩ => rfl
  rw [e]
  show _ = Sc x0 x1 x2 x3 x4 x5 x6 x7 x8 x9 x10 x11 ⟨2 * h, _⟩ n ⟨o + i.val, _⟩
  unfold Sc score
  refine Finset.sum_congr rfl fun d _ => ?_
  congr 1
  · refine (ld_all x10 _ n d).trans (if_pos ?_).symm
    show 2 * h % 2 = 0
    omega
  · refine Finset.sum_congr rfl fun k _ => ?_
    rw [hv]
    congr 1
    refine (ld2 x9 0 (256 * h) inb9 k _ (by omega) (by show 256 * h + d.val < 2048; omega)).trans ?_
    congr 2
    · exact Fin.ext (Nat.zero_add _)
    · exact Fin.ext (by show 256 * h + d.val = 128 * (2 * h) + d.val; omega)

/-- Its piece for table `2 h + 1`. -/
theorem hi_piece (v : FVec Ideal S256x1024 .bf16) (h o : ℕ) (hh : h < 8) (ho : o ≤ 256) (inb9 inb)
    (hv : ∀ (i : Fin 256) j, v (ix2 i j) = N x0 x1 x2 x3 x4 x5 x6 x7 x8 ⟨o + i.val, by omega⟩ j) (x : S1x128x256.Idx) :
    k0_pay23 (k0_pay21 (View.ld x11 r0_10)) (k0_pay22 v (View.ld x9 (Rect.unit (s := S1024x2048) ![0, 256 * h] S1024x256.size inb9))) x
      = (fun y : S16x128x512.Idx => Sc x0 x1 x2 x3 x4 x5 x6 x7 x8 x9 x10 x11 (y 0) (y 1) (y 2)) ((Rect.unit (s := S16x128x512) ![2 * h + 1, 0, o] S1x128x256.size inb).emb x) := by
  obtain ⟨z, n, i, rfl⟩ : ∃ (z : Fin 1) (n : Fin 128) (i : Fin 256), x = ix3 z n i := ⟨x 0, x 1, x 2, eq_ix3 x⟩
  obtain rfl : z = 0 := Subsingleton.elim _ _
  rw [pay23_read]
  have e : (Rect.unit (s := S16x128x512) ![2 * h + 1, 0, o] S1x128x256.size inb).emb (ix3 0 n i) = ix3 ⟨2 * h + 1, by omega⟩ n ⟨o + i.val, by omega⟩ := by
    funext d; apply Fin.ext
    refine (ValueKit.rect_emb_unit_val _ _ _ _ _).trans ?_
    match d with
    | ⟨0, _⟩ => rfl
    | ⟨1, _⟩ => exact Nat.zero_add _
    | ⟨2, _⟩ => rfl
  rw [e]
  show _ = Sc x0 x1 x2 x3 x4 x5 x6 x7 x8 x9 x10 x11 ⟨2 * h + 1, _⟩ n ⟨o + i.val, _⟩
  unfold Sc score
  refine Finset.sum_congr rfl fun d _ => ?_
  congr 1
  · refine (ld_all x11 _ n d).trans (if_neg ?_).symm
    show ¬ (2 * h + 1) % 2 = 0
    omega
  · refine Finset.sum_congr rfl fun k _ => ?_
    rw [hv]
    congr 1
    refine (ld2 x9 0 (256 * h) inb9 k _ (by omega) (by show 256 * h + (128 + d.val) < 2048; omega)).trans ?_
    congr 2
    · exact Fin.ext (Nat.zero_add _)
    · exact Fin.ext (by show 256 * h + (128 + d.val) = 128 * (2 * h + 1) + d.val; omega)

/-- The norm of the two halves, as the scores take it. -/
theorem first_norm' (i : Fin 256) (j : Fin 1024) : k0_pay73 x0 x1 x2 x3 x4 x5 x6 x7 x8 x9 x10 x11 (ix2 i j) = N x0 x1 x2 x3 x4 x5 x6 x7 x8 ⟨0 + i.val, by omega⟩ j := first_norm x0 x1 x2 x3 x4 x5 x6 x7 x8 x9 x10 x11 i j
theorem second_norm' (i : Fin 256) (j : Fin 1024) : k0_pay74 x0 x1 x2 x3 x4 x5 x6 x7 x8 x9 x10 x11 (ix2 i j) = N x0 x1 x2 x3 x4 x5 x6 x7 x8 ⟨256 + i.val, by omega⟩ j := second_norm x0 x1 x2 x3 x4 x5 x6 x7 x8 x9 x10 x11 i j

/-- The third output block: the scores, table by table. -/
theorem out14 (y : S16x128x512.Idx) : out0_14 (F := Ideal) x0 x1 x2 x3 x4 x5 x6 x7 x8 x9 x10 x11 y = Sc x0 x1 x2 x3 x4 x5 x6 x7 x8 x9 x10 x11 (y 0) (y 1) (y 2) := by
  unfold out0_14
  refine View.canon_apply_of_pieces (Val := Elt Ideal) (fun y : S16x128x512.Idx => Sc x0 x1 x2 x3 x4 x5 x6 x7 x8 x9 x10 x11 (y 0) (y 1) (y 2)) _ ?_ y (cover0_14 _ _ _ _ _ _ _ _ _ _ _ _ _ _ _ _ _ _ _ _ _ _ _ _ _ _ _ _ _ _ _ _ y)
  have h1 := first_norm' x0 x1 x2 x3 x4 x5 x6 x7 x8 x9 x10 x11
  have h2 := second_norm' x0 x1 x2 x3 x4 x5 x6 x7 x8 x9 x10 x11
  refine List.forall_mem_cons.2 ⟨hi_piece x0 x1 x2 x3 x4 x5 x6 x7 x8 x9 x10 x11 _ 7 256 (by omega) (by omega) _ (by decide) h2, ?_⟩
  refine List.forall_mem_cons.2 ⟨lo_piece x0 x1 x2 x3 x4 x5 x6 x7 x8 x9 x10 x11 _ 7 256 (by omega) (by omega) _ (by decide) h2, ?_⟩
  refine List.forall_mem_cons.2 ⟨hi_piece x0 x1 x2 x3 x4 x5 x6 x7 x8 x9 x10 x11 _ 7 0 (by omega) (by omega) _ (by decide) h1, ?_⟩
  refine List.forall_mem_cons.2 ⟨lo_piece x0 x1 x2 x3 x4 x5 x6 x7 x8 x9 x10 x11 _ 7 0 (by omega) (by omega) _ (by decide) h1, ?_⟩
  refine List.forall_mem_cons.2 ⟨hi_piece x0 x1 x2 x3 x4 x5 x6 x7 x8 x9 x10 x11 _ 6 256 (by omega) (by omega) _ (by decide) h2, ?_⟩
  refine List.forall_mem_cons.2 ⟨lo_piece x0 x1 x2 x3 x4 x5 x6 x7 x8 x9 x10 x11 _ 6 256 (by omega) (by omega) _ (by decide) h2, ?_⟩
  refine List.forall_mem_cons.2 ⟨hi_piece x0 x1 x2 x3 x4 x5 x6 x7 x8 x9 x10 x11 _ 6 0 (by omega) (by omega) _ (by decide) h1, ?_⟩
  refine List.forall_mem_cons.2 ⟨lo_piece x0 x1 x2 x3 x4 x5 x6 x7 x8 x9 x10 x11 _ 6 0 (by omega) (by omega) _ (by decide) h1, ?_⟩
  refine List.forall_mem_cons.2 ⟨hi_piece x0 x1 x2 x3 x4 x5 x6 x7 x8 x9 x10 x11 _ 5 256 (by omega) (by omega) _ (by decide) h2, ?_⟩
  refine List.forall_mem_cons.2 ⟨lo_piece x0 x1 x2 x3 x4 x5 x6 x7 x8 x9 x10 x11 _ 5 256 (by omega) (by omega) _ (by decide) h2, ?_⟩
  refine List.forall_mem_cons.2 ⟨hi_piece x0 x1 x2 x3 x4 x5 x6 x7 x8 x9 x10 x11 _ 5 0 (by omega) (by omega) _ (by decide) h1, ?_⟩
  refine List.forall_mem_cons.2 ⟨lo_piece x0 x1 x2 x3 x4 x5 x6 x7 x8 x9 x10 x11 _ 5 0 (by omega) (by omega) _ (by decide) h1, ?_⟩
  refine List.forall_mem_cons.2 ⟨hi_piece x0 x1 x2 x3 x4 x5 x6 x7 x8 x9 x10 x11 _ 4 256 (by omega) (by omega) _ (by decide) h2, ?_⟩
  refine List.forall_mem_cons.2 ⟨lo_piece x0 x1 x2 x3 x4 x5 x6 x7 x8 x9 x10 x11 _ 4 256 (by omega) (by omega) _ (by decide) h2, ?_⟩
  refine List.forall_mem_cons.2 ⟨hi_piece x0 x1 x2 x3 x4 x5 x6 x7 x8 x9 x10 x11 _ 4 0 (by omega) (by omega) _ (by decide) h1, ?_⟩
  refine List.forall_mem_cons.2 ⟨lo_piece x0 x1 x2 x3 x4 x5 x6 x7 x8 x9 x10 x11 _ 4 0 (by omega) (by omega) _ (by decide) h1, ?_⟩
  refine List.forall_mem_cons.2 ⟨hi_piece x0 x1 x2 x3 x4 x5 x6 x7 x8 x9 x10 x11 _ 3 256 (by omega) (by omega) _ (by decide) h2, ?_⟩
  refine List.forall_mem_cons.2 ⟨lo_piece x0 x1 x2 x3 x4 x5 x6 x7 x8 x9 x10 x11 _ 3 256 (by omega) (by omega) _ (by decide) h2, ?_⟩
  refine List.forall_mem_cons.2 ⟨hi_piece x0 x1 x2 x3 x4 x5 x6 x7 x8 x9 x10 x11 _ 3 0 (by omega) (by omega) _ (by decide) h1, ?_⟩
  refine List.forall_mem_cons.2 ⟨lo_piece x0 x1 x2 x3 x4 x5 x6 x7 x8 x9 x10 x11 _ 3 0 (by omega) (by omega) _ (by decide) h1, ?_⟩
  refine List.forall_mem_cons.2 ⟨hi_piece x0 x1 x2 x3 x4 x5 x6 x7 x8 x9 x10 x11 _ 2 256 (by omega) (by omega) _ (by decide) h2, ?_⟩
  refine List.forall_mem_cons.2 ⟨lo_piece x0 x1 x2 x3 x4 x5 x6 x7 x8 x9 x10 x11 _ 2 256 (by omega) (by omega) _ (by decide) h2, ?_⟩
  refine List.forall_mem_cons.2 ⟨hi_piece x0 x1 x2 x3 x4 x5 x6 x7 x8 x9 x10 x11 _ 2 0 (by omega) (by omega) _ (by decide) h1, ?_⟩
  refine List.forall_mem_cons.2 ⟨lo_piece x0 x1 x2 x3 x4 x5 x6 x7 x8 x9 x10 x11 _ 2 0 (by omega) (by omega) _ (by decide) h1, ?_⟩
  refine List.forall_mem_cons.2 ⟨hi_piece x0 x1 x2 x3 x4 x5 x6 x7 x8 x9 x10 x11 _ 1 256 (by omega) (by omega) _ (by decide) h2, ?_⟩
  refine List.forall_mem_cons.2 ⟨lo_piece x0 x1 x2 x3 x4 x5 x6 x7 x8 x9 x10 x11 _ 1 256 (by omega) (by omega) _ (by decide) h2, ?_⟩
  refine List.forall_mem_cons.2 ⟨hi_piece x0 x1 x2 x3 x4 x5 x6 x7 x8 x9 x10 x11 _ 1 0 (by omega) (by omega) _ (by decide) h1, ?_⟩
  refine List.forall_mem_cons.2 ⟨lo_piece x0 x1 x2 x3 x4 x5 x6 x7 x8 x9 x10 x11 _ 1 0 (by omega) (by omega) _ (by decide) h1, ?_⟩
  refine List.forall_mem_cons.2 ⟨hi_piece x0 x1 x2 x3 x4 x5 x6 x7 x8 x9 x10 x11 _ 0 256 (by omega) (by omega) _ (by decide) h2, ?_⟩
  refine List.forall_mem_cons.2 ⟨lo_piece x0 x1 x2 x3 x4 x5 x6 x7 x8 x9 x10 x11 _ 0 256 (by omega) (by omega) _ (by decide) h2, ?_⟩
  refine List.forall_mem_cons.2 ⟨hi_piece x0 x1 x2 x3 x4 x5 x6 x7 x8 x9 x10 x11 _ 0 0 (by omega) (by omega) _ (by decide) h1, ?_⟩
  refine List.forall_mem_cons.2 ⟨lo_piece x0 x1 x2 x3 x4 x5 x6 x7 x8 x9 x10 x11 _ 0 0 (by omega) (by omega) _ (by decide) h1, ?_⟩
  exact List.forall_mem_nil _

end Cert.Kernel2Ideal.Blocks

end
-- ==== Proof.Mix.Result.lean ====
module

public import proofs.«01_k».proof.Proof.Mix.Blocks
public import Idealize.ShloMosaic.Lib.StableHlo.ReadAt
public import Idealize.ShloMosaic.Lib.Tactic.WordOmega

/-!
The mixing call's windows' blocks, read in the arguments, and its three result arrays.
-/

@[expose] public section

set_option maxRecDepth 16384

noncomputable section

namespace Cert.Kernel2Ideal.Result

open Cert.Kernel2Ideal Cert.Kernel2Ideal.Gen Cert.Kernel2Ideal.Blocks Cert.Mix
open Idealize.ShloMosaic Idealize.ShloMosaic.TcCoe Idealize.ShloMosaic.Pointwise Idealize.SL.Sem

variable (m : (ℓ : Loc nD τ sig) → Buf (Elt Ideal) ℓ) (c : Dev nD)

/-- The call's twelve arguments. -/
def aX : Vec Ideal S8x2048x1024 .f32 := m (c.tc.loc main_arg0)
def aO1 : Vec Ideal S8x2048x512 .f32 := m (c.tc.loc main_arg1)
def aO2 : Vec Ideal S8x2048x512 .f32 := m (c.tc.loc main_arg2)
def aL1 : Vec Ideal S8x2048x1024 .f32 := m (c.tc.loc main_arg3)
def aL2 : Vec Ideal S8x2048x1024 .f32 := m (c.tc.loc main_arg4)
def aW1 : Vec Ideal S512x1024 .f32 := m (c.tc.loc main_arg5)
def aW2 : Vec Ideal S512x1024 .f32 := m (c.tc.loc main_arg6)
def aW : Vec Ideal S1024x1024 .f32 := m (c.tc.loc main_arg7)
def aG : Vec Ideal S1024 .f32 := m (c.tc.loc main_arg8)
def aWq : Vec Ideal S1024x2048 .f32 := m (c.tc.loc main_arg9)
def aK1 : Vec Ideal S128x128 .f32 := m (c.tc.loc main_arg10)
def aK2 : Vec Ideal S128x128 .f32 := m (c.tc.loc main_arg11)

/-- Batch and position of a token. -/
def bOf (R : Fin 16384) : Fin 8 := ⟨R.val / 2048, by omega⟩
def pOf (R : Fin 16384) : Fin 2048 := ⟨R.val % 2048, by omega⟩

theorem v0_read (R : Fin 16384) (j : Fin 1024) : (V m c main_v0 : Vec Ideal S16384x1024 .f32) (ix2 R j) = aX m c (ix3 (bOf R) (pOf R) j) := by
  unfold V
  after_reads_at
  rfl

theorem v2_read (R : Fin 16384) (j : Fin 512) : (V m c main_v2 : Vec Ideal S16384x512 .bf16) (ix2 R j) = aO1 m c (ix3 (bOf R) (pOf R) j) := by
  unfold V
  after_reads_at
  rfl

theorem v4_read (R : Fin 16384) (j : Fin 512) : (V m c main_v4 : Vec Ideal S16384x512 .bf16) (ix2 R j) = aO2 m c (ix3 (bOf R) (pOf R) j) := by
  unfold V
  after_reads_at
  rfl

theorem v11_read (R : Fin 16384) (j : Fin 1024) : (V m c main_v11 : Vec Ideal S16384x1024 .f32) (ix2 R j) = gate (aL1 m c (ix3 (bOf R) (pOf R) j)) := by
  unfold V
  after_reads_at
  rfl

theorem v18_read (R : Fin 16384) (j : Fin 1024) : (V m c main_v18 : Vec Ideal S16384x1024 .f32) (ix2 R j) = gate (aL2 m c (ix3 (bOf R) (pOf R) j)) := by
  unfold V
  after_reads_at
  rfl

theorem v19_read (k : Fin 512) (j : Fin 1024) : (V m c main_v19 : Vec Ideal S512x1024 .bf16) (ix2 k j) = aW1 m c (ix2 k j) := by
  unfold V
  after_reads_at
  rfl

theorem v20_read (k : Fin 512) (j : Fin 1024) : (V m c main_v20 : Vec Ideal S512x1024 .bf16) (ix2 k j) = aW2 m c (ix2 k j) := by
  unfold V
  after_reads_at
  rfl

theorem v21_read (k : Fin 1024) (j : Fin 1024) : (V m c main_v21 : Vec Ideal S1024x1024 .bf16) (ix2 k j) = aW m c (ix2 k j) := by
  unfold V
  after_reads_at
  rfl

theorem v22_read (j : Fin 1024) : (V m c main_v22 : Vec Ideal S1x1024 .f32) (ix2 0 j) = aG m c (ix1 j) := by
  unfold V
  after_reads_at
  rfl

theorem v23_read (k : Fin 1024) (j : Fin 2048) : (V m c main_v23 : Vec Ideal S1024x2048 .bf16) (ix2 k j) = aWq m c (ix2 k j) := by
  unfold V
  after_reads_at
  rfl

theorem v24_read (k : Fin 128) (j : Fin 128) : (V m c main_v24 : Vec Ideal S128x128 .bf16) (ix2 k j) = aK1 m c (ix2 k j) := by
  unfold V
  after_reads_at
  rfl

theorem v25_read (k : Fin 128) (j : Fin 128) : (V m c main_v25 : Vec Ideal S128x128 .bf16) (ix2 k j) = aK2 m c (ix2 k j) := by
  unfold V
  after_reads_at
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = t.val ∧ win0_12.index t 1 = 0 := by decide +kernel
theorem idx13 : ∀ t : Fin cfg0.N, win0_13.index t 0 = 0 ∧ win0_13.index t 1 = t.val := by decide +kernel
theorem idx14 : ∀ t : Fin cfg0.N, win0_14.index t 0 = 0 ∧ win0_14.index t 1 = 0 ∧ win0_14.index t 2 = t.val := by decide +kernel

/-- The token of row `i` of point `t`'s blocks. -/
def tok (t : Fin cfg0.N) (i : Fin 512) : Fin 16384 := ⟨t.val * 512 + i.val, by have h : t.val < 32 := t.isLt; omega⟩

theorem iblk0 (t : Fin cfg0.N) (i : Fin 512) (j : Fin 1024) : (iblk m c 0 t : Vec Ideal S512x1024 .f32) (ix2 i j) = (V m c main_v0 : Vec Ideal S16384x1024 .f32) (ix2 (tok t i) j) := by
  obtain ⟨h0, h1⟩ := idx0 t
  unfold iblk
  rw [View.read_apply]
  show V m c main_v0 _ = V m c main_v0 _
  congr 1; funext a; apply Fin.ext
  match a with
  | ⟨0, _⟩ => show win0_0.index t 0 * 512 + 1 * i.val = _; rw [h0, one_mul]; rfl
  | ⟨1, _⟩ => show win0_0.index t 1 * 1024 + 1 * j.val = _; rw [h1, one_mul, Nat.zero_mul, Nat.zero_add]; rfl

theorem iblk1 (t : Fin cfg0.N) (i : Fin 512) (j : Fin 512) : (iblk m c 1 t : Vec Ideal S512x512 .bf16) (ix2 i j) = (V m c main_v2 : Vec Ideal S16384x512 .bf16) (ix2 (tok t i) j) := by
  obtain ⟨h0, h1⟩ := idx1 t
  unfold iblk
  rw [View.read_apply]
  show V m c main_v2 _ = V m c main_v2 _
  congr 1; funext a; apply Fin.ext
  match a with
  | ⟨0, _⟩ => show win0_1.index t 0 * 512 + 1 * i.val = _; rw [h0, one_mul]; rfl
  | ⟨1, _⟩ => show win0_1.index t 1 * 512 + 1 * j.val = _; rw [h1, one_mul, Nat.zero_mul, Nat.zero_add]; rfl

theorem iblk2 (t : Fin cfg0.N) (i : Fin 512) (j : Fin 512) : (iblk m c 2 t : Vec Ideal S512x512 .bf16) (ix2 i j) = (V m c main_v4 : Vec Ideal S16384x512 .bf16) (ix2 (tok t i) j) := by
  obtain ⟨h0, h1⟩ := idx2 t
  unfold iblk
  rw [View.read_apply]
  show V m c main_v4 _ = V m c main_v4 _
  congr 1; funext a; apply Fin.ext
  match a with
  | ⟨0, _⟩ => show win0_2.index t 0 * 512 + 1 * i.val = _; rw [h0, one_mul]; rfl
  | ⟨1, _⟩ => show win0_2.index t 1 * 512 + 1 * j.val = _; rw [h1, one_mul, Nat.zero_mul, Nat.zero_add]; rfl

theorem iblk3 (t : Fin cfg0.N) (i : Fin 512) (j : Fin 1024) : (iblk m c 3 t : Vec Ideal S512x1024 .f32) (ix2 i j) = (V m c main_v11 : Vec Ideal S16384x1024 .f32) (ix2 (tok t i) j) := by
  obtain ⟨h0, h1⟩ := idx3 t
  unfold iblk
  rw [View.read_apply]
  show V m c main_v11 _ = V m c main_v11 _
  congr 1; funext a; apply Fin.ext
  match a with
  | ⟨0, _⟩ => show win0_3.index t 0 * 512 + 1 * i.val = _; rw [h0, one_mul]; rfl
  | ⟨1, _⟩ => show win0_3.index t 1 * 1024 + 1 * j.val = _; rw [h1, one_mul, Nat.zero_mul, Nat.zero_add]; rfl

theorem iblk4 (t : Fin cfg0.N) (i : Fin 512) (j : Fin 1024) : (iblk m c 4 t : Vec Ideal S512x1024 .f32) (ix2 i j) = (V m c main_v18 : Vec Ideal S16384x1024 .f32) (ix2 (tok t i) j) := by
  obtain ⟨h0, h1⟩ := idx4 t
  unfold iblk
  rw [View.read_apply]
  show V m c main_v18 _ = V m c main_v18 _
  congr 1; funext a; apply Fin.ext
  match a with
  | ⟨0, _⟩ => show win0_4.index t 0 * 512 + 1 * i.val = _; rw [h0, one_mul]; rfl
  | ⟨1, _⟩ => show win0_4.index t 1 * 1024 + 1 * j.val = _; rw [h1, one_mul, Nat.zero_mul, Nat.zero_add]; rfl

theorem iblk5 (t : Fin cfg0.N) (i : Fin 512) (j : Fin 1024) : (iblk m c 5 t : Vec Ideal S512x1024 .bf16) (ix2 i j) = (V m c main_v19 : Vec Ideal S512x1024 .bf16) (ix2 i j) := by
  obtain ⟨h0, h1⟩ := idx5 t
  unfold iblk
  rw [View.read_apply]
  show V m c main_v19 _ = V m c main_v19 _
  congr 1; funext a; apply Fin.ext
  match a with
  | ⟨0, _⟩ => show win0_5.index t 0 * 512 + 1 * i.val = _; rw [h0, one_mul, Nat.zero_mul, Nat.zero_add]; rfl
  | ⟨1, _⟩ => show win0_5.index t 1 * 1024 + 1 * j.val = _; rw [h1, one_mul, Nat.zero_mul, Nat.zero_add]; rfl

theorem iblk6 (t : Fin cfg0.N) (i : Fin 512) (j : Fin 1024) : (iblk m c 6 t : Vec Ideal S512x1024 .bf16) (ix2 i j) = (V m c main_v20 : Vec Ideal S512x1024 .bf16) (ix2 i j) := by
  obtain ⟨h0, h1⟩ := idx6 t
  unfold iblk
  rw [View.read_apply]
  show V m c main_v20 _ = V m c main_v20 _
  congr 1; funext a; apply Fin.ext
  match a with
  | ⟨0, _⟩ => show win0_6.index t 0 * 512 + 1 * i.val = _; rw [h0, one_mul, Nat.zero_mul, Nat.zero_add]; rfl
  | ⟨1, _⟩ => show win0_6.index t 1 * 1024 + 1 * j.val = _; rw [h1, one_mul, Nat.zero_mul, Nat.zero_add]; rfl

theorem iblk7 (t : Fin cfg0.N) (i : Fin 1024) (j : Fin 1024) : (iblk m c 7 t : Vec Ideal S1024x1024 .bf16) (ix2 i j) = (V m c main_v21 : Vec Ideal S1024x1024 .bf16) (ix2 i j) := by
  obtain ⟨h0, h1⟩ := idx7 t
  unfold iblk
  rw [View.read_apply]
  show V m c main_v21 _ = V m c main_v21 _
  congr 1; funext a; apply Fin.ext
  match a with
  | ⟨0, _⟩ => show win0_7.index t 0 * 1024 + 1 * i.val = _; rw [h0, one_mul, Nat.zero_mul, Nat.zero_add]; rfl
  | ⟨1, _⟩ => show win0_7.index t 1 * 1024 + 1 * j.val = _; rw [h1, one_mul, Nat.zero_mul, Nat.zero_add]; rfl

theorem iblk8 (t : Fin cfg0.N) (i : Fin 1) (j : Fin 1024) : (iblk m c 8 t : Vec Ideal S1x1024 .f32) (ix2 i j) = (V m c main_v22 : Vec Ideal S1x1024 .f32) (ix2 i j) := by
  obtain ⟨h0, h1⟩ := idx8 t
  unfold iblk
  rw [View.read_apply]
  show V m c main_v22 _ = V m c main_v22 _
  congr 1; funext a; apply Fin.ext
  match a with
  | ⟨0, _⟩ => show win0_8.index t 0 * 1 + 1 * i.val = _; rw [h0, one_mul, Nat.zero_mul, Nat.zero_add]; rfl
  | ⟨1, _⟩ => show win0_8.index t 1 * 1024 + 1 * j.val = _; rw [h1, one_mul, Nat.zero_mul, Nat.zero_add]; rfl

theorem iblk9 (t : Fin cfg0.N) (i : Fin 1024) (j : Fin 2048) : (iblk m c 9 t : Vec Ideal S1024x2048 .bf16) (ix2 i j) = (V m c main_v23 : Vec Ideal S1024x2048 .bf16) (ix2 i j) := by
  obtain ⟨h0, h1⟩ := idx9 t
  unfold iblk
  rw [View.read_apply]
  show V m c main_v23 _ = V m c main_v23 _
  congr 1; funext a; apply Fin.ext
  match a with
  | ⟨0, _⟩ => show win0_9.index t 0 * 1024 + 1 * i.val = _; rw [h0, one_mul, Nat.zero_mul, Nat.zero_add]; rfl
  | ⟨1, _⟩ => show win0_9.index t 1 * 2048 + 1 * j.val = _; rw [h1, one_mul, Nat.zero_mul, Nat.zero_add]; rfl

theorem iblk10 (t : Fin cfg0.N) (i : Fin 128) (j : Fin 128) : (iblk m c 10 t : Vec Ideal S128x128 .bf16) (ix2 i j) = (V m c main_v24 : Vec Ideal S128x128 .bf16) (ix2 i j) := by
  obtain ⟨h0, h1⟩ := idx10 t
  unfold iblk
  rw [View.read_apply]
  show V m c main_v24 _ = V m c main_v24 _
  congr 1; funext a; apply Fin.ext
  match a with
  | ⟨0, _⟩ => show win0_10.index t 0 * 128 + 1 * i.val = _; rw [h0, one_mul, Nat.zero_mul, Nat.zero_add]; rfl
  | ⟨1, _⟩ => show win0_10.index t 1 * 128 + 1 * j.val = _; rw [h1, one_mul, Nat.zero_mul, Nat.zero_add]; rfl

theorem iblk11 (t : Fin cfg0.N) (i : Fin 128) (j : Fin 128) : (iblk m c 11 t : Vec Ideal S128x128 .bf16) (ix2 i j) = (V m c main_v25 : Vec Ideal S128x128 .bf16) (ix2 i j) := by
  obtain ⟨h0, h1⟩ := idx11 t
  unfold iblk
  rw [View.read_apply]
  show V m c main_v25 _ = V m c main_v25 _
  congr 1; funext a; apply Fin.ext
  match a with
  | ⟨0, _⟩ => show win0_11.index t 0 * 128 + 1 * i.val = _; rw [h0, one_mul, Nat.zero_mul, Nat.zero_add]; rfl
  | ⟨1, _⟩ => show win0_11.index t 1 * 128 + 1 * j.val = _; rw [h1, one_mul, Nat.zero_mul, Nat.zero_add]; rfl

/-- What a point computes of row `i` is what the arguments say of its token. -/
theorem H_eq (t : Fin cfg0.N) (i : Fin 512) : H (iblk m c 0 t) (iblk m c 1 t) (iblk m c 2 t) (iblk m c 3 t) (iblk m c 4 t) (iblk m c 5 t) (iblk m c 6 t) (iblk m c 7 t) i = streamA (aX m c) (aO1 m c) (aO2 m c) (aL1 m c) (aL2 m c) (aW1 m c) (aW2 m c) (aW m c) (bOf (tok t i)) (pOf (tok t i)) := by
  unfold H streamA
  congr 1
  · exact funext fun j => (iblk0 m c t i j).trans (v0_read m c _ j)
  · congr 1
    · exact funext fun j => (iblk3 m c t i j).trans (v11_read m c _ j)
    · exact funext fun j => (iblk4 m c t i j).trans (v18_read m c _ j)
    · exact funext fun j => (iblk1 m c t i j).trans (v2_read m c _ j)
    · exact funext fun j => (iblk2 m c t i j).trans (v4_read m c _ j)
    · exact funext fun l => funext fun j => (iblk5 m c t l j).trans (v19_read m c l j)
    · exact funext fun l => funext fun j => (iblk6 m c t l j).trans (v20_read m c l j)
  · exact funext fun l => funext fun j => (iblk7 m c t l j).trans (v21_read m c l j)

theorem N_eq (t : Fin cfg0.N) (i : Fin 512) : N (iblk m c 0 t) (iblk m c 1 t) (iblk m c 2 t) (iblk m c 3 t) (iblk m c 4 t) (iblk m c 5 t) (iblk m c 6 t) (iblk m c 7 t) (iblk m c 8 t) i = normA (aX m c) (aO1 m c) (aO2 m c) (aL1 m c) (aL2 m c) (aW1 m c) (aW2 m c) (aW m c) (aG m c) (bOf (tok t i)) (pOf (tok t i)) := by
  unfold N normA
  rw [H_eq]
  congr 1
  exact funext fun j => (iblk8 m c t 0 j).trans (v22_read m c j)

theorem Sc_eq (t : Fin cfg0.N) (r : Fin 16) (n : Fin 128) (i : Fin 512) : Sc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r n i = scoreA (aX m c) (aO1 m c) (aO2 m c) (aL1 m c) (aL2 m c) (aW1 m c) (aW2 m c) (aW m c) (aG m c) (aWq m c) (aK1 m c) (aK2 m c) r n (bOf (tok t i)) (pOf (tok t i)) := by
  unfold Sc scoreA
  rw [N_eq]
  congr 1
  · exact funext fun l => funext fun j => (iblk9 m c t l j).trans (v23_read m c l j)
  · exact funext fun d => by rw [(iblk10 m c t n d).trans (v24_read m c n d), (iblk11 m c t n d).trans (v25_read m c n d)]

/-- The three result arrays. -/
def res0 : Buf (Elt Ideal) ((c.tc : Thread nD τ).loc main_v26_0) := fun i : S16384x1024.Idx => streamA (aX m c) (aO1 m c) (aO2 m c) (aL1 m c) (aL2 m c) (aW1 m c) (aW2 m c) (aW m c) (bOf (i 0)) (pOf (i 0)) (i 1)
def res1 : Buf (Elt Ideal) ((c.tc : Thread nD τ).loc main_v26_1) := fun i : S1024x16384.Idx => normA (aX m c) (aO1 m c) (aO2 m c) (aL1 m c) (aL2 m c) (aW1 m c) (aW2 m c) (aW m c) (aG m c) (bOf (i 1)) (pOf (i 1)) (i 0)
def res2 : Buf (Elt Ideal) ((c.tc : Thread nD τ).loc main_v26_2) := fun i : S16x128x16384.Idx => scoreA (aX m c) (aO1 m c) (aO2 m c) (aL1 m c) (aL2 m c) (aW1 m c) (aW2 m c) (aW m c) (aG m c) (aWq m c) (aK1 m c) (aK2 m c) (i 0) (i 1) (bOf (i 2)) (pOf (i 2))

/-- The token of an index of the first array under a point's block, and likewise of the others. -/
theorem emb12 (t : Fin cfg0.N) (i : Fin 512) (j : Fin 1024) : (((cfg0.win 12).blk t).view.emb (ix2 i j) : S16384x1024.Idx) = ix2 (tok t i) j := by
  obtain ⟨h0, h1⟩ := idx12 t
  funext a; apply Fin.ext
  match a with
  | ⟨0, _⟩ => show win0_12.index t 0 * 512 + 1 * i.val = _; rw [h0, one_mul]; rfl
  | ⟨1, _⟩ => show win0_12.index t 1 * 1024 + 1 * j.val = _; rw [h1, one_mul, Nat.zero_mul, Nat.zero_add]; rfl

theorem emb13 (t : Fin cfg0.N) (j : Fin 1024) (i : Fin 512) : (((cfg0.win 13).blk t).view.emb (ix2 j i) : S1024x16384.Idx) = ix2 j (tok t i) := by
  obtain ⟨h0, h1⟩ := idx13 t
  funext a; apply Fin.ext
  match a with
  | ⟨0, _⟩ => show win0_13.index t 0 * 1024 + 1 * j.val = _; rw [h0, one_mul, Nat.zero_mul, Nat.zero_add]; rfl
  | ⟨1, _⟩ => show win0_13.index t 1 * 512 + 1 * i.val = _; rw [h1, one_mul]; rfl

theorem emb14 (t : Fin cfg0.N) (r : Fin 16) (n : Fin 128) (i : Fin 512) : (((cfg0.win 14).blk t).view.emb (ix3 r n i) : S16x128x16384.Idx) = ix3 r n (tok t i) := by
  obtain ⟨h0, h1, h2⟩ := idx14 t
  funext a; apply Fin.ext
  match a with
  | ⟨0, _⟩ => show win0_14.index t 0 * 16 + 1 * r.val = _; rw [h0, one_mul, Nat.zero_mul, Nat.zero_add]; rfl
  | ⟨1, _⟩ => show win0_14.index t 1 * 128 + 1 * n.val = _; rw [h1, one_mul, Nat.zero_mul, Nat.zero_add]; rfl
  | ⟨2, _⟩ => show win0_14.index t 2 * 512 + 1 * i.val = _; rw [h2, one_mul]; rfl

theorem flushed12_eq (t : Fin cfg0.N) (_ : (cfg0.win 12).flush t = true) : (dats m 0 c).flushed 12 t = ((cfg0.win 12).blk t).view.read (Elt Ideal) (res0 m c) := by
  rw [Value.flushed12]
  funext y
  obtain ⟨i, j, rfl⟩ : ∃ (i : Fin 512) (j : Fin 1024), y = ix2 i j := ⟨y 0, y 1, eq_ix2 y⟩
  rw [View.read_apply]
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 i j) = res0 m c (((cfg0.win 12).blk t).view.emb (ix2 i j) : S16384x1024.Idx)
  rw [emb12, out12]
  exact congrFun (H_eq m c t i) j

theorem flushed13_eq (t : Fin cfg0.N) (_ : (cfg0.win 13).flush t = true) : (dats m 0 c).flushed 13 t = ((cfg0.win 13).blk t).view.read (Elt Ideal) (res1 m c) := by
  rw [Value.flushed13]
  funext y
  obtain ⟨j, i, rfl⟩ : ∃ (j : Fin 1024) (i : Fin 512), y = ix2 j i := ⟨y 0, y 1, eq_ix2 y⟩
  rw [View.read_apply]
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 j i) = res1 m c (((cfg0.win 13).blk t).view.emb (ix2 j i) : S1024x16384.Idx)
  rw [emb13, out13]
  exact congrFun (N_eq m c t i) j

theorem flushed14_eq (t : Fin cfg0.N) (_ : (cfg0.win 14).flush t = true) : (dats m 0 c).flushed 14 t = ((cfg0.win 14).blk t).view.read (Elt Ideal) (res2 m c) := by
  rw [Value.flushed14]
  funext y
  obtain ⟨r, n, i, rfl⟩ : ∃ (r : Fin 16) (n : Fin 128) (i : Fin 512), y = ix3 r n i := ⟨y 0, y 1, y 2, eq_ix3 y⟩
  rw [View.read_apply]
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 r n i) = res2 m c (((cfg0.win 14).blk t).view.emb (ix3 r n i) : S16x128x16384.Idx)
  rw [emb14, out14]
  exact Sc_eq m c t r n i

/-- The point whose blocks hold a token. -/
def ptOf (R : Fin 16384) : Fin cfg0.N := ⟨R.val / 512, by show R.val / 512 < 32; omega⟩

theorem final0 : (dats m 0 c).arrAt 12 cfg0.N = res0 m c :=
  (dats m 0 c).arrAt_eq_of_cover 12 (res0 m c) (flushed12_eq m c) fun i => by
    have hi0 : ((i : S16384x1024.Idx) 0).val < 16384 := (i 0).isLt
    have hi1 : ((i : S16384x1024.Idx) 1).val < 1024 := (i 1).isLt
    obtain ⟨t, ht⟩ : ∃ t, t = ptOf ⟨(i 0).val, hi0⟩ := ⟨_, rfl⟩
    have hv : t.val = (i 0).val / 512 := by rw [ht]; rfl
    refine ⟨t, flush0_12 t, ?_⟩
    obtain ⟨h0, h1⟩ := idx12 t
    show i ∈ ((View.whole main_v26_0).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [h0, hv]; omega
    | ⟨1, _⟩ => show win0_12.index t 1 * 1024 ≤ (i 1 : Nat) ∧ (i 1 : Nat) < win0_12.index t 1 * 1024 + 1024
                rw [h1]; omega

theorem final1 : (dats m 0 c).arrAt 13 cfg0.N = res1 m c :=
  (dats m 0 c).arrAt_eq_of_cover 13 (res1 m c) (flushed13_eq m c) fun i => by
    have hi0 : ((i : S1024x16384.Idx) 0).val < 1024 := (i 0).isLt
    have hi1 : ((i : S1024x16384.Idx) 1).val < 16384 := (i 1).isLt
    obtain ⟨t, ht⟩ : ∃ t, t = ptOf ⟨(i 1).val, hi1⟩ := ⟨_, rfl⟩
    have hv : t.val = (i 1).val / 512 := by rw [ht]; rfl
    refine ⟨t, flush0_13 t, ?_⟩
    obtain ⟨h0, h1⟩ := idx13 t
    show i ∈ ((View.whole main_v26_1).slice (win0_13.rect t)).set
    rw [View.set_slice_whole, Rect.mem_set_unit]
    intro a
    match a with
    | ⟨0, _⟩ => show win0_13.index t 0 * 1024 ≤ (i 0 : Nat) ∧ (i 0 : Nat) < win0_13.index t 0 * 1024 + 1024
                rw [h0]; omega
    | ⟨1, _⟩ => show win0_13.index t 1 * 512 ≤ (i 1 : Nat) ∧ (i 1 : Nat) < win0_13.index t 1 * 512 + 512
                rw [h1, hv]; omega

theorem final2 : (dats m 0 c).arrAt 14 cfg0.N = res2 m c :=
  (dats m 0 c).arrAt_eq_of_cover 14 (res2 m c) (flushed14_eq m c) fun i => by
    have hi0 : ((i : S16x128x16384.Idx) 0).val < 16 := (i 0).isLt
    have hi1 : ((i : S16x128x16384.Idx) 1).val < 128 := (i 1).isLt
    have hi2 : ((i : S16x128x16384.Idx) 2).val < 16384 := (i 2).isLt
    obtain ⟨t, ht⟩ : ∃ t, t = ptOf ⟨(i 2).val, hi2⟩ := ⟨_, rfl⟩
    have hv : t.val = (i 2).val / 512 := by rw [ht]; rfl
    refine ⟨t, flush0_14 t, ?_⟩
    obtain ⟨h0, h1, h2⟩ := idx14 t
    show i ∈ ((View.whole main_v26_2).slice (win0_14.rect t)).set
    rw [View.set_slice_whole, Rect.mem_set_unit]
    intro a
    match a with
    | ⟨0, _⟩ => show win0_14.index t 0 * 16 ≤ (i 0 : Nat) ∧ (i 0 : Nat) < win0_14.index t 0 * 16 + 16
                rw [h0]; omega
    | ⟨1, _⟩ => show win0_14.index t 1 * 128 ≤ (i 1 : Nat) ∧ (i 1 : Nat) < win0_14.index t 1 * 128 + 128
                rw [h1]; omega
    | ⟨2, _⟩ => show win0_14.index t 2 * 512 ≤ (i 2 : Nat) ∧ (i 2 : Nat) < win0_14.index t 2 * 512 + 512
                rw [h2, hv]; omega

/-- The run, read: the three result arrays, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v26_0) = res0 m c
      ∧ r.2.mem ((c.tc : Thread nD τ).loc main_v26_1) = res1 m c
      ∧ r.2.mem ((c.tc : Thread nD τ).loc main_v26_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (final0 m c), (h c).2.1.trans (final1 m c), (h c).2.2.1.trans (final2 m c), (h c).2.2.2⟩) (Value.run_blocks m ρ)

end Cert.Kernel2Ideal.Result

end
-- ==== Proof.Mix.Text.lean ====
module

public import proofs.«01_k».proof.Defs
public import proofs.«01_k».proof.Proof.Gen.Kernel2
public import proofs.«01_k».proof.Proof.Mix.Result

/-!
The printed mixing call and the one read over the ideal values are one text, so one run gives both frames.
-/

@[expose] public section
set_option maxRecDepth 16384
set_option maxHeartbeats 2000000

namespace Cert.Mix
open Idealize.ShloMosaic Idealize.SL.Sem

/-- The two bodies are one. -/
theorem body_text : Cert.Kernel2.cc0__mix_kernel (F := Bits) = Cert.Kernel2Ideal.cc0__mix_kernel (F := Bits) := rfl

/-- The two body tables are one. -/
theorem bodies_text : Cert.Kernel2.defs₀ (F := Bits) = Cert.Kernel2Ideal.defs₀ (F := Bits) := by
  refine congrArg Defs.onTc (funext fun l => funext fun a => ?_)
  obtain rfl : l = (0 : Fin 1) := Subsingleton.elim (α := Fin 1) l 0
  obtain ⟨t, s⟩ : Fin Cert.Kernel2.grid0.N × ((w : Fin 15) → Fin (Cert.Kernel2.win0 w).nbuf) := a
  show Cert.Kernel2.cc0__mix_kernel (F := Bits) _ _ _ _ _ _ _ _ _ _ _ _ _ _ _ _ _ _ _ _ _ _ _ _ _ _ _ _ _ _ _ = Cert.Kernel2Ideal.cc0__mix_kernel (F := Bits) _ _ _ _ _ _ _ _ _ _ _ _ _ _ _ _ _ _ _ _ _ _ _ _ _ _ _ _ _ _ _
  rw [body_text]
  exact rfl

/-- With their pipelines as well. -/
theorem defs_text : Cert.Kernel2.defs (F := Bits) = Cert.Kernel2Ideal.defs (F := Bits) := congrArg (Pipeline.defs (Cert.Kernel2Ideal.pcfgs (F := Bits))) bodies_text

/-- The two host functions are one. -/
theorem main_text : Cert.Kernel2.main (F := Bits) = Cert.Kernel2Ideal.main (F := Bits) := rfl

/-- The printed call's frame, from the run of the one read over any values. -/
theorem frame_printed : Cert.quiescent_Kernel2 := fun m g _ => by
  have h := Cert.Kernel2Ideal.Gen.frame (F := Bits) m g
  rw [defs_text, main_text]
  exact h

end Cert.Mix
-- ==== Proof.Mix.RefValue.lean ====
module

public import proofs.«01_k».proof.Proof.Mix.Spec
public import proofs.«01_k».proof.Proof.Gen.Reference2Ideal.Run
public import proofs.«01_k».proof.Proof.Gen.Reference2Ideal.Read
public import Idealize.ShloMosaic.Lib.Pointwise
public import Idealize.ShloMosaic.Lib.StableHlo.ReadAt

/-!
The mixing reference's three results, element by element.
-/

@[expose] public section

set_option maxRecDepth 16384

noncomputable section

namespace Cert.Reference2Ideal.RefValue

open Cert.Reference2Ideal Cert.Reference2Ideal.Gen Cert.Reference2Ideal.Read Cert.Mix
open Idealize.ShloMosaic Idealize.ShloMosaic.TcCoe Idealize.ShloMosaic.Pointwise

variable (x0 : Vec Ideal S8x2048x1024 .f32) (x1 x2 : Vec Ideal S8x2048x512 .f32) (x3 x4 : Vec Ideal S8x2048x1024 .f32) (x5 x6 : Vec Ideal S512x1024 .f32) (x7 : Vec Ideal S1024x1024 .f32)
  (x8 : Vec Ideal S1024 .f32) (x9 : Vec Ideal S1024x2048 .f32) (x10 x11 : Vec Ideal S128x128 .f32)

theorem one_bits : Ideal.ofBits FTy.f32 0x3F800000#32 = 1 := by
  refine Eq.trans ?_ EReal.coe_one
  simp [Ideal.ofBits, Ideal.ieee, -EReal.coe_mul]; norm_num

theorem gate7 (i : S8x2048x1024.Idx) : val_main_v7 (F := Ideal) x3 i = gate (x3 i) := by
  rw [val_main_v7_apply, val_main_v6_apply, val_main_v5_apply, val_main_v4_apply, val_main_v3_apply, val_main_v2_apply]
  show Ideal.div (Ideal.ofBits FTy.f32 0x3F800000#32) (Ideal.ofBits FTy.f32 0x3F800000#32 + _) = _
  rw [one_bits]; rfl

theorem gate14 (i : S8x2048x1024.Idx) : val_main_v14 (F := Ideal) x4 i = gate (x4 i) := by
  rw [val_main_v14_apply, val_main_v13_apply, val_main_v12_apply, val_main_v11_apply, val_main_v10_apply, val_main_v9_apply]
  show Ideal.div (Ideal.ofBits FTy.f32 0x3F800000#32) (Ideal.ofBits FTy.f32 0x3F800000#32 + _) = _
  rw [one_bits]; rfl

/-- The gated sum of the branches. -/
theorem v16_read (b : Fin 8) (p : Fin 2048) (j : Fin 1024) : val_main_v16 (F := Ideal) x1 x2 x3 x4 x5 x6 (ix3 b p j)
    = merged (fun j => gate (x3 (ix3 b p j))) (fun j => gate (x4 (ix3 b p j))) (fun l => x1 (ix3 b p l)) (fun l => x2 (ix3 b p l)) (fun l j => x5 (ix2 l j)) (fun l j => x6 (ix2 l j)) j := by
  rw [val_main_v16_apply, val_main_v15_apply, val_main_v8_apply, gate7, gate14, val_main_v0_apply, val_main_v1_apply]
  have e0 : ∀ l, lidx_main_v0 (ix3 b p j) l = ix3 b p l := fun l => eq_ix3 _
  have e1 : ∀ l, ridx_main_v0 (ix3 b p j) l = ix2 l j := fun l => eq_ix2 _
  have e2 : ∀ l, lidx_main_v1 (ix3 b p j) l = ix3 b p l := fun l => eq_ix3 _
  have e3 : ∀ l, ridx_main_v1 (ix3 b p j) l = ix2 l j := fun l => eq_ix2 _
  simp only [e0, e1, e2, e3]
  rfl

theorem v18_read (b : Fin 8) (p : Fin 2048) (j : Fin 1024) : val_main_v18 (F := Ideal) x0 x1 x2 x3 x4 x5 x6 x7 (ix3 b p j) = streamA x0 x1 x2 x3 x4 x5 x6 x7 b p j := by
  rw [val_main_v18_apply, val_main_v17_apply]
  have e0 : ∀ l, lidx_main_v17 (ix3 b p j) l = ix3 b p l := fun l => eq_ix3 _
  have e1 : ∀ l, ridx_main_v17 (ix3 b p j) l = ix2 l j := fun l => eq_ix2 _
  simp only [e0, e1, v16_read]
  rfl

theorem v31_read (b : Fin 8) (p : Fin 2048) (j : Fin 1024) : val_main_v31 (F := Ideal) x0 x1 x2 x3 x4 x5 x6 x7 x8 (ix3 b p j) = normA x0 x1 x2 x3 x4 x5 x6 x7 x8 b p j := by
  rw [val_main_v31_apply, val_main_v28_apply, val_main_v27_apply, val_main_v26_apply, val_main_v25_apply, val_main_v24_apply, val_main_v23_apply, val_main_v22_apply, val_main_v21_apply,
    val_main_v20_apply, val_main_v30_apply, val_main_v29_apply, v18_read]
  have e0 : ∀ k, idx_main_v20 (idx_main_v21 (idx_main_v27 (ix3 b p j))) k = ix3 b p k := fun k => eq_ix3 _
  have e1 : idx_main_v29 (idx_main_v30 (ix3 b p j)) = ix1 j := eq_ix1 _
  simp only [e0, e1, val_main_v19_apply, v18_read]
  show _ * Ideal.rsqrt (Ideal.div (Ideal.ofBits FTy.f32 0x00000000#32 + ∑ k, _) _ + _) * _ = _
  rw [show Ideal.ofBits FTy.f32 0x00000000#32 = (0 : EReal) by simp [Ideal.ofBits, Ideal.ieee], zero_add]
  rfl

/-- The queries. -/
theorem v32_read (b : Fin 8) (p : Fin 2048) (j : Fin 2048) : val_main_v32 (F := Ideal) x0 x1 x2 x3 x4 x5 x6 x7 x8 x9 (ix3 b p j) = ∑ k, normA x0 x1 x2 x3 x4 x5 x6 x7 x8 b p k * x9 (ix2 k j) := by
  rw [val_main_v32_apply]
  have e0 : ∀ l, lidx_main_v32 (ix3 b p j) l = ix3 b p l := fun l => eq_ix3 _
  have e1 : ∀ l, ridx_main_v32 (ix3 b p j) l = ix2 l j := fun l => eq_ix2 _
  simp only [e0, e1, v31_read]

/-- Each head's two halves of the query. -/
theorem v33_read (b : Fin 8) (p : Fin 2048) (h : Fin 8) (s : Fin 2) (d : Fin 128) : val_main_v33 (F := Ideal) x0 x1 x2 x3 x4 x5 x6 x7 x8 x9 (ix5 b p h s d) = ∑ k, normA x0 x1 x2 x3 x4 x5 x6 x7 x8 b p k * x9 (ix2 k ⟨128 * (2 * h.val + s.val) + d.val, by omega⟩) := by
  rw [val_main_v33_apply, ← v32_read]
  congr 1
  refine (eq_ix3 _).trans ?_
  have hb := b.isLt; have hp := p.isLt; have hh := h.isLt; have hd := d.isLt; have hs := s.isLt
  congr 1 <;> apply Fin.ext
  · show ((((b.val * 2048 + p.val) * 8 + h.val) * 2 + s.val) * 128 + d.val) / 4194304 = b.val
    omega
  · show ((((b.val * 2048 + p.val) * 8 + h.val) * 2 + s.val) * 128 + d.val) / 2048 % 2048 = p.val
    omega
  · show ((((b.val * 2048 + p.val) * 8 + h.val) * 2 + s.val) * 128 + d.val) % 2048 = 128 * (2 * h.val + s.val) + d.val
    omega

theorem idx35 (b : Fin 8) (p : Fin 2048) (h : Fin 8) (d : Fin 128) : idx_main_v35 (ix4 b p h d) = ix5 b p h 0 d := by
  have hb := b.isLt; have hp := p.isLt; have hh := h.isLt; have hd := d.isLt
  refine (eq_ix5 _).trans ?_
  congr 1 <;> apply Fin.ext
  · show (((b.val * 2048 + p.val) * 8 + h.val) * 128 + d.val) / 2097152 = b.val
    omega
  · show (((b.val * 2048 + p.val) * 8 + h.val) * 128 + d.val) / 1024 % 2048 = p.val
    omega
  · show (((b.val * 2048 + p.val) * 8 + h.val) * 128 + d.val) / 128 % 8 = h.val
    omega
  · show (((b.val * 2048 + p.val) * 8 + h.val) * 128 + d.val) % 128 = d.val
    omega

theorem v35_read (b : Fin 8) (p : Fin 2048) (h : Fin 8) (d : Fin 128) : val_main_v35 (F := Ideal) x0 x1 x2 x3 x4 x5 x6 x7 x8 x9 (ix4 b p h d) = ∑ k, normA x0 x1 x2 x3 x4 x5 x6 x7 x8 b p k * x9 (ix2 k ⟨128 * (2 * h.val) + d.val, by omega⟩) := by
  rw [val_main_v35_apply, val_main_v34_apply, idx35]
  exact (congrArg (val_main_v33 (F := Ideal) x0 x1 x2 x3 x4 x5 x6 x7 x8 x9) (eq_ix5 _)).trans (v33_read x0 x1 x2 x3 x4 x5 x6 x7 x8 x9 b p h 0 d)

theorem v38_read (b : Fin 8) (p : Fin 2048) (h : Fin 8) (d : Fin 128) : val_main_v38 (F := Ideal) x0 x1 x2 x3 x4 x5 x6 x7 x8 x9 (ix4 b p h d) = ∑ k, normA x0 x1 x2 x3 x4 x5 x6 x7 x8 b p k * x9 (ix2 k ⟨128 * (2 * h.val + 1) + d.val, by omega⟩) := by
  rw [val_main_v38_apply, val_main_v37_apply, show idx_main_v38 (ix4 b p h d) = ix5 b p h 0 d from idx35 b p h d]
  exact (congrArg (val_main_v33 (F := Ideal) x0 x1 x2 x3 x4 x5 x6 x7 x8 x9) (eq_ix5 _)).trans (v33_read x0 x1 x2 x3 x4 x5 x6 x7 x8 x9 b p h 1 d)

theorem v36_read (b : Fin 8) (p : Fin 2048) (h : Fin 8) (n : Fin 128) : val_main_v36 (F := Ideal) x0 x1 x2 x3 x4 x5 x6 x7 x8 x9 x10 (ix4 b p h n) = scoreA x0 x1 x2 x3 x4 x5 x6 x7 x8 x9 x10 x11 ⟨2 * h.val, by omega⟩ n b p := by
  rw [val_main_v36_apply]
  have e0 : ∀ l, lidx_main_v36 (ix4 b p h n) l = ix4 b p h l := fun l => eq_ix4 _
  have e1 : ∀ l, ridx_main_v36 (ix4 b p h n) l = ix2 n l := fun l => eq_ix2 _
  simp only [e0, e1, v35_read]
  unfold scoreA score
  refine Finset.sum_congr rfl fun d _ => ?_
  rw [mul_comm]
  exact congrArg (· * _) (if_pos (by show 2 * h.val % 2 = 0; omega)).symm

theorem v39_read (b : Fin 8) (p : Fin 2048) (h : Fin 8) (n : Fin 128) : val_main_v39 (F := Ideal) x0 x1 x2 x3 x4 x5 x6 x7 x8 x9 x11 (ix4 b p h n) = scoreA x0 x1 x2 x3 x4 x5 x6 x7 x8 x9 x10 x11 ⟨2 * h.val + 1, by omega⟩ n b p := by
  rw [val_main_v39_apply]
  have e0 : ∀ l, lidx_main_v39 (ix4 b p h n) l = ix4 b p h l := fun l => eq_ix4 _
  have e1 : ∀ l, ridx_main_v39 (ix4 b p h n) l = ix2 n l := fun l => eq_ix2 _
  simp only [e0, e1, v38_read]
  unfold scoreA score
  refine Finset.sum_congr rfl fun d _ => ?_
  rw [mul_comm]
  exact congrArg (· * _) (if_neg (by show ¬ (2 * h.val + 1) % 2 = 0; omega)).symm

theorem scoreA_congr {r r' : Fin 16} {n n' : Fin 128} {b b' : Fin 8} {p p' : Fin 2048} (hr : r.val = r'.val) (hn : n.val = n'.val) (hb : b.val = b'.val) (hp : p.val = p'.val) :
    scoreA x0 x1 x2 x3 x4 x5 x6 x7 x8 x9 x10 x11 r n b p = scoreA x0 x1 x2 x3 x4 x5 x6 x7 x8 x9 x10 x11 r' n' b' p' := by
  obtain rfl := Fin.ext hr; obtain rfl := Fin.ext hn; obtain rfl := Fin.ext hb; obtain rfl := Fin.ext hp; rfl

/-- The two tables' scores, interleaved. -/
theorem v42_read (b : Fin 8) (p : Fin 2048) (h : Fin 8) (s : Fin 2) (n : Fin 128) : val_main_v42 (F := Ideal) x0 x1 x2 x3 x4 x5 x6 x7 x8 x9 x10 x11 (ix5 b p h s n) = scoreA x0 x1 x2 x3 x4 x5 x6 x7 x8 x9 x10 x11 ⟨2 * h.val + s.val, by omega⟩ n b p := by
  have r0 : ∀ z, val_main_v40 (F := Ideal) x0 x1 x2 x3 x4 x5 x6 x7 x8 x9 x10 (ix5 b p h z n) = scoreA x0 x1 x2 x3 x4 x5 x6 x7 x8 x9 x10 x11 ⟨2 * h.val, by omega⟩ n b p := fun z => by
    rw [val_main_v40_apply, show idx_main_v40 (ix5 b p h z n) = ix4 b p h n from eq_ix4 _]; exact v36_read x0 x1 x2 x3 x4 x5 x6 x7 x8 x9 x10 x11 b p h n
  have r1 : ∀ z, val_main_v41 (F := Ideal) x0 x1 x2 x3 x4 x5 x6 x7 x8 x9 x11 (ix5 b p h z n) = scoreA x0 x1 x2 x3 x4 x5 x6 x7 x8 x9 x10 x11 ⟨2 * h.val + 1, by omega⟩ n b p := fun z => by
    rw [val_main_v41_apply, show idx_main_v41 (ix5 b p h z n) = ix4 b p h n from eq_ix4 _]; exact v39_read x0 x1 x2 x3 x4 x5 x6 x7 x8 x9 x10 x11 b p h n
  unfold val_main_v42
  generalize val_main_v40 (F := Ideal) x0 x1 x2 x3 x4 x5 x6 x7 x8 x9 x10 = y0 at *
  generalize val_main_v41 (F := Ideal) x0 x1 x2 x3 x4 x5 x6 x7 x8 x9 x11 = y1 at *
  pointwise
  by_cases hs : s.val < 1
  · refine (dif_pos hs).trans ((r0 _).trans ?_)
    exact scoreA_congr x0 x1 x2 x3 x4 x5 x6 x7 x8 x9 x10 x11 (by show 2 * h.val = 2 * h.val + s.val; omega) rfl rfl rfl
  · refine (dif_neg hs).trans ((r1 _).trans ?_)
    exact scoreA_congr x0 x1 x2 x3 x4 x5 x6 x7 x8 x9 x10 x11 (by have := s.isLt; show 2 * h.val + 1 = 2 * h.val + s.val; omega) rfl rfl rfl

/-- The three results. -/
theorem result0 (R : Fin 16384) (j : Fin 1024) : val_main_v44 (F := Ideal) x0 x1 x2 x3 x4 x5 x6 x7 (ix2 R j) = streamA x0 x1 x2 x3 x4 x5 x6 x7 ⟨R.val / 2048, by omega⟩ ⟨R.val % 2048, by omega⟩ j := by
  rw [val_main_v44_apply, ← v18_read]
  congr 1
  refine (eq_ix3 _).trans ?_
  have hR := R.isLt; have hj := j.isLt
  congr 1 <;> apply Fin.ext
  · show (R.val * 1024 + j.val) / 2097152 = R.val / 2048; omega
  · show (R.val * 1024 + j.val) / 1024 % 2048 = R.val % 2048; omega
  · show (R.val * 1024 + j.val) % 1024 = j.val; omega

theorem result1 (R : Fin 16384) (j : Fin 1024) : val_main_v47 (F := Ideal) x0 x1 x2 x3 x4 x5 x6 x7 x8 (ix2 j R) = normA x0 x1 x2 x3 x4 x5 x6 x7 x8 ⟨R.val / 2048, by omega⟩ ⟨R.val % 2048, by omega⟩ j := by
  rw [val_main_v47_apply, val_main_v46_apply, val_main_v45_apply, ← v31_read]
  show val_main_v31 (F := Ideal) x0 x1 x2 x3 x4 x5 x6 x7 x8 _ = _
  congr 1
  refine (eq_ix3 _).trans ?_
  have hR := R.isLt; have hj := j.isLt
  congr 1 <;> apply Fin.ext
  · show (R.val * 1024 + j.val) / 2097152 = R.val / 2048; omega
  · show (R.val * 1024 + j.val) / 1024 % 2048 = R.val % 2048; omega
  · show (R.val * 1024 + j.val) % 1024 = j.val; omega

theorem result2 (r : Fin 16) (n : Fin 128) (R : Fin 16384) : val_main_v48 (F := Ideal) x0 x1 x2 x3 x4 x5 x6 x7 x8 x9 x10 x11 (ix3 r n R) = scoreA x0 x1 x2 x3 x4 x5 x6 x7 x8 x9 x10 x11 r n ⟨R.val / 2048, by omega⟩ ⟨R.val % 2048, by omega⟩ := by
  have hR := R.isLt; have hr := r.isLt; have hn := n.isLt
  rw [val_main_v48_apply, val_main_v43_apply]
  refine (congrArg (val_main_v42 (F := Ideal) x0 x1 x2 x3 x4 x5 x6 x7 x8 x9 x10 x11) (eq_ix5 _)).trans ((v42_read x0 x1 x2 x3 x4 x5 x6 x7 x8 x9 x10 x11 _ _ _ _ _).trans ?_)
  refine scoreA_congr x0 x1 x2 x3 x4 x5 x6 x7 x8 x9 x10 x11 ?_ ?_ ?_ ?_
  · show 2 * (((R.val * 16 + r.val) * 128 + n.val) / 256 % 8) + ((R.val * 16 + r.val) * 128 + n.val) / 128 % 2 = r.val; omega
  · show ((R.val * 16 + r.val) * 128 + n.val) % 128 = n.val; omega
  · show ((R.val * 16 + r.val) * 128 + n.val) / 4194304 = R.val / 2048; omega
  · show ((R.val * 16 + r.val) * 128 + n.val) / 2048 % 2048 = R.val % 2048; omega

end Cert.Reference2Ideal.RefValue

end
-- ==== Proof.Mix.Algebraic.lean ====
module

public import proofs.«01_k».proof.Defs
public import proofs.«01_k».proof.Proof.Mix.Text
public import proofs.«01_k».proof.Proof.Mix.Result
public import proofs.«01_k».proof.Proof.Mix.RefValue

/-!
Mixing call and mixing reference end with the same three arrays.
-/

@[expose] public section

set_option maxRecDepth 16384

noncomputable section

namespace Cert.Mix

open Idealize.ShloMosaic Idealize.ShloMosaic.TcCoe Idealize.ShloMosaic.Pointwise Idealize.SL.Sem

theorem frame_ideal : Cert.quiescent_Kernel2Ideal := fun m g _ => Cert.Kernel2Ideal.Gen.frame (F := Ideal) m g

theorem frame_reference : Cert.quiescent_Reference2Ideal := fun m g _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m g)

theorem algebraic : Cert.algebraic_Kernel2Ideal_Reference2Ideal := fun m g m' g' _ hagree =>
  ⟨fun c => Cert.Kernel2Ideal.Result.res0 m c, fun c => Cert.Kernel2Ideal.Result.res1 m c, fun c => Cert.Kernel2Ideal.Result.res2 m c, Cert.Kernel2Ideal.Result.run m g,
    (θ_run Cert.Reference2Ideal.defs _ _).mono (fun r h c => ⟨(h c).1.trans (by
      obtain ⟨e0, e1, e2, e3, e4, e5, e6, e7, e8, e9, e10, e11⟩ := hagree c
      rw [Cert.Reference2Ideal.Read.val_main_v44_eq, e0, e1, e2, e3, e4, e5, e6, e7]
      funext i
      obtain ⟨R, j, rfl⟩ : ∃ (R : Fin 16384) (j : Fin 1024), i = ix2 R j := ⟨i 0, i 1, eq_ix2 i⟩
      exact Cert.Reference2Ideal.RefValue.result0 _ _ _ _ _ _ _ _ R j), (h c).2.1.trans (by
      obtain ⟨e0, e1, e2, e3, e4, e5, e6, e7, e8, e9, e10, e11⟩ := hagree c
      rw [Cert.Reference2Ideal.Read.val_main_v47_eq, e0, e1, e2, e3, e4, e5, e6, e7, e8]
      funext i
      obtain ⟨j, R, rfl⟩ : ∃ (j : Fin 1024) (R : Fin 16384), i = ix2 j R := ⟨i 0, i 1, eq_ix2 i⟩
      exact Cert.Reference2Ideal.RefValue.result1 _ _ _ _ _ _ _ _ _ R j), (h c).2.2.1.trans (by
      obtain ⟨e0, e1, e2, e3, e4, e5, e6, e7, e8, e9, e10, e11⟩ := hagree c
      rw [Cert.Reference2Ideal.Read.val_main_v48_eq, e0, e1, e2, e3, e4, e5, e6, e7, e8, e9, e10, e11]
      funext i
      obtain ⟨a, n, R, rfl⟩ : ∃ (a : Fin 16) (n : Fin 128) (R : Fin 16384), i = ix3 a n R := ⟨i 0, i 1, i 2, eq_ix3 i⟩
      exact Cert.Reference2Ideal.RefValue.result2 _ _ _ _ _ _ _ _ _ _ _ _ a n R), (h c).2.2.2⟩)
      (Cert.Reference2Ideal.Value.run (F := Ideal) m' g')⟩

end Cert.Mix

end
-- ==== Proof.Proj.Frame.lean ====
module

public import proofs.«01_k».proof.Defs
public import proofs.«01_k».proof.Proof.Gen.Kernel3.Frame

/-!
The printed projection call runs and keeps its arguments.
-/

@[expose] public section

namespace Cert.Proj
open Idealize.ShloMosaic Idealize.SL.Sem

theorem frame_printed : Cert.quiescent_Kernel3 := fun m g _ => Cert.Kernel3.Gen.frame m g

end Cert.Proj
-- ==== Proof.Proj.Spec.lean ====
module

public import Idealize.ShloMosaic.PureOps.Ideal
public import Idealize.ShloMosaic.Lib.Pointwise

/-!
What the projection call computes of one token's row, over the extended reals: the norm, the columns of the
projection, the gates, the low-rank queries and keys with their rotary part.
-/

@[expose] public section

noncomputable section

namespace Cert.Proj

open Idealize.ShloMosaic

/-- The logistic function of a gate's logit. -/
def gate (x : EReal) : EReal := Ideal.logistic x

/-- The root-mean-square norm of `h` with the gains `g`; `c` is the number of its entries. -/
def nrm {n : ℕ} (c : EReal) (h g : Fin n → EReal) (j : Fin n) : EReal :=
  h j * Ideal.rsqrt (Ideal.div (∑ k, h k * h k) c + Ideal.ofBits FTy.f32 0x358637BD#32) * g j

/-- The product of a row and a column. -/
def dot {n : ℕ} (v w : Fin n → EReal) : EReal := ∑ k, v k * w k

/-- The numbers of entries of the three norms. -/
abbrev c1024 : EReal := Ideal.ofBits FTy.f32 0x44800000#32
abbrev c256 : EReal := Ideal.ofBits FTy.f32 0x43800000#32
abbrev c128 : EReal := Ideal.ofBits FTy.f32 0x43000000#32

end Cert.Proj

end
-- ==== Proof.Proj.Reads.lean ====
module

public import proofs.«01_k».proof.Proof.Proj.Spec
public import proofs.«01_k».proof.Proof.Gen.Kernel3Ideal.Skeleton
public import Idealize.ShloMosaic.Lib.Pointwise
public import Idealize.ShloMosaic.Lib.WholeRead
public import Idealize.ShloMosaic.Lib.Pipeline.ValueKit.Geometry

/-!
The projection kernel's vector expressions over the extended reals, read at an index of a half block.
-/

@[expose] public section

set_option maxRecDepth 16384

noncomputable section

namespace Cert.Kernel3Ideal.Reads

open Cert.Kernel3Ideal Cert.Kernel3Ideal.Gen Cert.Proj
open Idealize.ShloMosaic Idealize.ShloMosaic.TcCoe Idealize.ShloMosaic.Pointwise

/-- The norm of the input. -/
theorem pay4_read (v : Vec Ideal S256x1024 .f32) (g : Vec Ideal S1x1024 .f32) (i : Fin 256) (j : Fin 1024) :
    k0_pay4 v g (ix2 i j) = nrm c1024 (fun k => v (ix2 i k)) (fun k => g (ix2 0 k)) j := by
  pointwise [k0_pay4, nrm]

/-- 128 columns of the projection. -/
theorem pay28_read (v : FVec Ideal S256x1024 .bf16) (w : Vec Ideal S1024x128 .bf16) (i : Fin 256) (j : Fin 128) :
    k0_pay28 v w (ix2 i j) = dot (fun k => v (ix2 i k)) fun k => w (ix2 k j) := by
  pointwise [k0_pay28, dot]

/-- 128 columns of the queries. -/
theorem pay10_read (v : FVec Ideal S256x1024 .bf16) (w : Vec Ideal S1024x128 .bf16) (q : Vec Ideal S1x128 .f32) (i : Fin 256) (j : Fin 128) :
    k0_pay10 v w q (ix2 i j) = (dot (fun k => v (ix2 i k)) fun k => w (ix2 k j)) + q (ix2 0 j) := by
  pointwise [k0_pay10, dot]

/-- 128 columns of the keys. -/
theorem pay42_read (v : FVec Ideal S256x1024 .bf16) (a : FVec Ideal S256x128 .f32) (w : Vec Ideal S1024x128 .bf16) (i : Fin 256) (j : Fin 128) :
    k0_pay42 v a w (ix2 i j) = (dot (fun k => v (ix2 i k)) fun k => w (ix2 k j)) + a (ix2 i j) := by
  pointwise [k0_pay42, dot]

/-- A group's values, turned. -/
theorem pay54_read (v : FVec Ideal S256x1024 .bf16) (w : Vec Ideal S256x1024 .bf16) (l : Fin 128) (i : Fin 256) :
    k0_pay54 v w (ix3 0 l i) = dot (fun k => w (ix2 ⟨l.val, by omega⟩ k)) fun k => v (ix2 i k) := by
  pointwise [k0_pay54, k0_pay52, dot]

theorem pay56_read (v : FVec Ideal S256x1024 .bf16) (w : Vec Ideal S256x1024 .bf16) (l : Fin 128) (i : Fin 256) :
    k0_pay56 v w (ix3 0 l i) = dot (fun k => w (ix2 ⟨128 + l.val, by omega⟩ k)) fun k => v (ix2 i k) := by
  pointwise [k0_pay56, k0_pay52, dot]

/-- The rows of ones below a group's values. -/
theorem pay55_read (l : Fin 16) (i : Fin 256) : k0_pay55 (F := Ideal) (ix3 0 l i) = Ideal.ofBits FTy.bf16 0x3F80#16 := by
  pointwise [k0_pay55]

/-- The gates, spread over the lanes of their heads. -/
theorem pay83_read (v : FVec Ideal S256x1024 .bf16) (w : Vec Ideal S1024x128 .bf16) (e : Vec Ideal S128x512 .bf16) (i : Fin 256) (j : Fin 512) :
    k0_pay83 v (k0_pay74 w) e (ix2 i j) = (∑ l : Fin 128, gate (dot (fun k => v (ix2 i k)) fun k => w (ix2 k l)) * e (ix2 l j))
      + ∑ l : Fin 128, (gate (dot (fun k => v (ix2 i k)) fun k => w (ix2 k l)) - gate (dot (fun k => v (ix2 i k)) fun k => w (ix2 k l))) * e (ix2 l j) := by
  pointwise [k0_pay83, k0_pay81, k0_pay80, k0_pay78, k0_pay76, k0_pay74, dot, gate]

/-- 512 columns of the output gates. -/
theorem pay90_read (v : FVec Ideal S256x1024 .bf16) (w : Vec Ideal S1024x512 .bf16) (i : Fin 256) (j : Fin 512) :
    k0_pay90 v w (ix2 i j) = gate (dot (fun k => v (ix2 i k)) fun k => w (ix2 k j)) := by
  pointwise [k0_pay90, dot, gate]

/-- The rotary factors. -/
theorem pay101_read (p : Vec Ideal S256x1 .i32) (f : Vec Ideal S1x128 .f32) (i : Fin 256) (j : Fin 128) :
    k0_pay101 p f (ix2 i j) = Ideal.cos ((FloatOps.sitofp FTy.f32 (p (ix2 i 0)) : Ideal .f32) * f (ix2 0 j)) := by
  pointwise [k0_pay101, k0_pay99]

theorem pay103_read (p : Vec Ideal S256x1 .i32) (f : Vec Ideal S1x128 .f32) (i : Fin 256) (j : Fin 128) :
    k0_pay103 p f (ix2 i j) = Ideal.sin ((FloatOps.sitofp FTy.f32 (p (ix2 i 0)) : Ideal .f32) * f (ix2 0 j)) := by
  pointwise [k0_pay103, k0_pay99]

/-- The norms of the two low-rank codes. -/
theorem pay105_read (v : FVec Ideal S256x1024 .bf16) (w : Vec Ideal S1024x256 .bf16) (g : Vec Ideal S1x256 .f32) (i : Fin 256) (j : Fin 256) :
    k0_pay105 v w g (ix2 i j) = nrm c256 (fun l => dot (fun k => v (ix2 i k)) fun k => w (ix2 k l)) (fun l => g (ix2 0 l)) j := by
  pointwise [k0_pay105, dot, nrm]

theorem pay109_read (v : FVec Ideal S256x1024 .bf16) (w : Vec Ideal S1024x128 .bf16) (g : Vec Ideal S1x128 .f32) (i : Fin 256) (j : Fin 128) :
    k0_pay109 v w g (ix2 i j) = nrm c128 (fun l => dot (fun k => v (ix2 i k)) fun k => w (ix2 k l)) (fun l => g (ix2 0 l)) j := by
  pointwise [k0_pay109, dot, nrm]

/-- The turned part of the keys. -/
theorem pay111_read (v : FVec Ideal S256x1024 .bf16) (c s : FVec Ideal S256x128 .f32) (w u : Vec Ideal S1024x128 .bf16) (i : Fin 256) (j : Fin 128) :
    k0_pay111 v c s w u (ix2 i j) = (dot (fun k => v (ix2 i k)) fun k => w (ix2 k j)) * c (ix2 i j) + (dot (fun k => v (ix2 i k)) fun k => u (ix2 k j)) * s (ix2 i j) := by
  pointwise [k0_pay111, dot]

/-- A head's queries. -/
theorem pay113_read (c s : FVec Ideal S256x128 .f32) (v : FVec Ideal S256x256 .bf16) (w u : Vec Ideal S256x128 .bf16) (i : Fin 256) (j : Fin 128) :
    k0_pay113 c s v w u (ix2 i j) = ((dot (fun k => v (ix2 i k)) fun k => w (ix2 k j)) * c (ix2 i j) + (dot (fun k => v (ix2 i k)) fun k => u (ix2 k j)) * s (ix2 i j))
      * (((Real.sqrt 96)⁻¹ * (Real.log 2)⁻¹ : ℝ) : EReal) := by
  pointwise [k0_pay113, dot]
  rfl

/-- A head's keys. -/
theorem pay118_read (v : FVec Ideal S256x128 .bf16) (p : FVec Ideal S256x128 .f32) (w : Vec Ideal S128x128 .bf16) (i : Fin 256) (j : Fin 128) :
    k0_pay118 v p w (ix2 i j) = (dot (fun k => v (ix2 i k)) fun k => w (ix2 k j)) + p (ix2 i j) := by
  pointwise [k0_pay118, dot]

/-- The heads' values, turned. -/
theorem pay153_read (v : FVec Ideal S256x128 .bf16) (w : Vec Ideal S512x128 .bf16) (l : Fin 128) (i : Fin 256) :
    k0_pay153 (k0_pay151 v w) (ix3 0 l i) = dot (fun k => w (ix2 ⟨l.val, by omega⟩ k)) fun k => v (ix2 i k) := by
  pointwise [k0_pay153, k0_pay151, dot]

theorem pay155_read (v : FVec Ideal S256x128 .bf16) (w : Vec Ideal S512x128 .bf16) (l : Fin 128) (i : Fin 256) :
    k0_pay155 (k0_pay151 v w) (ix3 0 l i) = dot (fun k => w (ix2 ⟨128 + l.val, by omega⟩ k)) fun k => v (ix2 i k) := by
  pointwise [k0_pay155, k0_pay151, dot]

theorem pay157_read (v : FVec Ideal S256x128 .bf16) (w : Vec Ideal S512x128 .bf16) (l : Fin 128) (i : Fin 256) :
    k0_pay157 (k0_pay151 v w) (ix3 0 l i) = dot (fun k => w (ix2 ⟨256 + l.val, by omega⟩ k)) fun k => v (ix2 i k) := by
  pointwise [k0_pay157, k0_pay151, dot]

theorem pay160_read (v : FVec Ideal S256x128 .bf16) (w : Vec Ideal S512x128 .bf16) (l : Fin 128) (i : Fin 256) :
    k0_pay160 (k0_pay159 (k0_pay151 v w)) (ix3 0 l i) = dot (fun k => w (ix2 ⟨384 + l.val, by omega⟩ k)) fun k => v (ix2 i k) := by
  pointwise [k0_pay160, k0_pay159, k0_pay151, dot]

end Cert.Kernel3Ideal.Reads

end
-- ==== Proof.Proj.Blocks.lean ====
module

public import proofs.«01_k».proof.Proof.Proj.Reads
public import proofs.«01_k».proof.Proof.Gen.Kernel3Ideal.Frame

/-!
What the projection kernel leaves in its thirteen output blocks, as functions of its input blocks.
-/

@[expose] public section

set_option maxRecDepth 16384

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

/-- A load of a rectangle of a matrix. -/
theorem ld2 {a b n k : ℕ} {φ : EltTy} {arg : Memref sig .tc .vmem ⟨2, ![a, b]⟩ φ} (h : arg.IsWhole) (x : Vec Ideal ⟨2, ![a, b]⟩ φ) (o p : ℕ)
    (inb : ∀ d, (![o, p] : Fin 2 → ℕ) d + (⟨2, ![n, k]⟩ : Shape).size d ≤ (⟨2, ![a, b]⟩ : Shape).size d)
    (i : Fin n) (j : Fin k) (hi : o + i.val < a) (hj : p + j.val < b) :
    View.readAt (Elt Ideal) arg.view (Rect.unit (s := ⟨2, ![a, b]⟩) ![o, p] (⟨2, ![n, k]⟩ : Shape).size inb).toLoadRect (h.unread x) (ix2 i j) = x (ix2 ⟨o + i.val, hi⟩ ⟨p + j.val, hj⟩) := by
  refine (h.readAt_unread x _ _).trans ?_
  congr 1; funext d; apply Fin.ext
  refine (ValueKit.rect_emb_unit_val _ _ _ _ _).trans ?_
  match d with
  | ⟨0, _⟩ => rfl
  | ⟨1, _⟩ => rfl

/-- A load that begins at row 0. -/
theorem ldc {a b k : ℕ} {φ : EltTy} {arg : Memref sig .tc .vmem ⟨2, ![a, b]⟩ φ} (h : arg.IsWhole) (x : Vec Ideal ⟨2, ![a, b]⟩ φ) (p : ℕ) (inb)
    (i : Fin a) (j : Fin k) (hj : p + j.val < b) :
    View.readAt (Elt Ideal) arg.view (Rect.unit (s := ⟨2, ![a, b]⟩) ![0, p] (⟨2, ![a, k]⟩ : Shape).size inb).toLoadRect (h.unread x) (ix2 i j) = x (ix2 i ⟨p + j.val, hj⟩) :=
  (ld2 h x 0 p inb i j (by omega) hj).trans (congrArg (fun z => x (ix2 z _)) (Fin.ext (Nat.zero_add _)))

/-- A load that begins at column 0. -/
theorem ldr {a b n : ℕ} {φ : EltTy} {arg : Memref sig .tc .vmem ⟨2, ![a, b]⟩ φ} (h : arg.IsWhole) (x : Vec Ideal ⟨2, ![a, b]⟩ φ) (o : ℕ) (inb)
    (i : Fin n) (j : Fin b) (hi : o + i.val < a) :
    View.readAt (Elt Ideal) arg.view (Rect.unit (s := ⟨2, ![a, b]⟩) ![o, 0] (⟨2, ![n, b]⟩ : Shape).size inb).toLoadRect (h.unread x) (ix2 i j) = x (ix2 ⟨o + i.val, hi⟩ j) :=
  (ld2 h x o 0 inb i j hi (by omega)).trans (congrArg (fun z => x (ix2 _ z)) (Fin.ext (Nat.zero_add _)))

/-- A load of all of it. -/
theorem lda {a b : ℕ} {φ : EltTy} {arg : Memref sig .tc .vmem ⟨2, ![a, b]⟩ φ} (h : arg.IsWhole) (x : Vec Ideal ⟨2, ![a, b]⟩ φ) (inb) (i : Fin a) (j : Fin b) :
    View.readAt (Elt Ideal) arg.view (Rect.unit (s := ⟨2, ![a, b]⟩) ![0, 0] (⟨2, ![a, b]⟩ : Shape).size inb).toLoadRect (h.unread x) (ix2 i j) = x (ix2 i j) :=
  (ldr h x 0 inb i j (by omega)).trans (congrArg (fun z => x (ix2 z _)) (Fin.ext (Nat.zero_add _)))

/-- A piece of a matrix that begins at `(o, p)`, against what the matrix should hold. -/
theorem piece2 {a b n k : ℕ} (o p : ℕ) (ho : o + n ≤ a) (hp : p + k ≤ b) (inb) (G : Fin a → Fin b → EReal) (v : (⟨2, ![n, k]⟩ : Shape).Idx → EReal)
    (h : ∀ i j, v (ix2 i j) = G ⟨o + i.val, by omega⟩ ⟨p + j.val, by omega⟩) (x : (⟨2, ![n, k]⟩ : Shape).Idx) :
    v x = G ((Rect.unit (s := ⟨2, ![a, b]⟩) ![o, p] (⟨2, ![n, k]⟩ : Shape).size inb).emb x 0) ((Rect.unit (s := ⟨2, ![a, b]⟩) ![o, p] (⟨2, ![n, k]⟩ : Shape).size inb).emb x 1) := by
  obtain ⟨i, j, rfl⟩ : ∃ (i : Fin n) (j : Fin k), x = ix2 i j := ⟨x 0, x 1, eq_ix2 x⟩
  refine (h i j).trans ?_
  have e : (Rect.unit (s := ⟨2, ![a, b]⟩) ![o, p] (⟨2, ![n, k]⟩ : Shape).size inb).emb (ix2 i j) = ix2 ⟨o + i.val, by omega⟩ ⟨p + j.val, by omega⟩ := by
    funext d; apply Fin.ext
    refine (ValueKit.rect_emb_unit_val _ _ _ _ _).trans ?_
    match d with
    | ⟨0, _⟩ => rfl
    | ⟨1, _⟩ => rfl
  rw [e]
  rfl

/-- A piece of one of the two leading parts. -/
theorem piece3 {b n : ℕ} (s p : ℕ) (hs : s < 2) (hp : p + n ≤ b) (inb) (G : Fin 2 → Fin b → Fin 256 → EReal) (v : (⟨3, ![1, n, 256]⟩ : Shape).Idx → EReal)
    (h : ∀ l i, v (ix3 0 l i) = G ⟨s, hs⟩ ⟨p + l.val, by omega⟩ i) (x : (⟨3, ![1, n, 256]⟩ : Shape).Idx) :
    v x = G ((Rect.unit (s := ⟨3, ![2, b, 256]⟩) ![s, p, 0] (⟨3, ![1, n, 256]⟩ : Shape).size inb).emb x 0) ((Rect.unit (s := ⟨3, ![2, b, 256]⟩) ![s, p, 0] (⟨3, ![1, n, 256]⟩ : Shape).size inb).emb x 1) ((Rect.unit (s := ⟨3, ![2, b, 256]⟩) ![s, p, 0] (⟨3, ![1, n, 256]⟩ : Shape).size inb).emb x 2) := by
  obtain ⟨z, l, i, rfl⟩ : ∃ (z : Fin 1) (l : Fin n) (i : Fin 256), x = ix3 z l i := ⟨x 0, x 1, x 2, eq_ix3 x⟩
  obtain rfl : z = 0 := Subsingleton.elim _ _
  refine (h l i).trans ?_
  have e : (Rect.unit (s := ⟨3, ![2, b, 256]⟩) ![s, p, 0] (⟨3, ![1, n, 256]⟩ : Shape).size inb).emb (ix3 0 l i) = ix3 ⟨s, hs⟩ ⟨p + l.val, by omega⟩ i := by
    funext d; apply Fin.ext
    refine (ValueKit.rect_emb_unit_val _ _ _ _ _).trans ?_
    match d with
    | ⟨0, _⟩ => rfl
    | ⟨1, _⟩ => rfl
    | ⟨2, _⟩ => exact Nat.zero_add _
  rw [e]
  rfl

section Rows

variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

/-- The norm of row `R` of the block. -/
def XN (R : Fin 512) : Fin 1024 → EReal := nrm c1024 (fun k => x0 (ix2 R k)) fun k => x2 (ix2 0 k)

/-- Its projection's column `c`. -/
def P (R : Fin 512) (c : Fin 4608) : EReal := dot (XN x0 x2 R) fun k => x3 (ix2 k c)

/-- The rotary factors of lane `l`. -/
def Co (R : Fin 512) (l : Fin 128) : EReal := Ideal.cos ((FloatOps.sitofp FTy.f32 (x1 (ix2 R 0)) : Ideal .f32) * x11 (ix2 0 l))
def Si (R : Fin 512) (l : Fin 128) : EReal := Ideal.sin ((FloatOps.sitofp FTy.f32 (x1 (ix2 R 0)) : Ideal .f32) * x11 (ix2 0 l))

/-- The norms of the low-rank codes. -/
def CQ (R : Fin 512) : Fin 256 → EReal := nrm c256 (fun l => P x0 x2 x3 R ⟨1920 + l.val, by omega⟩) fun l => x5 (ix2 0 l)
def CKV (R : Fin 512) : Fin 128 → EReal := nrm c128 (fun l => P x0 x2 x3 R ⟨2176 + l.val, by omega⟩) fun l => x6 (ix2 0 l)

/-- The turned part of the keys. -/
def KPE (R : Fin 512) (l : Fin 128) : EReal := P x0 x2 x3 R ⟨2304 + l.val, by omega⟩ * Co x1 x11 R l + P x0 x2 x3 R ⟨2432 + l.val, by omega⟩ * Si x1 x11 R l

/-- The gate of a head's lane. -/
def Gt (R : Fin 512) (l : Fin 128) : EReal := gate (P x0 x2 x3 R ⟨1792 + l.val, by omega⟩)

/-- The lanes that carry positions, in the two kinds of keys; `pid` is the grid point. -/
def selAug (pid : BitVec 32) (R : Fin 512) (l : Fin 128) : EReal :=
  if h : R.val < 256 then k0_pay37 (F := Ideal) pid (ix2 ⟨R.val, h⟩ l)
  else k0_pay41 (F := Ideal) (iota .tc S256x128 32 [1] iota_S256x128_d1_w32) k0_pay33 (k0_pay38 pid) 6#32 (ix2 ⟨R.val - 256, by omega⟩ l)
def posAug (pid : BitVec 32) (R : Fin 512) (l : Fin 128) : EReal :=
  if h : R.val < 256 then k0_pay36 (F := Ideal) pid (ix2 ⟨R.val, h⟩ l)
  else k0_pay40 (F := Ideal) (iota .tc S256x128 32 [1] iota_S256x128_d1_w32) k0_pay33 (k0_pay38 pid) 6#32 (ix2 ⟨R.val - 256, by omega⟩ l)

/-- The thirteen blocks. -/
def O14 (R : Fin 512) (c : Fin 1024) : EReal := P x0 x2 x3 R ⟨c.val, by omega⟩ + x12 (ix2 0 c)
def O15 (R : Fin 512) (c : Fin 128) : EReal := P x0 x2 x3 R ⟨1024 + c.val, by omega⟩
def O16 (R : Fin 512) (c : Fin 128) : EReal := P x0 x2 x3 R ⟨1152 + c.val, by omega⟩
def O17 (pid : BitVec 32) (R : Fin 512) (c : Fin 256) : EReal := P x0 x2 x3 R ⟨1280 + c.val, by omega⟩ + selAug pid R ⟨c.val % 128, by omega⟩
def O19 (pid : BitVec 32) (R : Fin 512) (c : Fin 256) : EReal := P x0 x2 x3 R ⟨1536 + c.val, by omega⟩ + posAug pid R ⟨c.val % 128, by omega⟩
def O18 (s : Fin 2) (r : Fin 288) (i : Fin 256) : EReal :=
  if h : r.val % 144 < 128 then dot (fun k => x4 (ix2 ⟨128 * (r.val / 144) + r.val % 144, by omega⟩ k)) (XN x0 x2 ⟨256 * s.val + i.val, by omega⟩) else Ideal.ofBits FTy.bf16 0x3F80#16
def O20 (s : Fin 2) (r : Fin 288) (i : Fin 256) : EReal :=
  if h : r.val % 144 < 128 then dot (fun k => x4 (ix2 ⟨256 + (128 * (r.val / 144) + r.val % 144), by omega⟩ k)) (XN x0 x2 ⟨256 * s.val + i.val, by omega⟩) else Ideal.ofBits FTy.bf16 0x3F80#16
def O21 (R : Fin 512) (c : Fin 1536) : EReal :=
  (∑ l : Fin 128, Gt x0 x2 x3 R l * x13 (ix2 l c)) + ∑ l : Fin 128, (Gt x0 x2 x3 R l - Gt x0 x2 x3 R l) * x13 (ix2 l c)
def O22 (R : Fin 512) (c : Fin 1024) : EReal :=
  (dot (CQ x0 x2 x3 x5 R) (fun k => x7 (ix2 k c)) * Co x1 x11 R ⟨c.val % 128, by omega⟩ + dot (CQ x0 x2 x3 x5 R) (fun k => x8 (ix2 k c)) * Si x1 x11 R ⟨c.val % 128, by omega⟩)
    * (((Real.sqrt 96)⁻¹ * (Real.log 2)⁻¹ : ℝ) : EReal)
def O23 (R : Fin 512) (c : Fin 1024) : EReal := dot (CKV x0 x2 x3 x6 R) (fun k => x9 (ix2 k c)) + KPE x0 x1 x2 x3 x11 R ⟨c.val % 128, by omega⟩
def O24 (s : Fin 2) (r : Fin 576) (i : Fin 256) : EReal :=
  if h : r.val % 144 < 128 then dot (fun k => x10 (ix2 ⟨128 * (r.val / 144) + r.val % 144, by omega⟩ k)) (CKV x0 x2 x3 x6 ⟨256 * s.val + i.val, by omega⟩) else Ideal.ofBits FTy.bf16 0x3F80#16
def O25 (R : Fin 512) (c : Fin 1024) : EReal := gate (P x0 x2 x3 R ⟨2560 + c.val, by omega⟩)
def O26 (R : Fin 512) (c : Fin 1024) : EReal := gate (P x0 x2 x3 R ⟨3584 + c.val, by omega⟩)

theorem dot_congr {n : ℕ} {v v' w w' : Fin n → EReal} (hv : ∀ k, v k = v' k) (hw : ∀ k, w k = w' k) : dot v w = dot v' w' := by
  rw [funext hv, funext hw]

/-- The rows of a half block, the first one at `o`. -/
def row (o : ℕ) (ho : o ≤ 256) (i : Fin 256) : Fin 512 := ⟨o + i.val, by omega⟩

theorem nrm_congr {n : ℕ} (e : EReal) {v v' w w' : Fin n → EReal} (hv : ∀ k, v k = v' k) (hw : ∀ k, w k = w' k) (j : Fin n) : nrm e v w j = nrm e v' w' j := by
  rw [funext hv, funext hw]

section Half
variable {o : ℕ} {ho : o ≤ 256} {v : FVec Ideal S256x1024 .bf16} (hv : ∀ i k, v (ix2 i k) = XN x0 x2 (row o ho i) k)
include hv

theorem proj {w : Vec Ideal S1024x128 .bf16} (p : ℕ) (hp : p + 128 ≤ 4608) (hw : ∀ k j, w (ix2 k j) = x3 (ix2 k ⟨p + Fin.val j, by omega⟩)) (i : Fin 256) (j : Fin 128) :
    k0_pay28 v w (ix2 i j) = P x0 x2 x3 (row o ho i) ⟨p + j.val, by omega⟩ :=
  (pay28_read v w i j).trans (dot_congr (hv i) fun k => hw k j)

theorem colsA {w : Vec Ideal S1024x128 .bf16} (hw : ∀ k j, w (ix2 k j) = x3 (ix2 k ⟨1024 + Fin.val j, by omega⟩)) (i : Fin 256) (j : Fin 128) :
    k0_pay28 v w (ix2 i j) = O15 x0 x2 x3 (row o ho i) ⟨0 + j.val, by omega⟩ :=
  (proj x0 x2 x3 hv 1024 (by omega) hw i j).trans (congrArg (P x0 x2 x3 _) (Fin.ext (congrArg (1024 + ·) (Nat.zero_add _).symm)))

theorem colsB {w : Vec Ideal S1024x128 .bf16} (hw : ∀ k j, w (ix2 k j) = x3 (ix2 k ⟨1152 + Fin.val j, by omega⟩)) (i : Fin 256) (j : Fin 128) :
    k0_pay28 v w (ix2 i j) = O16 x0 x2 x3 (row o ho i) ⟨0 + j.val, by omega⟩ :=
  (proj x0 x2 x3 hv 1152 (by omega) hw i j).trans (congrArg (P x0 x2 x3 _) (Fin.ext (congrArg (1152 + ·) (Nat.zero_add _).symm)))

theorem query {w : Vec Ideal S1024x128 .bf16} {q : Vec Ideal S1x128 .f32} (p : ℕ) (hp : p + 128 ≤ 1024) (hw : ∀ k j, w (ix2 k j) = x3 (ix2 k ⟨p + Fin.val j, by omega⟩))
    (hq : ∀ j, q (ix2 0 j) = x12 (ix2 0 ⟨p + Fin.val j, by omega⟩)) (i : Fin 256) (j : Fin 128) :
    k0_pay10 v w q (ix2 i j) = O14 x0 x2 x3 x12 (row o ho i) ⟨p + j.val, by omega⟩ :=
  (pay10_read v w q i j).trans (congrArg₂ (· + ·) (dot_congr (hv i) fun k => hw k j) (hq j))

theorem selKey (pid : BitVec 32) {w : Vec Ideal S1024x128 .bf16} {a : FVec Ideal S256x128 .f32} (p : ℕ) (hp : p = 0 ∨ p = 128) (hw : ∀ k j, w (ix2 k j) = x3 (ix2 k ⟨1280 + p + Fin.val j, by omega⟩))
    (ha : ∀ i j, a (ix2 i j) = selAug pid (row o ho i) j) (i : Fin 256) (j : Fin 128) :
    k0_pay42 v a w (ix2 i j) = O17 x0 x2 x3 pid (row o ho i) ⟨p + j.val, by omega⟩ :=
  (pay42_read v a w i j).trans (congrArg₂ (· + ·) (dot_congr (hv i) fun k => (hw k j).trans (congrArg (fun z => x3 (ix2 k z)) (Fin.ext (Nat.add_assoc _ _ _))))
    ((ha i j).trans (congrArg (selAug pid _) (Fin.ext (by show j.val = (p + j.val) % 128; omega)))))

theorem posKey (pid : BitVec 32) {w : Vec Ideal S1024x128 .bf16} {a : FVec Ideal S256x128 .f32} (p : ℕ) (hp : p = 0 ∨ p = 128) (hw : ∀ k j, w (ix2 k j) = x3 (ix2 k ⟨1536 + p + Fin.val j, by omega⟩))
    (ha : ∀ i j, a (ix2 i j) = posAug pid (row o ho i) j) (i : Fin 256) (j : Fin 128) :
    k0_pay42 v a w (ix2 i j) = O19 x0 x2 x3 pid (row o ho i) ⟨p + j.val, by omega⟩ :=
  (pay42_read v a w i j).trans (congrArg₂ (· + ·) (dot_congr (hv i) fun k => (hw k j).trans (congrArg (fun z => x3 (ix2 k z)) (Fin.ext (Nat.add_assoc _ _ _))))
    ((ha i j).trans (congrArg (posAug pid _) (Fin.ext (by show j.val = (p + j.val) % 128; omega)))))

theorem gates {w : Vec Ideal S1024x128 .bf16} {e : Vec Ideal S128x512 .bf16} (p : ℕ) (hp : p + 512 ≤ 1536) (hw : ∀ k j, w (ix2 k j) = x3 (ix2 k ⟨1792 + Fin.val j, by omega⟩))
    (he : ∀ l j, e (ix2 l j) = x13 (ix2 l ⟨p + Fin.val j, by omega⟩)) (i : Fin 256) (j : Fin 512) :
    k0_pay83 v (k0_pay74 w) e (ix2 i j) = O21 x0 x2 x3 x13 (row o ho i) ⟨p + j.val, by omega⟩ := by
  rw [pay83_read]
  have hd : ∀ l, (dot (fun k => v (ix2 i k)) fun k => w (ix2 k l)) = P x0 x2 x3 (row o ho i) ⟨1792 + l.val, by omega⟩ := fun l => dot_congr (hv i) fun k => hw k l
  simp only [hd, he]
  rfl

theorem gate1 {w : Vec Ideal S1024x512 .bf16} (p : ℕ) (hp : p + 512 ≤ 1024) (hw : ∀ k j, w (ix2 k j) = x3 (ix2 k ⟨2560 + p + Fin.val j, by omega⟩)) (i : Fin 256) (j : Fin 512) :
    k0_pay90 v w (ix2 i j) = O25 x0 x2 x3 (row o ho i) ⟨p + j.val, by omega⟩ :=
  (pay90_read v w i j).trans (congrArg gate (dot_congr (hv i) fun k => (hw k j).trans (congrArg (fun z => x3 (ix2 k z)) (Fin.ext (Nat.add_assoc _ _ _)))))

theorem gate2 {w : Vec Ideal S1024x512 .bf16} (p : ℕ) (hp : p + 512 ≤ 1024) (hw : ∀ k j, w (ix2 k j) = x3 (ix2 k ⟨3584 + p + Fin.val j, by omega⟩)) (i : Fin 256) (j : Fin 512) :
    k0_pay90 v w (ix2 i j) = O26 x0 x2 x3 (row o ho i) ⟨p + j.val, by omega⟩ :=
  (pay90_read v w i j).trans (congrArg gate (dot_congr (hv i) fun k => (hw k j).trans (congrArg (fun z => x3 (ix2 k z)) (Fin.ext (Nat.add_assoc _ _ _)))))

theorem codeQ {w : Vec Ideal S1024x256 .bf16} {g : Vec Ideal S1x256 .f32} (hw : ∀ k j, w (ix2 k j) = x3 (ix2 k ⟨1920 + Fin.val j, by omega⟩)) (hg : ∀ j, g (ix2 0 j) = x5 (ix2 0 j)) (i : Fin 256) (j : Fin 256) :
    k0_pay105 v w g (ix2 i j) = CQ x0 x2 x3 x5 (row o ho i) j :=
  (pay105_read v w g i j).trans (nrm_congr _ (fun l => dot_congr (hv i) fun k => hw k l) hg j)

theorem codeKV {w : Vec Ideal S1024x128 .bf16} {g : Vec Ideal S1x128 .f32} (hw : ∀ k j, w (ix2 k j) = x3 (ix2 k ⟨2176 + Fin.val j, by omega⟩)) (hg : ∀ j, g (ix2 0 j) = x6 (ix2 0 j)) (i : Fin 256) (j : Fin 128) :
    k0_pay109 v w g (ix2 i j) = CKV x0 x2 x3 x6 (row o ho i) j :=
  (pay109_read v w g i j).trans (nrm_congr _ (fun l => dot_congr (hv i) fun k => hw k l) hg j)

theorem turned {co si : FVec Ideal S256x128 .f32} {w u : Vec Ideal S1024x128 .bf16} (hc : ∀ i j, co (ix2 i j) = Co x1 x11 (row o ho i) j) (hs : ∀ i j, si (ix2 i j) = Si x1 x11 (row o ho i) j)
    (hw : ∀ k j, w (ix2 k j) = x3 (ix2 k ⟨2304 + Fin.val j, by omega⟩)) (hu : ∀ k j, u (ix2 k j) = x3 (ix2 k ⟨2432 + Fin.val j, by omega⟩)) (i : Fin 256) (j : Fin 128) :
    k0_pay111 v co si w u (ix2 i j) = KPE x0 x1 x2 x3 x11 (row o ho i) j := by
  rw [pay111_read, hc, hs]
  exact congrArg₂ (· + ·) (congrArg (· * _) (dot_congr (hv i) fun k => hw k j)) (congrArg (· * _) (dot_congr (hv i) fun k => hu k j))

end Half

section Vals
variable {s : ℕ} {hs : s < 2} {v : FVec Ideal S256x1024 .bf16} (hv : ∀ i k, v (ix2 i k) = XN x0 x2 (row (256 * s) (Nat.mul_le_mul_left 256 (Nat.le_of_lt_succ hs)) i) k) {w : Vec Ideal S256x1024 .bf16}
include hv

theorem vs0 (hw : ∀ l k, w (ix2 l k) = x4 (ix2 ⟨0 + Fin.val l, by omega⟩ k)) (l : Fin 128) (i : Fin 256) : k0_pay54 v w (ix3 0 l i) = O18 x0 x2 x4 ⟨s, hs⟩ ⟨0 + l.val, by omega⟩ i := by
  unfold O18; rw [dif_pos (show (0 + l.val) % 144 < 128 by omega)]
  refine (pay54_read v w l i).trans (dot_congr (fun k => ?_) (hv i))
  exact (hw _ k).trans (congrArg (fun z => x4 (ix2 z k)) (Fin.ext (by show 0 + l.val = 128 * ((0 + l.val) / 144) + (0 + l.val) % 144; omega)))

theorem vs1 (hw : ∀ l k, w (ix2 l k) = x4 (ix2 ⟨0 + Fin.val l, by omega⟩ k)) (l : Fin 128) (i : Fin 256) : k0_pay56 v w (ix3 0 l i) = O18 x0 x2 x4 ⟨s, hs⟩ ⟨144 + l.val, by omega⟩ i := by
  unfold O18; rw [dif_pos (show (144 + l.val) % 144 < 128 by omega)]
  refine (pay56_read v w l i).trans (dot_congr (fun k => ?_) (hv i))
  exact (hw _ k).trans (congrArg (fun z => x4 (ix2 z k)) (Fin.ext (by show 0 + (128 + l.val) = 128 * ((144 + l.val) / 144) + (144 + l.val) % 144; omega)))

theorem vw0 (hw : ∀ l k, w (ix2 l k) = x4 (ix2 ⟨256 + Fin.val l, by omega⟩ k)) (l : Fin 128) (i : Fin 256) : k0_pay54 v w (ix3 0 l i) = O20 x0 x2 x4 ⟨s, hs⟩ ⟨0 + l.val, by omega⟩ i := by
  unfold O20; rw [dif_pos (show (0 + l.val) % 144 < 128 by omega)]
  refine (pay54_read v w l i).trans (dot_congr (fun k => ?_) (hv i))
  exact (hw _ k).trans (congrArg (fun z => x4 (ix2 z k)) (Fin.ext (by show 256 + l.val = 256 + (128 * ((0 + l.val) / 144) + (0 + l.val) % 144); omega)))

theorem vw1 (hw : ∀ l k, w (ix2 l k) = x4 (ix2 ⟨256 + Fin.val l, by omega⟩ k)) (l : Fin 128) (i : Fin 256) : k0_pay56 v w (ix3 0 l i) = O20 x0 x2 x4 ⟨s, hs⟩ ⟨144 + l.val, by omega⟩ i := by
  unfold O20; rw [dif_pos (show (144 + l.val) % 144 < 128 by omega)]
  refine (pay56_read v w l i).trans (dot_congr (fun k => ?_) (hv i))
  exact (hw _ k).trans (congrArg (fun z => x4 (ix2 z k)) (Fin.ext (by show 256 + (128 + l.val) = 256 + (128 * ((144 + l.val) / 144) + (144 + l.val) % 144); omega)))

end Vals

theorem ones18 (s : Fin 2) (p : ℕ) (hp : p = 128 ∨ p = 272) (l : Fin 16) (i : Fin 256) : k0_pay55 (F := Ideal) (ix3 0 l i) = O18 x0 x2 x4 s ⟨p + l.val, by omega⟩ i := by
  unfold O18; rw [dif_neg (show ¬ (p + l.val) % 144 < 128 by omega)]
  exact pay55_read l i

theorem ones20 (s : Fin 2) (p : ℕ) (hp : p = 128 ∨ p = 272) (l : Fin 16) (i : Fin 256) : k0_pay55 (F := Ideal) (ix3 0 l i) = O20 x0 x2 x4 s ⟨p + l.val, by omega⟩ i := by
  unfold O20; rw [dif_neg (show ¬ (p + l.val) % 144 < 128 by omega)]
  exact pay55_read l i

theorem ones24 (s : Fin 2) (p : ℕ) (hp : p = 128 ∨ p = 272 ∨ p = 416 ∨ p = 560) (l : Fin 16) (i : Fin 256) : k0_pay55 (F := Ideal) (ix3 0 l i) = O24 x0 x2 x3 x6 x10 s ⟨p + l.val, by omega⟩ i := by
  unfold O24; rw [dif_neg (show ¬ (p + l.val) % 144 < 128 by omega)]
  exact pay55_read l i

section Vm
variable {s : ℕ} {hs : s < 2} {v : FVec Ideal S256x128 .bf16} (hv : ∀ i k, v (ix2 i k) = CKV x0 x2 x3 x6 (row (256 * s) (Nat.mul_le_mul_left 256 (Nat.le_of_lt_succ hs)) i) k) {w : Vec Ideal S512x128 .bf16} (hw : ∀ l k, w (ix2 l k) = x10 (ix2 l k))
include hv hw

theorem vm0 (l : Fin 128) (i : Fin 256) : k0_pay153 (k0_pay151 v w) (ix3 0 l i) = O24 x0 x2 x3 x6 x10 ⟨s, hs⟩ ⟨0 + l.val, by omega⟩ i := by
  unfold O24; rw [dif_pos (show (0 + l.val) % 144 < 128 by omega)]
  refine (pay153_read v w l i).trans (dot_congr (fun k => ?_) (hv i))
  exact (hw _ k).trans (congrArg (fun z => x10 (ix2 z k)) (Fin.ext (by show l.val = 128 * ((0 + l.val) / 144) + (0 + l.val) % 144; omega)))
theorem vm1 (l : Fin 128) (i : Fin 256) : k0_pay155 (k0_pay151 v w) (ix3 0 l i) = O24 x0 x2 x3 x6 x10 ⟨s, hs⟩ ⟨144 + l.val, by omega⟩ i := by
  unfold O24; rw [dif_pos (show (144 + l.val) % 144 < 128 by omega)]
  refine (pay155_read v w l i).trans (dot_congr (fun k => ?_) (hv i))
  exact (hw _ k).trans (congrArg (fun z => x10 (ix2 z k)) (Fin.ext (by show 128 + l.val = 128 * ((144 + l.val) / 144) + (144 + l.val) % 144; omega)))
theorem vm2 (l : Fin 128) (i : Fin 256) : k0_pay157 (k0_pay151 v w) (ix3 0 l i) = O24 x0 x2 x3 x6 x10 ⟨s, hs⟩ ⟨288 + l.val, by omega⟩ i := by
  unfold O24; rw [dif_pos (show (288 + l.val) % 144 < 128 by omega)]
  refine (pay157_read v w l i).trans (dot_congr (fun k => ?_) (hv i))
  exact (hw _ k).trans (congrArg (fun z => x10 (ix2 z k)) (Fin.ext (by show 256 + l.val = 128 * ((288 + l.val) / 144) + (288 + l.val) % 144; omega)))
theorem vm3 (l : Fin 128) (i : Fin 256) : k0_pay160 (k0_pay159 (k0_pay151 v w)) (ix3 0 l i) = O24 x0 x2 x3 x6 x10 ⟨s, hs⟩ ⟨432 + l.val, by omega⟩ i := by
  unfold O24; rw [dif_pos (show (432 + l.val) % 144 < 128 by omega)]
  refine (pay160_read v w l i).trans (dot_congr (fun k => ?_) (hv i))
  exact (hw _ k).trans (congrArg (fun z => x10 (ix2 z k)) (Fin.ext (by show 384 + l.val = 128 * ((432 + l.val) / 144) + (432 + l.val) % 144; omega)))

end Vm

section Heads
variable {o : ℕ} {ho : o ≤ 256}

theorem headQ {co si : FVec Ideal S256x128 .f32} {v : FVec Ideal S256x256 .bf16} {w u : Vec Ideal S256x128 .bf16} (hc : ∀ i j, co (ix2 i j) = Co x1 x11 (row o ho i) j) (hs : ∀ i j, si (ix2 i j) = Si x1 x11 (row o ho i) j)
    (hv : ∀ i k, v (ix2 i k) = CQ x0 x2 x3 x5 (row o ho i) k) (h : ℕ) (hh : h < 8) (hw : ∀ k j, w (ix2 k j) = x7 (ix2 k ⟨128 * h + Fin.val j, by omega⟩)) (hu : ∀ k j, u (ix2 k j) = x8 (ix2 k ⟨128 * h + Fin.val j, by omega⟩))
    (i : Fin 256) (j : Fin 128) : k0_pay113 co si v w u (ix2 i j) = O22 x0 x1 x2 x3 x5 x7 x8 x11 (row o ho i) ⟨128 * h + j.val, by omega⟩ := by
  have ej : j = ⟨(128 * h + j.val) % 128, by omega⟩ := Fin.ext (by show j.val = (128 * h + j.val) % 128; omega)
  rw [pay113_read, hc, hs]
  exact congrArg (· * _) (congrArg₂ (· + ·) (congrArg₂ (· * ·) (dot_congr (hv i) fun k => hw k j) (congrArg (Co x1 x11 _) ej)) (congrArg₂ (· * ·) (dot_congr (hv i) fun k => hu k j) (congrArg (Si x1 x11 _) ej)))

theorem headK {p : FVec Ideal S256x128 .f32} {v : FVec Ideal S256x128 .bf16} {w : Vec Ideal S128x128 .bf16} (hp : ∀ i j, p (ix2 i j) = KPE x0 x1 x2 x3 x11 (row o ho i) j)
    (hv : ∀ i k, v (ix2 i k) = CKV x0 x2 x3 x6 (row o ho i) k) (h : ℕ) (hh : h < 8) (hw : ∀ k j, w (ix2 k j) = x9 (ix2 k ⟨128 * h + Fin.val j, by omega⟩))
    (i : Fin 256) (j : Fin 128) : k0_pay118 v p w (ix2 i j) = O23 x0 x1 x2 x3 x6 x9 x11 (row o ho i) ⟨128 * h + j.val, by omega⟩ := by
  have ej : j = ⟨(128 * h + j.val) % 128, by omega⟩ := Fin.ext (by show j.val = (128 * h + j.val) % 128; omega)
  rw [pay118_read, hp]
  exact congrArg₂ (· + ·) (dot_congr (hv i) fun k => hw k j) (congrArg (KPE x0 x1 x2 x3 x11 _) ej)

end Heads

end Rows

section Facts

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem xn1 (i : Fin 256) (k : Fin 1024) : kernelRun0_A.sl.r (F := Ideal) c arg1 harg1 arg3 harg3 x0 x2 (ix2 i k) = XN x0 x2 (row 0 (by omega) i) k :=
  (pay4_read _ _ i k).trans (nrm_congr _ (fun k => ldr harg1 x0 0 _ i k (by omega)) (fun k => lda harg3 x2 _ 0 k) k)

theorem xn2 (i : Fin 256) (k : Fin 1024) : kernelRun0_A.sl.r_1 (F := Ideal) c arg1 harg1 arg3 harg3 x0 x2 (ix2 i k) = XN x0 x2 (row 256 (by omega) i) k :=
  (pay4_read _ _ i k).trans (nrm_congr _ (fun k => ldr harg1 x0 256 _ i k (by omega)) (fun k => lda harg3 x2 _ 0 k) k)

theorem co1 (i : Fin 256) (j : Fin 128) : kernelRun0_A.sl.r_31 (F := Ideal) c arg2 harg2 arg12 harg12 x1 x11 (ix2 i j) = Co x1 x11 (row 0 (by omega) i) j :=
  (pay101_read _ _ i j).trans (congrArg Ideal.cos (congrArg₂ (· * ·) (congrArg (FloatOps.sitofp (F := Ideal) FTy.f32) (ldr harg2 x1 0 _ i 0 (by omega))) (lda harg12 x11 _ 0 j)))

theorem co2 (i : Fin 256) (j : Fin 128) : kernelRun0_A.sl.r_32 (F := Ideal) c arg2 harg2 arg12 harg12 x1 x11 (ix2 i j) = Co x1 x11 (row 256 (by omega) i) j :=
  (pay101_read _ _ i j).trans (congrArg Ideal.cos (congrArg₂ (· * ·) (congrArg (FloatOps.sitofp (F := Ideal) FTy.f32) (ldr harg2 x1 256 _ i 0 (by omega))) (lda harg12 x11 _ 0 j)))

theorem si1 (i : Fin 256) (j : Fin 128) : kernelRun0_A.sl.r_33 (F := Ideal) c arg2 harg2 arg12 harg12 x1 x11 (ix2 i j) = Si x1 x11 (row 0 (by omega) i) j :=
  (pay103_read _ _ i j).trans (congrArg Ideal.sin (congrArg₂ (· * ·) (congrArg (FloatOps.sitofp (F := Ideal) FTy.f32) (ldr harg2 x1 0 _ i 0 (by omega))) (lda harg12 x11 _ 0 j)))

theorem si2 (i : Fin 256) (j : Fin 128) : kernelRun0_A.sl.r_34 (F := Ideal) c arg2 harg2 arg12 harg12 x1 x11 (ix2 i j) = Si x1 x11 (row 256 (by omega) i) j :=
  (pay103_read _ _ i j).trans (congrArg Ideal.sin (congrArg₂ (· * ·) (congrArg (FloatOps.sitofp (F := Ideal) FTy.f32) (ldr harg2 x1 256 _ i 0 (by omega))) (lda harg12 x11 _ 0 j)))

theorem cq1 (i : Fin 256) (j : Fin 256) : kernelRun0_A.sl.r_36 (F := Ideal) c arg1 harg1 arg3 harg3 arg4 harg4 arg6 harg6 x0 x2 x3 x5 (ix2 i j) = CQ x0 x2 x3 x5 (row 0 (by omega) i) j :=
  codeQ x0 x2 x3 x5 (xn1 c arg1 harg1 arg3 harg3 x0 x2) (fun k j => ldc harg4 x3 1920 _ k j (by omega)) (fun j => lda harg6 x5 _ 0 j) i j

theorem cq2 (i : Fin 256) (j : Fin 256) : kernelRun0_A.sl.r_39 (F := Ideal) c arg1 harg1 arg3 harg3 arg4 harg4 arg6 harg6 x0 x2 x3 x5 (ix2 i j) = CQ x0 x2 x3 x5 (row 256 (by omega) i) j :=
  codeQ x0 x2 x3 x5 (xn2 c arg1 harg1 arg3 harg3 x0 x2) (fun k j => ldc harg4 x3 1920 _ k j (by omega)) (fun j => lda harg6 x5 _ 0 j) i j

theorem ckv1 (i : Fin 256) (j : Fin 128) : kernelRun0_A.sl.r_40 (F := Ideal) c arg1 harg1 arg3 harg3 arg4 harg4 arg7 harg7 x0 x2 x3 x6 (ix2 i j) = CKV x0 x2 x3 x6 (row 0 (by omega) i) j :=
  codeKV x0 x2 x3 x6 (xn1 c arg1 harg1 arg3 harg3 x0 x2) (fun k j => ldc harg4 x3 2176 _ k j (by omega)) (fun j => lda harg7 x6 _ 0 j) i j

theorem ckv2 (i : Fin 256) (j : Fin 128) : kernelRun0_A.sl.r_41 (F := Ideal) c arg1 harg1 arg3 harg3 arg4 harg4 arg7 harg7 x0 x2 x3 x6 (ix2 i j) = CKV x0 x2 x3 x6 (row 256 (by omega) i) j :=
  codeKV x0 x2 x3 x6 (xn2 c arg1 harg1 arg3 harg3 x0 x2) (fun k j => ldc harg4 x3 2176 _ k j (by omega)) (fun j => lda harg7 x6 _ 0 j) i j

theorem kpe1 (i : Fin 256) (j : Fin 128) : kernelRun0_A.sl.r_42 (F := Ideal) c arg1 harg1 arg2 harg2 arg3 harg3 arg4 harg4 arg12 harg12 x0 x1 x2 x3 x11 (ix2 i j) = KPE x0 x1 x2 x3 x11 (row 0 (by omega) i) j :=
  turned x0 x1 x2 x3 x11 (xn1 c arg1 harg1 arg3 harg3 x0 x2) (co1 c arg2 harg2 arg12 harg12 x1 x11) (si1 c arg2 harg2 arg12 harg12 x1 x11) (fun k j => ldc harg4 x3 2304 _ k j (by omega)) (fun k j => ldc harg4 x3 2432 _ k j (by omega)) i j

theorem kpe2 (i : Fin 256) (j : Fin 128) : kernelRun0_A.sl.r_43 (F := Ideal) c arg1 harg1 arg2 harg2 arg3 harg3 arg4 harg4 arg12 harg12 x0 x1 x2 x3 x11 (ix2 i j) = KPE x0 x1 x2 x3 x11 (row 256 (by omega) i) j :=
  turned x0 x1 x2 x3 x11 (xn2 c arg1 harg1 arg3 harg3 x0 x2) (co2 c arg2 harg2 arg12 harg12 x1 x11) (si2 c arg2 harg2 arg12 harg12 x1 x11) (fun k j => ldc harg4 x3 2304 _ k j (by omega)) (fun k j => ldc harg4 x3 2432 _ k j (by omega)) i j

theorem sel1 (i : Fin 256) (j : Fin 128) : kernelRun0_A.sl.r_12 (F := Ideal) g (ix2 i j) = selAug (BitVec.ofNat 32 (g 0).val) (row 0 (by omega) i) j := by
  unfold selAug; rw [dif_pos (show (row 0 (by omega) i).val < 256 by show 0 + i.val < 256; omega)]
  exact congrArg (fun z => k0_pay37 (F := Ideal) _ (ix2 z j)) (Fin.ext (Nat.zero_add _).symm)

theorem sel2 (i : Fin 256) (j : Fin 128) : kernelRun0_A.sl.r_15 (F := Ideal) g (ix2 i j) = selAug (BitVec.ofNat 32 (g 0).val) (row 256 (by omega) i) j := by
  unfold selAug; rw [dif_neg (show ¬ (row 256 (by omega) i).val < 256 by show ¬ 256 + i.val < 256; omega)]
  exact congrArg (fun z => k0_pay41 (F := Ideal) _ _ _ _ (ix2 z j)) (Fin.ext (Nat.add_sub_cancel_left ..).symm)

theorem pos1 (i : Fin 256) (j : Fin 128) : kernelRun0_A.sl.r_11 (F := Ideal) g (ix2 i j) = posAug (BitVec.ofNat 32 (g 0).val) (row 0 (by omega) i) j := by
  unfold posAug; rw [dif_pos (show (row 0 (by omega) i).val < 256 by show 0 + i.val < 256; omega)]
  exact congrArg (fun z => k0_pay36 (F := Ideal) _ (ix2 z j)) (Fin.ext (Nat.zero_add _).symm)

theorem pos2 (i : Fin 256) (j : Fin 128) : kernelRun0_A.sl.r_14 (F := Ideal) g (ix2 i j) = posAug (BitVec.ofNat 32 (g 0).val) (row 256 (by omega) i) j := by
  unfold posAug; rw [dif_neg (show ¬ (row 256 (by omega) i).val < 256 by show ¬ 256 + i.val < 256; omega)]
  exact congrArg (fun z => k0_pay40 (F := Ideal) _ _ _ _ (ix2 z j)) (Fin.ext (Nat.add_sub_cancel_left ..).symm)

end Facts

end Cert.Kernel3Ideal.Blocks

end
-- ==== Proof.Proj.Same.lean ====
module

public import proofs.«01_k».proof.Proof.Proj.Blocks

/-!
Stores that the two halves of a point write differently and that hold the same values.
-/

@[expose] public section

set_option maxRecDepth 16384
set_option maxHeartbeats 400000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

theorem e27 (v w q) : k0_pay27 (F := Ideal) (k0_pay25 v w) q = k0_pay10 v w q := rfl
theorem e26 (v w q) : k0_pay26 (F := Ideal) (k0_pay24 v w) q = k0_pay10 v w q := rfl
theorem e21 (v w q) : k0_pay21 (F := Ideal) (k0_pay19 v w) q = k0_pay10 v w q := rfl
theorem e20 (v w q) : k0_pay20 (F := Ideal) v w q = k0_pay10 v w q := rfl
theorem e16 (v w q) : k0_pay16 (F := Ideal) (k0_pay15 v w q) = k0_pay10 v w q := rfl
theorem e9 (v w q) : k0_pay9 (F := Ideal) v (k0_pay7 w) (constant S256x128 FTy.f32 0#32) q = k0_pay10 v w q := rfl
theorem e8 (x g w q) : k0_pay8 (F := Ideal) (k0_pay6 x g w) q = k0_pay10 (k0_pay4 x g) w q := rfl
theorem e43 (v a b p w) : k0_pay43 (F := Ideal) v a b p 6#32 w = k0_pay42 v (k0_pay41 a b p 6#32) w := rfl
theorem e51 (v a w) : k0_pay51 (F := Ideal) v a w = k0_pay42 v a w := rfl
theorem e47 (v a w) : k0_pay47 (F := Ideal) v a (k0_pay45 w) = k0_pay42 v a w := rfl
theorem e46 (v a w) : k0_pay46 (F := Ideal) a (k0_pay44 v w) = k0_pay42 v a w := rfl
theorem e60 (v w) : k0_pay60 (F := Ideal) (k0_pay53 v w) = k0_pay56 v w := rfl
theorem e71 (v w) : k0_pay71 (F := Ideal) (k0_pay63 v w) = k0_pay56 v w := rfl
theorem e69 (v w) : k0_pay69 (F := Ideal) (k0_pay63 v w) = k0_pay54 v w := rfl
theorem e67 (v w) : k0_pay67 (F := Ideal) (k0_pay66 v w) = k0_pay56 v w := rfl
theorem e89 (v w e) : k0_pay89 (F := Ideal) (k0_pay78 v (k0_pay74 w)) (k0_pay80 v (k0_pay74 w)) (k0_pay87 e) = k0_pay83 v (k0_pay74 w) e := rfl
theorem e88 (v w e) : k0_pay88 (F := Ideal) (k0_pay77 (k0_pay73 v w)) (k0_pay79 (k0_pay73 v w)) (k0_pay87 e) = k0_pay83 v (k0_pay74 w) e := rfl
theorem e86 (v w e) : k0_pay86 (F := Ideal) v (k0_pay74 w) e = k0_pay83 v (k0_pay74 w) e := rfl
theorem e85 (v w e) : k0_pay85 (F := Ideal) (k0_pay73 v w) e = k0_pay83 v (k0_pay74 w) e := rfl
theorem e82 (v w e) : k0_pay82 (F := Ideal) (k0_pay73 v w) e = k0_pay83 v (k0_pay74 w) e := rfl
theorem e147 (a b v w u) : k0_pay147 (F := Ideal) a b v w u = k0_pay113 a b v w u := rfl
theorem e141 (a b v w u) : k0_pay141 (F := Ideal) b v (k0_pay140 a v w) u = k0_pay113 a b v w u := rfl
theorem e136 (a b v w u) : k0_pay136 (F := Ideal) (k0_pay134 a b v w u) k0_pay135 = k0_pay113 a b v w u := rfl
theorem e123 (a b v w u) : k0_pay123 (F := Ideal) b v (k0_pay121 a v w) (k0_pay122 u) (constant S256x128 FTy.f32 0#32) = k0_pay113 a b v w u := rfl
theorem e117 (a b v w u) : k0_pay117 (F := Ideal) a b v w u = k0_pay113 a b v w u := rfl
theorem e144 (v p w) : k0_pay144 (F := Ideal) v p w = k0_pay118 v p w := rfl
theorem e131 (v p w) : k0_pay131 (F := Ideal) v p (k0_pay130 w) = k0_pay118 v p w := rfl
theorem e114 (x a b v w u z) : k0_pay114 (F := Ideal) x a b v w u z = k0_pay118 v (k0_pay111 x a b w u) z := rfl

end Cert.Kernel3Ideal.Blocks

end
-- ==== Proof.Proj.Outs1.lean ====
module

public import proofs.«01_k».proof.Proof.Proj.Same

/-!
The blocks of the keys and values before compression and of the gates, as the kernel leaves them.
-/

@[expose] public section

set_option maxRecDepth 16384
set_option maxHeartbeats 1000000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem out15 (y : S512x128.Idx) : out0_A_15 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O15 x0 x2 x3 (y 0) (y 1) := by
  refine View.read_writes_apply_of_pieces VO0_15 _ (fun y => O15 x0 x2 x3 (y 0) (y 1)) _ ?_ y (cover0_A_15 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 128) (n := 256) (k := 128) 256 0 (by decide) (by decide) (by decide) (O15 x0 x2 x3) _ (fun i j => colsA x0 x2 x3 (xn2 c arg1 harg1 arg3 harg3 x0 x2) (fun k j => ldc harg4 x3 1024 (by decide) k j (by omega)) i j) x, ?_⟩
  refine List.forall_mem_cons.2 ⟨fun x => piece2 (a := 512) (b := 128) (n := 256) (k := 128) 0 0 (by decide) (by decide) (by decide) (O15 x0 x2 x3) _ (fun i j => colsA x0 x2 x3 (xn1 c arg1 harg1 arg3 harg3 x0 x2) (fun k j => ldc harg4 x3 1024 (by decide) k j (by omega)) i j) x, ?_⟩
  exact List.forall_mem_nil _

theorem out16 (y : S512x128.Idx) : out0_A_16 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O16 x0 x2 x3 (y 0) (y 1) := by
  refine View.read_writes_apply_of_pieces VO0_16 _ (fun y => O16 x0 x2 x3 (y 0) (y 1)) _ ?_ y (cover0_A_16 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 128) (n := 256) (k := 128) 256 0 (by decide) (by decide) (by decide) (O16 x0 x2 x3) _ (fun i j => colsB x0 x2 x3 (xn2 c arg1 harg1 arg3 harg3 x0 x2) (fun k j => ldc harg4 x3 1152 (by decide) k j (by omega)) i j) x, ?_⟩
  refine List.forall_mem_cons.2 ⟨fun x => piece2 (a := 512) (b := 128) (n := 256) (k := 128) 0 0 (by decide) (by decide) (by decide) (O16 x0 x2 x3) _ (fun i j => colsB x0 x2 x3 (xn1 c arg1 harg1 arg3 harg3 x0 x2) (fun k j => ldc harg4 x3 1152 (by decide) k j (by omega)) i j) x, ?_⟩
  exact List.forall_mem_nil _

theorem out25 (y : S512x1024.Idx) : out0_A_25 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O25 x0 x2 x3 (y 0) (y 1) := by
  refine View.read_writes_apply_of_pieces VO0_25 _ (fun y => O25 x0 x2 x3 (y 0) (y 1)) _ ?_ y (cover0_A_25 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 1024) (n := 256) (k := 512) 256 512 (by decide) (by decide) (by decide) (O25 x0 x2 x3) _ (fun i j => gate1 x0 x2 x3 (xn2 c arg1 harg1 arg3 harg3 x0 x2) 512 (by omega) (fun k j => ldc harg4 x3 3072 (by decide) k j (by omega)) i j) x, ?_⟩
  refine List.forall_mem_cons.2 ⟨fun x => piece2 (a := 512) (b := 1024) (n := 256) (k := 512) 0 512 (by decide) (by decide) (by decide) (O25 x0 x2 x3) _ (fun i j => gate1 x0 x2 x3 (xn1 c arg1 harg1 arg3 harg3 x0 x2) 512 (by omega) (fun k j => ldc harg4 x3 3072 (by decide) k j (by omega)) i j) x, ?_⟩
  refine List.forall_mem_cons.2 ⟨fun x => piece2 (a := 512) (b := 1024) (n := 256) (k := 512) 256 0 (by decide) (by decide) (by decide) (O25 x0 x2 x3) _ (fun i j => gate1 x0 x2 x3 (xn2 c arg1 harg1 arg3 harg3 x0 x2) 0 (by omega) (fun k j => ldc harg4 x3 2560 (by decide) k j (by omega)) i j) x, ?_⟩
  refine List.forall_mem_cons.2 ⟨fun x => piece2 (a := 512) (b := 1024) (n := 256) (k := 512) 0 0 (by decide) (by decide) (by decide) (O25 x0 x2 x3) _ (fun i j => gate1 x0 x2 x3 (xn1 c arg1 harg1 arg3 harg3 x0 x2) 0 (by omega) (fun k j => ldc harg4 x3 2560 (by decide) k j (by omega)) i j) x, ?_⟩
  exact List.forall_mem_nil _

theorem out26 (y : S512x1024.Idx) : out0_A_26 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O26 x0 x2 x3 (y 0) (y 1) := by
  refine View.read_writes_apply_of_pieces VO0_26 _ (fun y => O26 x0 x2 x3 (y 0) (y 1)) _ ?_ y (cover0_A_26 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 1024) (n := 256) (k := 512) 256 512 (by decide) (by decide) (by decide) (O26 x0 x2 x3) _ (fun i j => gate2 x0 x2 x3 (xn2 c arg1 harg1 arg3 harg3 x0 x2) 512 (by omega) (fun k j => ldc harg4 x3 4096 (by decide) k j (by omega)) i j) x, ?_⟩
  refine List.forall_mem_cons.2 ⟨fun x => piece2 (a := 512) (b := 1024) (n := 256) (k := 512) 0 512 (by decide) (by decide) (by decide) (O26 x0 x2 x3) _ (fun i j => gate2 x0 x2 x3 (xn1 c arg1 harg1 arg3 harg3 x0 x2) 512 (by omega) (fun k j => ldc harg4 x3 4096 (by decide) k j (by omega)) i j) x, ?_⟩
  refine List.forall_mem_cons.2 ⟨fun x => piece2 (a := 512) (b := 1024) (n := 256) (k := 512) 256 0 (by decide) (by decide) (by decide) (O26 x0 x2 x3) _ (fun i j => gate2 x0 x2 x3 (xn2 c arg1 harg1 arg3 harg3 x0 x2) 0 (by omega) (fun k j => ldc harg4 x3 3584 (by decide) k j (by omega)) i j) x, ?_⟩
  refine List.forall_mem_cons.2 ⟨fun x => piece2 (a := 512) (b := 1024) (n := 256) (k := 512) 0 0 (by decide) (by decide) (by decide) (O26 x0 x2 x3) _ (fun i j => gate2 x0 x2 x3 (xn1 c arg1 harg1 arg3 harg3 x0 x2) 0 (by omega) (fun k j => ldc harg4 x3 3584 (by decide) k j (by omega)) i j) x, ?_⟩
  exact List.forall_mem_nil _

theorem out21 (y : S512x1536.Idx) : out0_A_21 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O21 x0 x2 x3 x13 (y 0) (y 1) := by
  refine View.read_writes_apply_of_pieces VO0_21 _ (fun y => O21 x0 x2 x3 x13 (y 0) (y 1)) _ ?_ y (cover0_A_21 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 1536) (n := 256) (k := 512) 256 1024 (by decide) (by decide) (by decide) (O21 x0 x2 x3 x13) _ (fun i j => (congrFun (e89 _ _ _) _).trans (gates x0 x2 x3 x13 (xn2 c arg1 harg1 arg3 harg3 x0 x2) 1024 (by omega) (fun k j => ldc harg4 x3 1792 (by decide) k j (by omega)) (fun k j => ldc harg14 x13 1024 (by decide) k j (by omega)) i j)) x, ?_⟩
  refine List.forall_mem_cons.2 ⟨fun x => piece2 (a := 512) (b := 1536) (n := 256) (k := 512) 0 1024 (by decide) (by decide) (by decide) (O21 x0 x2 x3 x13) _ (fun i j => (congrFun (e88 _ _ _) _).trans (gates x0 x2 x3 x13 (xn1 c arg1 harg1 arg3 harg3 x0 x2) 1024 (by omega) (fun k j => ldc harg4 x3 1792 (by decide) k j (by omega)) (fun k j => ldc harg14 x13 1024 (by decide) k j (by omega)) i j)) x, ?_⟩
  refine List.forall_mem_cons.2 ⟨fun x => piece2 (a := 512) (b := 1536) (n := 256) (k := 512) 256 512 (by decide) (by decide) (by decide) (O21 x0 x2 x3 x13) _ (fun i j => (congrFun (e86 _ _ _) _).trans (gates x0 x2 x3 x13 (xn2 c arg1 harg1 arg3 harg3 x0 x2) 512 (by omega) (fun k j => ldc harg4 x3 1792 (by decide) k j (by omega)) (fun k j => ldc harg14 x13 512 (by decide) k j (by omega)) i j)) x, ?_⟩
  refine List.forall_mem_cons.2 ⟨fun x => piece2 (a := 512) (b := 1536) (n := 256) (k := 512) 0 512 (by decide) (by decide) (by decide) (O21 x0 x2 x3 x13) _ (fun i j => (congrFun (e85 _ _ _) _).trans (gates x0 x2 x3 x13 (xn1 c arg1 harg1 arg3 harg3 x0 x2) 512 (by omega) (fun k j => ldc harg4 x3 1792 (by decide) k j (by omega)) (fun k j => ldc harg14 x13 512 (by decide) k j (by omega)) i j)) x, ?_⟩
  refine List.forall_mem_cons.2 ⟨fun x => piece2 (a := 512) (b := 1536) (n := 256) (k := 512) 256 0 (by decide) (by decide) (by decide) (O21 x0 x2 x3 x13) _ (fun i j => gates x0 x2 x3 x13 (xn2 c arg1 harg1 arg3 harg3 x0 x2) 0 (by omega) (fun k j => ldc harg4 x3 1792 (by decide) k j (by omega)) (fun k j => ldc harg14 x13 0 (by decide) k j (by omega)) i j) x, ?_⟩
  refine List.forall_mem_cons.2 ⟨fun x => piece2 (a := 512) (b := 1536) (n := 256) (k := 512) 0 0 (by decide) (by decide) (by decide) (O21 x0 x2 x3 x13) _ (fun i j => (congrFun (e82 _ _ _) _).trans (gates x0 x2 x3 x13 (xn1 c arg1 harg1 arg3 harg3 x0 x2) 0 (by omega) (fun k j => ldc harg4 x3 1792 (by decide) k j (by omega)) (fun k j => ldc harg14 x13 0 (by decide) k j (by omega)) i j)) x, ?_⟩
  exact List.forall_mem_nil _

end Cert.Kernel3Ideal.Blocks

end
-- ==== Proof.Proj.Outs2.lean ====
module

public import proofs.«01_k».proof.Proof.Proj.Same

/-!
The blocks of the queries, as the kernel leaves them.
-/

@[expose] public section

set_option maxRecDepth 16384
set_option maxHeartbeats 1000000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem out14 (y : S512x1024.Idx) : out0_A_14 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O14 x0 x2 x3 x12 (y 0) (y 1) := by
  refine View.read_writes_apply_of_pieces VO0_14 _ (fun y => O14 x0 x2 x3 x12 (y 0) (y 1)) _ ?_ y (cover0_A_14 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 1024) (n := 256) (k := 128) 256 896 (by decide) (by decide) (by decide) (O14 x0 x2 x3 x12) _ (fun i j => (congrFun (e27 _ _ _) _).trans (query x0 x2 x3 x12 (xn2 c arg1 harg1 arg3 harg3 x0 x2) 896 (by omega) (fun k j => ldc harg4 x3 896 (by decide) k j (by omega)) (fun j => ldc harg13 x12 896 (by decide) 0 j (by omega)) i j)) x, ?_⟩
  refine List.forall_mem_cons.2 ⟨fun x => piece2 (a := 512) (b := 1024) (n := 256) (k := 128) 0 896 (by decide) (by decide) (by decide) (O14 x0 x2 x3 x12) _ (fun i j => (congrFun (e26 _ _ _) _).trans (query x0 x2 x3 x12 (xn1 c arg1 harg1 arg3 harg3 x0 x2) 896 (by omega) (fun k j => ldc harg4 x3 896 (by decide) k j (by omega)) (fun j => ldc harg13 x12 896 (by decide) 0 j (by omega)) i j)) x, ?_⟩
  refine List.forall_mem_cons.2 ⟨fun x => piece2 (a := 512) (b := 1024) (n := 256) (k := 128) 256 768 (by decide) (by decide) (by decide) (O14 x0 x2 x3 x12) _ (fun i j => query x0 x2 x3 x12 (xn2 c arg1 harg1 arg3 harg3 x0 x2) 768 (by omega) (fun k j => ldc harg4 x3 768 (by decide) k j (by omega)) (fun j => ldc harg13 x12 768 (by decide) 0 j (by omega)) i j) x, ?_⟩
  refine List.forall_mem_cons.2 ⟨fun x => piece2 (a := 512) (b := 1024) (n := 256) (k := 128) 0 768 (by decide) (by decide) (by decide) (O14 x0 x2 x3 x12) _ (fun i j => query x0 x2 x3 x12 (xn1 c arg1 harg1 arg3 harg3 x0 x2) 768 (by omega) (fun k j => ldc harg4 x3 768 (by decide) k j (by omega)) (fun j => ldc harg13 x12 768 (by decide) 0 j (by omega)) i j) x, ?_⟩
  refine List.forall_mem_cons.2 ⟨fun x => piece2 (a := 512) (b := 1024) (n := 256) (k := 128) 256 640 (by decide) (by decide) (by decide) (O14 x0 x2 x3 x12) _ (fun i j => (congrFun (e21 _ _ _) _).trans (query x0 x2 x3 x12 (xn2 c arg1 harg1 arg3 harg3 x0 x2) 640 (by omega) (fun k j => ldc harg4 x3 640 (by decide) k j (by omega)) (fun j => ldc harg13 x12 640 (by decide) 0 j (by omega)) i j)) x, ?_⟩
  refine List.forall_mem_cons.2 ⟨fun x => piece2 (a := 512) (b := 1024) (n := 256) (k := 128) 0 640 (by decide) (by decide) (by decide) (O14 x0 x2 x3 x12) _ (fun i j => (congrFun (e20 _ _ _) _).trans (query x0 x2 x3 x12 (xn1 c arg1 harg1 arg3 harg3 x0 x2) 640 (by omega) (fun k j => ldc harg4 x3 640 (by decide) k j (by omega)) (fun j => ldc harg13 x12 640 (by decide) 0 j (by omega)) i j)) x, ?_⟩
  refine List.forall_mem_cons.2 ⟨fun x => piece2 (a := 512) (b := 1024) (n := 256) (k := 128) 256 512 (by decide) (by decide) (by decide) (O14 x0 x2 x3 x12) _ (fun i j => query x0 x2 x3 x12 (xn2 c arg1 harg1 arg3 harg3 x0 x2) 512 (by omega) (fun k j => ldc harg4 x3 512 (by decide) k j (by omega)) (fun j => ldc harg13 x12 512 (by decide) 0 j (by omega)) i j) x, ?_⟩
  refine List.forall_mem_cons.2 ⟨fun x => piece2 (a := 512) (b := 1024) (n := 256) (k := 128) 0 512 (by decide) (by decide) (by decide) (O14 x0 x2 x3 x12) _ (fun i j => query x0 x2 x3 x12 (xn1 c arg1 harg1 arg3 harg3 x0 x2) 512 (by omega) (fun k j => ldc harg4 x3 512 (by decide) k j (by omega)) (fun j => ldc harg13 x12 512 (by decide) 0 j (by omega)) i j) x, ?_⟩
  refine List.forall_mem_cons.2 ⟨fun x => piece2 (a := 512) (b := 1024) (n := 256) (k := 128) 256 384 (by decide) (by decide) (by decide) (O14 x0 x2 x3 x12) _ (fun i j => (congrFun (e16 _ _ _) _).trans (query x0 x2 x3 x12 (xn2 c arg1 harg1 arg3 harg3 x0 x2) 384 (by omega) (fun k j => ldc harg4 x3 384 (by decide) k j (by omega)) (fun j => ldc harg13 x12 384 (by decide) 0 j (by omega)) i j)) x, ?_⟩
  refine List.forall_mem_cons.2 ⟨fun x => piece2 (a := 512) (b := 1024) (n := 256) (k := 128) 0 384 (by decide) (by decide) (by decide) (O14 x0 x2 x3 x12) _ (fun i j => query x0 x2 x3 x12 (xn1 c arg1 harg1 arg3 harg3 x0 x2) 384 (by omega) (fun k j => ldc harg4 x3 384 (by decide) k j (by omega)) (fun j => ldc harg13 x12 384 (by decide) 0 j (by omega)) i j) x, ?_⟩
  refine List.forall_mem_cons.2 ⟨fun x => piece2 (a := 512) (b := 1024) (n := 256) (k := 128) 256 256 (by decide) (by decide) (by decide) (O14 x0 x2 x3 x12) _ (fun i j => query x0 x2 x3 x12 (xn2 c arg1 harg1 arg3 harg3 x0 x2) 256 (by omega) (fun k j => ldc harg4 x3 256 (by decide) k j (by omega)) (fun j => ldc harg13 x12 256 (by decide) 0 j (by omega)) i j) x, ?_⟩
  refine List.forall_mem_cons.2 ⟨fun x => piece2 (a := 512) (b := 1024) (n := 256) (k := 128) 0 256 (by decide) (by decide) (by decide) (O14 x0 x2 x3 x12) _ (fun i j => query x0 x2 x3 x12 (xn1 c arg1 harg1 arg3 harg3 x0 x2) 256 (by omega) (fun k j => ldc harg4 x3 256 (by decide) k j (by omega)) (fun j => ldc harg13 x12 256 (by decide) 0 j (by omega)) i j) x, ?_⟩
  refine List.forall_mem_cons.2 ⟨fun x => piece2 (a := 512) (b := 1024) (n := 256) (k := 128) 256 128 (by decide) (by decide) (by decide) (O14 x0 x2 x3 x12) _ (fun i j => query x0 x2 x3 x12 (xn2 c arg1 harg1 arg3 harg3 x0 x2) 128 (by omega) (fun k j => ldc harg4 x3 128 (by decide) k j (by omega)) (fun j => ldc harg13 x12 128 (by decide) 0 j (by omega)) i j) x, ?_⟩
  refine List.forall_mem_cons.2 ⟨fun x => piece2 (a := 512) (b := 1024) (n := 256) (k := 128) 0 128 (by decide) (by decide) (by decide) (O14 x0 x2 x3 x12) _ (fun i j => query x0 x2 x3 x12 (xn1 c arg1 harg1 arg3 harg3 x0 x2) 128 (by omega) (fun k j => ldc harg4 x3 128 (by decide) k j (by omega)) (fun j => ldc harg13 x12 128 (by decide) 0 j (by omega)) i j) x, ?_⟩
  refine List.forall_mem_cons.2 ⟨fun x => piece2 (a := 512) (b := 1024) (n := 256) (k := 128) 256 0 (by decide) (by decide) (by decide) (O14 x0 x2 x3 x12) _ (fun i j => (congrFun (e9 _ _ _) _).trans (query x0 x2 x3 x12 (xn2 c arg1 harg1 arg3 harg3 x0 x2) 0 (by omega) (fun k j => ldc harg4 x3 0 (by decide) k j (by omega)) (fun j => ldc harg13 x12 0 (by decide) 0 j (by omega)) i j)) x, ?_⟩
  refine List.forall_mem_cons.2 ⟨fun x => piece2 (a := 512) (b := 1024) (n := 256) (k := 128) 0 0 (by decide) (by decide) (by decide) (O14 x0 x2 x3 x12) _ (fun i j => (congrFun (e8 _ _ _ _) _).trans (query x0 x2 x3 x12 (xn1 c arg1 harg1 arg3 harg3 x0 x2) 0 (by omega) (fun k j => ldc harg4 x3 0 (by decide) k j (by omega)) (fun j => ldc harg13 x12 0 (by decide) 0 j (by omega)) i j)) x, ?_⟩
  exact List.forall_mem_nil _

end Cert.Kernel3Ideal.Blocks

end
-- ==== Proof.Proj.Outs3.lean ====
module

public import proofs.«01_k».proof.Proof.Proj.Same

/-!
The blocks of the keys and values of the selected and the window branch, as the kernel leaves them.
-/

@[expose] public section

set_option maxRecDepth 16384
set_option maxHeartbeats 1000000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem out17 (y : S512x256.Idx) : out0_A_17 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O17 x0 x2 x3 (BitVec.ofNat 32 (g 0).val) (y 0) (y 1) := by
  refine View.read_writes_apply_of_pieces VO0_17 _ (fun y => O17 x0 x2 x3 (BitVec.ofNat 32 (g 0).val) (y 0) (y 1)) _ ?_ y (cover0_A_17 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 256) (n := 256) (k := 128) 256 128 (by decide) (by decide) (by decide) (O17 x0 x2 x3 (BitVec.ofNat 32 (g 0).val)) _ (fun i j => selKey x0 x2 x3 (xn2 c arg1 harg1 arg3 harg3 x0 x2) (BitVec.ofNat 32 (g 0).val) 128 (by omega) (fun k j => ldc harg4 x3 1408 (by decide) k j (by omega)) (sel2 g) i j) x, ?_⟩
  refine List.forall_mem_cons.2 ⟨fun x => piece2 (a := 512) (b := 256) (n := 256) (k := 128) 0 128 (by decide) (by decide) (by decide) (O17 x0 x2 x3 (BitVec.ofNat 32 (g 0).val)) _ (fun i j => selKey x0 x2 x3 (xn1 c arg1 harg1 arg3 harg3 x0 x2) (BitVec.ofNat 32 (g 0).val) 128 (by omega) (fun k j => ldc harg4 x3 1408 (by decide) k j (by omega)) (sel1 g) i j) x, ?_⟩
  refine List.forall_mem_cons.2 ⟨fun x => piece2 (a := 512) (b := 256) (n := 256) (k := 128) 256 0 (by decide) (by decide) (by decide) (O17 x0 x2 x3 (BitVec.ofNat 32 (g 0).val)) _ (fun i j => (congrFun (e43 _ _ _ _ _) _).trans (selKey x0 x2 x3 (xn2 c arg1 harg1 arg3 harg3 x0 x2) (BitVec.ofNat 32 (g 0).val) 0 (by omega) (fun k j => ldc harg4 x3 1280 (by decide) k j (by omega)) (sel2 g) i j)) x, ?_⟩
  refine List.forall_mem_cons.2 ⟨fun x => piece2 (a := 512) (b := 256) (n := 256) (k := 128) 0 0 (by decide) (by decide) (by decide) (O17 x0 x2 x3 (BitVec.ofNat 32 (g 0).val)) _ (fun i j => selKey x0 x2 x3 (xn1 c arg1 harg1 arg3 harg3 x0 x2) (BitVec.ofNat 32 (g 0).val) 0 (by omega) (fun k j => ldc harg4 x3 1280 (by decide) k j (by omega)) (sel1 g) i j) x, ?_⟩
  exact List.forall_mem_nil _

theorem out19 (y : S512x256.Idx) : out0_A_19 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O19 x0 x2 x3 (BitVec.ofNat 32 (g 0).val) (y 0) (y 1) := by
  refine View.read_writes_apply_of_pieces VO0_19 _ (fun y => O19 x0 x2 x3 (BitVec.ofNat 32 (g 0).val) (y 0) (y 1)) _ ?_ y (cover0_A_19 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 256) (n := 256) (k := 128) 256 128 (by decide) (by decide) (by decide) (O19 x0 x2 x3 (BitVec.ofNat 32 (g 0).val)) _ (fun i j => (congrFun (e51 _ _ _) _).trans (posKey x0 x2 x3 (xn2 c arg1 harg1 arg3 harg3 x0 x2) (BitVec.ofNat 32 (g 0).val) 128 (by omega) (fun k j => ldc harg4 x3 1664 (by decide) k j (by omega)) (pos2 g) i j)) x, ?_⟩
  refine List.forall_mem_cons.2 ⟨fun x => piece2 (a := 512) (b := 256) (n := 256) (k := 128) 0 128 (by decide) (by decide) (by decide) (O19 x0 x2 x3 (BitVec.ofNat 32 (g 0).val)) _ (fun i j => posKey x0 x2 x3 (xn1 c arg1 harg1 arg3 harg3 x0 x2) (BitVec.ofNat 32 (g 0).val) 128 (by omega) (fun k j => ldc harg4 x3 1664 (by decide) k j (by omega)) (pos1 g) i j) x, ?_⟩
  refine List.forall_mem_cons.2 ⟨fun x => piece2 (a := 512) (b := 256) (n := 256) (k := 128) 256 0 (by decide) (by decide) (by decide) (O19 x0 x2 x3 (BitVec.ofNat 32 (g 0).val)) _ (fun i j => (congrFun (e47 _ _ _) _).trans (posKey x0 x2 x3 (xn2 c arg1 harg1 arg3 harg3 x0 x2) (BitVec.ofNat 32 (g 0).val) 0 (by omega) (fun k j => ldc harg4 x3 1536 (by decide) k j (by omega)) (pos2 g) i j)) x, ?_⟩
  refine List.forall_mem_cons.2 ⟨fun x => piece2 (a := 512) (b := 256) (n := 256) (k := 128) 0 0 (by decide) (by decide) (by decide) (O19 x0 x2 x3 (BitVec.ofNat 32 (g 0).val)) _ (fun i j => (congrFun (e46 _ _ _) _).trans (posKey x0 x2 x3 (xn1 c arg1 harg1 arg3 harg3 x0 x2) (BitVec.ofNat 32 (g 0).val) 0 (by omega) (fun k j => ldc harg4 x3 1536 (by decide) k j (by omega)) (pos1 g) i j)) x, ?_⟩
  exact List.forall_mem_nil _

theorem out18 (y : S2x288x256.Idx) : out0_A_18 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O18 x0 x2 x4 (y 0) (y 1) (y 2) := by
  refine View.read_writes_apply_of_pieces VO0_18 _ (fun y => O18 x0 x2 x4 (y 0) (y 1) (y 2)) _ ?_ y (cover0_A_18 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece3 (b := 288) (n := 16) 1 272 (by decide) (by decide) (by decide) (O18 x0 x2 x4) _ (fun l i => ones18 x0 x2 x4 1 272 (by omega) l i) x, ?_⟩
  refine List.forall_mem_cons.2 ⟨fun x => piece3 (b := 288) (n := 128) 1 144 (by decide) (by decide) (by decide) (O18 x0 x2 x4) _ (fun l i => (congrFun (e60 _ _) _).trans (vs1 x0 x2 x4 (s := 1) (hs := by omega) (xn2 c arg1 harg1 arg3 harg3 x0 x2) (fun l k => ldr harg5 x4 0 (by decide) l k (by omega)) l i)) x, ?_⟩
  refine List.forall_mem_cons.2 ⟨fun x => piece3 (b := 288) (n := 16) 1 128 (by decide) (by decide) (by decide) (O18 x0 x2 x4) _ (fun l i => ones18 x0 x2 x4 1 128 (by omega) l i) x, ?_⟩
  refine List.forall_mem_cons.2 ⟨fun x => piece3 (b := 288) (n := 128) 1 0 (by decide) (by decide) (by decide) (O18 x0 x2 x4) _ (fun l i => vs0 x0 x2 x4 (s := 1) (hs := by omega) (xn2 c arg1 harg1 arg3 harg3 x0 x2) (fun l k => ldr harg5 x4 0 (by decide) l k (by omega)) l i) x, ?_⟩
  refine List.forall_mem_cons.2 ⟨fun x => piece3 (b := 288) (n := 16) 0 272 (by decide) (by decide) (by decide) (O18 x0 x2 x4) _ (fun l i => ones18 x0 x2 x4 0 272 (by omega) l i) x, ?_⟩
  refine List.forall_mem_cons.2 ⟨fun x => piece3 (b := 288) (n := 128) 0 144 (by decide) (by decide) (by decide) (O18 x0 x2 x4) _ (fun l i => vs1 x0 x2 x4 (s := 0) (hs := by omega) (xn1 c arg1 harg1 arg3 harg3 x0 x2) (fun l k => ldr harg5 x4 0 (by decide) l k (by omega)) l i) x, ?_⟩
  refine List.forall_mem_cons.2 ⟨fun x => piece3 (b := 288) (n := 16) 0 128 (by decide) (by decide) (by decide) (O18 x0 x2 x4) _ (fun l i => ones18 x0 x2 x4 0 128 (by omega) l i) x, ?_⟩
  refine List.forall_mem_cons.2 ⟨fun x => piece3 (b := 288) (n := 128) 0 0 (by decide) (by decide) (by decide) (O18 x0 x2 x4) _ (fun l i => vs0 x0 x2 x4 (s := 0) (hs := by omega) (xn1 c arg1 harg1 arg3 harg3 x0 x2) (fun l k => ldr harg5 x4 0 (by decide) l k (by omega)) l i) x, ?_⟩
  exact List.forall_mem_nil _

theorem out20 (y : S2x288x256.Idx) : out0_A_20 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O20 x0 x2 x4 (y 0) (y 1) (y 2) := by
  refine View.read_writes_apply_of_pieces VO0_20 _ (fun y => O20 x0 x2 x4 (y 0) (y 1) (y 2)) _ ?_ y (cover0_A_20 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece3 (b := 288) (n := 16) 1 272 (by decide) (by decide) (by decide) (O20 x0 x2 x4) _ (fun l i => ones20 x0 x2 x4 1 272 (by omega) l i) x, ?_⟩
  refine List.forall_mem_cons.2 ⟨fun x => piece3 (b := 288) (n := 128) 1 144 (by decide) (by decide) (by decide) (O20 x0 x2 x4) _ (fun l i => (congrFun (e71 _ _) _).trans (vw1 x0 x2 x4 (s := 1) (hs := by omega) (xn2 c arg1 harg1 arg3 harg3 x0 x2) (fun l k => ldr harg5 x4 256 (by decide) l k (by omega)) l i)) x, ?_⟩
  refine List.forall_mem_cons.2 ⟨fun x => piece3 (b := 288) (n := 16) 1 128 (by decide) (by decide) (by decide) (O20 x0 x2 x4) _ (fun l i => ones20 x0 x2 x4 1 128 (by omega) l i) x, ?_⟩
  refine List.forall_mem_cons.2 ⟨fun x => piece3 (b := 288) (n := 128) 1 0 (by decide) (by decide) (by decide) (O20 x0 x2 x4) _ (fun l i => (congrFun (e69 _ _) _).trans (vw0 x0 x2 x4 (s := 1) (hs := by omega) (xn2 c arg1 harg1 arg3 harg3 x0 x2) (fun l k => ldr harg5 x4 256 (by decide) l k (by omega)) l i)) x, ?_⟩
  refine List.forall_mem_cons.2 ⟨fun x => piece3 (b := 288) (n := 16) 0 272 (by decide) (by decide) (by decide) (O20 x0 x2 x4) _ (fun l i => ones20 x0 x2 x4 0 272 (by omega) l i) x, ?_⟩
  refine List.forall_mem_cons.2 ⟨fun x => piece3 (b := 288) (n := 128) 0 144 (by decide) (by decide) (by decide) (O20 x0 x2 x4) _ (fun l i => (congrFun (e67 _ _) _).trans (vw1 x0 x2 x4 (s := 0) (hs := by omega) (xn1 c arg1 harg1 arg3 harg3 x0 x2) (fun l k => ldr harg5 x4 256 (by decide) l k (by omega)) l i)) x, ?_⟩
  refine List.forall_mem_cons.2 ⟨fun x => piece3 (b := 288) (n := 16) 0 128 (by decide) (by decide) (by decide) (O20 x0 x2 x4) _ (fun l i => ones20 x0 x2 x4 0 128 (by omega) l i) x, ?_⟩
  refine List.forall_mem_cons.2 ⟨fun x => piece3 (b := 288) (n := 128) 0 0 (by decide) (by decide) (by decide) (O20 x0 x2 x4) _ (fun l i => vw0 x0 x2 x4 (s := 0) (hs := by omega) (xn1 c arg1 harg1 arg3 harg3 x0 x2) (fun l k => ldr harg5 x4 256 (by decide) l k (by omega)) l i) x, ?_⟩
  exact List.forall_mem_nil _

end Cert.Kernel3Ideal.Blocks

end
-- ==== Proof.Proj.Outs4.lean ====
module

public import proofs.«01_k».proof.Proof.Proj.Same

/-!
The blocks of the latent queries, as the kernel leaves them.
-/

@[expose] public section

set_option maxRecDepth 16384
set_option maxHeartbeats 1000000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem out22 (y : S512x1024.Idx) : out0_A_22 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O22 x0 x1 x2 x3 x5 x7 x8 x11 (y 0) (y 1) := by
  refine View.read_writes_apply_of_pieces VO0_22 _ (fun y => O22 x0 x1 x2 x3 x5 x7 x8 x11 (y 0) (y 1)) _ ?_ y (cover0_A_22 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 1024) (n := 256) (k := 128) 256 896 (by decide) (by decide) (by decide) (O22 x0 x1 x2 x3 x5 x7 x8 x11) _ (fun i j => headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 7 (by omega) (fun k j => ldc harg8 x7 896 (by decide) k j (by omega)) (fun k j => ldc harg9 x8 896 (by decide) k j (by omega)) i j) x, ?_⟩
  refine List.forall_mem_cons.2 ⟨fun x => piece2 (a := 512) (b := 1024) (n := 256) (k := 128) 0 896 (by decide) (by decide) (by decide) (O22 x0 x1 x2 x3 x5 x7 x8 x11) _ (fun i j => (congrFun (e147 _ _ _ _ _) _).trans (headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 7 (by omega) (fun k j => ldc harg8 x7 896 (by decide) k j (by omega)) (fun k j => ldc harg9 x8 896 (by decide) k j (by omega)) i j)) x, ?_⟩
  refine List.forall_mem_cons.2 ⟨fun x => piece2 (a := 512) (b := 1024) (n := 256) (k := 128) 256 768 (by decide) (by decide) (by decide) (O22 x0 x1 x2 x3 x5 x7 x8 x11) _ (fun i j => headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 6 (by omega) (fun k j => ldc harg8 x7 768 (by decide) k j (by omega)) (fun k j => ldc harg9 x8 768 (by decide) k j (by omega)) i j) x, ?_⟩
  refine List.forall_mem_cons.2 ⟨fun x => piece2 (a := 512) (b := 1024) (n := 256) (k := 128) 0 768 (by decide) (by decide) (by decide) (O22 x0 x1 x2 x3 x5 x7 x8 x11) _ (fun i j => headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 6 (by omega) (fun k j => ldc harg8 x7 768 (by decide) k j (by omega)) (fun k j => ldc harg9 x8 768 (by decide) k j (by omega)) i j) x, ?_⟩
  refine List.forall_mem_cons.2 ⟨fun x => piece2 (a := 512) (b := 1024) (n := 256) (k := 128) 256 640 (by decide) (by decide) (by decide) (O22 x0 x1 x2 x3 x5 x7 x8 x11) _ (fun i j => (congrFun (e141 _ _ _ _ _) _).trans (headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 5 (by omega) (fun k j => ldc harg8 x7 640 (by decide) k j (by omega)) (fun k j => ldc harg9 x8 640 (by decide) k j (by omega)) i j)) x, ?_⟩
  refine List.forall_mem_cons.2 ⟨fun x => piece2 (a := 512) (b := 1024) (n := 256) (k := 128) 0 640 (by decide) (by decide) (by decide) (O22 x0 x1 x2 x3 x5 x7 x8 x11) _ (fun i j => headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 5 (by omega) (fun k j => ldc harg8 x7 640 (by decide) k j (by omega)) (fun k j => ldc harg9 x8 640 (by decide) k j (by omega)) i j) x, ?_⟩
  refine List.forall_mem_cons.2 ⟨fun x => piece2 (a := 512) (b := 1024) (n := 256) (k := 128) 256 512 (by decide) (by decide) (by decide) (O22 x0 x1 x2 x3 x5 x7 x8 x11) _ (fun i j => (congrFun (e136 _ _ _ _ _) _).trans (headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 4 (by omega) (fun k j => ldc harg8 x7 512 (by decide) k j (by omega)) (fun k j => ldc harg9 x8 512 (by decide) k j (by omega)) i j)) x, ?_⟩
  refine List.forall_mem_cons.2 ⟨fun x => piece2 (a := 512) (b := 1024) (n := 256) (k := 128) 0 512 (by decide) (by decide) (by decide) (O22 x0 x1 x2 x3 x5 x7 x8 x11) _ (fun i j => headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 4 (by omega) (fun k j => ldc harg8 x7 512 (by decide) k j (by omega)) (fun k j => ldc harg9 x8 512 (by decide) k j (by omega)) i j) x, ?_⟩
  refine List.forall_mem_cons.2 ⟨fun x => piece2 (a := 512) (b := 1024) (n := 256) (k := 128) 256 384 (by decide) (by decide) (by decide) (O22 x0 x1 x2 x3 x5 x7 x8 x11) _ (fun i j => headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 3 (by omega) (fun k j => ldc harg8 x7 384 (by decide) k j (by omega)) (fun k j => ldc harg9 x8 384 (by decide) k j (by omega)) i j) x, ?_⟩
  refine List.forall_mem_cons.2 ⟨fun x => piece2 (a := 512) (b := 1024) (n := 256) (k := 128) 0 384 (by decide) (by decide) (by decide) (O22 x0 x1 x2 x3 x5 x7 x8 x11) _ (fun i j => headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 3 (by omega) (fun k j => ldc harg8 x7 384 (by decide) k j (by omega)) (fun k j => ldc harg9 x8 384 (by decide) k j (by omega)) i j) x, ?_⟩
  refine List.forall_mem_cons.2 ⟨fun x => piece2 (a := 512) (b := 1024) (n := 256) (k := 128) 256 256 (by decide) (by decide) (by decide) (O22 x0 x1 x2 x3 x5 x7 x8 x11) _ (fun i j => headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 2 (by omega) (fun k j => ldc harg8 x7 256 (by decide) k j (by omega)) (fun k j => ldc harg9 x8 256 (by decide) k j (by omega)) i j) x, ?_⟩
  refine List.forall_mem_cons.2 ⟨fun x => piece2 (a := 512) (b := 1024) (n := 256) (k := 128) 0 256 (by decide) (by decide) (by decide) (O22 x0 x1 x2 x3 x5 x7 x8 x11) _ (fun i j => (congrFun (e123 _ _ _ _ _) _).trans (headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 2 (by omega) (fun k j => ldc harg8 x7 256 (by decide) k j (by omega)) (fun k j => ldc harg9 x8 256 (by decide) k j (by omega)) i j)) x, ?_⟩
  refine List.forall_mem_cons.2 ⟨fun x => piece2 (a := 512) (b := 1024) (n := 256) (k := 128) 256 128 (by decide) (by decide) (by decide) (O22 x0 x1 x2 x3 x5 x7 x8 x11) _ (fun i j => headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 1 (by omega) (fun k j => ldc harg8 x7 128 (by decide) k j (by omega)) (fun k j => ldc harg9 x8 128 (by decide) k j (by omega)) i j) x, ?_⟩
  refine List.forall_mem_cons.2 ⟨fun x => piece2 (a := 512) (b := 1024) (n := 256) (k := 128) 0 128 (by decide) (by decide) (by decide) (O22 x0 x1 x2 x3 x5 x7 x8 x11) _ (fun i j => (congrFun (e117 _ _ _ _ _) _).trans (headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 1 (by omega) (fun k j => ldc harg8 x7 128 (by decide) k j (by omega)) (fun k j => ldc harg9 x8 128 (by decide) k j (by omega)) i j)) x, ?_⟩
  refine List.forall_mem_cons.2 ⟨fun x => piece2 (a := 512) (b := 1024) (n := 256) (k := 128) 256 0 (by decide) (by decide) (by decide) (O22 x0 x1 x2 x3 x5 x7 x8 x11) _ (fun i j => headQ x0 x1 x2 x3 x5 x7 x8 x11 (co2 c arg2 harg2 arg12 harg12 x1 x11) (si2 c arg2 harg2 arg12 harg12 x1 x11) (cq2 c arg1 harg1 arg3 harg3 arg4 harg4 arg6 harg6 x0 x2 x3 x5) 0 (by omega) (fun k j => ldc harg8 x7 0 (by decide) k j (by omega)) (fun k j => ldc harg9 x8 0 (by decide) k j (by omega)) i j) x, ?_⟩
  refine List.forall_mem_cons.2 ⟨fun x => piece2 (a := 512) (b := 1024) (n := 256) (k := 128) 0 0 (by decide) (by decide) (by decide) (O22 x0 x1 x2 x3 x5 x7 x8 x11) _ (fun i j => headQ x0 x1 x2 x3 x5 x7 x8 x11 (co1 c arg2 harg2 arg12 harg12 x1 x11) (si1 c arg2 harg2 arg12 harg12 x1 x11) (cq1 c arg1 harg1 arg3 harg3 arg4 harg4 arg6 harg6 x0 x2 x3 x5) 0 (by omega) (fun k j => ldc harg8 x7 0 (by decide) k j (by omega)) (fun k j => ldc harg9 x8 0 (by decide) k j (by omega)) i j) x, ?_⟩
  exact List.forall_mem_nil _

end Cert.Kernel3Ideal.Blocks

end
-- ==== Proof.Proj.Outs5.lean ====
module

public import proofs.«01_k».proof.Proof.Proj.Same

/-!
The blocks of the latent keys, as the kernel leaves them.
-/

@[expose] public section

set_option maxRecDepth 16384
set_option maxHeartbeats 1000000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem out23 (y : S512x1024.Idx) : out0_A_23 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O23 x0 x1 x2 x3 x6 x9 x11 (y 0) (y 1) := by
  refine View.read_writes_apply_of_pieces VO0_23 _ (fun y => O23 x0 x1 x2 x3 x6 x9 x11 (y 0) (y 1)) _ ?_ y (cover0_A_23 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece2 (a := 512) (b := 1024) (n := 256) (k := 128) 256 896 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 7 (by omega) (fun k j => ldc harg10 x9 896 (by decide) k j (by omega)) i j) x, ?_⟩
  refine List.forall_mem_cons.2 ⟨fun x => piece2 (a := 512) (b := 1024) (n := 256) (k := 128) 0 896 (by decide) (by decide) (by decide) (O23 x0 x1 x2 x3 x6 x9 x11) _ (fun i j => headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 7 (by omega) (fun k j => ldc harg10 x9 896 (by decide) k j (by omega)) i j) x, ?_⟩
  refine List.forall_mem_cons.2 ⟨fun x => piece2 (a := 512) (b := 1024) (n := 256) (k := 128) 256 768 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 6 (by omega) (fun k j => ldc harg10 x9 768 (by decide) k j (by omega)) i j) x, ?_⟩
  refine List.forall_mem_cons.2 ⟨fun x => piece2 (a := 512) (b := 1024) (n := 256) (k := 128) 0 768 (by decide) (by decide) (by decide) (O23 x0 x1 x2 x3 x6 x9 x11) _ (fun i j => (congrFun (e144 _ _ _) _).trans (headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 6 (by omega) (fun k j => ldc harg10 x9 768 (by decide) k j (by omega)) i j)) x, ?_⟩
  refine List.forall_mem_cons.2 ⟨fun x => piece2 (a := 512) (b := 1024) (n := 256) (k := 128) 256 640 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 5 (by omega) (fun k j => ldc harg10 x9 640 (by decide) k j (by omega)) i j) x, ?_⟩
  refine List.forall_mem_cons.2 ⟨fun x => piece2 (a := 512) (b := 1024) (n := 256) (k := 128) 0 640 (by decide) (by decide) (by decide) (O23 x0 x1 x2 x3 x6 x9 x11) _ (fun i j => headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 5 (by omega) (fun k j => ldc harg10 x9 640 (by decide) k j (by omega)) i j) x, ?_⟩
  refine List.forall_mem_cons.2 ⟨fun x => piece2 (a := 512) (b := 1024) (n := 256) (k := 128) 256 512 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 4 (by omega) (fun k j => ldc harg10 x9 512 (by decide) k j (by omega)) i j) x, ?_⟩
  refine List.forall_mem_cons.2 ⟨fun x => piece2 (a := 512) (b := 1024) (n := 256) (k := 128) 0 512 (by decide) (by decide) (by decide) (O23 x0 x1 x2 x3 x6 x9 x11) _ (fun i j => headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 4 (by omega) (fun k j => ldc harg10 x9 512 (by decide) k j (by omega)) i j) x, ?_⟩
  refine List.forall_mem_cons.2 ⟨fun x => piece2 (a := 512) (b := 1024) (n := 256) (k := 128) 256 384 (by decide) (by decide) (by decide) (O23 x0 x1 x2 x3 x6 x9 x11) _ (fun i j => (congrFun (e131 _ _ _) _).trans (headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 3 (by omega) (fun k j => ldc harg10 x9 384 (by decide) k j (by omega)) i j)) x, ?_⟩
  refine List.forall_mem_cons.2 ⟨fun x => piece2 (a := 512) (b := 1024) (n := 256) (k := 128) 0 384 (by decide) (by decide) (by decide) (O23 x0 x1 x2 x3 x6 x9 x11) _ (fun i j => headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 3 (by omega) (fun k j => ldc harg10 x9 384 (by decide) k j (by omega)) i j) x, ?_⟩
  refine List.forall_mem_cons.2 ⟨fun x => piece2 (a := 512) (b := 1024) (n := 256) (k := 128) 256 256 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 2 (by omega) (fun k j => ldc harg10 x9 256 (by decide) k j (by omega)) i j) x, ?_⟩
  refine List.forall_mem_cons.2 ⟨fun x => piece2 (a := 512) (b := 1024) (n := 256) (k := 128) 0 256 (by decide) (by decide) (by decide) (O23 x0 x1 x2 x3 x6 x9 x11) _ (fun i j => headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 2 (by omega) (fun k j => ldc harg10 x9 256 (by decide) k j (by omega)) i j) x, ?_⟩
  refine List.forall_mem_cons.2 ⟨fun x => piece2 (a := 512) (b := 1024) (n := 256) (k := 128) 256 128 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 1 (by omega) (fun k j => ldc harg10 x9 128 (by decide) k j (by omega)) i j) x, ?_⟩
  refine List.forall_mem_cons.2 ⟨fun x => piece2 (a := 512) (b := 1024) (n := 256) (k := 128) 0 128 (by decide) (by decide) (by decide) (O23 x0 x1 x2 x3 x6 x9 x11) _ (fun i j => headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 1 (by omega) (fun k j => ldc harg10 x9 128 (by decide) k j (by omega)) i j) x, ?_⟩
  refine List.forall_mem_cons.2 ⟨fun x => piece2 (a := 512) (b := 1024) (n := 256) (k := 128) 256 0 (by decide) (by decide) (by decide) (O23 x0 x1 x2 x3 x6 x9 x11) _ (fun i j => headK x0 x1 x2 x3 x6 x9 x11 (kpe2 c arg1 harg1 arg2 harg2 arg3 harg3 arg4 harg4 arg12 harg12 x0 x1 x2 x3 x11) (ckv2 c arg1 harg1 arg3 harg3 arg4 harg4 arg7 harg7 x0 x2 x3 x6) 0 (by omega) (fun k j => ldc harg10 x9 0 (by decide) k j (by omega)) i j) x, ?_⟩
  refine List.forall_mem_cons.2 ⟨fun x => piece2 (a := 512) (b := 1024) (n := 256) (k := 128) 0 0 (by decide) (by decide) (by decide) (O23 x0 x1 x2 x3 x6 x9 x11) _ (fun i j => (congrFun (e114 _ _ _ _ _ _ _) _).trans (headK x0 x1 x2 x3 x6 x9 x11 (kpe1 c arg1 harg1 arg2 harg2 arg3 harg3 arg4 harg4 arg12 harg12 x0 x1 x2 x3 x11) (ckv1 c arg1 harg1 arg3 harg3 arg4 harg4 arg7 harg7 x0 x2 x3 x6) 0 (by omega) (fun k j => ldc harg10 x9 0 (by decide) k j (by omega)) i j)) x, ?_⟩
  exact List.forall_mem_nil _

end Cert.Kernel3Ideal.Blocks

end
-- ==== Proof.Proj.Outs6.lean ====
module

public import proofs.«01_k».proof.Proof.Proj.Same

/-!
The blocks of the latent values, as the kernel leaves them.
-/

@[expose] public section

set_option maxRecDepth 16384
set_option maxHeartbeats 1000000

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

variable (c : Dev nD) (g : grid0.Coords) (arg1 : Memref sig .tc .vmem S512x1024 .f32) (harg1 : arg1.IsWhole) (arg2 : Memref sig .tc .vmem S512x1 .i32) (harg2 : arg2.IsWhole) (arg3 : Memref sig .tc .vmem S1x1024 .f32) (harg3 : arg3.IsWhole) (arg4 : Memref sig .tc .vmem S1024x4608 .bf16) (harg4 : arg4.IsWhole) (arg5 : Memref sig .tc .vmem S512x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S128x1024 .bf16) (harg10 : arg10.IsWhole) (arg11 : Memref sig .tc .vmem S512x128 .bf16) (harg11 : arg11.IsWhole) (arg12 : Memref sig .tc .vmem S1x128 .f32) (harg12 : arg12.IsWhole) (arg13 : Memref sig .tc .vmem S1x1024 .f32) (harg13 : arg13.IsWhole) (arg14 : Memref sig .tc .vmem S128x1536 .bf16) (harg14 : arg14.IsWhole) (arg15 : Memref sig .tc .vmem S512x1024 .bf16) (harg15 : arg15.IsWhole) (arg16 : Memref sig .tc .vmem S512x128 .bf16) (harg16 : arg16.IsWhole) (arg17 : Memref sig .tc .vmem S512x128 .bf16) (harg17 : arg17.IsWhole) (arg18 : Memref sig .tc .vmem S512x256 .bf16) (harg18 : arg18.IsWhole) (arg19 : Memref sig .tc .vmem S2x288x256 .bf16) (harg19 : arg19.IsWhole) (arg20 : Memref sig .tc .vmem S512x256 .bf16) (harg20 : arg20.IsWhole) (arg21 : Memref sig .tc .vmem S2x288x256 .bf16) (harg21 : arg21.IsWhole) (arg22 : Memref sig .tc .vmem S512x1536 .f32) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S2x576x256 .bf16) (harg25 : arg25.IsWhole) (arg26 : Memref sig .tc .vmem S512x1024 .f32) (harg26 : arg26.IsWhole) (arg27 : Memref sig .tc .vmem S512x1024 .f32) (harg27 : arg27.IsWhole)
variable (x0 : Vec Ideal S512x1024 .f32) (x1 : Vec Ideal S512x1 .i32) (x2 : Vec Ideal S1x1024 .f32) (x3 : Vec Ideal S1024x4608 .bf16) (x4 : Vec Ideal S512x1024 .bf16) (x5 : Vec Ideal S1x256 .f32) (x6 : Vec Ideal S1x128 .f32) (x7 : Vec Ideal S256x1024 .bf16) (x8 : Vec Ideal S256x1024 .bf16) (x9 : Vec Ideal S128x1024 .bf16) (x10 : Vec Ideal S512x128 .bf16) (x11 : Vec Ideal S1x128 .f32) (x12 : Vec Ideal S1x1024 .f32) (x13 : Vec Ideal S128x1536 .bf16)

theorem out24 (y : S2x576x256.Idx) : out0_A_24 (F := Ideal) c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y = O24 x0 x2 x3 x6 x10 (y 0) (y 1) (y 2) := by
  refine View.read_writes_apply_of_pieces VO0_24 _ (fun y => O24 x0 x2 x3 x6 x10 (y 0) (y 1) (y 2)) _ ?_ y (cover0_A_24 c g arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 y)
  unfold kernelRun0_A; dsimp only
  refine List.forall_mem_cons.2 ⟨fun x => piece3 (b := 576) (n := 16) 1 560 (by decide) (by decide) (by decide) (O24 x0 x2 x3 x6 x10) _ (fun l i => ones24 x0 x2 x3 x6 x10 1 560 (by omega) l i) x, ?_⟩
  refine List.forall_mem_cons.2 ⟨fun x => piece3 (b := 576) (n := 128) 1 432 (by decide) (by decide) (by decide) (O24 x0 x2 x3 x6 x10) _ (fun l i => vm3 x0 x2 x3 x6 x10 (s := 1) (hs := by omega) (ckv2 c arg1 harg1 arg3 harg3 arg4 harg4 arg7 harg7 x0 x2 x3 x6) (fun l k => lda harg11 x10 (by decide) l k) l i) x, ?_⟩
  refine List.forall_mem_cons.2 ⟨fun x => piece3 (b := 576) (n := 16) 1 416 (by decide) (by decide) (by decide) (O24 x0 x2 x3 x6 x10) _ (fun l i => ones24 x0 x2 x3 x6 x10 1 416 (by omega) l i) x, ?_⟩
  refine List.forall_mem_cons.2 ⟨fun x => piece3 (b := 576) (n := 128) 1 288 (by decide) (by decide) (by decide) (O24 x0 x2 x3 x6 x10) _ (fun l i => vm2 x0 x2 x3 x6 x10 (s := 1) (hs := by omega) (ckv2 c arg1 harg1 arg3 harg3 arg4 harg4 arg7 harg7 x0 x2 x3 x6) (fun l k => lda harg11 x10 (by decide) l k) l i) x, ?_⟩
  refine List.forall_mem_cons.2 ⟨fun x => piece3 (b := 576) (n := 16) 1 272 (by decide) (by decide) (by decide) (O24 x0 x2 x3 x6 x10) _ (fun l i => ones24 x0 x2 x3 x6 x10 1 272 (by omega) l i) x, ?_⟩
  refine List.forall_mem_cons.2 ⟨fun x => piece3 (b := 576) (n := 128) 1 144 (by decide) (by decide) (by decide) (O24 x0 x2 x3 x6 x10) _ (fun l i => vm1 x0 x2 x3 x6 x10 (s := 1) (hs := by omega) (ckv2 c arg1 harg1 arg3 harg3 arg4 harg4 arg7 harg7 x0 x2 x3 x6) (fun l k => lda harg11 x10 (by decide) l k) l i) x, ?_⟩
  refine List.forall_mem_cons.2 ⟨fun x => piece3 (b := 576) (n := 16) 1 128 (by decide) (by decide) (by decide) (O24 x0 x2 x3 x6 x10) _ (fun l i => ones24 x0 x2 x3 x6 x10 1 128 (by omega) l i) x, ?_⟩
  refine List.forall_mem_cons.2 ⟨fun x => piece3 (b := 576) (n := 128) 1 0 (by decide) (by decide) (by decide) (O24 x0 x2 x3 x6 x10) _ (fun l i => vm0 x0 x2 x3 x6 x10 (s := 1) (hs := by omega) (ckv2 c arg1 harg1 arg3 harg3 arg4 harg4 arg7 harg7 x0 x2 x3 x6) (fun l k => lda harg11 x10 (by decide) l k) l i) x, ?_⟩
  refine List.forall_mem_cons.2 ⟨fun x => piece3 (b := 576) (n := 16) 0 560 (by decide) (by decide) (by decide) (O24 x0 x2 x3 x6 x10) _ (fun l i => ones24 x0 x2 x3 x6 x10 0 560 (by omega) l i) x, ?_⟩
  refine List.forall_mem_cons.2 ⟨fun x => piece3 (b := 576) (n := 128) 0 432 (by decide) (by decide) (by decide) (O24 x0 x2 x3 x6 x10) _ (fun l i => vm3 x0 x2 x3 x6 x10 (s := 0) (hs := by omega) (ckv1 c arg1 harg1 arg3 harg3 arg4 harg4 arg7 harg7 x0 x2 x3 x6) (fun l k => lda harg11 x10 (by decide) l k) l i) x, ?_⟩
  refine List.forall_mem_cons.2 ⟨fun x => piece3 (b := 576) (n := 16) 0 416 (by decide) (by decide) (by decide) (O24 x0 x2 x3 x6 x10) _ (fun l i => ones24 x0 x2 x3 x6 x10 0 416 (by omega) l i) x, ?_⟩
  refine List.forall_mem_cons.2 ⟨fun x => piece3 (b := 576) (n := 128) 0 288 (by decide) (by decide) (by decide) (O24 x0 x2 x3 x6 x10) _ (fun l i => vm2 x0 x2 x3 x6 x10 (s := 0) (hs := by omega) (ckv1 c arg1 harg1 arg3 harg3 arg4 harg4 arg7 harg7 x0 x2 x3 x6) (fun l k => lda harg11 x10 (by decide) l k) l i) x, ?_⟩
  refine List.forall_mem_cons.2 ⟨fun x => piece3 (b := 576) (n := 16) 0 272 (by decide) (by decide) (by decide) (O24 x0 x2 x3 x6 x10) _ (fun l i => ones24 x0 x2 x3 x6 x10 0 272 (by omega) l i) x, ?_⟩
  refine List.forall_mem_cons.2 ⟨fun x => piece3 (b := 576) (n := 128) 0 144 (by decide) (by decide) (by decide) (O24 x0 x2 x3 x6 x10) _ (fun l i => vm1 x0 x2 x3 x6 x10 (s := 0) (hs := by omega) (ckv1 c arg1 harg1 arg3 harg3 arg4 harg4 arg7 harg7 x0 x2 x3 x6) (fun l k => lda harg11 x10 (by decide) l k) l i) x, ?_⟩
  refine List.forall_mem_cons.2 ⟨fun x => piece3 (b := 576) (n := 16) 0 128 (by decide) (by decide) (by decide) (O24 x0 x2 x3 x6 x10) _ (fun l i => ones24 x0 x2 x3 x6 x10 0 128 (by omega) l i) x, ?_⟩
  refine List.forall_mem_cons.2 ⟨fun x => piece3 (b := 576) (n := 128) 0 0 (by decide) (by decide) (by decide) (O24 x0 x2 x3 x6 x10) _ (fun l i => vm0 x0 x2 x3 x6 x10 (s := 0) (hs := by omega) (ckv1 c arg1 harg1 arg3 harg3 arg4 harg4 arg7 harg7 x0 x2 x3 x6) (fun l k => lda harg11 x10 (by decide) l k) l i) x, ?_⟩
  exact List.forall_mem_nil _

end Cert.Kernel3Ideal.Blocks

end
-- ==== Proof.Proj.Windows.lean ====
module

public import proofs.«01_k».proof.Proof.Proj.Outs1
public import proofs.«01_k».proof.Proof.Proj.Outs2
public import proofs.«01_k».proof.Proof.Proj.Outs3
public import proofs.«01_k».proof.Proof.Proj.Outs4
public import proofs.«01_k».proof.Proof.Proj.Outs5
public import proofs.«01_k».proof.Proof.Proj.Outs6
public import Idealize.ShloMosaic.Lib.StableHlo.ReadAt
public import Idealize.ShloMosaic.Lib.Tactic.WordOmega

/-!
The projection call's windows' blocks, and its thirteen arrays as the points' blocks put together.
-/

@[expose] public section

set_option maxRecDepth 16384

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

/-- The token of row `i` of point `t`'s blocks, and a token's point and row. -/
def tok (t : Fin cfg0.N) (i : Fin 512) : Fin 16384 := ⟨t.val * 512 + i.val, by have h : t.val < 32 := t.isLt; omega⟩
def ptOf (R : Fin 16384) : Fin cfg0.N := ⟨R.val / 512, by show R.val / 512 < 32; omega⟩
def inOf (R : Fin 16384) : Fin 512 := ⟨R.val % 512, by omega⟩

theorem ptOf_tok (t : Fin cfg0.N) (i : Fin 512) : ptOf (tok t i) = t := Fin.ext (by show (t.val * 512 + i.val) / 512 = t.val; omega)
theorem inOf_tok (t : Fin cfg0.N) (i : Fin 512) : inOf (tok t i) = i := Fin.ext (by show (t.val * 512 + i.val) % 512 = i.val; omega)
theorem tok_ptOf (R : Fin 16384) : tok (ptOf R) (inOf R) = R := Fin.ext (by show R.val / 512 * 512 + R.val % 512 = R.val; omega)

/-- The like for blocks of two halves. -/
def hlf (t : Fin cfg0.N) (s : Fin 2) : Fin 64 := ⟨t.val * 2 + s.val, by have h : t.val < 32 := t.isLt; omega⟩
def ptOf2 (a : Fin 64) : Fin cfg0.N := ⟨a.val / 2, by show a.val / 2 < 32; omega⟩
def inOf2 (a : Fin 64) : Fin 2 := ⟨a.val % 2, by omega⟩

theorem ptOf2_hlf (t : Fin cfg0.N) (s : Fin 2) : ptOf2 (hlf t s) = t := Fin.ext (by show (t.val * 2 + s.val) / 2 = t.val; omega)
theorem inOf2_hlf (t : Fin cfg0.N) (s : Fin 2) : inOf2 (hlf t s) = s := Fin.ext (by show (t.val * 2 + s.val) % 2 = s.val; omega)

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel
theorem idx13 : ∀ t : Fin cfg0.N, win0_13.index t 0 = 0 ∧ win0_13.index t 1 = 0 := by decide +kernel
theorem idx14 : ∀ t : Fin cfg0.N, win0_14.index t 0 = t.val ∧ win0_14.index t 1 = 0 := by decide +kernel
theorem idx15 : ∀ t : Fin cfg0.N, win0_15.index t 0 = t.val ∧ win0_15.index t 1 = 0 := by decide +kernel
theorem idx16 : ∀ t : Fin cfg0.N, win0_16.index t 0 = t.val ∧ win0_16.index t 1 = 0 := by decide +kernel
theorem idx17 : ∀ t : Fin cfg0.N, win0_17.index t 0 = t.val ∧ win0_17.index t 1 = 0 := by decide +kernel
theorem idx18 : ∀ t : Fin cfg0.N, win0_18.index t 0 = t.val ∧ win0_18.index t 1 = 0 ∧ win0_18.index t 2 = 0 := by decide +kernel
theorem idx19 : ∀ t : Fin cfg0.N, win0_19.index t 0 = t.val ∧ win0_19.index t 1 = 0 := by decide +kernel
theorem idx20 : ∀ t : Fin cfg0.N, win0_20.index t 0 = t.val ∧ win0_20.index t 1 = 0 ∧ win0_20.index t 2 = 0 := by decide +kernel
theorem idx21 : ∀ t : Fin cfg0.N, win0_21.index t 0 = t.val ∧ win0_21.index t 1 = 0 := by decide +kernel
theorem idx22 : ∀ t : Fin cfg0.N, win0_22.index t 0 = t.val ∧ win0_22.index t 1 = 0 := by decide +kernel
theorem idx23 : ∀ t : Fin cfg0.N, win0_23.index t 0 = t.val ∧ win0_23.index t 1 = 0 := by decide +kernel
theorem idx24 : ∀ t : Fin cfg0.N, win0_24.index t 0 = t.val ∧ win0_24.index t 1 = 0 ∧ win0_24.index t 2 = 0 := by decide +kernel
theorem idx25 : ∀ t : Fin cfg0.N, win0_25.index t 0 = t.val ∧ win0_25.index t 1 = 0 := by decide +kernel
theorem idx26 : ∀ t : Fin cfg0.N, win0_26.index t 0 = t.val ∧ win0_26.index t 1 = 0 := by decide +kernel

theorem iblk0 (t : Fin cfg0.N) (i : Fin 512) (j : Fin 1024) : (iblk m c 0 t : Vec Ideal S512x1024 .f32) (ix2 i j) = (V m c main_v0 : Vec Ideal S16384x1024 .f32) (ix2 (tok t i) j) := by
  obtain ⟨h0, h1⟩ := idx0 t
  unfold iblk
  rw [View.read_apply]
  show V m c main_v0 _ = V m c main_v0 _
  congr 1; funext a; apply Fin.ext
  match a with
  | ⟨0, _⟩ => show win0_0.index t 0 * 512 + 1 * i.val = _; rw [h0, one_mul]; rfl
  | ⟨1, _⟩ => show win0_0.index t 1 * 1024 + 1 * j.val = _; rw [h1, one_mul, Nat.zero_mul, Nat.zero_add]; rfl

theorem iblk1 (t : Fin cfg0.N) (i : Fin 512) (j : Fin 1) : (iblk m c 1 t : Vec Ideal S512x1 .i32) (ix2 i j) = (V m c main_v1 : Vec Ideal S16384x1 .i32) (ix2 (tok t i) j) := by
  obtain ⟨h0, h1⟩ := idx1 t
  unfold iblk
  rw [View.read_apply]
  show V m c main_v1 _ = V m c main_v1 _
  congr 1; funext a; apply Fin.ext
  match a with
  | ⟨0, _⟩ => show win0_1.index t 0 * 512 + 1 * i.val = _; rw [h0, one_mul]; rfl
  | ⟨1, _⟩ => show win0_1.index t 1 * 1 + 1 * j.val = _; rw [h1, one_mul, Nat.zero_mul, Nat.zero_add]; rfl

theorem iblk2 (t : Fin cfg0.N) (i : Fin 1) (j : Fin 1024) : (iblk m c 2 t : Vec Ideal S1x1024 .f32) (ix2 i j) = (V m c main_v97 : Vec Ideal S1x1024 .f32) (ix2 i j) := by
  obtain ⟨h0, h1⟩ := idx2 t
  unfold iblk
  rw [View.read_apply]
  show V m c main_v97 _ = V m c main_v97 _
  congr 1; funext a; apply Fin.ext
  match a with
  | ⟨0, _⟩ => show win0_2.index t 0 * 1 + 1 * i.val = _; rw [h0, one_mul, Nat.zero_mul, Nat.zero_add]; rfl
  | ⟨1, _⟩ => show win0_2.index t 1 * 1024 + 1 * j.val = _; rw [h1, one_mul, Nat.zero_mul, Nat.zero_add]; rfl

theorem iblk3 (t : Fin cfg0.N) (i : Fin 1024) (j : Fin 4608) : (iblk m c 3 t : Vec Ideal S1024x4608 .bf16) (ix2 i j) = (V m c main_v46 : Vec Ideal S1024x4608 .bf16) (ix2 i j) := by
  obtain ⟨h0, h1⟩ := idx3 t
  unfold iblk
  rw [View.read_apply]
  show V m c main_v46 _ = V m c main_v46 _
  congr 1; funext a; apply Fin.ext
  match a with
  | ⟨0, _⟩ => show win0_3.index t 0 * 1024 + 1 * i.val = _; rw [h0, one_mul, Nat.zero_mul, Nat.zero_add]; rfl
  | ⟨1, _⟩ => show win0_3.index t 1 * 4608 + 1 * j.val = _; rw [h1, one_mul, Nat.zero_mul, Nat.zero_add]; rfl

theorem iblk4 (t : Fin cfg0.N) (i : Fin 512) (j : Fin 1024) : (iblk m c 4 t : Vec Ideal S512x1024 .bf16) (ix2 i j) = (V m c main_v47 : Vec Ideal S512x1024 .bf16) (ix2 i j) := by
  obtain ⟨h0, h1⟩ := idx4 t
  unfold iblk
  rw [View.read_apply]
  show V m c main_v47 _ = V m c main_v47 _
  congr 1; funext a; apply Fin.ext
  match a with
  | ⟨0, _⟩ => show win0_4.index t 0 * 512 + 1 * i.val = _; rw [h0, one_mul, Nat.zero_mul, Nat.zero_add]; rfl
  | ⟨1, _⟩ => show win0_4.index t 1 * 1024 + 1 * j.val = _; rw [h1, one_mul, Nat.zero_mul, Nat.zero_add]; rfl

theorem iblk5 (t : Fin cfg0.N) (i : Fin 1) (j : Fin 256) : (iblk m c 5 t : Vec Ideal S1x256 .f32) (ix2 i j) = (V m c main_v98 : Vec Ideal S1x256 .f32) (ix2 i j) := by
  obtain ⟨h0, h1⟩ := idx5 t
  unfold iblk
  rw [View.read_apply]
  show V m c main_v98 _ = V m c main_v98 _
  congr 1; funext a; apply Fin.ext
  match a with
  | ⟨0, _⟩ => show win0_5.index t 0 * 1 + 1 * i.val = _; rw [h0, one_mul, Nat.zero_mul, Nat.zero_add]; rfl
  | ⟨1, _⟩ => show win0_5.index t 1 * 256 + 1 * j.val = _; rw [h1, one_mul, Nat.zero_mul, Nat.zero_add]; rfl

theorem iblk6 (t : Fin cfg0.N) (i : Fin 1) (j : Fin 128) : (iblk m c 6 t : Vec Ideal S1x128 .f32) (ix2 i j) = (V m c main_v99 : Vec Ideal S1x128 .f32) (ix2 i j) := by
  obtain ⟨h0, h1⟩ := idx6 t
  unfold iblk
  rw [View.read_apply]
  show V m c main_v99 _ = V m c main_v99 _
  congr 1; funext a; apply Fin.ext
  match a with
  | ⟨0, _⟩ => show win0_6.index t 0 * 1 + 1 * i.val = _; rw [h0, one_mul, Nat.zero_mul, Nat.zero_add]; rfl
  | ⟨1, _⟩ => show win0_6.index t 1 * 128 + 1 * j.val = _; rw [h1, one_mul, Nat.zero_mul, Nat.zero_add]; rfl

theorem iblk7 (t : Fin cfg0.N) (i : Fin 256) (j : Fin 1024) : (iblk m c 7 t : Vec Ideal S256x1024 .bf16) (ix2 i j) = (V m c main_v51 : Vec Ideal S256x1024 .bf16) (ix2 i j) := by
  obtain ⟨h0, h1⟩ := idx7 t
  unfold iblk
  rw [View.read_apply]
  show V m c main_v51 _ = V m c main_v51 _
  congr 1; funext a; apply Fin.ext
  match a with
  | ⟨0, _⟩ => show win0_7.index t 0 * 256 + 1 * i.val = _; rw [h0, one_mul, Nat.zero_mul, Nat.zero_add]; rfl
  | ⟨1, _⟩ => show win0_7.index t 1 * 1024 + 1 * j.val = _; rw [h1, one_mul, Nat.zero_mul, Nat.zero_add]; rfl

theorem iblk8 (t : Fin cfg0.N) (i : Fin 256) (j : Fin 1024) : (iblk m c 8 t : Vec Ideal S256x1024 .bf16) (ix2 i j) = (V m c main_v62 : Vec Ideal S256x1024 .bf16) (ix2 i j) := by
  obtain ⟨h0, h1⟩ := idx8 t
  unfold iblk
  rw [View.read_apply]
  show V m c main_v62 _ = V m c main_v62 _
  congr 1; funext a; apply Fin.ext
  match a with
  | ⟨0, _⟩ => show win0_8.index t 0 * 256 + 1 * i.val = _; rw [h0, one_mul, Nat.zero_mul, Nat.zero_add]; rfl
  | ⟨1, _⟩ => show win0_8.index t 1 * 1024 + 1 * j.val = _; rw [h1, one_mul, Nat.zero_mul, Nat.zero_add]; rfl

theorem iblk9 (t : Fin cfg0.N) (i : Fin 128) (j : Fin 1024) : (iblk m c 9 t : Vec Ideal S128x1024 .bf16) (ix2 i j) = (V m c main_v67 : Vec Ideal S128x1024 .bf16) (ix2 i j) := by
  obtain ⟨h0, h1⟩ := idx9 t
  unfold iblk
  rw [View.read_apply]
  show V m c main_v67 _ = V m c main_v67 _
  congr 1; funext a; apply Fin.ext
  match a with
  | ⟨0, _⟩ => show win0_9.index t 0 * 128 + 1 * i.val = _; rw [h0, one_mul, Nat.zero_mul, Nat.zero_add]; rfl
  | ⟨1, _⟩ => show win0_9.index t 1 * 1024 + 1 * j.val = _; rw [h1, one_mul, Nat.zero_mul, Nat.zero_add]; rfl

theorem iblk10 (t : Fin cfg0.N) (i : Fin 512) (j : Fin 128) : (iblk m c 10 t : Vec Ideal S512x128 .bf16) (ix2 i j) = (V m c main_v71 : Vec Ideal S512x128 .bf16) (ix2 i j) := by
  obtain ⟨h0, h1⟩ := idx10 t
  unfold iblk
  rw [View.read_apply]
  show V m c main_v71 _ = V m c main_v71 _
  congr 1; funext a; apply Fin.ext
  match a with
  | ⟨0, _⟩ => show win0_10.index t 0 * 512 + 1 * i.val = _; rw [h0, one_mul, Nat.zero_mul, Nat.zero_add]; rfl
  | ⟨1, _⟩ => show win0_10.index t 1 * 128 + 1 * j.val = _; rw [h1, one_mul, Nat.zero_mul, Nat.zero_add]; rfl

theorem iblk11 (t : Fin cfg0.N) (i : Fin 1) (j : Fin 128) : (iblk m c 11 t : Vec Ideal S1x128 .f32) (ix2 i j) = (V m c main_v84 : Vec Ideal S1x128 .f32) (ix2 i j) := by
  obtain ⟨h0, h1⟩ := idx11 t
  unfold iblk
  rw [View.read_apply]
  show V m c main_v84 _ = V m c main_v84 _
  congr 1; funext a; apply Fin.ext
  match a with
  | ⟨0, _⟩ => show win0_11.index t 0 * 1 + 1 * i.val = _; rw [h0, one_mul, Nat.zero_mul, Nat.zero_add]; rfl
  | ⟨1, _⟩ => show win0_11.index t 1 * 128 + 1 * j.val = _; rw [h1, one_mul, Nat.zero_mul, Nat.zero_add]; rfl

theorem iblk12 (t : Fin cfg0.N) (i : Fin 1) (j : Fin 1024) : (iblk m c 12 t : Vec Ideal S1x1024 .f32) (ix2 i j) = (V m c main_v86 : Vec Ideal S1x1024 .f32) (ix2 i j) := by
  obtain ⟨h0, h1⟩ := idx12 t
  unfold iblk
  rw [View.read_apply]
  show V m c main_v86 _ = V m c main_v86 _
  congr 1; funext a; apply Fin.ext
  match a with
  | ⟨0, _⟩ => show win0_12.index t 0 * 1 + 1 * i.val = _; rw [h0, one_mul, Nat.zero_mul, Nat.zero_add]; rfl
  | ⟨1, _⟩ => show win0_12.index t 1 * 1024 + 1 * j.val = _; rw [h1, one_mul, Nat.zero_mul, Nat.zero_add]; rfl

theorem iblk13 (t : Fin cfg0.N) (i : Fin 128) (j : Fin 1536) : (iblk m c 13 t : Vec Ideal S128x1536 .bf16) (ix2 i j) = (V m c main_v96 : Vec Ideal S128x1536 .bf16) (ix2 i j) := by
  obtain ⟨h0, h1⟩ := idx13 t
  unfold iblk
  rw [View.read_apply]
  show V m c main_v96 _ = V m c main_v96 _
  congr 1; funext a; apply Fin.ext
  match a with
  | ⟨0, _⟩ => show win0_13.index t 0 * 128 + 1 * i.val = _; rw [h0, one_mul, Nat.zero_mul, Nat.zero_add]; rfl
  | ⟨1, _⟩ => show win0_13.index t 1 * 1536 + 1 * j.val = _; rw [h1, one_mul, Nat.zero_mul, Nat.zero_add]; rfl

end Cert.Kernel3Ideal.Result

end
-- ==== Proof.Proj.Arrays.lean ====
module

public import proofs.«01_k».proof.Proof.Proj.Windows

/-!
The thirteen arrays of the projection call, as the points' blocks put together.
-/

@[expose] public section

set_option maxRecDepth 16384
set_option maxHeartbeats 2000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

/-- What a point leaves in output 14's block. -/
def ob14 (t : Fin cfg0.N) : Vec Ideal S512x1024 .bf16 := (outsAt0 m c t).1
theorem ob14_eq (t : Fin cfg0.N) (R : Fin 512) (j : Fin 1024) : ob14 m c t (ix2 R j) = O14 (iblk m c 0 t) (iblk m c 2 t) (iblk m c 3 t) (iblk m c 12 t) R j :=
  out14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr14 : Buf (Elt Ideal) ((c.tc : Thread nD τ).loc main_v100_0) := fun y : S16384x1024.Idx => ob14 m c (ptOf (y 0)) (ix2 (inOf (y 0)) (y 1))

theorem emb14 (t : Fin cfg0.N) (R : Fin 512) (j : Fin 1024) : (((cfg0.win 14).blk t).view.emb (ix2 R j) : S16384x1024.Idx) = ix2 (tok t R) j := by
  obtain ⟨h0, h1⟩ := idx14 t
  funext a; apply Fin.ext
  match a with
  | ⟨0, _⟩ => show win0_14.index t 0 * 512 + 1 * R.val = _; rw [h0, one_mul]; rfl
  | ⟨1, _⟩ => show win0_14.index t 1 * 1024 + 1 * j.val = _; rw [h1, one_mul, Nat.zero_mul, Nat.zero_add]; rfl

theorem flushed14 (t : Fin cfg0.N) (_ : (cfg0.win 14).flush t = true) : (dats m 0 c).flushed 14 t = ((cfg0.win 14).blk t).view.read (Elt Ideal) (arr14 m c) := by
  show (cfg0.win 14).cut (grid0.coords t) ((dats m 0 c).after 14 t) = _
  rw [after0_14]
  funext y
  obtain ⟨R, j, rfl⟩ : ∃ (R : Fin 512) (j : Fin 1024), y = ix2 R j := ⟨y 0, y 1, eq_ix2 y⟩
  rw [View.read_apply]
  show ob14 m c t (ix2 R j) = arr14 m c (((cfg0.win 14).blk t).view.emb (ix2 R j))
  rw [emb14]
  show _ = ob14 m c (ptOf (tok t R)) (ix2 (inOf (tok t R)) j)
  rw [ptOf_tok, inOf_tok]

theorem final14 : (dats m 0 c).arrAt 14 cfg0.N = arr14 m c :=
  (dats m 0 c).arrAt_eq_of_cover 14 (arr14 m c) (flushed14 m c) fun i => by
    have hi0 : ((i : S16384x1024.Idx) 0).val < 16384 := (i 0).isLt
    have hi1 : ((i : S16384x1024.Idx) 1).val < 1024 := (i 1).isLt
    obtain ⟨t, ht⟩ : ∃ t, t = ptOf ⟨(i 0).val, hi0⟩ := ⟨_, rfl⟩
    have hv : t.val = (i 0).val / 512 := by rw [ht]; rfl
    refine ⟨t, flush0_14 t, ?_⟩
    obtain ⟨h0, h1⟩ := idx14 t
    show i ∈ ((View.whole main_v100_0).slice (win0_14.rect t)).set
    rw [View.set_slice_whole, Rect.mem_set_unit]
    intro a
    match a with
    | ⟨0, _⟩ => show win0_14.index t 0 * 512 ≤ (i 0 : Nat) ∧ (i 0 : Nat) < win0_14.index t 0 * 512 + 512
                rw [h0, hv]; omega
    | ⟨1, _⟩ => show win0_14.index t 1 * 1024 ≤ (i 1 : Nat) ∧ (i 1 : Nat) < win0_14.index t 1 * 1024 + 1024
                rw [h1]; omega

/-- What a point leaves in output 15's block. -/
def ob15 (t : Fin cfg0.N) : Vec Ideal S512x128 .bf16 := (outsAt0 m c t).2.1
theorem ob15_eq (t : Fin cfg0.N) (R : Fin 512) (j : Fin 128) : ob15 m c t (ix2 R j) = O15 (iblk m c 0 t) (iblk m c 2 t) (iblk m c 3 t) R j :=
  out15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr15 : Buf (Elt Ideal) ((c.tc : Thread nD τ).loc main_v100_1) := fun y : S16384x128.Idx => ob15 m c (ptOf (y 0)) (ix2 (inOf (y 0)) (y 1))

theorem emb15 (t : Fin cfg0.N) (R : Fin 512) (j : Fin 128) : (((cfg0.win 15).blk t).view.emb (ix2 R j) : S16384x128.Idx) = ix2 (tok t R) j := by
  obtain ⟨h0, h1⟩ := idx15 t
  funext a; apply Fin.ext
  match a with
  | ⟨0, _⟩ => show win0_15.index t 0 * 512 + 1 * R.val = _; rw [h0, one_mul]; rfl
  | ⟨1, _⟩ => show win0_15.index t 1 * 128 + 1 * j.val = _; rw [h1, one_mul, Nat.zero_mul, Nat.zero_add]; rfl

theorem flushed15 (t : Fin cfg0.N) (_ : (cfg0.win 15).flush t = true) : (dats m 0 c).flushed 15 t = ((cfg0.win 15).blk t).view.read (Elt Ideal) (arr15 m c) := by
  show (cfg0.win 15).cut (grid0.coords t) ((dats m 0 c).after 15 t) = _
  rw [after0_15]
  funext y
  obtain ⟨R, j, rfl⟩ : ∃ (R : Fin 512) (j : Fin 128), y = ix2 R j := ⟨y 0, y 1, eq_ix2 y⟩
  rw [View.read_apply]
  show ob15 m c t (ix2 R j) = arr15 m c (((cfg0.win 15).blk t).view.emb (ix2 R j))
  rw [emb15]
  show _ = ob15 m c (ptOf (tok t R)) (ix2 (inOf (tok t R)) j)
  rw [ptOf_tok, inOf_tok]

theorem final15 : (dats m 0 c).arrAt 15 cfg0.N = arr15 m c :=
  (dats m 0 c).arrAt_eq_of_cover 15 (arr15 m c) (flushed15 m c) fun i => by
    have hi0 : ((i : S16384x128.Idx) 0).val < 16384 := (i 0).isLt
    have hi1 : ((i : S16384x128.Idx) 1).val < 128 := (i 1).isLt
    obtain ⟨t, ht⟩ : ∃ t, t = ptOf ⟨(i 0).val, hi0⟩ := ⟨_, rfl⟩
    have hv : t.val = (i 0).val / 512 := by rw [ht]; rfl
    refine ⟨t, flush0_15 t, ?_⟩
    obtain ⟨h0, h1⟩ := idx15 t
    show i ∈ ((View.whole main_v100_1).slice (win0_15.rect t)).set
    rw [View.set_slice_whole, Rect.mem_set_unit]
    intro a
    match a with
    | ⟨0, _⟩ => show win0_15.index t 0 * 512 ≤ (i 0 : Nat) ∧ (i 0 : Nat) < win0_15.index t 0 * 512 + 512
                rw [h0, hv]; omega
    | ⟨1, _⟩ => show win0_15.index t 1 * 128 ≤ (i 1 : Nat) ∧ (i 1 : Nat) < win0_15.index t 1 * 128 + 128
                rw [h1]; omega

/-- What a point leaves in output 16's block. -/
def ob16 (t : Fin cfg0.N) : Vec Ideal S512x128 .bf16 := (outsAt0 m c t).2.2.1
theorem ob16_eq (t : Fin cfg0.N) (R : Fin 512) (j : Fin 128) : ob16 m c t (ix2 R j) = O16 (iblk m c 0 t) (iblk m c 2 t) (iblk m c 3 t) R j :=
  out16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr16 : Buf (Elt Ideal) ((c.tc : Thread nD τ).loc main_v100_2) := fun y : S16384x128.Idx => ob16 m c (ptOf (y 0)) (ix2 (inOf (y 0)) (y 1))

theorem emb16 (t : Fin cfg0.N) (R : Fin 512) (j : Fin 128) : (((cfg0.win 16).blk t).view.emb (ix2 R j) : S16384x128.Idx) = ix2 (tok t R) j := by
  obtain ⟨h0, h1⟩ := idx16 t
  funext a; apply Fin.ext
  match a with
  | ⟨0, _⟩ => show win0_16.index t 0 * 512 + 1 * R.val = _; rw [h0, one_mul]; rfl
  | ⟨1, _⟩ => show win0_16.index t 1 * 128 + 1 * j.val = _; rw [h1, one_mul, Nat.zero_mul, Nat.zero_add]; rfl

theorem flushed16 (t : Fin cfg0.N) (_ : (cfg0.win 16).flush t = true) : (dats m 0 c).flushed 16 t = ((cfg0.win 16).blk t).view.read (Elt Ideal) (arr16 m c) := by
  show (cfg0.win 16).cut (grid0.coords t) ((dats m 0 c).after 16 t) = _
  rw [after0_16]
  funext y
  obtain ⟨R, j, rfl⟩ : ∃ (R : Fin 512) (j : Fin 128), y = ix2 R j := ⟨y 0, y 1, eq_ix2 y⟩
  rw [View.read_apply]
  show ob16 m c t (ix2 R j) = arr16 m c (((cfg0.win 16).blk t).view.emb (ix2 R j))
  rw [emb16]
  show _ = ob16 m c (ptOf (tok t R)) (ix2 (inOf (tok t R)) j)
  rw [ptOf_tok, inOf_tok]

theorem final16 : (dats m 0 c).arrAt 16 cfg0.N = arr16 m c :=
  (dats m 0 c).arrAt_eq_of_cover 16 (arr16 m c) (flushed16 m c) fun i => by
    have hi0 : ((i : S16384x128.Idx) 0).val < 16384 := (i 0).isLt
    have hi1 : ((i : S16384x128.Idx) 1).val < 128 := (i 1).isLt
    obtain ⟨t, ht⟩ : ∃ t, t = ptOf ⟨(i 0).val, hi0⟩ := ⟨_, rfl⟩
    have hv : t.val = (i 0).val / 512 := by rw [ht]; rfl
    refine ⟨t, flush0_16 t, ?_⟩
    obtain ⟨h0, h1⟩ := idx16 t
    show i ∈ ((View.whole main_v100_2).slice (win0_16.rect t)).set
    rw [View.set_slice_whole, Rect.mem_set_unit]
    intro a
    match a with
    | ⟨0, _⟩ => show win0_16.index t 0 * 512 ≤ (i 0 : Nat) ∧ (i 0 : Nat) < win0_16.index t 0 * 512 + 512
                rw [h0, hv]; omega
    | ⟨1, _⟩ => show win0_16.index t 1 * 128 ≤ (i 1 : Nat) ∧ (i 1 : Nat) < win0_16.index t 1 * 128 + 128
                rw [h1]; omega

/-- What a point leaves in output 17's block. -/
def ob17 (t : Fin cfg0.N) : Vec Ideal S512x256 .bf16 := (outsAt0 m c t).2.2.2.1
theorem ob17_eq (t : Fin cfg0.N) (R : Fin 512) (j : Fin 256) : ob17 m c t (ix2 R j) = O17 (iblk m c 0 t) (iblk m c 2 t) (iblk m c 3 t) (BitVec.ofNat 32 (grid0.coords t 0).val) R j :=
  out17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr17 : Buf (Elt Ideal) ((c.tc : Thread nD τ).loc main_v100_3) := fun y : S16384x256.Idx => ob17 m c (ptOf (y 0)) (ix2 (inOf (y 0)) (y 1))

theorem emb17 (t : Fin cfg0.N) (R : Fin 512) (j : Fin 256) : (((cfg0.win 17).blk t).view.emb (ix2 R j) : S16384x256.Idx) = ix2 (tok t R) j := by
  obtain ⟨h0, h1⟩ := idx17 t
  funext a; apply Fin.ext
  match a with
  | ⟨0, _⟩ => show win0_17.index t 0 * 512 + 1 * R.val = _; rw [h0, one_mul]; rfl
  | ⟨1, _⟩ => show win0_17.index t 1 * 256 + 1 * j.val = _; rw [h1, one_mul, Nat.zero_mul, Nat.zero_add]; rfl

theorem flushed17 (t : Fin cfg0.N) (_ : (cfg0.win 17).flush t = true) : (dats m 0 c).flushed 17 t = ((cfg0.win 17).blk t).view.read (Elt Ideal) (arr17 m c) := by
  show (cfg0.win 17).cut (grid0.coords t) ((dats m 0 c).after 17 t) = _
  rw [after0_17]
  funext y
  obtain ⟨R, j, rfl⟩ : ∃ (R : Fin 512) (j : Fin 256), y = ix2 R j := ⟨y 0, y 1, eq_ix2 y⟩
  rw [View.read_apply]
  show ob17 m c t (ix2 R j) = arr17 m c (((cfg0.win 17).blk t).view.emb (ix2 R j))
  rw [emb17]
  show _ = ob17 m c (ptOf (tok t R)) (ix2 (inOf (tok t R)) j)
  rw [ptOf_tok, inOf_tok]

theorem final17 : (dats m 0 c).arrAt 17 cfg0.N = arr17 m c :=
  (dats m 0 c).arrAt_eq_of_cover 17 (arr17 m c) (flushed17 m c) fun i => by
    have hi0 : ((i : S16384x256.Idx) 0).val < 16384 := (i 0).isLt
    have hi1 : ((i : S16384x256.Idx) 1).val < 256 := (i 1).isLt
    obtain ⟨t, ht⟩ : ∃ t, t = ptOf ⟨(i 0).val, hi0⟩ := ⟨_, rfl⟩
    have hv : t.val = (i 0).val / 512 := by rw [ht]; rfl
    refine ⟨t, flush0_17 t, ?_⟩
    obtain ⟨h0, h1⟩ := idx17 t
    show i ∈ ((View.whole main_v100_3).slice (win0_17.rect t)).set
    rw [View.set_slice_whole, Rect.mem_set_unit]
    intro a
    match a with
    | ⟨0, _⟩ => show win0_17.index t 0 * 512 ≤ (i 0 : Nat) ∧ (i 0 : Nat) < win0_17.index t 0 * 512 + 512
                rw [h0, hv]; omega
    | ⟨1, _⟩ => show win0_17.index t 1 * 256 ≤ (i 1 : Nat) ∧ (i 1 : Nat) < win0_17.index t 1 * 256 + 256
                rw [h1]; omega

/-- What a point leaves in output 18's block. -/
def ob18 (t : Fin cfg0.N) : Vec Ideal S2x288x256 .bf16 := (outsAt0 m c t).2.2.2.2.1
theorem ob18_eq (t : Fin cfg0.N) (s : Fin 2) (r : Fin 288) (i : Fin 256) : ob18 m c t (ix3 s r i) = O18 (iblk m c 0 t) (iblk m c 2 t) (iblk m c 4 t) s r i :=
  out18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 s r i)
def arr18 : Buf (Elt Ideal) ((c.tc : Thread nD τ).loc main_v100_4) := fun y : S64x288x256.Idx => ob18 m c (ptOf2 (y 0)) (ix3 (inOf2 (y 0)) (y 1) (y 2))

theorem emb18 (t : Fin cfg0.N) (s : Fin 2) (r : Fin 288) (i : Fin 256) : (((cfg0.win 18).blk t).view.emb (ix3 s r i) : S64x288x256.Idx) = ix3 (hlf t s) r i := by
  obtain ⟨h0, h1, h2⟩ := idx18 t
  funext a; apply Fin.ext
  match a with
  | ⟨0, _⟩ => show win0_18.index t 0 * 2 + 1 * s.val = _; rw [h0, one_mul]; rfl
  | ⟨1, _⟩ => show win0_18.index t 1 * 288 + 1 * r.val = _; rw [h1, one_mul, Nat.zero_mul, Nat.zero_add]; rfl
  | ⟨2, _⟩ => show win0_18.index t 2 * 256 + 1 * i.val = _; rw [h2, one_mul, Nat.zero_mul, Nat.zero_add]; rfl

theorem flushed18 (t : Fin cfg0.N) (_ : (cfg0.win 18).flush t = true) : (dats m 0 c).flushed 18 t = ((cfg0.win 18).blk t).view.read (Elt Ideal) (arr18 m c) := by
  show (cfg0.win 18).cut (grid0.coords t) ((dats m 0 c).after 18 t) = _
  rw [after0_18]
  funext y
  obtain ⟨s, r, i, rfl⟩ : ∃ (s : Fin 2) (r : Fin 288) (i : Fin 256), y = ix3 s r i := ⟨y 0, y 1, y 2, eq_ix3 y⟩
  rw [View.read_apply]
  show ob18 m c t (ix3 s r i) = arr18 m c (((cfg0.win 18).blk t).view.emb (ix3 s r i))
  rw [emb18]
  show _ = ob18 m c (ptOf2 (hlf t s)) (ix3 (inOf2 (hlf t s)) r i)
  rw [ptOf2_hlf, inOf2_hlf]

theorem final18 : (dats m 0 c).arrAt 18 cfg0.N = arr18 m c :=
  (dats m 0 c).arrAt_eq_of_cover 18 (arr18 m c) (flushed18 m c) fun i => by
    have hi0 : ((i : S64x288x256.Idx) 0).val < 64 := (i 0).isLt
    have hi1 : ((i : S64x288x256.Idx) 1).val < 288 := (i 1).isLt
    have hi2 : ((i : S64x288x256.Idx) 2).val < 256 := (i 2).isLt
    obtain ⟨t, ht⟩ : ∃ t, t = ptOf2 ⟨(i 0).val, hi0⟩ := ⟨_, rfl⟩
    have hv : t.val = (i 0).val / 2 := by rw [ht]; rfl
    refine ⟨t, flush0_18 t, ?_⟩
    obtain ⟨h0, h1, h2⟩ := idx18 t
    show i ∈ ((View.whole main_v100_4).slice (win0_18.rect t)).set
    rw [View.set_slice_whole, Rect.mem_set_unit]
    intro a
    match a with
    | ⟨0, _⟩ => show win0_18.index t 0 * 2 ≤ (i 0 : Nat) ∧ (i 0 : Nat) < win0_18.index t 0 * 2 + 2
                rw [h0, hv]; omega
    | ⟨1, _⟩ => show win0_18.index t 1 * 288 ≤ (i 1 : Nat) ∧ (i 1 : Nat) < win0_18.index t 1 * 288 + 288
                rw [h1]; omega
    | ⟨2, _⟩ => show win0_18.index t 2 * 256 ≤ (i 2 : Nat) ∧ (i 2 : Nat) < win0_18.index t 2 * 256 + 256
                rw [h2]; omega

/-- What a point leaves in output 19's block. -/
def ob19 (t : Fin cfg0.N) : Vec Ideal S512x256 .bf16 := (outsAt0 m c t).2.2.2.2.2.1
theorem ob19_eq (t : Fin cfg0.N) (R : Fin 512) (j : Fin 256) : ob19 m c t (ix2 R j) = O19 (iblk m c 0 t) (iblk m c 2 t) (iblk m c 3 t) (BitVec.ofNat 32 (grid0.coords t 0).val) R j :=
  out19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr19 : Buf (Elt Ideal) ((c.tc : Thread nD τ).loc main_v100_5) := fun y : S16384x256.Idx => ob19 m c (ptOf (y 0)) (ix2 (inOf (y 0)) (y 1))

theorem emb19 (t : Fin cfg0.N) (R : Fin 512) (j : Fin 256) : (((cfg0.win 19).blk t).view.emb (ix2 R j) : S16384x256.Idx) = ix2 (tok t R) j := by
  obtain ⟨h0, h1⟩ := idx19 t
  funext a; apply Fin.ext
  match a with
  | ⟨0, _⟩ => show win0_19.index t 0 * 512 + 1 * R.val = _; rw [h0, one_mul]; rfl
  | ⟨1, _⟩ => show win0_19.index t 1 * 256 + 1 * j.val = _; rw [h1, one_mul, Nat.zero_mul, Nat.zero_add]; rfl

theorem flushed19 (t : Fin cfg0.N) (_ : (cfg0.win 19).flush t = true) : (dats m 0 c).flushed 19 t = ((cfg0.win 19).blk t).view.read (Elt Ideal) (arr19 m c) := by
  show (cfg0.win 19).cut (grid0.coords t) ((dats m 0 c).after 19 t) = _
  rw [after0_19]
  funext y
  obtain ⟨R, j, rfl⟩ : ∃ (R : Fin 512) (j : Fin 256), y = ix2 R j := ⟨y 0, y 1, eq_ix2 y⟩
  rw [View.read_apply]
  show ob19 m c t (ix2 R j) = arr19 m c (((cfg0.win 19).blk t).view.emb (ix2 R j))
  rw [emb19]
  show _ = ob19 m c (ptOf (tok t R)) (ix2 (inOf (tok t R)) j)
  rw [ptOf_tok, inOf_tok]

theorem final19 : (dats m 0 c).arrAt 19 cfg0.N = arr19 m c :=
  (dats m 0 c).arrAt_eq_of_cover 19 (arr19 m c) (flushed19 m c) fun i => by
    have hi0 : ((i : S16384x256.Idx) 0).val < 16384 := (i 0).isLt
    have hi1 : ((i : S16384x256.Idx) 1).val < 256 := (i 1).isLt
    obtain ⟨t, ht⟩ : ∃ t, t = ptOf ⟨(i 0).val, hi0⟩ := ⟨_, rfl⟩
    have hv : t.val = (i 0).val / 512 := by rw [ht]; rfl
    refine ⟨t, flush0_19 t, ?_⟩
    obtain ⟨h0, h1⟩ := idx19 t
    show i ∈ ((View.whole main_v100_5).slice (win0_19.rect t)).set
    rw [View.set_slice_whole, Rect.mem_set_unit]
    intro a
    match a with
    | ⟨0, _⟩ => show win0_19.index t 0 * 512 ≤ (i 0 : Nat) ∧ (i 0 : Nat) < win0_19.index t 0 * 512 + 512
                rw [h0, hv]; omega
    | ⟨1, _⟩ => show win0_19.index t 1 * 256 ≤ (i 1 : Nat) ∧ (i 1 : Nat) < win0_19.index t 1 * 256 + 256
                rw [h1]; omega

/-- What a point leaves in output 20's block. -/
def ob20 (t : Fin cfg0.N) : Vec Ideal S2x288x256 .bf16 := (outsAt0 m c t).2.2.2.2.2.2.1
theorem ob20_eq (t : Fin cfg0.N) (s : Fin 2) (r : Fin 288) (i : Fin 256) : ob20 m c t (ix3 s r i) = O20 (iblk m c 0 t) (iblk m c 2 t) (iblk m c 4 t) s r i :=
  out20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 s r i)
def arr20 : Buf (Elt Ideal) ((c.tc : Thread nD τ).loc main_v100_6) := fun y : S64x288x256.Idx => ob20 m c (ptOf2 (y 0)) (ix3 (inOf2 (y 0)) (y 1) (y 2))

theorem emb20 (t : Fin cfg0.N) (s : Fin 2) (r : Fin 288) (i : Fin 256) : (((cfg0.win 20).blk t).view.emb (ix3 s r i) : S64x288x256.Idx) = ix3 (hlf t s) r i := by
  obtain ⟨h0, h1, h2⟩ := idx20 t
  funext a; apply Fin.ext
  match a with
  | ⟨0, _⟩ => show win0_20.index t 0 * 2 + 1 * s.val = _; rw [h0, one_mul]; rfl
  | ⟨1, _⟩ => show win0_20.index t 1 * 288 + 1 * r.val = _; rw [h1, one_mul, Nat.zero_mul, Nat.zero_add]; rfl
  | ⟨2, _⟩ => show win0_20.index t 2 * 256 + 1 * i.val = _; rw [h2, one_mul, Nat.zero_mul, Nat.zero_add]; rfl

theorem flushed20 (t : Fin cfg0.N) (_ : (cfg0.win 20).flush t = true) : (dats m 0 c).flushed 20 t = ((cfg0.win 20).blk t).view.read (Elt Ideal) (arr20 m c) := by
  show (cfg0.win 20).cut (grid0.coords t) ((dats m 0 c).after 20 t) = _
  rw [after0_20]
  funext y
  obtain ⟨s, r, i, rfl⟩ : ∃ (s : Fin 2) (r : Fin 288) (i : Fin 256), y = ix3 s r i := ⟨y 0, y 1, y 2, eq_ix3 y⟩
  rw [View.read_apply]
  show ob20 m c t (ix3 s r i) = arr20 m c (((cfg0.win 20).blk t).view.emb (ix3 s r i))
  rw [emb20]
  show _ = ob20 m c (ptOf2 (hlf t s)) (ix3 (inOf2 (hlf t s)) r i)
  rw [ptOf2_hlf, inOf2_hlf]

theorem final20 : (dats m 0 c).arrAt 20 cfg0.N = arr20 m c :=
  (dats m 0 c).arrAt_eq_of_cover 20 (arr20 m c) (flushed20 m c) fun i => by
    have hi0 : ((i : S64x288x256.Idx) 0).val < 64 := (i 0).isLt
    have hi1 : ((i : S64x288x256.Idx) 1).val < 288 := (i 1).isLt
    have hi2 : ((i : S64x288x256.Idx) 2).val < 256 := (i 2).isLt
    obtain ⟨t, ht⟩ : ∃ t, t = ptOf2 ⟨(i 0).val, hi0⟩ := ⟨_, rfl⟩
    have hv : t.val = (i 0).val / 2 := by rw [ht]; rfl
    refine ⟨t, flush0_20 t, ?_⟩
    obtain ⟨h0, h1, h2⟩ := idx20 t
    show i ∈ ((View.whole main_v100_6).slice (win0_20.rect t)).set
    rw [View.set_slice_whole, Rect.mem_set_unit]
    intro a
    match a with
    | ⟨0, _⟩ => show win0_20.index t 0 * 2 ≤ (i 0 : Nat) ∧ (i 0 : Nat) < win0_20.index t 0 * 2 + 2
                rw [h0, hv]; omega
    | ⟨1, _⟩ => show win0_20.index t 1 * 288 ≤ (i 1 : Nat) ∧ (i 1 : Nat) < win0_20.index t 1 * 288 + 288
                rw [h1]; omega
    | ⟨2, _⟩ => show win0_20.index t 2 * 256 ≤ (i 2 : Nat) ∧ (i 2 : Nat) < win0_20.index t 2 * 256 + 256
                rw [h2]; omega

/-- What a point leaves in output 21's block. -/
def ob21 (t : Fin cfg0.N) : Vec Ideal S512x1536 .f32 := (outsAt0 m c t).2.2.2.2.2.2.2.1
theorem ob21_eq (t : Fin cfg0.N) (R : Fin 512) (j : Fin 1536) : ob21 m c t (ix2 R j) = O21 (iblk m c 0 t) (iblk m c 2 t) (iblk m c 3 t) (iblk m c 13 t) R j :=
  out21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr21 : Buf (Elt Ideal) ((c.tc : Thread nD τ).loc main_v100_7) := fun y : S16384x1536.Idx => ob21 m c (ptOf (y 0)) (ix2 (inOf (y 0)) (y 1))

theorem emb21 (t : Fin cfg0.N) (R : Fin 512) (j : Fin 1536) : (((cfg0.win 21).blk t).view.emb (ix2 R j) : S16384x1536.Idx) = ix2 (tok t R) j := by
  obtain ⟨h0, h1⟩ := idx21 t
  funext a; apply Fin.ext
  match a with
  | ⟨0, _⟩ => show win0_21.index t 0 * 512 + 1 * R.val = _; rw [h0, one_mul]; rfl
  | ⟨1, _⟩ => show win0_21.index t 1 * 1536 + 1 * j.val = _; rw [h1, one_mul, Nat.zero_mul, Nat.zero_add]; rfl

theorem flushed21 (t : Fin cfg0.N) (_ : (cfg0.win 21).flush t = true) : (dats m 0 c).flushed 21 t = ((cfg0.win 21).blk t).view.read (Elt Ideal) (arr21 m c) := by
  show (cfg0.win 21).cut (grid0.coords t) ((dats m 0 c).after 21 t) = _
  rw [after0_21]
  funext y
  obtain ⟨R, j, rfl⟩ : ∃ (R : Fin 512) (j : Fin 1536), y = ix2 R j := ⟨y 0, y 1, eq_ix2 y⟩
  rw [View.read_apply]
  show ob21 m c t (ix2 R j) = arr21 m c (((cfg0.win 21).blk t).view.emb (ix2 R j))
  rw [emb21]
  show _ = ob21 m c (ptOf (tok t R)) (ix2 (inOf (tok t R)) j)
  rw [ptOf_tok, inOf_tok]

theorem final21 : (dats m 0 c).arrAt 21 cfg0.N = arr21 m c :=
  (dats m 0 c).arrAt_eq_of_cover 21 (arr21 m c) (flushed21 m c) fun i => by
    have hi0 : ((i : S16384x1536.Idx) 0).val < 16384 := (i 0).isLt
    have hi1 : ((i : S16384x1536.Idx) 1).val < 1536 := (i 1).isLt
    obtain ⟨t, ht⟩ : ∃ t, t = ptOf ⟨(i 0).val, hi0⟩ := ⟨_, rfl⟩
    have hv : t.val = (i 0).val / 512 := by rw [ht]; rfl
    refine ⟨t, flush0_21 t, ?_⟩
    obtain ⟨h0, h1⟩ := idx21 t
    show i ∈ ((View.whole main_v100_7).slice (win0_21.rect t)).set
    rw [View.set_slice_whole, Rect.mem_set_unit]
    intro a
    match a with
    | ⟨0, _⟩ => show win0_21.index t 0 * 512 ≤ (i 0 : Nat) ∧ (i 0 : Nat) < win0_21.index t 0 * 512 + 512
                rw [h0, hv]; omega
    | ⟨1, _⟩ => show win0_21.index t 1 * 1536 ≤ (i 1 : Nat) ∧ (i 1 : Nat) < win0_21.index t 1 * 1536 + 1536
                rw [h1]; omega

/-- What a point leaves in output 22's block. -/
def ob22 (t : Fin cfg0.N) : Vec Ideal S512x1024 .bf16 := (outsAt0 m c t).2.2.2.2.2.2.2.2.1
theorem ob22_eq (t : Fin cfg0.N) (R : Fin 512) (j : Fin 1024) : ob22 m c t (ix2 R j) = O22 (iblk m c 0 t) (iblk m c 1 t) (iblk m c 2 t) (iblk m c 3 t) (iblk m c 5 t) (iblk m c 7 t) (iblk m c 8 t) (iblk m c 11 t) R j :=
  out22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr22 : Buf (Elt Ideal) ((c.tc : Thread nD τ).loc main_v100_8) := fun y : S16384x1024.Idx => ob22 m c (ptOf (y 0)) (ix2 (inOf (y 0)) (y 1))

theorem emb22 (t : Fin cfg0.N) (R : Fin 512) (j : Fin 1024) : (((cfg0.win 22).blk t).view.emb (ix2 R j) : S16384x1024.Idx) = ix2 (tok t R) j := by
  obtain ⟨h0, h1⟩ := idx22 t
  funext a; apply Fin.ext
  match a with
  | ⟨0, _⟩ => show win0_22.index t 0 * 512 + 1 * R.val = _; rw [h0, one_mul]; rfl
  | ⟨1, _⟩ => show win0_22.index t 1 * 1024 + 1 * j.val = _; rw [h1, one_mul, Nat.zero_mul, Nat.zero_add]; rfl

theorem flushed22 (t : Fin cfg0.N) (_ : (cfg0.win 22).flush t = true) : (dats m 0 c).flushed 22 t = ((cfg0.win 22).blk t).view.read (Elt Ideal) (arr22 m c) := by
  show (cfg0.win 22).cut (grid0.coords t) ((dats m 0 c).after 22 t) = _
  rw [after0_22]
  funext y
  obtain ⟨R, j, rfl⟩ : ∃ (R : Fin 512) (j : Fin 1024), y = ix2 R j := ⟨y 0, y 1, eq_ix2 y⟩
  rw [View.read_apply]
  show ob22 m c t (ix2 R j) = arr22 m c (((cfg0.win 22).blk t).view.emb (ix2 R j))
  rw [emb22]
  show _ = ob22 m c (ptOf (tok t R)) (ix2 (inOf (tok t R)) j)
  rw [ptOf_tok, inOf_tok]

theorem final22 : (dats m 0 c).arrAt 22 cfg0.N = arr22 m c :=
  (dats m 0 c).arrAt_eq_of_cover 22 (arr22 m c) (flushed22 m c) fun i => by
    have hi0 : ((i : S16384x1024.Idx) 0).val < 16384 := (i 0).isLt
    have hi1 : ((i : S16384x1024.Idx) 1).val < 1024 := (i 1).isLt
    obtain ⟨t, ht⟩ : ∃ t, t = ptOf ⟨(i 0).val, hi0⟩ := ⟨_, rfl⟩
    have hv : t.val = (i 0).val / 512 := by rw [ht]; rfl
    refine ⟨t, flush0_22 t, ?_⟩
    obtain ⟨h0, h1⟩ := idx22 t
    show i ∈ ((View.whole main_v100_8).slice (win0_22.rect t)).set
    rw [View.set_slice_whole, Rect.mem_set_unit]
    intro a
    match a with
    | ⟨0, _⟩ => show win0_22.index t 0 * 512 ≤ (i 0 : Nat) ∧ (i 0 : Nat) < win0_22.index t 0 * 512 + 512
                rw [h0, hv]; omega
    | ⟨1, _⟩ => show win0_22.index t 1 * 1024 ≤ (i 1 : Nat) ∧ (i 1 : Nat) < win0_22.index t 1 * 1024 + 1024
                rw [h1]; omega

/-- What a point leaves in output 23's block. -/
def ob23 (t : Fin cfg0.N) : Vec Ideal S512x1024 .bf16 := (outsAt0 m c t).2.2.2.2.2.2.2.2.2.1
theorem ob23_eq (t : Fin cfg0.N) (R : Fin 512) (j : Fin 1024) : ob23 m c t (ix2 R j) = O23 (iblk m c 0 t) (iblk m c 1 t) (iblk m c 2 t) (iblk m c 3 t) (iblk m c 6 t) (iblk m c 9 t) (iblk m c 11 t) R j :=
  out23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr23 : Buf (Elt Ideal) ((c.tc : Thread nD τ).loc main_v100_9) := fun y : S16384x1024.Idx => ob23 m c (ptOf (y 0)) (ix2 (inOf (y 0)) (y 1))

theorem emb23 (t : Fin cfg0.N) (R : Fin 512) (j : Fin 1024) : (((cfg0.win 23).blk t).view.emb (ix2 R j) : S16384x1024.Idx) = ix2 (tok t R) j := by
  obtain ⟨h0, h1⟩ := idx23 t
  funext a; apply Fin.ext
  match a with
  | ⟨0, _⟩ => show win0_23.index t 0 * 512 + 1 * R.val = _; rw [h0, one_mul]; rfl
  | ⟨1, _⟩ => show win0_23.index t 1 * 1024 + 1 * j.val = _; rw [h1, one_mul, Nat.zero_mul, Nat.zero_add]; rfl

theorem flushed23 (t : Fin cfg0.N) (_ : (cfg0.win 23).flush t = true) : (dats m 0 c).flushed 23 t = ((cfg0.win 23).blk t).view.read (Elt Ideal) (arr23 m c) := by
  show (cfg0.win 23).cut (grid0.coords t) ((dats m 0 c).after 23 t) = _
  rw [after0_23]
  funext y
  obtain ⟨R, j, rfl⟩ : ∃ (R : Fin 512) (j : Fin 1024), y = ix2 R j := ⟨y 0, y 1, eq_ix2 y⟩
  rw [View.read_apply]
  show ob23 m c t (ix2 R j) = arr23 m c (((cfg0.win 23).blk t).view.emb (ix2 R j))
  rw [emb23]
  show _ = ob23 m c (ptOf (tok t R)) (ix2 (inOf (tok t R)) j)
  rw [ptOf_tok, inOf_tok]

theorem final23 : (dats m 0 c).arrAt 23 cfg0.N = arr23 m c :=
  (dats m 0 c).arrAt_eq_of_cover 23 (arr23 m c) (flushed23 m c) fun i => by
    have hi0 : ((i : S16384x1024.Idx) 0).val < 16384 := (i 0).isLt
    have hi1 : ((i : S16384x1024.Idx) 1).val < 1024 := (i 1).isLt
    obtain ⟨t, ht⟩ : ∃ t, t = ptOf ⟨(i 0).val, hi0⟩ := ⟨_, rfl⟩
    have hv : t.val = (i 0).val / 512 := by rw [ht]; rfl
    refine ⟨t, flush0_23 t, ?_⟩
    obtain ⟨h0, h1⟩ := idx23 t
    show i ∈ ((View.whole main_v100_9).slice (win0_23.rect t)).set
    rw [View.set_slice_whole, Rect.mem_set_unit]
    intro a
    match a with
    | ⟨0, _⟩ => show win0_23.index t 0 * 512 ≤ (i 0 : Nat) ∧ (i 0 : Nat) < win0_23.index t 0 * 512 + 512
                rw [h0, hv]; omega
    | ⟨1, _⟩ => show win0_23.index t 1 * 1024 ≤ (i 1 : Nat) ∧ (i 1 : Nat) < win0_23.index t 1 * 1024 + 1024
                rw [h1]; omega

/-- What a point leaves in output 24's block. -/
def ob24 (t : Fin cfg0.N) : Vec Ideal S2x576x256 .bf16 := (outsAt0 m c t).2.2.2.2.2.2.2.2.2.2.1
theorem ob24_eq (t : Fin cfg0.N) (s : Fin 2) (r : Fin 576) (i : Fin 256) : ob24 m c t (ix3 s r i) = O24 (iblk m c 0 t) (iblk m c 2 t) (iblk m c 3 t) (iblk m c 6 t) (iblk m c 10 t) s r i :=
  out24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 s r i)
def arr24 : Buf (Elt Ideal) ((c.tc : Thread nD τ).loc main_v100_10) := fun y : S64x576x256.Idx => ob24 m c (ptOf2 (y 0)) (ix3 (inOf2 (y 0)) (y 1) (y 2))

theorem emb24 (t : Fin cfg0.N) (s : Fin 2) (r : Fin 576) (i : Fin 256) : (((cfg0.win 24).blk t).view.emb (ix3 s r i) : S64x576x256.Idx) = ix3 (hlf t s) r i := by
  obtain ⟨h0, h1, h2⟩ := idx24 t
  funext a; apply Fin.ext
  match a with
  | ⟨0, _⟩ => show win0_24.index t 0 * 2 + 1 * s.val = _; rw [h0, one_mul]; rfl
  | ⟨1, _⟩ => show win0_24.index t 1 * 576 + 1 * r.val = _; rw [h1, one_mul, Nat.zero_mul, Nat.zero_add]; rfl
  | ⟨2, _⟩ => show win0_24.index t 2 * 256 + 1 * i.val = _; rw [h2, one_mul, Nat.zero_mul, Nat.zero_add]; rfl

theorem flushed24 (t : Fin cfg0.N) (_ : (cfg0.win 24).flush t = true) : (dats m 0 c).flushed 24 t = ((cfg0.win 24).blk t).view.read (Elt Ideal) (arr24 m c) := by
  show (cfg0.win 24).cut (grid0.coords t) ((dats m 0 c).after 24 t) = _
  rw [after0_24]
  funext y
  obtain ⟨s, r, i, rfl⟩ : ∃ (s : Fin 2) (r : Fin 576) (i : Fin 256), y = ix3 s r i := ⟨y 0, y 1, y 2, eq_ix3 y⟩
  rw [View.read_apply]
  show ob24 m c t (ix3 s r i) = arr24 m c (((cfg0.win 24).blk t).view.emb (ix3 s r i))
  rw [emb24]
  show _ = ob24 m c (ptOf2 (hlf t s)) (ix3 (inOf2 (hlf t s)) r i)
  rw [ptOf2_hlf, inOf2_hlf]

theorem final24 : (dats m 0 c).arrAt 24 cfg0.N = arr24 m c :=
  (dats m 0 c).arrAt_eq_of_cover 24 (arr24 m c) (flushed24 m c) fun i => by
    have hi0 : ((i : S64x576x256.Idx) 0).val < 64 := (i 0).isLt
    have hi1 : ((i : S64x576x256.Idx) 1).val < 576 := (i 1).isLt
    have hi2 : ((i : S64x576x256.Idx) 2).val < 256 := (i 2).isLt
    obtain ⟨t, ht⟩ : ∃ t, t = ptOf2 ⟨(i 0).val, hi0⟩ := ⟨_, rfl⟩
    have hv : t.val = (i 0).val / 2 := by rw [ht]; rfl
    refine ⟨t, flush0_24 t, ?_⟩
    obtain ⟨h0, h1, h2⟩ := idx24 t
    show i ∈ ((View.whole main_v100_10).slice (win0_24.rect t)).set
    rw [View.set_slice_whole, Rect.mem_set_unit]
    intro a
    match a with
    | ⟨0, _⟩ => show win0_24.index t 0 * 2 ≤ (i 0 : Nat) ∧ (i 0 : Nat) < win0_24.index t 0 * 2 + 2
                rw [h0, hv]; omega
    | ⟨1, _⟩ => show win0_24.index t 1 * 576 ≤ (i 1 : Nat) ∧ (i 1 : Nat) < win0_24.index t 1 * 576 + 576
                rw [h1]; omega
    | ⟨2, _⟩ => show win0_24.index t 2 * 256 ≤ (i 2 : Nat) ∧ (i 2 : Nat) < win0_24.index t 2 * 256 + 256
                rw [h2]; omega

/-- What a point leaves in output 25's block. -/
def ob25 (t : Fin cfg0.N) : Vec Ideal S512x1024 .f32 := (outsAt0 m c t).2.2.2.2.2.2.2.2.2.2.2.1
theorem ob25_eq (t : Fin cfg0.N) (R : Fin 512) (j : Fin 1024) : ob25 m c t (ix2 R j) = O25 (iblk m c 0 t) (iblk m c 2 t) (iblk m c 3 t) R j :=
  out25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr25 : Buf (Elt Ideal) ((c.tc : Thread nD τ).loc main_v100_11) := fun y : S16384x1024.Idx => ob25 m c (ptOf (y 0)) (ix2 (inOf (y 0)) (y 1))

theorem emb25 (t : Fin cfg0.N) (R : Fin 512) (j : Fin 1024) : (((cfg0.win 25).blk t).view.emb (ix2 R j) : S16384x1024.Idx) = ix2 (tok t R) j := by
  obtain ⟨h0, h1⟩ := idx25 t
  funext a; apply Fin.ext
  match a with
  | ⟨0, _⟩ => show win0_25.index t 0 * 512 + 1 * R.val = _; rw [h0, one_mul]; rfl
  | ⟨1, _⟩ => show win0_25.index t 1 * 1024 + 1 * j.val = _; rw [h1, one_mul, Nat.zero_mul, Nat.zero_add]; rfl

theorem flushed25 (t : Fin cfg0.N) (_ : (cfg0.win 25).flush t = true) : (dats m 0 c).flushed 25 t = ((cfg0.win 25).blk t).view.read (Elt Ideal) (arr25 m c) := by
  show (cfg0.win 25).cut (grid0.coords t) ((dats m 0 c).after 25 t) = _
  rw [after0_25]
  funext y
  obtain ⟨R, j, rfl⟩ : ∃ (R : Fin 512) (j : Fin 1024), y = ix2 R j := ⟨y 0, y 1, eq_ix2 y⟩
  rw [View.read_apply]
  show ob25 m c t (ix2 R j) = arr25 m c (((cfg0.win 25).blk t).view.emb (ix2 R j))
  rw [emb25]
  show _ = ob25 m c (ptOf (tok t R)) (ix2 (inOf (tok t R)) j)
  rw [ptOf_tok, inOf_tok]

theorem final25 : (dats m 0 c).arrAt 25 cfg0.N = arr25 m c :=
  (dats m 0 c).arrAt_eq_of_cover 25 (arr25 m c) (flushed25 m c) fun i => by
    have hi0 : ((i : S16384x1024.Idx) 0).val < 16384 := (i 0).isLt
    have hi1 : ((i : S16384x1024.Idx) 1).val < 1024 := (i 1).isLt
    obtain ⟨t, ht⟩ : ∃ t, t = ptOf ⟨(i 0).val, hi0⟩ := ⟨_, rfl⟩
    have hv : t.val = (i 0).val / 512 := by rw [ht]; rfl
    refine ⟨t, flush0_25 t, ?_⟩
    obtain ⟨h0, h1⟩ := idx25 t
    show i ∈ ((View.whole main_v100_11).slice (win0_25.rect t)).set
    rw [View.set_slice_whole, Rect.mem_set_unit]
    intro a
    match a with
    | ⟨0, _⟩ => show win0_25.index t 0 * 512 ≤ (i 0 : Nat) ∧ (i 0 : Nat) < win0_25.index t 0 * 512 + 512
                rw [h0, hv]; omega
    | ⟨1, _⟩ => show win0_25.index t 1 * 1024 ≤ (i 1 : Nat) ∧ (i 1 : Nat) < win0_25.index t 1 * 1024 + 1024
                rw [h1]; omega

/-- What a point leaves in output 26's block. -/
def ob26 (t : Fin cfg0.N) : Vec Ideal S512x1024 .f32 := (outsAt0 m c t).2.2.2.2.2.2.2.2.2.2.2.2
theorem ob26_eq (t : Fin cfg0.N) (R : Fin 512) (j : Fin 1024) : ob26 m c t (ix2 R j) = O26 (iblk m c 0 t) (iblk m c 2 t) (iblk m c 3 t) R j :=
  out26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 R j)
def arr26 : Buf (Elt Ideal) ((c.tc : Thread nD τ).loc main_v100_12) := fun y : S16384x1024.Idx => ob26 m c (ptOf (y 0)) (ix2 (inOf (y 0)) (y 1))

theorem emb26 (t : Fin cfg0.N) (R : Fin 512) (j : Fin 1024) : (((cfg0.win 26).blk t).view.emb (ix2 R j) : S16384x1024.Idx) = ix2 (tok t R) j := by
  obtain ⟨h0, h1⟩ := idx26 t
  funext a; apply Fin.ext
  match a with
  | ⟨0, _⟩ => show win0_26.index t 0 * 512 + 1 * R.val = _; rw [h0, one_mul]; rfl
  | ⟨1, _⟩ => show win0_26.index t 1 * 1024 + 1 * j.val = _; rw [h1, one_mul, Nat.zero_mul, Nat.zero_add]; rfl

theorem flushed26 (t : Fin cfg0.N) (_ : (cfg0.win 26).flush t = true) : (dats m 0 c).flushed 26 t = ((cfg0.win 26).blk t).view.read (Elt Ideal) (arr26 m c) := by
  show (cfg0.win 26).cut (grid0.coords t) ((dats m 0 c).after 26 t) = _
  rw [after0_26]
  funext y
  obtain ⟨R, j, rfl⟩ : ∃ (R : Fin 512) (j : Fin 1024), y = ix2 R j := ⟨y 0, y 1, eq_ix2 y⟩
  rw [View.read_apply]
  show ob26 m c t (ix2 R j) = arr26 m c (((cfg0.win 26).blk t).view.emb (ix2 R j))
  rw [emb26]
  show _ = ob26 m c (ptOf (tok t R)) (ix2 (inOf (tok t R)) j)
  rw [ptOf_tok, inOf_tok]

theorem final26 : (dats m 0 c).arrAt 26 cfg0.N = arr26 m c :=
  (dats m 0 c).arrAt_eq_of_cover 26 (arr26 m c) (flushed26 m c) fun i => by
    have hi0 : ((i : S16384x1024.Idx) 0).val < 16384 := (i 0).isLt
    have hi1 : ((i : S16384x1024.Idx) 1).val < 1024 := (i 1).isLt
    obtain ⟨t, ht⟩ : ∃ t, t = ptOf ⟨(i 0).val, hi0⟩ := ⟨_, rfl⟩
    have hv : t.val = (i 0).val / 512 := by rw [ht]; rfl
    refine ⟨t, flush0_26 t, ?_⟩
    obtain ⟨h0, h1⟩ := idx26 t
    show i ∈ ((View.whole main_v100_12).slice (win0_26.rect t)).set
    rw [View.set_slice_whole, Rect.mem_set_unit]
    intro a
    match a with
    | ⟨0, _⟩ => show win0_26.index t 0 * 512 ≤ (i 0 : Nat) ∧ (i 0 : Nat) < win0_26.index t 0 * 512 + 512
                rw [h0, hv]; omega
    | ⟨1, _⟩ => show win0_26.index t 1 * 1024 ≤ (i 1 : Nat) ∧ (i 1 : Nat) < win0_26.index t 1 * 1024 + 1024
                rw [h1]; omega

end Cert.Kernel3Ideal.Result

end
-- ==== Proof.Proj.Token.lean ====
module

public import proofs.«01_k».proof.Proof.Proj.Spec

/-!
The projection call's results for one token, in the arguments.
-/

@[expose] public section

noncomputable section

namespace Cert.Proj

open Idealize.ShloMosaic

/-- The scales of the two mixers' queries: one over the square root of the width, to base two. -/
abbrev sc64 : EReal := Ideal.div 1 (Ideal.sqrt (Ideal.ofBits FTy.f32 0x42800000#32) * Ideal.log (Ideal.ofBits FTy.f32 0x40000000#32))
abbrev sc96 : EReal := Ideal.div 1 (Ideal.sqrt (Ideal.ofBits FTy.f32 0x42C00000#32) * Ideal.log (Ideal.ofBits FTy.f32 0x40000000#32))

/-- The rotary frequency of a pair of lanes. -/
def freq (j : Fin 16) : EReal :=
  Ideal.pow (Ideal.ofBits FTy.f32 0x461C4000#32) (Ideal.div (-(Ideal.ofBits FTy.f32 0x40000000#32 * (FloatOps.sitofp FTy.f32 (BitVec.ofNat 32 j.val) : Ideal .f32))) (Ideal.ofBits FTy.f32 0x42000000#32))

end Cert.Proj

end
-- ==== Proof.Proj.Host.lean ====
module

public import proofs.«01_k».proof.Proof.Proj.Arrays
public import proofs.«01_k».proof.Proof.Proj.Token
public import Idealize.ShloMosaic.Lib.StableHlo.ReadAt

/-!
The host operations before the projection call: its windows' arrays, read in the arguments.
-/

@[expose] public section

set_option maxRecDepth 16384
set_option maxHeartbeats 3000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)
/-- The call's arguments, and the batch and position of a token. -/
def aX : Vec Ideal S8x2048x1024 .f32 := m (c.tc.loc main_arg0)
def aW : Vec Ideal S1024x3768 .f32 := m (c.tc.loc main_arg3)
def bOf (R : Fin 16384) : Fin 8 := ⟨R.val / 2048, by omega⟩
def pOf (R : Fin 16384) : Fin 2048 := ⟨R.val % 2048, by omega⟩
def aPos : Vec Ideal S8x2048 .i32 := m (c.tc.loc main_arg1)
def aG : Vec Ideal S1024 .f32 := m (c.tc.loc main_arg2)
def aQg : Vec Ideal S256 .f32 := m (c.tc.loc main_arg4)
def aKg : Vec Ideal S128 .f32 := m (c.tc.loc main_arg5)
def aUq : Vec Ideal S256x768 .f32 := m (c.tc.loc main_arg6)
def aUk : Vec Ideal S128x1024 .f32 := m (c.tc.loc main_arg7)

theorem word_zero : (FloatOps.sitofp FTy.f32 0#32 : Ideal .f32) = (0 : EReal) := by
  show ((((0#32 : BitVec 32).toInt : ℝ)) : EReal) = 0
  simp

end Cert.Kernel3Ideal.Result

end
-- ==== Proof.Proj.HostA.lean ====
module

public import proofs.«01_k».proof.Proof.Proj.Host
public import Idealize.ShloMosaic.Lib.StableHlo.ReadAt

/-!
The host operations before the projection call: its windows' arrays, read in the arguments.
-/

@[expose] public section

set_option maxRecDepth 16384
set_option maxHeartbeats 3000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)
theorem v0_read (R : Fin 16384) (j : Fin 1024) : (V m c main_v0 : Vec Ideal S16384x1024 .f32) (ix2 R j) = aX m c (ix3 (bOf R) (pOf R) j) := by
  unfold V
  after_reads_at
  rfl

theorem v1_read (R : Fin 16384) : (V m c main_v1 : Vec Ideal S16384x1 .i32) (ix2 R 0) = aPos m c (ix2 (bOf R) (pOf R)) := by
  unfold V
  after_reads_at
  rfl

theorem v97_read (j : Fin 1024) : (V m c main_v97 : Vec Ideal S1x1024 .f32) (ix2 0 j) = aG m c (ix1 j) := by
  unfold V
  after_reads_at
  rfl

theorem v98_read (j : Fin 256) : (V m c main_v98 : Vec Ideal S1x256 .f32) (ix2 0 j) = aQg m c (ix1 j) := by
  unfold V
  after_reads_at
  rfl

theorem v99_read (j : Fin 128) : (V m c main_v99 : Vec Ideal S1x128 .f32) (ix2 0 j) = aKg m c (ix1 j) := by
  unfold V
  after_reads_at
  rfl

end Cert.Kernel3Ideal.Result

end
-- ==== Proof.Proj.HostB.lean ====
module

public import proofs.«01_k».proof.Proof.Proj.Host
public import Idealize.ShloMosaic.Lib.StableHlo.ReadAt

/-!
The host operations before the projection call: its windows' arrays, read in the arguments.
-/

@[expose] public section

set_option maxRecDepth 16384
set_option maxHeartbeats 3000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

/-- A column of a head of width 96, and of width 128. -/
theorem v51_read (k : Fin 256) (h : Fin 8) (d : Fin 96) : (V m c main_v51 : Vec Ideal S256x1024 .bf16) (ix2 k ⟨128 * h.val + d.val, by omega⟩) = aUq m c (ix2 k ⟨96 * h.val + d.val, by omega⟩) := by
  unfold V
  after_reads_at
  rw [dif_pos (show (128 * h.val + d.val) / 128 < 8 ∧ (128 * h.val + d.val) % 128 < 96 by omega)]
  exact congrArg (fun z => aUq m c (ix2 k z)) (Fin.ext (by show (128 * h.val + d.val) / 128 * 96 + (128 * h.val + d.val) % 128 = 96 * h.val + d.val; omega))

theorem v62_z (k : Fin 256) (h : Fin 8) (d : Fin 64) : (V m c main_v62 : Vec Ideal S256x1024 .bf16) (ix2 k ⟨128 * h.val + d.val, by omega⟩) = (0 : EReal) := by
  unfold V
  after_reads_at
  rw [dif_pos (show (128 * h.val + d.val) / 128 < 8 ∧ (128 * h.val + d.val) % 128 < 96 by omega), dif_pos (show (128 * h.val + d.val) % 128 < 64 by omega)]
  after_reads_at

/-- A buffer's contents before the turned query weights are put together. -/
def U2 (r : Ref sig .tc) : Buf (Elt Ideal) ((c.tc : Thread nD τ).loc r) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22].flatten (fun b => m (c, b)) 78 (Proc.devRef .tc r)

theorem v58_a (k : Fin 256) (h : Fin 8) (j : Fin 16) : (U2 m c main_v58 : Vec Ideal S256x8x32 .f32) (ix3 k h ⟨j.val, by omega⟩) = - aUq m c (ix2 k ⟨96 * h.val + (80 + j.val), by omega⟩) := by
  unfold U2
  after_reads_at
  refine congrArg (fun z => - aUq m c (ix2 k z)) (Fin.ext ?_)
  show h.val * 96 + (64 + (16 + j.val)) = 96 * h.val + (80 + j.val)
  omega

theorem v58_b (k : Fin 256) (h : Fin 8) (j : Fin 16) : (U2 m c main_v58 : Vec Ideal S256x8x32 .f32) (ix3 k h ⟨16 + j.val, by omega⟩) = aUq m c (ix2 k ⟨96 * h.val + (64 + j.val), by omega⟩) := by
  unfold U2
  after_reads_at
  refine congrArg (fun z => aUq m c (ix2 k z)) (Fin.ext ?_)
  show h.val * 96 + (64 + j.val) = 96 * h.val + (64 + j.val)
  omega

theorem v62_a (k : Fin 256) (h : Fin 8) (j : Fin 16) : (V m c main_v62 : Vec Ideal S256x1024 .bf16) (ix2 k ⟨128 * h.val + (64 + j.val), by omega⟩) = - aUq m c (ix2 k ⟨96 * h.val + (80 + j.val), by omega⟩) := by
  refine Eq.trans ?_ (v58_a m c k h j)
  unfold V
  after_reads_at
  refine ((dif_pos (show (128 * h.val + (64 + j.val)) / 128 < 8 ∧ (128 * h.val + (64 + j.val)) % 128 < 96 by omega)).trans (dif_neg (show ¬((128 * h.val + (64 + j.val)) % 128 < 64) by omega))).trans ?_
  refine congrArg (U2 m c main_v58) ?_
  have hh := h.isLt; have hj := j.isLt
  congr 1 <;> apply Fin.ext
  · show (128 * h.val + (64 + j.val)) / 128 = h.val
    omega
  · show (128 * h.val + (64 + j.val)) % 128 - 64 = j.val
    omega

theorem v62_b (k : Fin 256) (h : Fin 8) (j : Fin 16) : (V m c main_v62 : Vec Ideal S256x1024 .bf16) (ix2 k ⟨128 * h.val + (80 + j.val), by omega⟩) = aUq m c (ix2 k ⟨96 * h.val + (64 + j.val), by omega⟩) := by
  refine Eq.trans ?_ (v58_b m c k h j)
  unfold V
  after_reads_at
  refine ((dif_pos (show (128 * h.val + (80 + j.val)) / 128 < 8 ∧ (128 * h.val + (80 + j.val)) % 128 < 96 by omega)).trans (dif_neg (show ¬((128 * h.val + (80 + j.val)) % 128 < 64) by omega))).trans ?_
  refine congrArg (U2 m c main_v58) ?_
  have hh := h.isLt; have hj := j.isLt
  congr 1 <;> apply Fin.ext
  · show (128 * h.val + (80 + j.val)) / 128 = h.val
    omega
  · show (128 * h.val + (80 + j.val)) % 128 - 64 = 16 + j.val
    omega

theorem v67_a (k : Fin 128) (h : Fin 8) (d : Fin 64) : (V m c main_v67 : Vec Ideal S128x1024 .bf16) (ix2 k ⟨128 * h.val + d.val, by omega⟩) = aUk m c (ix2 k ⟨128 * h.val + d.val, by omega⟩) := by
  unfold V
  after_reads_at
  rw [dif_pos (show (128 * h.val + d.val) / 128 < 8 ∧ (128 * h.val + d.val) % 128 < 64 by omega)]
  exact congrArg (fun z => aUk m c (ix2 k z)) (Fin.ext (by show (128 * h.val + d.val) / 128 * 128 + (128 * h.val + d.val) % 128 = 128 * h.val + d.val; omega))

theorem v67_z (k : Fin 128) (h : Fin 8) (d : Fin 64) : (V m c main_v67 : Vec Ideal S128x1024 .bf16) (ix2 k ⟨128 * h.val + (64 + d.val), by omega⟩) = (0 : EReal) := by
  unfold V
  after_reads_at
  rw [dif_neg (show ¬((128 * h.val + (64 + d.val)) / 128 < 8 ∧ (128 * h.val + (64 + d.val)) % 128 < 64) by omega)]
  exact word_zero

theorem v71_read (r : Fin 512) (k : Fin 128) : (V m c main_v71 : Vec Ideal S512x128 .bf16) (ix2 r k) = aUk m c (ix2 k ⟨r.val / 64 * 128 + (64 + r.val % 64), by omega⟩) := by
  unfold V
  after_reads_at
  rfl

theorem v84_z (l : Fin 64) : (V m c main_v84 : Vec Ideal S1x128 .f32) (ix2 0 ⟨l.val, by omega⟩) = (0 : EReal) := by
  unfold V
  after_reads_at
  first | exact word_zero | exact (dif_neg fun h => h.1).trans word_zero

theorem v84_a (j : Fin 16) : (V m c main_v84 : Vec Ideal S1x128 .f32) (ix2 0 ⟨64 + j.val, by omega⟩) = freq j := by
  unfold V
  after_reads_at
  rw [dif_pos (show j.val < 32 by omega)]
  after_reads_at
  rfl

theorem v84_b (j : Fin 16) : (V m c main_v84 : Vec Ideal S1x128 .f32) (ix2 0 ⟨80 + j.val, by omega⟩) = freq j := by
  unfold V
  after_reads_at
  rw [dif_pos (show 64 ≤ 80 + j.val ∧ 80 + j.val - 64 < 32 by omega), dif_neg (show ¬(80 + j.val - 64 < 16) by omega)]
  after_reads_at
  rw [show 80 + j.val - 64 - 16 = j.val by omega]
  rfl

theorem v86_z (h : Fin 8) (d : Fin 64) : (V m c main_v86 : Vec Ideal S1x1024 .f32) (ix2 0 ⟨128 * h.val + d.val, by omega⟩) = (0 : EReal) := by
  unfold V
  after_reads_at
  rw [dif_neg (show ¬(96 ≤ (128 * h.val + d.val) % 128 ∧ (128 * h.val + d.val) % 128 - 96 < 6) by omega)]
  exact word_zero

theorem v96_read (l : Fin 128) (r : Fin 1536) : (V m c main_v96 : Vec Ideal S128x1536 .bf16) (ix2 l r) = if l.val = r.val / 64 then (1 : EReal) else 0 := by
  unfold V
  after_reads_at
  show ((((IntOp.cmpi CmpIPredicate.eq (IntOp.addi (BitVec.ofNat 32 l.val) 0#32) (BitVec.ofNat 32 (r.val / 64))).toNat : ℝ)) : EReal) = _
  by_cases h : l.val = r.val / 64
  · rw [if_pos h, ← h]; simp [IntOp.cmpi, IntOp.addi]
  · rw [if_neg h]
    have : BitVec.ofNat 32 l.val ≠ BitVec.ofNat 32 (r.val / 64) := fun e => h (by
      have := congrArg BitVec.toNat e; simp at this; omega)
    simp [IntOp.cmpi, IntOp.addi, this]

end Cert.Kernel3Ideal.Result

end
-- ==== Proof.Proj.HostCat.lean ====
module

public import proofs.«01_k».proof.Proof.Proj.Host
public import Idealize.ShloMosaic.Lib.StableHlo.ReadAt

/-!
The host operations before the projection call: its windows' arrays, read in the arguments.
-/

@[expose] public section

set_option maxRecDepth 16384
set_option maxHeartbeats 3000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)
/-- A buffer's contents before the projection's columns are put together. -/
def U (r : Ref sig .tc) : Buf (Elt Ideal) ((c.tc : Thread nD τ).loc r) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22].flatten (fun b => m (c, b)) 61 (Proc.devRef .tc r)

/-- The projection's columns, piece by piece. -/
def pieces : List ((s : Shape) × (s.Idx → Elt Ideal .f32)) := [⟨S1024x1024, (U m c main_v30 : Vec Ideal S1024x1024 .f32)⟩, ⟨S1024x128, (U m c main_v3 : Vec Ideal S1024x128 .f32)⟩, ⟨S1024x128, (U m c main_v4 : Vec Ideal S1024x128 .f32)⟩, ⟨S1024x256, (U m c main_v33 : Vec Ideal S1024x256 .f32)⟩, ⟨S1024x256, (U m c main_v36 : Vec Ideal S1024x256 .f32)⟩, ⟨S1024x128, (U m c main_v15 : Vec Ideal S1024x128 .f32)⟩, ⟨S1024x256, (U m c main_v10 : Vec Ideal S1024x256 .f32)⟩, ⟨S1024x128, (U m c main_v11 : Vec Ideal S1024x128 .f32)⟩, ⟨S1024x128, (U m c main_v16 : Vec Ideal S1024x128 .f32)⟩, ⟨S1024x128, (U m c main_v21 : Vec Ideal S1024x128 .f32)⟩, ⟨S1024x1024, (U m c main_v13 : Vec Ideal S1024x1024 .f32)⟩, ⟨S1024x1024, (U m c main_v14 : Vec Ideal S1024x1024 .f32)⟩]

theorem v46_cat (k : Fin 1024) (j : Fin 4608) : (V m c main_v46 : Vec Ideal S1024x4608 .bf16) (ix2 k j) = concatenate S1024x4608 1 (pieces m c)
    concatenates_S1024x1024_S1024x128_S1024x128_S1024x256_S1024x256_S1024x128_S1024x256_S1024x128_S1024x128_S1024x128_S1024x1024_S1024x1024_S1024x4608_d1 (ix2 k j) := by
  unfold V pieces U
  simp only [StableHlo.readAfter, StableHlo.unary_result']
  simp only [StableHlo.readUpto]
  simp only [StableHlo.nary_result']
  rfl

theorem cat0 (k : Fin 1024) (j : Fin 1024) : (V m c main_v46 : Vec Ideal S1024x4608 .bf16) (ix2 k ⟨0 + j.val, by omega⟩) = (U m c main_v30 : Vec Ideal S1024x1024 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨0 + j.val, by omega⟩) 0 (show (0 : ℕ) < 12 by decide) S1024x1024 (U m c main_v30 : Vec Ideal S1024x1024 .f32) rfl rfl 0 rfl (ix2 k j)
    (fun b hb => match b with
      | ⟨0, _⟩ => rfl
      | ⟨1, _⟩ => absurd rfl hb) rfl)

theorem cat1 (k : Fin 1024) (j : Fin 128) : (V m c main_v46 : Vec Ideal S1024x4608 .bf16) (ix2 k ⟨1024 + j.val, by omega⟩) = (U m c main_v3 : Vec Ideal S1024x128 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨1024 + j.val, by omega⟩) 1 (show (1 : ℕ) < 12 by decide) S1024x128 (U m c main_v3 : Vec Ideal S1024x128 .f32) rfl rfl 1024 rfl (ix2 k j)
    (fun b hb => match b with
      | ⟨0, _⟩ => rfl
      | ⟨1, _⟩ => absurd rfl hb) rfl)

theorem cat2 (k : Fin 1024) (j : Fin 128) : (V m c main_v46 : Vec Ideal S1024x4608 .bf16) (ix2 k ⟨1152 + j.val, by omega⟩) = (U m c main_v4 : Vec Ideal S1024x128 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨1152 + j.val, by omega⟩) 2 (show (2 : ℕ) < 12 by decide) S1024x128 (U m c main_v4 : Vec Ideal S1024x128 .f32) rfl rfl 1152 rfl (ix2 k j)
    (fun b hb => match b with
      | ⟨0, _⟩ => rfl
      | ⟨1, _⟩ => absurd rfl hb) rfl)

theorem cat3 (k : Fin 1024) (j : Fin 256) : (V m c main_v46 : Vec Ideal S1024x4608 .bf16) (ix2 k ⟨1280 + j.val, by omega⟩) = (U m c main_v33 : Vec Ideal S1024x256 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨1280 + j.val, by omega⟩) 3 (show (3 : ℕ) < 12 by decide) S1024x256 (U m c main_v33 : Vec Ideal S1024x256 .f32) rfl rfl 1280 rfl (ix2 k j)
    (fun b hb => match b with
      | ⟨0, _⟩ => rfl
      | ⟨1, _⟩ => absurd rfl hb) rfl)

theorem cat4 (k : Fin 1024) (j : Fin 256) : (V m c main_v46 : Vec Ideal S1024x4608 .bf16) (ix2 k ⟨1536 + j.val, by omega⟩) = (U m c main_v36 : Vec Ideal S1024x256 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨1536 + j.val, by omega⟩) 4 (show (4 : ℕ) < 12 by decide) S1024x256 (U m c main_v36 : Vec Ideal S1024x256 .f32) rfl rfl 1536 rfl (ix2 k j)
    (fun b hb => match b with
      | ⟨0, _⟩ => rfl
      | ⟨1, _⟩ => absurd rfl hb) rfl)

theorem cat5 (k : Fin 1024) (j : Fin 128) : (V m c main_v46 : Vec Ideal S1024x4608 .bf16) (ix2 k ⟨1792 + j.val, by omega⟩) = (U m c main_v15 : Vec Ideal S1024x128 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨1792 + j.val, by omega⟩) 5 (show (5 : ℕ) < 12 by decide) S1024x128 (U m c main_v15 : Vec Ideal S1024x128 .f32) rfl rfl 1792 rfl (ix2 k j)
    (fun b hb => match b with
      | ⟨0, _⟩ => rfl
      | ⟨1, _⟩ => absurd rfl hb) rfl)

theorem cat6 (k : Fin 1024) (j : Fin 256) : (V m c main_v46 : Vec Ideal S1024x4608 .bf16) (ix2 k ⟨1920 + j.val, by omega⟩) = (U m c main_v10 : Vec Ideal S1024x256 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨1920 + j.val, by omega⟩) 6 (show (6 : ℕ) < 12 by decide) S1024x256 (U m c main_v10 : Vec Ideal S1024x256 .f32) rfl rfl 1920 rfl (ix2 k j)
    (fun b hb => match b with
      | ⟨0, _⟩ => rfl
      | ⟨1, _⟩ => absurd rfl hb) rfl)

theorem cat7 (k : Fin 1024) (j : Fin 128) : (V m c main_v46 : Vec Ideal S1024x4608 .bf16) (ix2 k ⟨2176 + j.val, by omega⟩) = (U m c main_v11 : Vec Ideal S1024x128 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨2176 + j.val, by omega⟩) 7 (show (7 : ℕ) < 12 by decide) S1024x128 (U m c main_v11 : Vec Ideal S1024x128 .f32) rfl rfl 2176 rfl (ix2 k j)
    (fun b hb => match b with
      | ⟨0, _⟩ => rfl
      | ⟨1, _⟩ => absurd rfl hb) rfl)

theorem cat8 (k : Fin 1024) (j : Fin 128) : (V m c main_v46 : Vec Ideal S1024x4608 .bf16) (ix2 k ⟨2304 + j.val, by omega⟩) = (U m c main_v16 : Vec Ideal S1024x128 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨2304 + j.val, by omega⟩) 8 (show (8 : ℕ) < 12 by decide) S1024x128 (U m c main_v16 : Vec Ideal S1024x128 .f32) rfl rfl 2304 rfl (ix2 k j)
    (fun b hb => match b with
      | ⟨0, _⟩ => rfl
      | ⟨1, _⟩ => absurd rfl hb) rfl)

theorem cat9 (k : Fin 1024) (j : Fin 128) : (V m c main_v46 : Vec Ideal S1024x4608 .bf16) (ix2 k ⟨2432 + j.val, by omega⟩) = (U m c main_v21 : Vec Ideal S1024x128 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨2432 + j.val, by omega⟩) 9 (show (9 : ℕ) < 12 by decide) S1024x128 (U m c main_v21 : Vec Ideal S1024x128 .f32) rfl rfl 2432 rfl (ix2 k j)
    (fun b hb => match b with
      | ⟨0, _⟩ => rfl
      | ⟨1, _⟩ => absurd rfl hb) rfl)

theorem cat10 (k : Fin 1024) (j : Fin 1024) : (V m c main_v46 : Vec Ideal S1024x4608 .bf16) (ix2 k ⟨2560 + j.val, by omega⟩) = (U m c main_v13 : Vec Ideal S1024x1024 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨2560 + j.val, by omega⟩) 10 (show (10 : ℕ) < 12 by decide) S1024x1024 (U m c main_v13 : Vec Ideal S1024x1024 .f32) rfl rfl 2560 rfl (ix2 k j)
    (fun b hb => match b with
      | ⟨0, _⟩ => rfl
      | ⟨1, _⟩ => absurd rfl hb) rfl)

theorem cat11 (k : Fin 1024) (j : Fin 1024) : (V m c main_v46 : Vec Ideal S1024x4608 .bf16) (ix2 k ⟨3584 + j.val, by omega⟩) = (U m c main_v14 : Vec Ideal S1024x1024 .f32) (ix2 k j) :=
  (v46_cat m c k _).trans (concatenate_apply_piece (t := S1024x4608) (1 : Fin 2) (pieces m c) concatenates_S1024x1024_S1024x128_S1024x128_S1024x256_S1024x256_S1024x128_S1024x256_S1024x128_S1024x128_S1024x128_S1024x1024_S1024x1024_S1024x4608_d1 (ix2 k ⟨3584 + j.val, by omega⟩) 11 (show (11 : ℕ) < 12 by decide) S1024x1024 (U m c main_v14 : Vec Ideal S1024x1024 .f32) rfl rfl 3584 rfl (ix2 k j)
    (fun b hb => match b with
      | ⟨0, _⟩ => rfl
      | ⟨1, _⟩ => absurd rfl hb) rfl)

end Cert.Kernel3Ideal.Result

end
-- ==== Proof.Proj.HostU.lean ====
module

public import proofs.«01_k».proof.Proof.Proj.HostCat
public import Idealize.ShloMosaic.Lib.StableHlo.ReadAt

/-!
The host operations before the projection call: its windows' arrays, read in the arguments.
-/

@[expose] public section

set_option maxRecDepth 16384
set_option maxHeartbeats 3000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)
theorem u3 (k : Fin 1024) (j : Fin 128) : (U m c main_v3 : Vec Ideal S1024x128 .f32) (ix2 k j) = aW m c (ix2 k ⟨512 + j.val, by omega⟩) := by
  unfold U
  after_reads_at
  rfl

theorem u4 (k : Fin 1024) (j : Fin 128) : (U m c main_v4 : Vec Ideal S1024x128 .f32) (ix2 k j) = aW m c (ix2 k ⟨640 + j.val, by omega⟩) := by
  unfold U
  after_reads_at
  rfl

theorem u10 (k : Fin 1024) (j : Fin 256) : (U m c main_v10 : Vec Ideal S1024x256 .f32) (ix2 k j) = aW m c (ix2 k ⟨1304 + j.val, by omega⟩) := by
  unfold U
  after_reads_at
  rfl

theorem u11 (k : Fin 1024) (j : Fin 128) : (U m c main_v11 : Vec Ideal S1024x128 .f32) (ix2 k j) = aW m c (ix2 k ⟨1560 + j.val, by omega⟩) := by
  unfold U
  after_reads_at
  rfl

theorem u13 (k : Fin 1024) (j : Fin 1024) : (U m c main_v13 : Vec Ideal S1024x1024 .f32) (ix2 k j) = aW m c (ix2 k ⟨1720 + j.val, by omega⟩) := by
  unfold U
  after_reads_at
  rfl

theorem u14 (k : Fin 1024) (j : Fin 1024) : (U m c main_v14 : Vec Ideal S1024x1024 .f32) (ix2 k j) = aW m c (ix2 k ⟨2744 + j.val, by omega⟩) := by
  unfold U
  after_reads_at
  rfl

theorem u30 (k : Fin 1024) (h : Fin 8) (d : Fin 64) : (U m c main_v30 : Vec Ideal S1024x1024 .f32) (ix2 k ⟨128 * h.val + d.val, by omega⟩) = aW m c (ix2 k ⟨64 * h.val + d.val, by omega⟩) * sc64 := by
  unfold U
  after_reads_at
  rw [dif_pos (show (128 * h.val + d.val) % 128 < 64 by omega)]
  exact congrArg (fun z => aW m c (ix2 k z) * sc64) (Fin.ext (by show h.val * 64 + (128 * h.val + d.val) % 128 = 64 * h.val + d.val; omega))

theorem u33 (k : Fin 1024) (h : Fin 2) (d : Fin 64) : (U m c main_v33 : Vec Ideal S1024x256 .f32) (ix2 k ⟨128 * h.val + d.val, by omega⟩) = aW m c (ix2 k ⟨768 + 64 * h.val + d.val, by omega⟩) := by
  unfold U
  after_reads_at
  rw [dif_pos (show (128 * h.val + d.val) % 128 < 64 by omega)]
  exact congrArg (fun z => aW m c (ix2 k z)) (Fin.ext (by show 768 + (h.val * 64 + (128 * h.val + d.val) % 128) = 768 + 64 * h.val + d.val; omega))

theorem u36 (k : Fin 1024) (h : Fin 2) (d : Fin 64) : (U m c main_v36 : Vec Ideal S1024x256 .f32) (ix2 k ⟨128 * h.val + d.val, by omega⟩) = aW m c (ix2 k ⟨1024 + 64 * h.val + d.val, by omega⟩) := by
  unfold U
  after_reads_at
  rw [dif_pos (show (128 * h.val + d.val) % 128 < 64 by omega)]
  exact congrArg (fun z => aW m c (ix2 k z)) (Fin.ext (by show 1024 + (h.val * 64 + (128 * h.val + d.val) % 128) = 1024 + 64 * h.val + d.val; omega))

theorem u15 (k : Fin 1024) (l : Fin 24) : (U m c main_v15 : Vec Ideal S1024x128 .f32) (ix2 k ⟨l.val, by omega⟩) = aW m c (ix2 k ⟨1280 + l.val, by omega⟩) := by
  unfold U
  after_reads_at
  rfl

theorem u16 (k : Fin 1024) (j : Fin 32) : (U m c main_v16 : Vec Ideal S1024x128 .f32) (ix2 k ⟨64 + j.val, by omega⟩) = aW m c (ix2 k ⟨1688 + j.val, by omega⟩) := by
  unfold U
  after_reads_at
  rfl

theorem u16z (k : Fin 1024) (j : Fin 64) : (U m c main_v16 : Vec Ideal S1024x128 .f32) (ix2 k ⟨j.val, by omega⟩) = (0 : EReal) := by
  unfold U
  after_reads_at
  first | exact word_zero | exact (dif_neg fun h => h.1).trans word_zero

theorem u21a (k : Fin 1024) (j : Fin 16) : (U m c main_v21 : Vec Ideal S1024x128 .f32) (ix2 k ⟨64 + j.val, by omega⟩) = - aW m c (ix2 k ⟨1704 + j.val, by omega⟩) := by
  unfold U
  after_reads_at
  rw [dif_pos (show j.val < 32 by omega)]
  after_reads_at
  exact congrArg (fun z => - aW m c (ix2 k z)) (Fin.ext (by show 1688 + (16 + j.val) = 1704 + j.val; omega))

theorem u21b (k : Fin 1024) (j : Fin 16) : (U m c main_v21 : Vec Ideal S1024x128 .f32) (ix2 k ⟨80 + j.val, by omega⟩) = aW m c (ix2 k ⟨1688 + j.val, by omega⟩) := by
  unfold U
  after_reads_at
  rw [dif_pos (show 64 ≤ 80 + j.val ∧ 80 + j.val - 64 < 32 by omega), dif_neg (show ¬(80 + j.val - 64 < 16) by omega)]
  after_reads_at
  exact congrArg (fun z => aW m c (ix2 k z)) (Fin.ext (by show 1688 + (80 + j.val - 64 - 16) = 1688 + j.val; omega))

theorem u21z (k : Fin 1024) (j : Fin 64) : (U m c main_v21 : Vec Ideal S1024x128 .f32) (ix2 k ⟨j.val, by omega⟩) = (0 : EReal) := by
  unfold U
  after_reads_at
  first | exact word_zero | exact (dif_neg fun h => h.1).trans word_zero

end Cert.Kernel3Ideal.Result

end
-- ==== Proof.Proj.HostV.lean ====
module

public import proofs.«01_k».proof.Proof.Proj.Host
public import Idealize.ShloMosaic.Lib.StableHlo.ReadAt

/-!
The host operations before the projection call: its windows' arrays, read in the arguments.
-/

@[expose] public section

set_option maxRecDepth 16384
set_option maxHeartbeats 3000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

/-- A buffer's contents after the first 59 operations. -/
def U3 (r : Ref sig .tc) : Buf (Elt Ideal) ((c.tc : Thread nD τ).loc r) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22].flatten (fun b => m (c, b)) 59 (Proc.devRef .tc r)

/-- A buffer's contents after the first 54 operations. -/
def U4 (r : Ref sig .tc) : Buf (Elt Ideal) ((c.tc : Thread nD τ).loc r) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22].flatten (fun b => m (c, b)) 54 (Proc.devRef .tc r)

/-- A buffer's contents after the first 57 operations. -/
def U5 (r : Ref sig .tc) : Buf (Elt Ideal) ((c.tc : Thread nD τ).loc r) := StableHlo.upto [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22].flatten (fun b => m (c, b)) 57 (Proc.devRef .tc r)

theorem v37_read (k : Fin 1024) (g : Fin 2) (d : Fin 64) : (U4 m c main_v37 : Vec Ideal S1024x2x64 .f32) (ix3 k g d) = aW m c (ix2 k ⟨896 + (64 * g.val + d.val), by omega⟩) := by
  unfold U4
  after_reads_at
  refine congrArg (fun z => aW m c (ix2 k z)) (Fin.ext ?_)
  show 896 + (g.val * 64 + d.val) = 896 + (64 * g.val + d.val)
  omega

theorem v39_read (k : Fin 1024) (g : Fin 2) (d : Fin 64) : (U3 m c main_v39 : Vec Ideal S1024x256 .f32) (ix2 k ⟨128 * g.val + d.val, by omega⟩) = aW m c (ix2 k ⟨896 + (64 * g.val + d.val), by omega⟩) := by
  refine Eq.trans ?_ (v37_read m c k g d)
  unfold U3
  after_reads_at
  refine (dif_pos (show (128 * g.val + d.val) % 128 < 64 by omega)).trans ?_
  refine congrArg (U4 m c main_v37) ?_
  have hg := g.isLt; have hd := d.isLt
  congr 1 <;> apply Fin.ext
  show (128 * g.val + d.val) % 128 = d.val
  omega

theorem v47_v39 (k : Fin 1024) (g : Fin 2) (d : Fin 64) : (V m c main_v47 : Vec Ideal S512x1024 .bf16) (ix2 ⟨128 * g.val + d.val, by omega⟩ k) = aW m c (ix2 k ⟨896 + (64 * g.val + d.val), by omega⟩) := by
  refine Eq.trans ?_ (v39_read m c k g d)
  unfold V
  after_reads_at
  refine (dif_pos (show 128 * g.val + d.val < 256 by omega)).trans ?_
  refine congrArg (U3 m c main_v39) ?_
  rfl

theorem v40_read (k : Fin 1024) (g : Fin 2) (d : Fin 64) : (U5 m c main_v40 : Vec Ideal S1024x2x64 .f32) (ix3 k g d) = aW m c (ix2 k ⟨1152 + (64 * g.val + d.val), by omega⟩) := by
  unfold U5
  after_reads_at
  refine congrArg (fun z => aW m c (ix2 k z)) (Fin.ext ?_)
  show 1152 + (g.val * 64 + d.val) = 1152 + (64 * g.val + d.val)
  omega

theorem v42_read (k : Fin 1024) (g : Fin 2) (d : Fin 64) : (U3 m c main_v42 : Vec Ideal S1024x256 .f32) (ix2 k ⟨128 * g.val + d.val, by omega⟩) = aW m c (ix2 k ⟨1152 + (64 * g.val + d.val), by omega⟩) := by
  refine Eq.trans ?_ (v40_read m c k g d)
  unfold U3
  after_reads_at
  refine (dif_pos (show (128 * g.val + d.val) % 128 < 64 by omega)).trans ?_
  refine congrArg (U5 m c main_v40) ?_
  have hg := g.isLt; have hd := d.isLt
  congr 1 <;> apply Fin.ext
  show (128 * g.val + d.val) % 128 = d.val
  omega

theorem v47_v42 (k : Fin 1024) (g : Fin 2) (d : Fin 64) : (V m c main_v47 : Vec Ideal S512x1024 .bf16) (ix2 ⟨256 + (128 * g.val + d.val), by omega⟩ k) = aW m c (ix2 k ⟨1152 + (64 * g.val + d.val), by omega⟩) := by
  refine Eq.trans ?_ (v42_read m c k g d)
  unfold V
  after_reads_at
  rfl

end Cert.Kernel3Ideal.Result

end
-- ==== Proof.Proj.Row.lean ====
module

public import proofs.«01_k».proof.Proof.Proj.Token

/-!
The projection call's results for one token, as functions of its row and the weights.
-/

@[expose] public section

noncomputable section

namespace Cert.Proj

open Idealize.ShloMosaic

variable (h g : Fin 1024 → EReal) (w : Fin 1024 → Fin 3768 → EReal) (qg : Fin 256 → EReal) (kg : Fin 128 → EReal) (uq : Fin 256 → Fin 768 → EReal) (uk : Fin 128 → Fin 1024 → EReal) (pos : BitVec 32)

/-- A column of the projection of the normalised row. -/
def pr (c : Fin 3768) : EReal := dot (nrm c1024 h g) fun k => w k c

/-- The normalised low-rank query and key rows. -/
def cqn (j : Fin 256) : EReal := nrm c256 (fun l : Fin 256 => pr h g w ⟨1304 + l.val, by omega⟩) qg j
def ckn (j : Fin 128) : EReal := nrm c128 (fun l : Fin 128 => pr h g w ⟨1560 + l.val, by omega⟩) kg j

/-- Their products with the up-projections. -/
def qh (c : Fin 768) : EReal := dot (cqn h g w qg) fun k => uq k c
def kvh (c : Fin 1024) : EReal := dot (ckn h g w kg) fun k => uk k c

/-- The rotary angle of a pair of lanes at a position. -/
def ang (j : Fin 16) : EReal := (FloatOps.sitofp FTy.f32 pos : Ideal .f32) * freq j

/-- The rotary turn of 32 lanes, the pairs being 16 apart. -/
def rope (v : Fin 32 → EReal) (j : Fin 32) : EReal :=
  if hj : j.val < 16 then v ⟨j.val, by omega⟩ * Ideal.cos (ang pos ⟨j.val, hj⟩) - v ⟨16 + j.val, by omega⟩ * Ideal.sin (ang pos ⟨j.val, hj⟩)
  else v ⟨j.val - 16, by omega⟩ * Ideal.sin (ang pos ⟨j.val - 16, by omega⟩) + v ⟨16 + (j.val - 16), by omega⟩ * Ideal.cos (ang pos ⟨j.val - 16, by omega⟩)

/-- A head's query and key with their rotary lanes. -/
def tq (k : Fin 8) (d : Fin 96) : EReal :=
  (if hd : d.val < 64 then qh h g w qg uq ⟨96 * k.val + d.val, by omega⟩
   else rope pos (fun j => qh h g w qg uq ⟨96 * k.val + (64 + j.val), by omega⟩) ⟨d.val - 64, by omega⟩) * sc96
def tk (k : Fin 8) (d : Fin 96) : EReal :=
  if hd : d.val < 64 then kvh h g w kg uk ⟨128 * k.val + d.val, by omega⟩
  else rope pos (fun j => pr h g w ⟨1688 + j.val, by omega⟩) ⟨d.val - 64, by omega⟩

end Cert.Proj

end
-- ==== Proof.Proj.Math.lean ====
module

public import proofs.«01_k».proof.Proof.Proj.Row

/-!
When the rows of the projection are real, and what follows of sums, signs and gates.
-/

@[expose] public section

noncomputable section

namespace Cert.Proj

open Idealize.ShloMosaic

/-- A real value. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem sum_coe {n : ℕ} (a : Fin n → ℝ) : (∑ k, ((a k : ℝ) : EReal)) = ((∑ k, a k : ℝ) : EReal) :=
  (map_sum (⟨⟨Real.toEReal, EReal.coe_zero⟩, EReal.coe_add⟩ : ℝ →+ EReal) a Finset.univ).symm

theorem dot_coe {n : ℕ} (a b : Fin n → ℝ) : dot (fun k => ((a k : ℝ) : EReal)) (fun k => ((b k : ℝ) : EReal)) = ((∑ k, a k * b k : ℝ) : EReal) := by
  unfold dot
  rw [← sum_coe]
  exact Finset.sum_congr rfl fun k _ => (EReal.coe_mul _ _).symm

theorem dot_real {n : ℕ} {v w : Fin n → EReal} (hv : ∀ k, IsReal (v k)) (hw : ∀ k, IsReal (w k)) : IsReal (dot v w) := by
  choose a ha using hv
  choose b hb using hw
  rw [funext ha, funext hb, dot_coe]
  exact ⟨_, rfl⟩

theorem dot_scale {n : ℕ} {v w : Fin n → EReal} {s : EReal} (hv : ∀ k, IsReal (v k)) (hw : ∀ k, IsReal (w k)) (hs : IsReal s) : dot v (fun k => w k * s) = dot v w * s := by
  choose a ha using hv
  choose b hb using hw
  obtain ⟨r, rfl⟩ := hs
  rw [funext ha, funext hb, dot_coe]
  have e : (fun k => ((b k : ℝ) : EReal) * (r : EReal)) = fun k => ((b k * r : ℝ) : EReal) := funext fun k => (EReal.coe_mul _ _).symm
  rw [e, dot_coe, ← EReal.coe_mul, Finset.sum_mul]
  simp only [mul_assoc]

theorem dot_neg {n : ℕ} {v w : Fin n → EReal} (hv : ∀ k, IsReal (v k)) (hw : ∀ k, IsReal (w k)) : dot v (fun k => - w k) = - dot v w := by
  choose a ha using hv
  choose b hb using hw
  rw [funext ha, funext hb, dot_coe]
  have e : (fun k => - ((b k : ℝ) : EReal)) = fun k => ((- b k : ℝ) : EReal) := funext fun k => (EReal.coe_neg _).symm
  rw [e, dot_coe, ← EReal.coe_neg]
  simp only [mul_neg, Finset.sum_neg_distrib]

theorem dot_zero {n : ℕ} (v : Fin n → EReal) : dot v (fun _ => 0) = 0 := by
  unfold dot
  simp

theorem dot_comm {n : ℕ} (v w : Fin n → EReal) : dot v w = dot w v := Finset.sum_congr rfl fun k _ => mul_comm _ _

/-- A square is not negative. -/
theorem sq_nonneg' (x : EReal) : 0 ≤ x * x := by
  induction x using EReal.rec with
  | bot => simp
  | top => simp
  | coe r => rw [← EReal.coe_mul]; exact_mod_cast mul_self_nonneg r

/-- The normalised value before its gain is real, whatever the row. -/
theorem norm_real {n : ℕ} (h : Fin n → EReal) (j : Fin n) (c e : ℝ) (hc : 0 < c) (he : 0 < e) :
    IsReal (h j * Ideal.rsqrt (Ideal.div (∑ k, h k * h k) (c : EReal) + (e : EReal))) := by
  rw [Ideal.div_coe hc.ne']
  by_cases hr : ∀ k, IsReal (h k)
  · choose a ha using hr
    have es : (∑ k, h k * h k) = ((∑ k, a k * a k : ℝ) : EReal) := by
      rw [← sum_coe]
      exact Finset.sum_congr rfl fun k _ => by rw [ha k, EReal.coe_mul]
    have hs : 0 ≤ ∑ k, a k * a k := Finset.sum_nonneg fun k _ => mul_self_nonneg _
    have hp : 0 < (∑ k, a k * a k) * (1 / c) + e := add_pos_of_nonneg_of_pos (mul_nonneg hs (by positivity)) he
    rw [es, ← EReal.coe_mul, ← EReal.coe_add, Ideal.rsqrt_coe, if_neg (not_lt.2 hp.le), if_neg hp.ne', ha j, ← EReal.coe_mul]
    exact ⟨_, rfl⟩
  · obtain ⟨k, hk⟩ := not_forall.1 hr
    have ht : h k * h k = ⊤ := by
      induction hx : h k using EReal.rec with
      | bot => simp
      | top => simp
      | coe r => exact absurd ⟨r, hx⟩ hk
    have es : (∑ k, h k * h k) = ⊤ := by
      refine top_le_iff.1 (ht ▸ ?_)
      exact Finset.single_le_sum (f := fun k => h k * h k) (fun i _ => sq_nonneg' (h i)) (Finset.mem_univ k)
    rw [es, EReal.top_mul_coe_of_pos (by positivity), EReal.top_add_coe, Ideal.rsqrt_top, mul_zero]
    exact ⟨0, EReal.coe_zero.symm⟩

theorem bits_real (b : BitVec 32) (h : Ideal.ofBits FTy.f32 b = (((Ideal.ofBits FTy.f32 b).toReal : ℝ) : EReal)) : IsReal (Ideal.ofBits FTy.f32 b) := ⟨_, h⟩

theorem c1024_eq : c1024 = ((1024 : ℝ) : EReal) := by
  simp [c1024, Ideal.ofBits, Ideal.ieee, -EReal.coe_mul]; norm_num
theorem c256_eq : c256 = ((256 : ℝ) : EReal) := by
  simp [c256, Ideal.ofBits, Ideal.ieee, -EReal.coe_mul]; norm_num
theorem eps_eq : ∃ e : ℝ, 0 < e ∧ Ideal.ofBits FTy.f32 0x358637BD#32 = (e : EReal) := by
  refine ⟨(8796093 : ℝ) * (2 : ℝ) ^ (-43 : ℤ), by positivity, ?_⟩
  simp [Ideal.ofBits, Ideal.ieee, -EReal.coe_mul]
theorem b64_eq : Ideal.ofBits FTy.f32 0x42800000#32 = ((64 : ℝ) : EReal) := by
  simp [Ideal.ofBits, Ideal.ieee, -EReal.coe_mul]; norm_num
theorem b96_eq : Ideal.ofBits FTy.f32 0x42C00000#32 = ((96 : ℝ) : EReal) := by
  simp [Ideal.ofBits, Ideal.ieee, -EReal.coe_mul]; norm_num
theorem b2_eq : Ideal.ofBits FTy.f32 0x40000000#32 = ((2 : ℝ) : EReal) := by
  simp [Ideal.ofBits, Ideal.ieee, -EReal.coe_mul]; norm_num

theorem nrm_real {n : ℕ} {c : EReal} {r : ℝ} (hc : c = (r : EReal)) (hr : 0 < r) (h g : Fin n → EReal) (hg : ∀ k, IsReal (g k)) (j : Fin n) : IsReal (nrm c h g j) := by
  obtain ⟨e, he, hb⟩ := eps_eq
  unfold nrm
  rw [hc, hb]
  exact (norm_real h j r e hr he).mul (hg j)

theorem scale_eq (x : ℝ) (hx : 0 < x) : Ideal.div 1 (Ideal.sqrt (x : EReal) * Ideal.log ((2 : ℝ) : EReal)) = (((Real.sqrt x)⁻¹ * (Real.log 2)⁻¹ : ℝ) : EReal) := by
  have hl : 0 < Real.log 2 := Real.log_pos (by norm_num)
  have hs : 0 < Real.sqrt x := Real.sqrt_pos.2 hx
  have e1 : Ideal.sqrt (x : EReal) = ((Real.sqrt x : ℝ) : EReal) := if_neg (not_lt.2 hx.le)
  have e2 : Ideal.log ((2 : ℝ) : EReal) = ((Real.log 2 : ℝ) : EReal) := if_neg (by norm_num)
  rw [e1, e2, ← EReal.coe_mul, Ideal.div_coe (mul_pos hs hl).ne', one_mul, one_div, mul_inv]

theorem sc96_eq : sc96 = (((Real.sqrt 96)⁻¹ * (Real.log 2)⁻¹ : ℝ) : EReal) := by
  unfold sc96
  rw [b96_eq, b2_eq]
  exact scale_eq 96 (by norm_num)

theorem sc64_real : IsReal sc64 := by
  unfold sc64
  rw [b64_eq, b2_eq]
  exact ⟨_, scale_eq 64 (by norm_num)⟩

theorem gate_real (x : EReal) : IsReal (gate x) := by
  unfold gate Ideal.logistic
  induction x using EReal.rec with
  | bot =>
    refine ⟨0, ?_⟩
    show Ideal.div 1 (1 + Ideal.exp (- ⊥)) = _
    rw [EReal.neg_bot]
    show Ideal.div 1 (1 + ⊤) = _
    rw [show (1 : EReal) + ⊤ = ⊤ from by rw [← EReal.coe_one]; exact EReal.coe_add_top 1]
    simp [Ideal.div]
  | top =>
    refine ⟨1, ?_⟩
    rw [EReal.neg_top]
    show Ideal.div 1 (1 + 0) = _
    rw [add_zero]
    have : (1 : EReal) = ((1 : ℝ) : EReal) := EReal.coe_one.symm
    rw [this, Ideal.div_coe one_ne_zero, ← EReal.coe_mul]
    norm_num
  | coe r =>
    show IsReal (Ideal.div 1 (1 + Ideal.exp (-(r : EReal))))
    rw [← EReal.coe_neg]
    show IsReal (Ideal.div 1 (1 + ((Real.exp (-r) : ℝ) : EReal)))
    have h : 0 < 1 + Real.exp (-r) := by positivity
    rw [← EReal.coe_one, ← EReal.coe_add, Ideal.div_coe h.ne', ← EReal.coe_mul]
    exact ⟨_, rfl⟩

theorem gate_sub (x : EReal) : gate x - gate x = 0 := by
  obtain ⟨r, h⟩ := gate_real x
  rw [h, ← EReal.coe_sub, sub_self, EReal.coe_zero]

section Rows
variable {h g : Fin 1024 → EReal} {w : Fin 1024 → Fin 3768 → EReal} {qg : Fin 256 → EReal} {uq : Fin 256 → Fin 768 → EReal}
  (hg : ∀ k, IsReal (g k)) (hw : ∀ k c, IsReal (w k c)) (hq : ∀ k, IsReal (qg k)) (hu : ∀ k c, IsReal (uq k c))

include hg in
theorem xn_real (k : Fin 1024) : IsReal (nrm c1024 h g k) := nrm_real c1024_eq (by norm_num) h g hg k

include hq in
theorem cqn_real (k : Fin 256) : IsReal (cqn h g w qg k) := nrm_real c256_eq (by norm_num) _ _ hq k

include hg hw in
/-- A scaled or negated column scales or negates its product. -/
theorem pr_scale (c : Fin 3768) : dot (nrm c1024 h g) (fun k => w k c * sc64) = pr h g w c * sc64 := dot_scale (xn_real hg) (fun k => hw k c) sc64_real
include hg hw in
theorem pr_neg (c : Fin 3768) : dot (nrm c1024 h g) (fun k => - w k c) = - pr h g w c := dot_neg (xn_real hg) fun k => hw k c
include hq hu in
theorem qh_neg (c : Fin 768) : dot (cqn h g w qg) (fun k => - uq k c) = - qh h g w qg uq c := dot_neg (cqn_real hq) fun k => hu k c
end Rows

/-- The two rotary factors at angle zero. -/
theorem cos_zero (p : EReal) : Ideal.cos (p * 0) = 1 := by
  rw [mul_zero, ← EReal.coe_zero]
  show ((Real.cos 0 : ℝ) : EReal) = 1
  rw [Real.cos_zero, EReal.coe_one]
theorem sin_zero (p : EReal) : Ideal.sin (p * 0) = 0 := by
  rw [mul_zero, ← EReal.coe_zero]
  show ((Real.sin 0 : ℝ) : EReal) = 0
  rw [Real.sin_zero, EReal.coe_zero]

/-- The rotary turn's two halves. -/
theorem rope_lo (pos : BitVec 32) (v : Fin 32 → EReal) (j : Fin 16) (a b : EReal) (ha : a = v ⟨j.val, by omega⟩) (hb : b = - v ⟨16 + j.val, by omega⟩) :
    a * Ideal.cos (ang pos j) + b * Ideal.sin (ang pos j) = rope pos v ⟨j.val, by omega⟩ := by
  unfold rope
  rw [dif_pos j.isLt, ha, hb, EReal.neg_mul, sub_eq_add_neg]
theorem rope_hi (pos : BitVec 32) (v : Fin 32 → EReal) (j : Fin 16) (a b : EReal) (ha : a = v ⟨16 + j.val, by omega⟩) (hb : b = v ⟨j.val, by omega⟩) :
    a * Ideal.cos (ang pos j) + b * Ideal.sin (ang pos j) = rope pos v ⟨16 + j.val, by omega⟩ := by
  unfold rope
  rw [dif_neg (by show ¬(16 + j.val < 16); omega), ha, hb, add_comm]
  have e : ∀ h, (⟨16 + j.val - 16, h⟩ : Fin 16) = j := fun h => Fin.ext (by show 16 + j.val - 16 = j.val; omega)
  have e2 : ∀ h, (⟨16 + j.val - 16, h⟩ : Fin 32) = ⟨j.val, by omega⟩ := fun h => Fin.ext (by show 16 + j.val - 16 = j.val; omega)
  have e3 : ∀ h, (⟨16 + (16 + j.val - 16), h⟩ : Fin 32) = ⟨16 + j.val, by omega⟩ := fun h => Fin.ext (by show 16 + (16 + j.val - 16) = 16 + j.val; omega)
  simp only [e, e2, e3]

end Cert.Proj

end
-- ==== Proof.Proj.Aug.lean ====
module

public import proofs.«01_k».proof.Proof.Proj.Blocks

/-!
The keys' position lanes lie above their first 64.
-/

@[expose] public section

set_option maxRecDepth 16384

noncomputable section

namespace Cert.Kernel3Ideal.Blocks

open Cert.Kernel3Ideal Cert.Kernel3Ideal.Gen Cert.Kernel3Ideal.Reads Cert.Proj
open Idealize.ShloMosaic Idealize.ShloMosaic.TcCoe Idealize.ShloMosaic.Pointwise

/-- The number of a token's block of 64 within its sequence, as the kernel forms it. -/
theorem blk_small (x : BitVec 32) : (IntOp.shrsi .vector (IntOp.andi x 2047#32) 6#32).toNat ≤ 31 := by
  show (if (6#32 : BitVec 32).toNat < 32 then (x &&& 2047#32).sshiftRight' 6#32 else _).toNat ≤ 31
  rw [if_pos (by decide)]
  have h1 : (x &&& 2047#32).toNat ≤ 2047 := by rw [BitVec.toNat_and]; exact Nat.and_le_right
  have h2 : (x &&& 2047#32).msb = false := by rw [BitVec.msb_eq_decide]; exact decide_eq_false (by omega)
  show ((x &&& 2047#32).sshiftRight 6).toNat ≤ 31
  rw [BitVec.sshiftRight_eq_of_msb_false h2, BitVec.toNat_ushiftRight, Nat.shiftRight_eq_div_pow]
  omega

theorem lane_ne (l : ℕ) (hl : l < 64) (y : BitVec 32) (hy : y.toNat ≤ 31) : IntOp.cmpi .eq (BitVec.ofNat 32 l) (IntOp.addi 64#32 y) = 0#1 := by
  have h : BitVec.ofNat 32 l ≠ 64#32 + y := by
    intro e
    have := congrArg BitVec.toNat e
    rw [BitVec.toNat_ofNat, BitVec.toNat_add, BitVec.toNat_ofNat] at this
    omega
  show BitVec.ofBool _ = _
  rw [show (BitVec.ofNat 32 l == IntOp.addi 64#32 y) = false from beq_eq_false_iff_ne.2 h]
  rfl

theorem lane_out (l : ℕ) (hl : l < 64) : IntOp.cmpi .sge (BitVec.ofNat 32 l) 96#32 = 0#1 := by
  have : ∀ l : Fin 64, IntOp.cmpi .sge (BitVec.ofNat 32 l.val) 96#32 = 0#1 := by decide +kernel
  exact this ⟨l, hl⟩

theorem word0 : (FloatOps.sitofp FTy.f32 0#32 : Ideal .f32) = (0 : EReal) := by
  show ((((0#32 : BitVec 32).toInt : ℝ)) : EReal) = 0
  simp

theorem lanes (r : Fin 256) (l : Fin 128) : iota .tc S256x128 32 [1] iota_S256x128_d1_w32 (ix2 r l) = BitVec.ofNat 32 l.val := iota_single_apply _ _ _ _ _ _

theorem mask_zero (r : Fin 256) (l : Fin 128) (hl : l.val < 64) : k0_pay33 (ix2 r l) = 0#1 := by
  unfold k0_pay33
  show IntOp.andi (IntOp.cmpi .sge (iota .tc S256x128 32 [1] iota_S256x128_d1_w32 (ix2 r l)) 96#32) _ = 0#1
  rw [lanes, lane_out l.val hl]
  show 0#1 &&& _ = 0#1
  simp

theorem pay36_zero (pid : BitVec 32) (r : Fin 256) (l : Fin 128) (hl : l.val < 64) : (k0_pay36 (F := Ideal) pid (ix2 r l) : EReal) = 0 := by
  unfold k0_pay36
  show (FloatOps.sitofp FTy.f32 (Scalar.select (k0_pay33 (ix2 r l)) _ 0#32) : Ideal .f32) = _
  rw [mask_zero r l hl]
  exact word0

theorem pay40_zero (pid : BitVec 32) (r : Fin 256) (l : Fin 128) (hl : l.val < 64) :
    (k0_pay40 (F := Ideal) (iota .tc S256x128 32 [1] iota_S256x128_d1_w32) k0_pay33 (k0_pay38 pid) 6#32 (ix2 r l) : EReal) = 0 := by
  unfold k0_pay40
  show (FloatOps.sitofp FTy.f32 (Scalar.select (k0_pay33 (ix2 r l)) _ 0#32) : Ideal .f32) = _
  rw [mask_zero r l hl]
  exact word0

theorem pay37_zero (pid : BitVec 32) (r : Fin 256) (l : Fin 128) (hl : l.val < 64) : (k0_pay37 (F := Ideal) pid (ix2 r l) : EReal) = 0 := by
  unfold k0_pay37
  show (k0_pay36 (F := Ideal) pid (ix2 r l) : EReal) + Scalar.select (IntOp.cmpi .eq (iota .tc S256x128 32 [1] iota_S256x128_d1_w32 (ix2 r l)) (IntOp.addi 64#32 (IntOp.shrsi .vector (IntOp.andi _ 2047#32) 6#32))) _ (Ideal.ofBits FTy.f32 0x00000000#32) = 0
  rw [lanes, lane_ne l.val hl _ (blk_small _), pay36_zero pid r l hl, zero_add]
  show Ideal.ofBits FTy.f32 0x00000000#32 = 0
  simp [Ideal.ofBits, Ideal.ieee]

theorem pay41_zero (pid : BitVec 32) (r : Fin 256) (l : Fin 128) (hl : l.val < 64) :
    (k0_pay41 (F := Ideal) (iota .tc S256x128 32 [1] iota_S256x128_d1_w32) k0_pay33 (k0_pay38 pid) 6#32 (ix2 r l) : EReal) = 0 := by
  unfold k0_pay41
  show (k0_pay40 (F := Ideal) (iota .tc S256x128 32 [1] iota_S256x128_d1_w32) k0_pay33 (k0_pay38 pid) 6#32 (ix2 r l) : EReal)
    + Scalar.select (IntOp.cmpi .eq (iota .tc S256x128 32 [1] iota_S256x128_d1_w32 (ix2 r l)) (IntOp.addi 64#32 (IntOp.shrsi .vector (IntOp.andi _ 2047#32) 6#32))) _ (Ideal.ofBits FTy.f32 0x00000000#32) = 0
  rw [lanes, lane_ne l.val hl _ (blk_small _), pay40_zero pid r l hl, zero_add]
  show Ideal.ofBits FTy.f32 0x00000000#32 = 0
  simp [Ideal.ofBits, Ideal.ieee]

theorem selAug_zero (pid : BitVec 32) (R : Fin 512) (l : Fin 128) (hl : l.val < 64) : selAug pid R l = 0 := by
  unfold selAug
  split
  · exact pay37_zero pid _ l hl
  · exact pay41_zero pid _ l hl

theorem posAug_zero (pid : BitVec 32) (R : Fin 512) (l : Fin 128) (hl : l.val < 64) : posAug pid R l = 0 := by
  unfold posAug
  split
  · exact pay36_zero pid _ l hl
  · exact pay40_zero pid _ l hl

end Cert.Kernel3Ideal.Blocks

end
-- ==== Proof.Proj.Rows.lean ====
module

public import proofs.«01_k».proof.Proof.Proj.HostA
public import proofs.«01_k».proof.Proof.Proj.HostB
public import proofs.«01_k».proof.Proof.Proj.HostU
public import proofs.«01_k».proof.Proof.Proj.HostV
public import proofs.«01_k».proof.Proof.Proj.HostCat
public import proofs.«01_k».proof.Proof.Proj.Math
public import proofs.«01_k».proof.Proof.Proj.Aug

/-!
The projection call's blocks, in the arguments.
-/

@[expose] public section

set_option maxRecDepth 16384

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

/-- A token's row, and the weights. -/
abbrev kH (R : Fin 16384) : Fin 1024 → EReal := fun k => aX m c (ix3 (bOf R) (pOf R) k)
abbrev kG : Fin 1024 → EReal := fun k => aG m c (ix1 k)
abbrev kW : Fin 1024 → Fin 3768 → EReal := fun k j => aW m c (ix2 k j)
abbrev kQ : Fin 256 → EReal := fun k => aQg m c (ix1 k)
abbrev kK : Fin 128 → EReal := fun k => aKg m c (ix1 k)
abbrev kUq : Fin 256 → Fin 768 → EReal := fun k j => aUq m c (ix2 k j)
abbrev kUk : Fin 128 → Fin 1024 → EReal := fun k j => aUk m c (ix2 k j)
abbrev kPos (R : Fin 16384) : BitVec 32 := aPos m c (ix2 (bOf R) (pOf R))
abbrev kPr (R : Fin 16384) : Fin 3768 → EReal := pr (kH m c R) (kG m c) (kW m c)
abbrev kQh (R : Fin 16384) : Fin 768 → EReal := qh (kH m c R) (kG m c) (kW m c) (kQ m c) (kUq m c)
abbrev kKvh (R : Fin 16384) : Fin 1024 → EReal := kvh (kH m c R) (kG m c) (kW m c) (kK m c) (kUk m c)

/-- What the precondition gives. -/
def Real3 : Prop := (∀ k, IsReal (kG m c k)) ∧ (∀ k j, IsReal (kW m c k j)) ∧ (∀ k, IsReal (kQ m c k)) ∧ ∀ k j, IsReal (kUq m c k j)

variable (t : Fin cfg0.N) (i : Fin 512)

theorem xn_eq : XN (iblk m c 0 t) (iblk m c 2 t) i = nrm c1024 (kH m c (tok t i)) (kG m c) :=
  funext fun j => nrm_congr _ (fun k => (iblk0 m c t i k).trans (v0_read m c _ k)) (fun k => (iblk2 m c t 0 k).trans (v97_read m c k)) j

theorem p_eq (j : Fin 4608) (w : Fin 1024 → EReal) (h : ∀ k, (V m c main_v46 : Vec Ideal S1024x4608 .bf16) (ix2 k j) = w k) :
    P (iblk m c 0 t) (iblk m c 2 t) (iblk m c 3 t) i j = dot (nrm c1024 (kH m c (tok t i)) (kG m c)) w := by
  unfold P
  rw [xn_eq]
  exact dot_congr (fun _ => rfl) fun k => (iblk3 m c t k j).trans (h k)

theorem p0 (h : Fin 8) (d : Fin 64) (hr : Real3 m c) : P (iblk m c 0 t) (iblk m c 2 t) (iblk m c 3 t) i ⟨128 * h.val + d.val, by omega⟩ = kPr m c (tok t i) ⟨64 * h.val + d.val, by omega⟩ * sc64 := by
  refine (p_eq m c t i _ (fun k => kW m c k ⟨64 * h.val + d.val, by omega⟩ * sc64) fun k => ?_).trans (pr_scale hr.1 hr.2.1 _)
  refine Eq.trans ?_ ((cat0 m c k ⟨128 * h.val + d.val, by omega⟩).trans (u30 m c k h d))
  exact congrArg (fun z => (V m c main_v46 : Vec Ideal S1024x4608 .bf16) (ix2 k z)) (Fin.ext (Nat.zero_add _).symm)
theorem p1 (j : Fin 128) : P (iblk m c 0 t) (iblk m c 2 t) (iblk m c 3 t) i ⟨1024 + j.val, by omega⟩ = kPr m c (tok t i) ⟨512 + j.val, by omega⟩ :=
  p_eq m c t i _ _ fun k => (cat1 m c k j).trans (u3 m c k j)
theorem p2 (j : Fin 128) : P (iblk m c 0 t) (iblk m c 2 t) (iblk m c 3 t) i ⟨1152 + j.val, by omega⟩ = kPr m c (tok t i) ⟨640 + j.val, by omega⟩ :=
  p_eq m c t i _ _ fun k => (cat2 m c k j).trans (u4 m c k j)
theorem p6 (j : Fin 256) : P (iblk m c 0 t) (iblk m c 2 t) (iblk m c 3 t) i ⟨1920 + j.val, by omega⟩ = kPr m c (tok t i) ⟨1304 + j.val, by omega⟩ :=
  p_eq m c t i _ _ fun k => (cat6 m c k j).trans (u10 m c k j)
theorem p7 (j : Fin 128) : P (iblk m c 0 t) (iblk m c 2 t) (iblk m c 3 t) i ⟨2176 + j.val, by omega⟩ = kPr m c (tok t i) ⟨1560 + j.val, by omega⟩ :=
  p_eq m c t i _ _ fun k => (cat7 m c k j).trans (u11 m c k j)
theorem p10 (j : Fin 1024) : P (iblk m c 0 t) (iblk m c 2 t) (iblk m c 3 t) i ⟨2560 + j.val, by omega⟩ = kPr m c (tok t i) ⟨1720 + j.val, by omega⟩ :=
  p_eq m c t i _ _ fun k => (cat10 m c k j).trans (u13 m c k j)
theorem p11 (j : Fin 1024) : P (iblk m c 0 t) (iblk m c 2 t) (iblk m c 3 t) i ⟨3584 + j.val, by omega⟩ = kPr m c (tok t i) ⟨2744 + j.val, by omega⟩ :=
  p_eq m c t i _ _ fun k => (cat11 m c k j).trans (u14 m c k j)
theorem p3 (g : Fin 2) (d : Fin 64) : P (iblk m c 0 t) (iblk m c 2 t) (iblk m c 3 t) i ⟨1280 + (128 * g.val + d.val), by omega⟩ = kPr m c (tok t i) ⟨768 + (64 * g.val + d.val), by omega⟩ :=
  p_eq m c t i _ _ fun k => ((cat3 m c k ⟨128 * g.val + d.val, by omega⟩).trans (u33 m c k g d)).trans (congrArg (kW m c k) (Fin.ext (Nat.add_assoc _ _ _)))
theorem p4 (g : Fin 2) (d : Fin 64) : P (iblk m c 0 t) (iblk m c 2 t) (iblk m c 3 t) i ⟨1536 + (128 * g.val + d.val), by omega⟩ = kPr m c (tok t i) ⟨1024 + (64 * g.val + d.val), by omega⟩ :=
  p_eq m c t i _ _ fun k => ((cat4 m c k ⟨128 * g.val + d.val, by omega⟩).trans (u36 m c k g d)).trans (congrArg (kW m c k) (Fin.ext (Nat.add_assoc _ _ _)))
theorem p5 (l : Fin 24) : P (iblk m c 0 t) (iblk m c 2 t) (iblk m c 3 t) i ⟨1792 + l.val, by omega⟩ = kPr m c (tok t i) ⟨1280 + l.val, by omega⟩ :=
  p_eq m c t i _ _ fun k => (cat5 m c k ⟨l.val, by omega⟩).trans (u15 m c k l)
theorem p8 (j : Fin 32) : P (iblk m c 0 t) (iblk m c 2 t) (iblk m c 3 t) i ⟨2304 + (64 + j.val), by omega⟩ = kPr m c (tok t i) ⟨1688 + j.val, by omega⟩ :=
  p_eq m c t i _ _ fun k => (cat8 m c k ⟨64 + j.val, by omega⟩).trans (u16 m c k j)
theorem p8z (j : Fin 64) : P (iblk m c 0 t) (iblk m c 2 t) (iblk m c 3 t) i ⟨2304 + j.val, by omega⟩ = 0 :=
  (p_eq m c t i _ (fun _ => 0) fun k => (cat8 m c k ⟨j.val, by omega⟩).trans (u16z m c k j)).trans (dot_zero _)
theorem p9a (j : Fin 16) (hr : Real3 m c) : P (iblk m c 0 t) (iblk m c 2 t) (iblk m c 3 t) i ⟨2432 + (64 + j.val), by omega⟩ = - kPr m c (tok t i) ⟨1704 + j.val, by omega⟩ :=
  (p_eq m c t i _ (fun k => - kW m c k ⟨1704 + j.val, by omega⟩) fun k => (cat9 m c k ⟨64 + j.val, by omega⟩).trans (u21a m c k j)).trans (pr_neg hr.1 hr.2.1 _)
theorem p9b (j : Fin 16) : P (iblk m c 0 t) (iblk m c 2 t) (iblk m c 3 t) i ⟨2432 + (80 + j.val), by omega⟩ = kPr m c (tok t i) ⟨1688 + j.val, by omega⟩ :=
  p_eq m c t i _ _ fun k => (cat9 m c k ⟨80 + j.val, by omega⟩).trans (u21b m c k j)
theorem p9z (j : Fin 64) : P (iblk m c 0 t) (iblk m c 2 t) (iblk m c 3 t) i ⟨2432 + j.val, by omega⟩ = 0 :=
  (p_eq m c t i _ (fun _ => 0) fun k => (cat9 m c k ⟨j.val, by omega⟩).trans (u21z m c k j)).trans (dot_zero _)

theorem cq_eq : CQ (iblk m c 0 t) (iblk m c 2 t) (iblk m c 3 t) (iblk m c 5 t) i = cqn (kH m c (tok t i)) (kG m c) (kW m c) (kQ m c) :=
  funext fun j => nrm_congr _ (fun l => p6 m c t i l) (fun l => (iblk5 m c t 0 l).trans (v98_read m c l)) j
theorem ckv_eq : CKV (iblk m c 0 t) (iblk m c 2 t) (iblk m c 3 t) (iblk m c 6 t) i = ckn (kH m c (tok t i)) (kG m c) (kW m c) (kK m c) :=
  funext fun j => nrm_congr _ (fun l => p7 m c t i l) (fun l => (iblk6 m c t 0 l).trans (v99_read m c l)) j

theorem co_eq (l : Fin 128) (f : EReal) (h : (V m c main_v84 : Vec Ideal S1x128 .f32) (ix2 0 l) = f) :
    Co (iblk m c 1 t) (iblk m c 11 t) i l = Ideal.cos ((FloatOps.sitofp FTy.f32 (kPos m c (tok t i)) : Ideal .f32) * f) := by
  unfold Co
  rw [(iblk1 m c t i 0).trans (v1_read m c (tok t i)), (iblk11 m c t 0 l).trans h]
theorem si_eq (l : Fin 128) (f : EReal) (h : (V m c main_v84 : Vec Ideal S1x128 .f32) (ix2 0 l) = f) :
    Si (iblk m c 1 t) (iblk m c 11 t) i l = Ideal.sin ((FloatOps.sitofp FTy.f32 (kPos m c (tok t i)) : Ideal .f32) * f) := by
  unfold Si
  rw [(iblk1 m c t i 0).trans (v1_read m c (tok t i)), (iblk11 m c t 0 l).trans h]

/-- The blocks' elements. -/
theorem e14 (h : Fin 8) (d : Fin 64) (hr : Real3 m c) : O14 (iblk m c 0 t) (iblk m c 2 t) (iblk m c 3 t) (iblk m c 12 t) i ⟨128 * h.val + d.val, by omega⟩ = kPr m c (tok t i) ⟨64 * h.val + d.val, by omega⟩ * sc64 := by
  unfold O14
  rw [(iblk12 m c t 0 _).trans (v86_z m c h d), add_zero]
  exact p0 m c t i h d hr
theorem e15 (j : Fin 128) : O15 (iblk m c 0 t) (iblk m c 2 t) (iblk m c 3 t) i j = kPr m c (tok t i) ⟨512 + j.val, by omega⟩ := p1 m c t i j
theorem e16 (j : Fin 128) : O16 (iblk m c 0 t) (iblk m c 2 t) (iblk m c 3 t) i j = kPr m c (tok t i) ⟨640 + j.val, by omega⟩ := p2 m c t i j
theorem e17 (pid : BitVec 32) (g : Fin 2) (d : Fin 64) : O17 (iblk m c 0 t) (iblk m c 2 t) (iblk m c 3 t) pid i ⟨128 * g.val + d.val, by omega⟩ = kPr m c (tok t i) ⟨768 + (64 * g.val + d.val), by omega⟩ := by
  unfold O17
  rw [selAug_zero pid i _ (by show (128 * g.val + d.val) % 128 < 64; omega), add_zero]
  exact p3 m c t i g d
theorem e19 (pid : BitVec 32) (g : Fin 2) (d : Fin 64) : O19 (iblk m c 0 t) (iblk m c 2 t) (iblk m c 3 t) pid i ⟨128 * g.val + d.val, by omega⟩ = kPr m c (tok t i) ⟨1024 + (64 * g.val + d.val), by omega⟩ := by
  unfold O19
  rw [posAug_zero pid i _ (by show (128 * g.val + d.val) % 128 < 64; omega), add_zero]
  exact p4 m c t i g d
theorem e25 (j : Fin 1024) : O25 (iblk m c 0 t) (iblk m c 2 t) (iblk m c 3 t) i j = gate (kPr m c (tok t i) ⟨1720 + j.val, by omega⟩) := congrArg gate (p10 m c t i j)
theorem e26 (j : Fin 1024) : O26 (iblk m c 0 t) (iblk m c 2 t) (iblk m c 3 t) i j = gate (kPr m c (tok t i) ⟨2744 + j.val, by omega⟩) := congrArg gate (p11 m c t i j)

theorem e21 (j : Fin 1536) : O21 (iblk m c 0 t) (iblk m c 2 t) (iblk m c 3 t) (iblk m c 13 t) i j = gate (kPr m c (tok t i) ⟨1280 + j.val / 64, by omega⟩) := by
  unfold O21
  have hz : ∀ l, Gt (iblk m c 0 t) (iblk m c 2 t) (iblk m c 3 t) i l - Gt (iblk m c 0 t) (iblk m c 2 t) (iblk m c 3 t) i l = 0 := fun l => gate_sub _
  simp only [hz, zero_mul, Finset.sum_const_zero, add_zero]
  rw [Finset.sum_eq_single (⟨j.val / 64, by omega⟩ : Fin 128)]
  · rw [(iblk13 m c t _ j).trans (v96_read m c _ j), if_pos rfl, mul_one]
    exact congrArg gate (p5 m c t i ⟨j.val / 64, by omega⟩)
  · intro l _ hl
    rw [(iblk13 m c t l j).trans (v96_read m c l j), if_neg (fun e => hl (Fin.ext e)), mul_zero]
  · intro h; exact absurd (Finset.mem_univ _) h

theorem e18 (s : Fin 2) (g : Fin 2) (d : Fin 64) (i : Fin 256) : O18 (iblk m c 0 t) (iblk m c 2 t) (iblk m c 4 t) s ⟨144 * g.val + d.val, by omega⟩ i
    = kPr m c (tok t ⟨256 * s.val + i.val, by omega⟩) ⟨896 + (64 * g.val + d.val), by omega⟩ := by
  unfold O18
  rw [dif_pos (show (144 * g.val + d.val) % 144 < 128 by omega), xn_eq, dot_comm]
  refine dot_congr (fun _ => rfl) fun k => (iblk4 m c t _ k).trans (Eq.trans ?_ (v47_v39 m c k g d))
  exact congrArg (fun z => (V m c main_v47 : Vec Ideal S512x1024 .bf16) (ix2 z k)) (Fin.ext (by show 128 * ((144 * g.val + d.val) / 144) + (144 * g.val + d.val) % 144 = 128 * g.val + d.val; omega))
theorem e20 (s : Fin 2) (g : Fin 2) (d : Fin 64) (i : Fin 256) : O20 (iblk m c 0 t) (iblk m c 2 t) (iblk m c 4 t) s ⟨144 * g.val + d.val, by omega⟩ i
    = kPr m c (tok t ⟨256 * s.val + i.val, by omega⟩) ⟨1152 + (64 * g.val + d.val), by omega⟩ := by
  unfold O20
  rw [dif_pos (show (144 * g.val + d.val) % 144 < 128 by omega), xn_eq, dot_comm]
  refine dot_congr (fun _ => rfl) fun k => (iblk4 m c t _ k).trans (Eq.trans ?_ (v47_v42 m c k g d))
  exact congrArg (fun z => (V m c main_v47 : Vec Ideal S512x1024 .bf16) (ix2 z k)) (Fin.ext (by show 256 + (128 * ((144 * g.val + d.val) / 144) + (144 * g.val + d.val) % 144) = 256 + (128 * g.val + d.val); omega))
theorem e24 (s : Fin 2) (g : Fin 4) (r : Fin 128) (i : Fin 256) : O24 (iblk m c 0 t) (iblk m c 2 t) (iblk m c 3 t) (iblk m c 6 t) (iblk m c 10 t) s ⟨144 * g.val + r.val, by omega⟩ i
    = kKvh m c (tok t ⟨256 * s.val + i.val, by omega⟩) ⟨128 * ((128 * g.val + r.val) / 64) + (64 + (128 * g.val + r.val) % 64), by omega⟩ := by
  unfold O24
  rw [dif_pos (show (144 * g.val + r.val) % 144 < 128 by omega), ckv_eq, dot_comm]
  refine dot_congr (fun _ => rfl) fun k => (iblk10 m c t _ k).trans ((v71_read m c _ k).trans ?_)
  exact congrArg (kUk m c k) (Fin.ext (by
    show (128 * ((144 * g.val + r.val) / 144) + (144 * g.val + r.val) % 144) / 64 * 128 + (64 + (128 * ((144 * g.val + r.val) / 144) + (144 * g.val + r.val) % 144) % 64)
      = 128 * ((128 * g.val + r.val) / 64) + (64 + (128 * g.val + r.val) % 64)
    omega))

/-- The three ranges of a head's lanes. -/
theorem e22 (h : Fin 8) (d : Fin 96) (hr : Real3 m c) :
    O22 (iblk m c 0 t) (iblk m c 1 t) (iblk m c 2 t) (iblk m c 3 t) (iblk m c 5 t) (iblk m c 7 t) (iblk m c 8 t) (iblk m c 11 t) i ⟨128 * h.val + d.val, by omega⟩
    = tq (kH m c (tok t i)) (kG m c) (kW m c) (kQ m c) (kUq m c) (kPos m c (tok t i)) h d := by
  unfold O22 tq
  rw [sc96_eq, cq_eq]
  refine congrArg (· * _) ?_
  have hA : dot (cqn (kH m c (tok t i)) (kG m c) (kW m c) (kQ m c)) (fun k => (iblk m c 7 t : Vec Ideal S256x1024 .bf16) (ix2 k ⟨128 * h.val + d.val, by omega⟩)) = kQh m c (tok t i) ⟨96 * h.val + d.val, by omega⟩ :=
    dot_congr (fun _ => rfl) fun k => (iblk7 m c t k _).trans (v51_read m c k h d)
  rw [hA]
  by_cases hd : d.val < 64
  · rw [dif_pos hd]
    have hl : (V m c main_v84 : Vec Ideal S1x128 .f32) (ix2 0 ⟨(128 * h.val + d.val) % 128, by omega⟩) = (0 : EReal) :=
      (congrArg (fun z => (V m c main_v84 : Vec Ideal S1x128 .f32) (ix2 0 z)) (Fin.ext (by show (128 * h.val + d.val) % 128 = d.val; omega))).trans (v84_z m c ⟨d.val, hd⟩)
    rw [co_eq m c t i _ _ hl, si_eq m c t i _ _ hl, cos_zero, sin_zero, mul_one, mul_zero, add_zero]
  · rw [dif_neg hd]
    by_cases hj : d.val < 80
    · obtain ⟨j, hj⟩ : ∃ j : Fin 16, d.val = 64 + j.val := ⟨⟨d.val - 64, by omega⟩, by show d.val = 64 + (d.val - 64); omega⟩
      have hl : (V m c main_v84 : Vec Ideal S1x128 .f32) (ix2 0 ⟨(128 * h.val + d.val) % 128, by omega⟩) = freq j :=
        (congrArg (fun z => (V m c main_v84 : Vec Ideal S1x128 .f32) (ix2 0 z)) (Fin.ext (by show (128 * h.val + d.val) % 128 = 64 + j.val; omega))).trans (v84_a m c j)
      rw [co_eq m c t i _ _ hl, si_eq m c t i _ _ hl]
      refine (rope_lo (kPos m c (tok t i)) (fun j => kQh m c (tok t i) ⟨96 * h.val + (64 + j.val), by omega⟩) j _ _ ?_ ?_).trans ?_
      · exact congrArg (kQh m c (tok t i)) (Fin.ext (by show 96 * h.val + d.val = 96 * h.val + (64 + j.val); omega))
      · refine Eq.trans (dot_congr (w' := fun k => - kUq m c k ⟨96 * h.val + (80 + j.val), by omega⟩) (fun _ => rfl) fun k => (iblk8 m c t k _).trans (Eq.trans ?_ (v62_a m c k h j))) ((qh_neg hr.2.2.1 hr.2.2.2 _).trans ?_)
        · exact congrArg (fun z => (V m c main_v62 : Vec Ideal S256x1024 .bf16) (ix2 k z)) (Fin.ext (by show 128 * h.val + d.val = 128 * h.val + (64 + j.val); omega))
        · exact congrArg (fun z => - kQh m c (tok t i) z) (Fin.ext (by show 96 * h.val + (80 + j.val) = 96 * h.val + (64 + (16 + j.val)); omega))
      · exact congrArg (rope _ _) (Fin.ext (by show j.val = d.val - 64; omega))
    · obtain ⟨j, hj⟩ : ∃ j : Fin 16, d.val = 80 + j.val := ⟨⟨d.val - 80, by omega⟩, by show d.val = 80 + (d.val - 80); omega⟩
      have hl : (V m c main_v84 : Vec Ideal S1x128 .f32) (ix2 0 ⟨(128 * h.val + d.val) % 128, by omega⟩) = freq j :=
        (congrArg (fun z => (V m c main_v84 : Vec Ideal S1x128 .f32) (ix2 0 z)) (Fin.ext (by show (128 * h.val + d.val) % 128 = 80 + j.val; omega))).trans (v84_b m c j)
      rw [co_eq m c t i _ _ hl, si_eq m c t i _ _ hl]
      refine (rope_hi (kPos m c (tok t i)) (fun j => kQh m c (tok t i) ⟨96 * h.val + (64 + j.val), by omega⟩) j _ _ ?_ ?_).trans ?_
      · exact congrArg (kQh m c (tok t i)) (Fin.ext (by show 96 * h.val + d.val = 96 * h.val + (64 + (16 + j.val)); omega))
      · refine dot_congr (w' := fun k => kUq m c k ⟨96 * h.val + (64 + j.val), by omega⟩) (fun _ => rfl) fun k => (iblk8 m c t k _).trans (Eq.trans ?_ (v62_b m c k h j))
        exact congrArg (fun z => (V m c main_v62 : Vec Ideal S256x1024 .bf16) (ix2 k z)) (Fin.ext (by show 128 * h.val + d.val = 128 * h.val + (80 + j.val); omega))
      · exact congrArg (rope _ _) (Fin.ext (by show 16 + j.val = d.val - 64; omega))

theorem e23 (h : Fin 8) (d : Fin 96) (hr : Real3 m c) :
    O23 (iblk m c 0 t) (iblk m c 1 t) (iblk m c 2 t) (iblk m c 3 t) (iblk m c 6 t) (iblk m c 9 t) (iblk m c 11 t) i ⟨128 * h.val + d.val, by omega⟩
    = tk (kH m c (tok t i)) (kG m c) (kW m c) (kK m c) (kUk m c) (kPos m c (tok t i)) h d := by
  unfold O23 tk KPE
  rw [ckv_eq]
  by_cases hd : d.val < 64
  · rw [dif_pos hd]
    have hl : (V m c main_v84 : Vec Ideal S1x128 .f32) (ix2 0 ⟨(128 * h.val + d.val) % 128, by omega⟩) = (0 : EReal) :=
      (congrArg (fun z => (V m c main_v84 : Vec Ideal S1x128 .f32) (ix2 0 z)) (Fin.ext (by show (128 * h.val + d.val) % 128 = d.val; omega))).trans (v84_z m c ⟨d.val, hd⟩)
    have e8 := (congrArg (P (iblk m c 0 t) (iblk m c 2 t) (iblk m c 3 t) i) (Fin.ext (by show 2304 + (128 * h.val + d.val) % 128 = 2304 + d.val; omega) : (⟨2304 + (128 * h.val + d.val) % 128, by omega⟩ : Fin 4608) = ⟨2304 + d.val, by omega⟩)).trans (p8z m c t i ⟨d.val, hd⟩)
    have e9 := (congrArg (P (iblk m c 0 t) (iblk m c 2 t) (iblk m c 3 t) i) (Fin.ext (by show 2432 + (128 * h.val + d.val) % 128 = 2432 + d.val; omega) : (⟨2432 + (128 * h.val + d.val) % 128, by omega⟩ : Fin 4608) = ⟨2432 + d.val, by omega⟩)).trans (p9z m c t i ⟨d.val, hd⟩)
    rw [e8, e9, zero_mul, zero_mul, add_zero, add_zero]
    exact dot_congr (fun _ => rfl) fun k => (iblk9 m c t k _).trans (v67_a m c k h ⟨d.val, hd⟩)
  · rw [dif_neg hd]
    have hA : dot (ckn (kH m c (tok t i)) (kG m c) (kW m c) (kK m c)) (fun k => (iblk m c 9 t : Vec Ideal S128x1024 .bf16) (ix2 k ⟨128 * h.val + d.val, by omega⟩)) = 0 := by
      refine Eq.trans (dot_congr (w' := fun _ => 0) (fun _ => rfl) fun k => (iblk9 m c t k _).trans (Eq.trans ?_ (v67_z m c k h ⟨d.val - 64, by omega⟩))) (dot_zero _)
      exact congrArg (fun z => (V m c main_v67 : Vec Ideal S128x1024 .bf16) (ix2 k z)) (Fin.ext (by show 128 * h.val + d.val = 128 * h.val + (64 + (d.val - 64)); omega))
    rw [hA, zero_add]
    by_cases hj : d.val < 80
    · obtain ⟨j, hj⟩ : ∃ j : Fin 16, d.val = 64 + j.val := ⟨⟨d.val - 64, by omega⟩, by show d.val = 64 + (d.val - 64); omega⟩
      have hl : (V m c main_v84 : Vec Ideal S1x128 .f32) (ix2 0 ⟨(128 * h.val + d.val) % 128, by omega⟩) = freq j :=
        (congrArg (fun z => (V m c main_v84 : Vec Ideal S1x128 .f32) (ix2 0 z)) (Fin.ext (by show (128 * h.val + d.val) % 128 = 64 + j.val; omega))).trans (v84_a m c j)
      rw [co_eq m c t i _ _ hl, si_eq m c t i _ _ hl]
      refine (rope_lo (kPos m c (tok t i)) (fun j => kPr m c (tok t i) ⟨1688 + j.val, by omega⟩) j _ _ ?_ ?_).trans ?_
      · exact (congrArg (P (iblk m c 0 t) (iblk m c 2 t) (iblk m c 3 t) i) (Fin.ext (by show 2304 + (128 * h.val + d.val) % 128 = 2304 + (64 + j.val); omega))).trans (p8 m c t i ⟨j.val, by omega⟩)
      · refine (congrArg (P (iblk m c 0 t) (iblk m c 2 t) (iblk m c 3 t) i) (Fin.ext (by show 2432 + (128 * h.val + d.val) % 128 = 2432 + (64 + j.val); omega))).trans ((p9a m c t i j hr).trans ?_)
        exact congrArg (fun z => - kPr m c (tok t i) z) (Fin.ext (by show 1704 + j.val = 1688 + (16 + j.val); omega))
      · exact congrArg (rope _ _) (Fin.ext (by show j.val = d.val - 64; omega))
    · obtain ⟨j, hj⟩ : ∃ j : Fin 16, d.val = 80 + j.val := ⟨⟨d.val - 80, by omega⟩, by show d.val = 80 + (d.val - 80); omega⟩
      have hl : (V m c main_v84 : Vec Ideal S1x128 .f32) (ix2 0 ⟨(128 * h.val + d.val) % 128, by omega⟩) = freq j :=
        (congrArg (fun z => (V m c main_v84 : Vec Ideal S1x128 .f32) (ix2 0 z)) (Fin.ext (by show (128 * h.val + d.val) % 128 = 80 + j.val; omega))).trans (v84_b m c j)
      rw [co_eq m c t i _ _ hl, si_eq m c t i _ _ hl]
      refine (rope_hi (kPos m c (tok t i)) (fun j => kPr m c (tok t i) ⟨1688 + j.val, by omega⟩) j _ _ ?_ ?_).trans ?_
      · exact (congrArg (P (iblk m c 0 t) (iblk m c 2 t) (iblk m c 3 t) i) (Fin.ext (by show 2304 + (128 * h.val + d.val) % 128 = 2304 + (64 + (16 + j.val)); omega))).trans (p8 m c t i ⟨16 + j.val, by omega⟩)
      · exact (congrArg (P (iblk m c 0 t) (iblk m c 2 t) (iblk m c 3 t) i) (Fin.ext (by show 2432 + (128 * h.val + d.val) % 128 = 2432 + (80 + j.val); omega))).trans (p9b m c t i j)
      · exact congrArg (rope _ _) (Fin.ext (by show 16 + j.val = d.val - 64; omega))

end Cert.Kernel3Ideal.Result

end
-- ==== Proof.Proj.Result.lean ====
module

public import proofs.«01_k».proof.Proof.Proj.Rows
public import proofs.«01_k».proof.Proof.Proj.Arrays

/-!
The projection call's results: what each holds, in the arguments.
-/

@[expose] public section

set_option maxRecDepth 16384
set_option maxHeartbeats 2000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

theorem tok2 (a : Fin 64) (i : Fin 256) : tok (ptOf2 a) ⟨256 * (inOf2 a).val + i.val, by have := (inOf2 a).isLt; omega⟩ = (⟨256 * a.val + i.val, by omega⟩ : Fin 16384) := by
  have h1 : (ptOf2 a).val = a.val / 2 := rfl
  have h2 : (inOf2 a).val = a.val % 2 := rfl
  apply Fin.ext
  show (ptOf2 a).val * 512 + (256 * (inOf2 a).val + i.val) = 256 * a.val + i.val
  omega

/-- Result 0. -/
def res0 : Buf (Elt Ideal) ((c.tc : Thread nD τ).loc main_v102) := fun y : S16384x8x64.Idx => kPr m c (y 0) ⟨64 * (y 1).val + (y 2).val, by have h1 : (y 1).val < 8 := (y 1).isLt; have h2 : (y 2).val < 64 := (y 2).isLt; omega⟩ * sc64
theorem a14 (R : Fin 16384) (h : Fin 8) (d : Fin 64) (hr : Real3 m c) : (arr14 m c : S16384x1024.Idx → EReal) (ix2 R ⟨128 * h.val + d.val, by omega⟩) = (res0 m c : S16384x8x64.Idx → EReal) (ix3 R h d) := by
  show ob14 m c (ptOf R) (ix2 (inOf R) ⟨128 * h.val + d.val, _⟩) = kPr m c R ⟨64 * h.val + d.val, _⟩ * sc64
  rw [ob14_eq, e14 m c (ptOf R) (inOf R) h d hr, tok_ptOf]

/-- Result 1. -/
def res1 : Buf (Elt Ideal) ((c.tc : Thread nD τ).loc main_v100_1) := fun y : S16384x128.Idx => kPr m c (y 0) ⟨512 + (y 1).val, by have h1 : (y 1).val < 128 := (y 1).isLt; omega⟩
theorem a15 : arr15 m c = res1 m c := by
  funext y
  obtain ⟨R, j, rfl⟩ : ∃ (R : Fin 16384) (j : Fin 128), y = ix2 R j := ⟨y 0, y 1, eq_ix2 y⟩
  show ob15 m c (ptOf R) (ix2 (inOf R) j) = kPr m c R ⟨512 + j.val, _⟩
  rw [ob15_eq, e15 m c (ptOf R) (inOf R) j, tok_ptOf]

/-- Result 2. -/
def res2 : Buf (Elt Ideal) ((c.tc : Thread nD τ).loc main_v100_2) := fun y : S16384x128.Idx => kPr m c (y 0) ⟨640 + (y 1).val, by have h1 : (y 1).val < 128 := (y 1).isLt; omega⟩
theorem a16 : arr16 m c = res2 m c := by
  funext y
  obtain ⟨R, j, rfl⟩ : ∃ (R : Fin 16384) (j : Fin 128), y = ix2 R j := ⟨y 0, y 1, eq_ix2 y⟩
  show ob16 m c (ptOf R) (ix2 (inOf R) j) = kPr m c R ⟨640 + j.val, _⟩
  rw [ob16_eq, e16 m c (ptOf R) (inOf R) j, tok_ptOf]

/-- Result 3. -/
def res3 : Buf (Elt Ideal) ((c.tc : Thread nD τ).loc main_v104) := fun y : S16384x2x64.Idx => kPr m c (y 0) ⟨768 + (64 * (y 1).val + (y 2).val), by have h1 : (y 1).val < 2 := (y 1).isLt; have h2 : (y 2).val < 64 := (y 2).isLt; omega⟩
theorem a17 (R : Fin 16384) (h : Fin 2) (d : Fin 64) : (arr17 m c : S16384x256.Idx → EReal) (ix2 R ⟨128 * h.val + d.val, by omega⟩) = (res3 m c : S16384x2x64.Idx → EReal) (ix3 R h d) := by
  show ob17 m c (ptOf R) (ix2 (inOf R) ⟨128 * h.val + d.val, _⟩) = kPr m c R ⟨768 + (64 * h.val + d.val), _⟩
  rw [ob17_eq, e17 m c (ptOf R) (inOf R) (BitVec.ofNat 32 (grid0.coords (ptOf R) 0).val) h d, tok_ptOf]

/-- Result 4. -/
def res4 : Buf (Elt Ideal) ((c.tc : Thread nD τ).loc main_v106) := fun y : S64x2x64x256.Idx => kPr m c ⟨256 * (y 0).val + (y 3).val, by have h1 : (y 0).val < 64 := (y 0).isLt; have h2 : (y 3).val < 256 := (y 3).isLt; omega⟩ ⟨896 + (64 * (y 1).val + (y 2).val), by have h1 : (y 1).val < 2 := (y 1).isLt; have h2 : (y 2).val < 64 := (y 2).isLt; omega⟩
theorem a18 (a : Fin 64) (h : Fin 2) (d : Fin 64) (i : Fin 256) : (arr18 m c : S64x288x256.Idx → EReal) (ix3 a ⟨144 * h.val + d.val, by omega⟩ i) = (res4 m c : S64x2x64x256.Idx → EReal) (ix4 a h d i) := by
  show ob18 m c (ptOf2 a) (ix3 (inOf2 a) ⟨144 * h.val + d.val, _⟩ i) = kPr m c ⟨256 * a.val + i.val, _⟩ ⟨896 + (64 * h.val + d.val), _⟩
  rw [ob18_eq, e18 m c (ptOf2 a) (inOf2 a) h d i, tok2]

/-- Result 5. -/
def res5 : Buf (Elt Ideal) ((c.tc : Thread nD τ).loc main_v108) := fun y : S16384x2x64.Idx => kPr m c (y 0) ⟨1024 + (64 * (y 1).val + (y 2).val), by have h1 : (y 1).val < 2 := (y 1).isLt; have h2 : (y 2).val < 64 := (y 2).isLt; omega⟩
theorem a19 (R : Fin 16384) (h : Fin 2) (d : Fin 64) : (arr19 m c : S16384x256.Idx → EReal) (ix2 R ⟨128 * h.val + d.val, by omega⟩) = (res5 m c : S16384x2x64.Idx → EReal) (ix3 R h d) := by
  show ob19 m c (ptOf R) (ix2 (inOf R) ⟨128 * h.val + d.val, _⟩) = kPr m c R ⟨1024 + (64 * h.val + d.val), _⟩
  rw [ob19_eq, e19 m c (ptOf R) (inOf R) (BitVec.ofNat 32 (grid0.coords (ptOf R) 0).val) h d, tok_ptOf]

/-- Result 6. -/
def res6 : Buf (Elt Ideal) ((c.tc : Thread nD τ).loc main_v110) := fun y : S64x2x64x256.Idx => kPr m c ⟨256 * (y 0).val + (y 3).val, by have h1 : (y 0).val < 64 := (y 0).isLt; have h2 : (y 3).val < 256 := (y 3).isLt; omega⟩ ⟨1152 + (64 * (y 1).val + (y 2).val), by have h1 : (y 1).val < 2 := (y 1).isLt; have h2 : (y 2).val < 64 := (y 2).isLt; omega⟩
theorem a20 (a : Fin 64) (h : Fin 2) (d : Fin 64) (i : Fin 256) : (arr20 m c : S64x288x256.Idx → EReal) (ix3 a ⟨144 * h.val + d.val, by omega⟩ i) = (res6 m c : S64x2x64x256.Idx → EReal) (ix4 a h d i) := by
  show ob20 m c (ptOf2 a) (ix3 (inOf2 a) ⟨144 * h.val + d.val, _⟩ i) = kPr m c ⟨256 * a.val + i.val, _⟩ ⟨1152 + (64 * h.val + d.val), _⟩
  rw [ob20_eq, e20 m c (ptOf2 a) (inOf2 a) h d i, tok2]

/-- Result 7. -/
def res7 : Buf (Elt Ideal) ((c.tc : Thread nD τ).loc main_v100_7) := fun y : S16384x1536.Idx => gate (kPr m c (y 0) ⟨1280 + (y 1).val / 64, by have h1 : (y 1).val < 1536 := (y 1).isLt; omega⟩)
theorem a21 : arr21 m c = res7 m c := by
  funext y
  obtain ⟨R, j, rfl⟩ : ∃ (R : Fin 16384) (j : Fin 1536), y = ix2 R j := ⟨y 0, y 1, eq_ix2 y⟩
  show ob21 m c (ptOf R) (ix2 (inOf R) j) = gate (kPr m c R ⟨1280 + j.val / 64, _⟩)
  rw [ob21_eq, e21 m c (ptOf R) (inOf R) j, tok_ptOf]

/-- Result 8. -/
def res8 : Buf (Elt Ideal) ((c.tc : Thread nD τ).loc main_v112) := fun y : S16384x8x96.Idx => tq (kH m c (y 0)) (kG m c) (kW m c) (kQ m c) (kUq m c) (kPos m c (y 0)) (y 1) (y 2)
theorem a22 (R : Fin 16384) (h : Fin 8) (d : Fin 96) (hr : Real3 m c) : (arr22 m c : S16384x1024.Idx → EReal) (ix2 R ⟨128 * h.val + d.val, by omega⟩) = (res8 m c : S16384x8x96.Idx → EReal) (ix3 R h d) := by
  show ob22 m c (ptOf R) (ix2 (inOf R) ⟨128 * h.val + d.val, _⟩) = tq (kH m c R) (kG m c) (kW m c) (kQ m c) (kUq m c) (kPos m c R) h d
  rw [ob22_eq, e22 m c (ptOf R) (inOf R) h d hr, tok_ptOf]

/-- Result 9. -/
def res9 : Buf (Elt Ideal) ((c.tc : Thread nD τ).loc main_v114) := fun y : S16384x8x96.Idx => tk (kH m c (y 0)) (kG m c) (kW m c) (kK m c) (kUk m c) (kPos m c (y 0)) (y 1) (y 2)
theorem a23 (R : Fin 16384) (h : Fin 8) (d : Fin 96) (hr : Real3 m c) : (arr23 m c : S16384x1024.Idx → EReal) (ix2 R ⟨128 * h.val + d.val, by omega⟩) = (res9 m c : S16384x8x96.Idx → EReal) (ix3 R h d) := by
  show ob23 m c (ptOf R) (ix2 (inOf R) ⟨128 * h.val + d.val, _⟩) = tk (kH m c R) (kG m c) (kW m c) (kK m c) (kUk m c) (kPos m c R) h d
  rw [ob23_eq, e23 m c (ptOf R) (inOf R) h d hr, tok_ptOf]

/-- Result 10. -/
def res10 : Buf (Elt Ideal) ((c.tc : Thread nD τ).loc main_v116) := fun y : S64x4x128x256.Idx => kKvh m c ⟨256 * (y 0).val + (y 3).val, by have h1 : (y 0).val < 64 := (y 0).isLt; have h2 : (y 3).val < 256 := (y 3).isLt; omega⟩ ⟨128 * ((128 * (y 1).val + (y 2).val) / 64) + (64 + (128 * (y 1).val + (y 2).val) % 64), by have h1 : (y 1).val < 4 := (y 1).isLt; have h2 : (y 2).val < 128 := (y 2).isLt; omega⟩
theorem a24 (a : Fin 64) (h : Fin 4) (d : Fin 128) (i : Fin 256) : (arr24 m c : S64x576x256.Idx → EReal) (ix3 a ⟨144 * h.val + d.val, by omega⟩ i) = (res10 m c : S64x4x128x256.Idx → EReal) (ix4 a h d i) := by
  show ob24 m c (ptOf2 a) (ix3 (inOf2 a) ⟨144 * h.val + d.val, _⟩ i) = kKvh m c ⟨256 * a.val + i.val, _⟩ ⟨128 * ((128 * h.val + d.val) / 64) + (64 + (128 * h.val + d.val) % 64), _⟩
  rw [ob24_eq, e24 m c (ptOf2 a) (inOf2 a) h d i, tok2]

/-- Result 11. -/
def res11 : Buf (Elt Ideal) ((c.tc : Thread nD τ).loc main_v100_11) := fun y : S16384x1024.Idx => gate (kPr m c (y 0) ⟨1720 + (y 1).val, by have h1 : (y 1).val < 1024 := (y 1).isLt; omega⟩)
theorem a25 : arr25 m c = res11 m c := by
  funext y
  obtain ⟨R, j, rfl⟩ : ∃ (R : Fin 16384) (j : Fin 1024), y = ix2 R j := ⟨y 0, y 1, eq_ix2 y⟩
  show ob25 m c (ptOf R) (ix2 (inOf R) j) = gate (kPr m c R ⟨1720 + j.val, _⟩)
  rw [ob25_eq, e25 m c (ptOf R) (inOf R) j, tok_ptOf]

/-- Result 12. -/
def res12 : Buf (Elt Ideal) ((c.tc : Thread nD τ).loc main_v100_12) := fun y : S16384x1024.Idx => gate (kPr m c (y 0) ⟨2744 + (y 1).val, by have h1 : (y 1).val < 1024 := (y 1).isLt; omega⟩)
theorem a26 : arr26 m c = res12 m c := by
  funext y
  obtain ⟨R, j, rfl⟩ : ∃ (R : Fin 16384) (j : Fin 1024), y = ix2 R j := ⟨y 0, y 1, eq_ix2 y⟩
  show ob26 m c (ptOf R) (ix2 (inOf R) j) = gate (kPr m c R ⟨2744 + j.val, _⟩)
  rw [ob26_eq, e26 m c (ptOf R) (inOf R) j, tok_ptOf]

end Cert.Kernel3Ideal.Result

end
-- ==== Proof.Proj.TailA.lean ====
module

public import proofs.«01_k».proof.Proof.Proj.Result
public import Idealize.ShloMosaic.Lib.StableHlo.ReadAt

/-!
The host's slices of the arrays the projection call leaves.
-/

@[expose] public section

set_option maxRecDepth 16384
set_option maxHeartbeats 2000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

theorem tail0 (hr : Real3 m c) : Pipeline.afterTail₀ cfgs (dats m) 0 (V0 m) [hostOps1] c main_v102 = res0 m c := by
  funext y
  obtain ⟨R, h, d, rfl⟩ : ∃ (R : Fin 16384) (h : Fin 8) (d : Fin 64), y = ix3 R h d := ⟨y 0, y 1, y 2, eq_ix3 y⟩
  unfold Pipeline.afterTail₀
  after_reads_at
  refine (congrFun ((Pipeline.withArrays_arr (cfgs 0).spec (by decide) c (V0 m c) (fun w => (dats m 0 c).arrAt w (cfgs 0).N) 14).trans (final14 m c)) _).trans ?_
  refine Eq.trans ?_ (a14 m c R h d hr)
  exact congrArg (fun z => (arr14 m c : S16384x1024.Idx → EReal) (ix2 R z)) (Fin.ext (by show h.val * 128 + d.val = 128 * h.val + d.val; omega))

theorem tail3 : Pipeline.afterTail₀ cfgs (dats m) 0 (V0 m) [hostOps1] c main_v104 = res3 m c := by
  funext y
  obtain ⟨R, h, d, rfl⟩ : ∃ (R : Fin 16384) (h : Fin 2) (d : Fin 64), y = ix3 R h d := ⟨y 0, y 1, y 2, eq_ix3 y⟩
  unfold Pipeline.afterTail₀
  after_reads_at
  refine (congrFun ((Pipeline.withArrays_arr (cfgs 0).spec (by decide) c (V0 m c) (fun w => (dats m 0 c).arrAt w (cfgs 0).N) 17).trans (final17 m c)) _).trans ?_
  refine Eq.trans ?_ (a17 m c R h d)
  exact congrArg (fun z => (arr17 m c : S16384x256.Idx → EReal) (ix2 R z)) (Fin.ext (by show h.val * 128 + d.val = 128 * h.val + d.val; omega))

end Cert.Kernel3Ideal.Result

end
-- ==== Proof.Proj.TailB.lean ====
module

public import proofs.«01_k».proof.Proof.Proj.Result
public import Idealize.ShloMosaic.Lib.StableHlo.ReadAt

/-!
The host's slices of the arrays the projection call leaves.
-/

@[expose] public section

set_option maxRecDepth 16384
set_option maxHeartbeats 2000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

theorem tail5 : Pipeline.afterTail₀ cfgs (dats m) 0 (V0 m) [hostOps1] c main_v108 = res5 m c := by
  funext y
  obtain ⟨R, h, d, rfl⟩ : ∃ (R : Fin 16384) (h : Fin 2) (d : Fin 64), y = ix3 R h d := ⟨y 0, y 1, y 2, eq_ix3 y⟩
  unfold Pipeline.afterTail₀
  after_reads_at
  refine (congrFun ((Pipeline.withArrays_arr (cfgs 0).spec (by decide) c (V0 m c) (fun w => (dats m 0 c).arrAt w (cfgs 0).N) 19).trans (final19 m c)) _).trans ?_
  refine Eq.trans ?_ (a19 m c R h d)
  exact congrArg (fun z => (arr19 m c : S16384x256.Idx → EReal) (ix2 R z)) (Fin.ext (by show h.val * 128 + d.val = 128 * h.val + d.val; omega))

theorem tail8 (hr : Real3 m c) : Pipeline.afterTail₀ cfgs (dats m) 0 (V0 m) [hostOps1] c main_v112 = res8 m c := by
  funext y
  obtain ⟨R, h, d, rfl⟩ : ∃ (R : Fin 16384) (h : Fin 8) (d : Fin 96), y = ix3 R h d := ⟨y 0, y 1, y 2, eq_ix3 y⟩
  unfold Pipeline.afterTail₀
  after_reads_at
  refine (congrFun ((Pipeline.withArrays_arr (cfgs 0).spec (by decide) c (V0 m c) (fun w => (dats m 0 c).arrAt w (cfgs 0).N) 22).trans (final22 m c)) _).trans ?_
  refine Eq.trans ?_ (a22 m c R h d hr)
  exact congrArg (fun z => (arr22 m c : S16384x1024.Idx → EReal) (ix2 R z)) (Fin.ext (by show h.val * 128 + d.val = 128 * h.val + d.val; omega))

theorem tail9 (hr : Real3 m c) : Pipeline.afterTail₀ cfgs (dats m) 0 (V0 m) [hostOps1] c main_v114 = res9 m c := by
  funext y
  obtain ⟨R, h, d, rfl⟩ : ∃ (R : Fin 16384) (h : Fin 8) (d : Fin 96), y = ix3 R h d := ⟨y 0, y 1, y 2, eq_ix3 y⟩
  unfold Pipeline.afterTail₀
  after_reads_at
  refine (congrFun ((Pipeline.withArrays_arr (cfgs 0).spec (by decide) c (V0 m c) (fun w => (dats m 0 c).arrAt w (cfgs 0).N) 23).trans (final23 m c)) _).trans ?_
  refine Eq.trans ?_ (a23 m c R h d hr)
  exact congrArg (fun z => (arr23 m c : S16384x1024.Idx → EReal) (ix2 R z)) (Fin.ext (by show h.val * 128 + d.val = 128 * h.val + d.val; omega))

end Cert.Kernel3Ideal.Result

end
-- ==== Proof.Proj.TailC.lean ====
module

public import proofs.«01_k».proof.Proof.Proj.Result
public import Idealize.ShloMosaic.Lib.StableHlo.ReadAt

/-!
The host's slices of the arrays the projection call leaves.
-/

@[expose] public section

set_option maxRecDepth 16384
set_option maxHeartbeats 2000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ) (c : Dev nD)

theorem tail4 : Pipeline.afterTail₀ cfgs (dats m) 0 (V0 m) [hostOps1] c main_v106 = res4 m c := by
  funext y
  obtain ⟨a, h, d, i, rfl⟩ : ∃ (a : Fin 64) (h : Fin 2) (d : Fin 64) (i : Fin 256), y = ix4 a h d i := ⟨y 0, y 1, y 2, y 3, eq_ix4 y⟩
  unfold Pipeline.afterTail₀
  after_reads_at
  refine (congrFun ((Pipeline.withArrays_arr (cfgs 0).spec (by decide) c (V0 m c) (fun w => (dats m 0 c).arrAt w (cfgs 0).N) 18).trans (final18 m c)) _).trans ?_
  refine Eq.trans ?_ (a18 m c a h d i)
  exact congrArg (fun z => (arr18 m c : S64x288x256.Idx → EReal) (ix3 a z i)) (Fin.ext (by show h.val * 144 + d.val = 144 * h.val + d.val; omega))

theorem tail6 : Pipeline.afterTail₀ cfgs (dats m) 0 (V0 m) [hostOps1] c main_v110 = res6 m c := by
  funext y
  obtain ⟨a, h, d, i, rfl⟩ : ∃ (a : Fin 64) (h : Fin 2) (d : Fin 64) (i : Fin 256), y = ix4 a h d i := ⟨y 0, y 1, y 2, y 3, eq_ix4 y⟩
  unfold Pipeline.afterTail₀
  after_reads_at
  refine (congrFun ((Pipeline.withArrays_arr (cfgs 0).spec (by decide) c (V0 m c) (fun w => (dats m 0 c).arrAt w (cfgs 0).N) 20).trans (final20 m c)) _).trans ?_
  refine Eq.trans ?_ (a20 m c a h d i)
  exact congrArg (fun z => (arr20 m c : S64x288x256.Idx → EReal) (ix3 a z i)) (Fin.ext (by show h.val * 144 + d.val = 144 * h.val + d.val; omega))

theorem tail10 : Pipeline.afterTail₀ cfgs (dats m) 0 (V0 m) [hostOps1] c main_v116 = res10 m c := by
  funext y
  obtain ⟨a, h, d, i, rfl⟩ : ∃ (a : Fin 64) (h : Fin 4) (d : Fin 128) (i : Fin 256), y = ix4 a h d i := ⟨y 0, y 1, y 2, y 3, eq_ix4 y⟩
  unfold Pipeline.afterTail₀
  after_reads_at
  refine (congrFun ((Pipeline.withArrays_arr (cfgs 0).spec (by decide) c (V0 m c) (fun w => (dats m 0 c).arrAt w (cfgs 0).N) 24).trans (final24 m c)) _).trans ?_
  refine Eq.trans ?_ (a24 m c a h d i)
  exact congrArg (fun z => (arr24 m c : S64x576x256.Idx → EReal) (ix3 a z i)) (Fin.ext (by show h.val * 144 + d.val = 144 * h.val + d.val; omega))

end Cert.Kernel3Ideal.Result

end
-- ==== Proof.Proj.Run.lean ====
module

public import proofs.«01_k».proof.Proof.Proj.TailA
public import proofs.«01_k».proof.Proof.Proj.TailB
public import proofs.«01_k».proof.Proof.Proj.TailC

/-!
The projection call's run, read: the thirteen results, the arguments unchanged.
-/

@[expose] public section

set_option maxRecDepth 16384
set_option maxHeartbeats 2000000

noncomputable section

namespace Cert.Kernel3Ideal.Result

open Cert.Kernel3Ideal Cert.Kernel3Ideal.Gen Cert.Kernel3Ideal.Blocks Cert.Proj
open Idealize.ShloMosaic Idealize.ShloMosaic.TcCoe Idealize.ShloMosaic.Pointwise Idealize.SL.Sem

variable (m : (ℓ : Loc nD τ sig) → Buf (Elt Ideal) ℓ)

theorem run (ρ : Dev nD → PrngReg) (hr : ∀ c, Real3 m c) : θ_run defs (onTc (τ := τ) (main (F := Ideal))) ⟨m, fun _ => 0, ρ⟩ fun r => ∀ c : Dev nD,
      r.2.mem ((c.tc : Thread nD τ).loc main_v102) = res0 m c
      ∧ r.2.mem ((c.tc : Thread nD τ).loc main_v100_1) = res1 m c
      ∧ r.2.mem ((c.tc : Thread nD τ).loc main_v100_2) = res2 m c
      ∧ r.2.mem ((c.tc : Thread nD τ).loc main_v104) = res3 m c
      ∧ r.2.mem ((c.tc : Thread nD τ).loc main_v106) = res4 m c
      ∧ r.2.mem ((c.tc : Thread nD τ).loc main_v108) = res5 m c
      ∧ r.2.mem ((c.tc : Thread nD τ).loc main_v110) = res6 m c
      ∧ r.2.mem ((c.tc : Thread nD τ).loc main_v100_7) = res7 m c
      ∧ r.2.mem ((c.tc : Thread nD τ).loc main_v112) = res8 m c
      ∧ r.2.mem ((c.tc : Thread nD τ).loc main_v114) = res9 m c
      ∧ r.2.mem ((c.tc : Thread nD τ).loc main_v116) = res10 m c
      ∧ r.2.mem ((c.tc : Thread nD τ).loc main_v100_11) = res11 m c
      ∧ r.2.mem ((c.tc : Thread nD τ).loc main_v100_12) = res12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v102 (Pipeline.mem_restRefs_of main_v102 (by decide) (by decide))).trans (tail0 m c (hr c)),
    ((h c).1 15).trans ((final15 m c).trans (a15 m c)),
    ((h c).1 16).trans ((final16 m c).trans (a16 m c)),
    ((h c).2 main_v104 (Pipeline.mem_restRefs_of main_v104 (by decide) (by decide))).trans (tail3 m c),
    ((h c).2 main_v106 (Pipeline.mem_restRefs_of main_v106 (by decide) (by decide))).trans (tail4 m c),
    ((h c).2 main_v108 (Pipeline.mem_restRefs_of main_v108 (by decide) (by decide))).trans (tail5 m c),
    ((h c).2 main_v110 (Pipeline.mem_restRefs_of main_v110 (by decide) (by decide))).trans (tail6 m c),
    ((h c).1 21).trans ((final21 m c).trans (a21 m c)),
    ((h c).2 main_v112 (Pipeline.mem_restRefs_of main_v112 (by decide) (by decide))).trans (tail8 m c (hr c)),
    ((h c).2 main_v114 (Pipeline.mem_restRefs_of main_v114 (by decide) (by decide))).trans (tail9 m c (hr c)),
    ((h c).2 main_v116 (Pipeline.mem_restRefs_of main_v116 (by decide) (by decide))).trans (tail10 m c),
    ((h c).1 25).trans ((final25 m c).trans (a25 m c)),
    ((h c).1 26).trans ((final26 m c).trans (a26 m c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

end Cert.Kernel3Ideal.Result

end
-- ==== Proof.Proj.RefValue.lean ====
module

public import proofs.«01_k».proof.Proof.Proj.Row
public import proofs.«01_k».proof.Proof.Gen.Reference3Ideal.Run
public import proofs.«01_k».proof.Proof.Gen.Reference3Ideal.Read
public import Idealize.ShloMosaic.Lib.Pointwise
public import Idealize.ShloMosaic.Lib.StableHlo.ReadAt

/-!
The projection reference's results, element by element.
-/

@[expose] public section

set_option maxRecDepth 16384

noncomputable section

namespace Cert.Reference3Ideal.RefValue

open Cert.Reference3Ideal Cert.Reference3Ideal.Gen Cert.Reference3Ideal.Read Cert.Proj
open Idealize.ShloMosaic Idealize.ShloMosaic.TcCoe Idealize.ShloMosaic.Pointwise

variable (x0 : Vec Ideal S8x2048x1024 .f32) (x1 : Vec Ideal S8x2048 .i32) (x2 : Vec Ideal S1024 .f32) (x3 : Vec Ideal S1024x3768 .f32) (x4 : Vec Ideal S256 .f32) (x5 : Vec Ideal S128 .f32)
  (x6 : Vec Ideal S256x768 .f32) (x7 : Vec Ideal S128x1024 .f32)

/-- The row functions of a token, in the arguments. -/
abbrev rPr (b : Fin 8) (p : Fin 2048) : Fin 3768 → EReal := pr (fun k => x0 (ix3 b p k)) (fun k => x2 (ix1 k)) fun k c => x3 (ix2 k c)
abbrev rQh (b : Fin 8) (p : Fin 2048) : Fin 768 → EReal := qh (fun k => x0 (ix3 b p k)) (fun k => x2 (ix1 k)) (fun k c => x3 (ix2 k c)) (fun k => x4 (ix1 k)) fun k c => x6 (ix2 k c)
abbrev rKvh (b : Fin 8) (p : Fin 2048) : Fin 1024 → EReal := kvh (fun k => x0 (ix3 b p k)) (fun k => x2 (ix1 k)) (fun k c => x3 (ix2 k c)) (fun k => x5 (ix1 k)) fun k c => x7 (ix2 k c)
abbrev tb (R : Fin 16384) : Fin 8 := ⟨R.val / 2048, by omega⟩
abbrev tp (R : Fin 16384) : Fin 2048 := ⟨R.val % 2048, by omega⟩

theorem one_bits : Ideal.ofBits FTy.f32 0x3F800000#32 = 1 := by
  refine Eq.trans ?_ EReal.coe_one
  simp [Ideal.ofBits, Ideal.ieee, -EReal.coe_mul]; norm_num

theorem zero_bits : Ideal.ofBits FTy.f32 0x00000000#32 = (0 : EReal) := by simp [Ideal.ofBits, Ideal.ieee]

theorem v12_read (b : Fin 8) (p : Fin 2048) (j : Fin 1024) : val_main_v12 (F := Ideal) x0 x2 (ix3 b p j) = nrm c1024 (fun k => x0 (ix3 b p k)) (fun k => x2 (ix1 k)) j := by
  rw [val_main_v12_apply, val_main_v9_apply, val_main_v8_apply, val_main_v7_apply, val_main_v6_apply, val_main_v5_apply, val_main_v4_apply, val_main_v3_apply, val_main_v2_apply, val_main_v1_apply,
    val_main_v11_apply, val_main_v10_apply]
  have e0 : ∀ k, idx_main_v1 (idx_main_v2 (idx_main_v8 (ix3 b p j))) k = ix3 b p k := fun k => eq_ix3 _
  have e1 : idx_main_v10 (idx_main_v11 (ix3 b p j)) = ix1 j := eq_ix1 _
  simp only [e0, e1, val_main_v0_apply]
  show _ * Ideal.rsqrt (Ideal.div (Ideal.ofBits FTy.f32 0x00000000#32 + ∑ k, _) _ + _) * _ = _
  rw [zero_bits, zero_add]
  rfl

theorem v13_read (b : Fin 8) (p : Fin 2048) (j : Fin 3768) : val_main_v13 (F := Ideal) x0 x2 x3 (ix3 b p j) = rPr x0 x2 x3 b p j := by
  rw [val_main_v13_apply]
  have e0 : ∀ l, lidx_main_v13 (ix3 b p j) l = ix3 b p l := fun l => eq_ix3 _
  have e1 : ∀ l, ridx_main_v13 (ix3 b p j) l = ix2 l j := fun l => eq_ix2 _
  simp only [e0, e1, v12_read]
  rfl

theorem v39_read (b : Fin 8) (p : Fin 2048) (j : Fin 256) : val_main_v39 (F := Ideal) x0 x2 x3 x4 (ix3 b p j)
    = cqn (fun k => x0 (ix3 b p k)) (fun k => x2 (ix1 k)) (fun k c => x3 (ix2 k c)) (fun k => x4 (ix1 k)) j := by
  rw [val_main_v39_apply, val_main_v36_apply, val_main_v35_apply, val_main_v34_apply, val_main_v33_apply, val_main_v32_apply, val_main_v31_apply, val_main_v30_apply, val_main_v29_apply, val_main_v28_apply,
    val_main_v38_apply, val_main_v37_apply, val_main_v22_apply]
  have e0 : ∀ k : Fin 256, idx_main_v22 (idx_main_v28 (idx_main_v29 (idx_main_v35 (ix3 b p j))) k) = ix3 b p ⟨1304 + k.val, by omega⟩ := fun k => eq_ix3 _
  have e1 : idx_main_v37 (idx_main_v38 (ix3 b p j)) = ix1 j := eq_ix1 _
  have e2 : idx_main_v22 (ix3 b p j) = ix3 b p ⟨1304 + j.val, by omega⟩ := eq_ix3 _
  simp only [val_main_v27_apply, val_main_v22_apply, e0, e1, e2, v13_read]
  show _ * Ideal.rsqrt (Ideal.div (Ideal.ofBits FTy.f32 0x00000000#32 + ∑ k, _) _ + _) * _ = _
  rw [zero_bits, zero_add]
  rfl

theorem v54_read (b : Fin 8) (p : Fin 2048) (j : Fin 128) : val_main_v54 (F := Ideal) x0 x2 x3 x5 (ix3 b p j)
    = ckn (fun k => x0 (ix3 b p k)) (fun k => x2 (ix1 k)) (fun k c => x3 (ix2 k c)) (fun k => x5 (ix1 k)) j := by
  rw [val_main_v54_apply, val_main_v51_apply, val_main_v50_apply, val_main_v49_apply, val_main_v48_apply, val_main_v47_apply, val_main_v46_apply, val_main_v45_apply, val_main_v44_apply, val_main_v43_apply,
    val_main_v53_apply, val_main_v52_apply, val_main_v23_apply]
  have e0 : ∀ k : Fin 128, idx_main_v23 (idx_main_v43 (idx_main_v44 (idx_main_v50 (ix3 b p j))) k) = ix3 b p ⟨1560 + k.val, by omega⟩ := fun k => eq_ix3 _
  have e1 : idx_main_v52 (idx_main_v53 (ix3 b p j)) = ix1 j := eq_ix1 _
  have e2 : idx_main_v23 (ix3 b p j) = ix3 b p ⟨1560 + j.val, by omega⟩ := eq_ix3 _
  simp only [val_main_v42_apply, val_main_v23_apply, e0, e1, e2, v13_read]
  show _ * Ideal.rsqrt (Ideal.div (Ideal.ofBits FTy.f32 0x00000000#32 + ∑ k, _) _ + _) * _ = _
  rw [zero_bits, zero_add]
  rfl

theorem v41_read (b : Fin 8) (p : Fin 2048) (k : Fin 8) (d : Fin 96) : val_main_v41 (F := Ideal) x0 x2 x3 x4 x6 (ix4 b p k d) = rQh x0 x2 x3 x4 x6 b p ⟨96 * k.val + d.val, by omega⟩ := by
  rw [val_main_v41_apply, show idx_main_v41 (ix4 b p k d) = ix3 b p ⟨96 * k.val + d.val, by omega⟩ by
    refine (eq_ix3 _).trans ?_
    congr 1 <;> apply Fin.ext
    · show (((b.val * 2048 + p.val) * 8 + k.val) * 96 + d.val) / 1572864 = b.val; omega
    · show (((b.val * 2048 + p.val) * 8 + k.val) * 96 + d.val) / 768 % 2048 = p.val; omega
    · show (((b.val * 2048 + p.val) * 8 + k.val) * 96 + d.val) % 768 = 96 * k.val + d.val; omega]
  rw [val_main_v40_apply]
  have e0 : ∀ (j : Fin 768) l, lidx_main_v40 (ix3 b p j) l = ix3 b p l := fun j l => eq_ix3 _
  have e1 : ∀ (j : Fin 768) l, ridx_main_v40 (ix3 b p j) l = ix2 l j := fun j l => eq_ix2 _
  simp only [e0, e1, v39_read]
  rfl

theorem v56_read (b : Fin 8) (p : Fin 2048) (k : Fin 8) (d : Fin 128) : val_main_v56 (F := Ideal) x0 x2 x3 x5 x7 (ix4 b p k d) = rKvh x0 x2 x3 x5 x7 b p ⟨128 * k.val + d.val, by omega⟩ := by
  rw [val_main_v56_apply, show idx_main_v56 (ix4 b p k d) = ix3 b p ⟨128 * k.val + d.val, by omega⟩ by
    refine (eq_ix3 _).trans ?_
    congr 1 <;> apply Fin.ext
    · show (((b.val * 2048 + p.val) * 8 + k.val) * 128 + d.val) / 2097152 = b.val; omega
    · show (((b.val * 2048 + p.val) * 8 + k.val) * 128 + d.val) / 1024 % 2048 = p.val; omega
    · show (((b.val * 2048 + p.val) * 8 + k.val) * 128 + d.val) % 1024 = 128 * k.val + d.val; omega]
  rw [val_main_v55_apply]
  have e0 : ∀ (j : Fin 1024) l, lidx_main_v55 (ix3 b p j) l = ix3 b p l := fun j l => eq_ix3 _
  have e1 : ∀ (j : Fin 1024) l, ridx_main_v55 (ix3 b p j) l = ix2 l j := fun j l => eq_ix2 _
  simp only [e0, e1, v54_read]
  rfl

/-- The token's angle. -/
theorem v72_read (b : Fin 8) (p : Fin 2048) (j : Fin 16) : val_main_v72 (F := Ideal) x1 (ix3 b p j) = ang (x1 (ix2 b p)) j := by
  rw [val_main_v72_apply, val_main_v70_apply, val_main_v68_apply, val_main_v67_apply, val_main_v71_apply, val_main_v69_apply, val_main_v66_apply, val_main_v65_apply, val_main_v64_apply, val_main_v63_apply,
    val_main_v62_apply]
  have e0 : idx_main_v68 (idx_main_v70 (ix3 b p j)) = ix2 b p := eq_ix2 _
  rw [e0, val_main_v61_apply, val_main_v60_apply, val_main_v59_apply]
  have e1 : idx_main_v69 (idx_main_v71 (ix3 b p j)) = ix1 j := eq_ix1 _
  rw [e1]
  show _ * Ideal.pow _ (Ideal.div (-(Ideal.ofBits FTy.f32 0x00000000#32 + _)) _) = _
  rw [zero_bits, zero_add]
  rfl

/-- A rotary pair of the queries' lanes. -/
theorem v90_read (b : Fin 8) (p : Fin 2048) (k : Fin 8) (j : Fin 32) : val_main_v90 (F := Ideal) x0 x1 x2 x3 x4 x6 (ix4 b p k j)
    = rope (x1 (ix2 b p)) (fun j => rQh x0 x2 x3 x4 x6 b p ⟨96 * k.val + (64 + j.val), by omega⟩) j := by
  unfold val_main_v90
  rw [concatenate_pair_apply]
  unfold rope
  by_cases hj : j.val < 16
  · refine (dif_pos hj).trans ?_
    rw [dif_pos hj]
    refine (congrArg (val_main_v84 (F := Ideal) x0 x1 x2 x3 x4 x6) (eq_ix4 _)).trans ?_
    show val_main_v84 (F := Ideal) x0 x1 x2 x3 x4 x6 (ix4 b p k ⟨j.val, hj⟩) = _
    rw [val_main_v84_apply, val_main_v81_apply, val_main_v83_apply, val_main_v80_apply, val_main_v82_apply, val_main_v76_apply, val_main_v77_apply, val_main_v73_apply, val_main_v74_apply,
      val_main_v78_apply, val_main_v79_apply, val_main_v75_apply, val_main_v75_apply,
      show idx_main_v75 (idx_main_v78 (ix4 b p k ⟨j.val, hj⟩)) = ix4 b p k ⟨64 + j.val, by omega⟩ from eq_ix4 _,
      show idx_main_v75 (idx_main_v79 (ix4 b p k ⟨j.val, hj⟩)) = ix4 b p k ⟨64 + (16 + j.val), by omega⟩ from eq_ix4 _,
      show idx_main_v76 (idx_main_v80 (ix4 b p k ⟨j.val, hj⟩)) = ix3 b p ⟨j.val, hj⟩ from eq_ix3 _,
      show idx_main_v77 (idx_main_v82 (ix4 b p k ⟨j.val, hj⟩)) = ix3 b p ⟨j.val, hj⟩ from eq_ix3 _, v41_read, v41_read, v72_read]
    rfl
  · refine (dif_neg hj).trans ?_
    rw [dif_neg hj]
    refine (congrArg (val_main_v89 (F := Ideal) x0 x1 x2 x3 x4 x6) (eq_ix4 _)).trans ?_
    show val_main_v89 (F := Ideal) x0 x1 x2 x3 x4 x6 (ix4 b p k ⟨j.val - 16, by omega⟩) = _
    rw [val_main_v89_apply, val_main_v86_apply, val_main_v88_apply, val_main_v85_apply, val_main_v87_apply, val_main_v76_apply, val_main_v77_apply, val_main_v73_apply, val_main_v74_apply,
      val_main_v78_apply, val_main_v79_apply, val_main_v75_apply, val_main_v75_apply,
      show idx_main_v75 (idx_main_v78 (ix4 b p k ⟨j.val - 16, by omega⟩)) = ix4 b p k ⟨64 + (j.val - 16), by omega⟩ from eq_ix4 _,
      show idx_main_v75 (idx_main_v79 (ix4 b p k ⟨j.val - 16, by omega⟩)) = ix4 b p k ⟨64 + (16 + (j.val - 16)), by omega⟩ from eq_ix4 _,
      show idx_main_v77 (idx_main_v85 (ix4 b p k ⟨j.val - 16, by omega⟩)) = ix3 b p ⟨j.val - 16, by omega⟩ from eq_ix3 _,
      show idx_main_v76 (idx_main_v87 (ix4 b p k ⟨j.val - 16, by omega⟩)) = ix3 b p ⟨j.val - 16, by omega⟩ from eq_ix3 _, v41_read, v41_read, v72_read]
    rfl

theorem v99_read (b : Fin 8) (p : Fin 2048) (j : Fin 32) : val_main_v99 (F := Ideal) x0 x1 x2 x3 (ix3 b p j)
    = rope (x1 (ix2 b p)) (fun j => rPr x0 x2 x3 b p ⟨1688 + j.val, by omega⟩) j := by
  unfold val_main_v99
  rw [concatenate_pair_apply]
  unfold rope
  by_cases hj : j.val < 16
  · refine (dif_pos hj).trans ?_
    rw [dif_pos hj]
    refine (congrArg (val_main_v95 (F := Ideal) x0 x1 x2 x3) (eq_ix3 _)).trans ?_
    show val_main_v95 (F := Ideal) x0 x1 x2 x3 (ix3 b p ⟨j.val, hj⟩) = _
    rw [val_main_v95_apply, val_main_v93_apply, val_main_v94_apply, val_main_v73_apply, val_main_v74_apply, val_main_v91_apply, val_main_v92_apply, val_main_v24_apply, val_main_v24_apply,
      show idx_main_v24 (idx_main_v91 (ix3 b p ⟨j.val, hj⟩)) = ix3 b p ⟨1688 + j.val, by omega⟩ from eq_ix3 _,
      show idx_main_v24 (idx_main_v92 (ix3 b p ⟨j.val, hj⟩)) = ix3 b p ⟨1688 + (16 + j.val), by omega⟩ from eq_ix3 _, v13_read, v13_read, v72_read]
    rfl
  · refine (dif_neg hj).trans ?_
    rw [dif_neg hj]
    refine (congrArg (val_main_v98 (F := Ideal) x0 x1 x2 x3) (eq_ix3 _)).trans ?_
    show val_main_v98 (F := Ideal) x0 x1 x2 x3 (ix3 b p ⟨j.val - 16, by omega⟩) = _
    rw [val_main_v98_apply, val_main_v96_apply, val_main_v97_apply, val_main_v73_apply, val_main_v74_apply, val_main_v91_apply, val_main_v92_apply, val_main_v24_apply, val_main_v24_apply,
      show idx_main_v24 (idx_main_v91 (ix3 b p ⟨j.val - 16, by omega⟩)) = ix3 b p ⟨1688 + (j.val - 16), by omega⟩ from eq_ix3 _,
      show idx_main_v24 (idx_main_v92 (ix3 b p ⟨j.val - 16, by omega⟩)) = ix3 b p ⟨1688 + (16 + (j.val - 16)), by omega⟩ from eq_ix3 _, v13_read, v13_read, v72_read]
    rfl

theorem result0 (R : Fin 16384) (k : Fin 8) (d : Fin 64) : val_main_v127 (F := Ideal) x0 x2 x3 (ix3 R k d) = rPr x0 x2 x3 (tb R) (tp R) ⟨64 * k.val + d.val, by omega⟩ * sc64 := by
  refine (val_main_v127_apply _ _ _ _).trans ?_
  show val_main_v126 (F := Ideal) x0 x2 x3 _ = _
  rw [val_main_v126_apply, show idx_main_v126 (ix3 R k d) = ix3 (tb R) (tp R) ⟨64 * k.val + d.val, by omega⟩ by
    refine (eq_ix3 _).trans ?_
    congr 1 <;> apply Fin.ext
    · show ((R.val * 8 + k.val) * 64 + d.val) / 1048576 = R.val / 2048; omega
    · show ((R.val * 8 + k.val) * 64 + d.val) / 512 % 2048 = R.val % 2048; omega
    · show ((R.val * 8 + k.val) * 64 + d.val) % 512 = 64 * k.val + d.val; omega]
  rw [val_main_v125_apply, val_main_v14_apply, val_main_v124_apply, val_main_v123_apply, val_main_v122_apply, val_main_v121_apply, val_main_v120_apply,
    show idx_main_v14 (ix3 (tb R) (tp R) (⟨64 * k.val + d.val, by omega⟩ : Fin 512)) = ix3 (tb R) (tp R) ⟨64 * k.val + d.val, by omega⟩ from eq_ix3 _, v13_read]
  show _ * Ideal.div (Ideal.ofBits FTy.f32 0x3F800000#32) _ = _
  rw [one_bits]
  rfl

theorem result1 (R : Fin 16384) (j : Fin 128) : val_main_v129 (F := Ideal) x0 x2 x3 (ix2 R j) = rPr x0 x2 x3 (tb R) (tp R) ⟨512 + j.val, by omega⟩ := by
  refine (val_main_v129_apply _ _ _ _).trans ?_
  show val_main_v128 (F := Ideal) x0 x2 x3 _ = _
  rw [val_main_v128_apply, show idx_main_v128 (ix2 R j) = ix3 (tb R) (tp R) j by
    refine (eq_ix3 _).trans ?_
    congr 1 <;> apply Fin.ext
    · show (R.val * 128 + j.val) / 262144 = R.val / 2048; omega
    · show (R.val * 128 + j.val) / 128 % 2048 = R.val % 2048; omega
    · show (R.val * 128 + j.val) % 128 = j.val; omega]
  rw [val_main_v15_apply, show idx_main_v15 (ix3 (tb R) (tp R) j) = ix3 (tb R) (tp R) ⟨512 + j.val, by omega⟩ from eq_ix3 _, v13_read]

theorem result2 (R : Fin 16384) (j : Fin 128) : val_main_v131 (F := Ideal) x0 x2 x3 (ix2 R j) = rPr x0 x2 x3 (tb R) (tp R) ⟨640 + j.val, by omega⟩ := by
  refine (val_main_v131_apply _ _ _ _).trans ?_
  show val_main_v130 (F := Ideal) x0 x2 x3 _ = _
  rw [val_main_v130_apply, show idx_main_v130 (ix2 R j) = ix3 (tb R) (tp R) j by
    refine (eq_ix3 _).trans ?_
    congr 1 <;> apply Fin.ext
    · show (R.val * 128 + j.val) / 262144 = R.val / 2048; omega
    · show (R.val * 128 + j.val) / 128 % 2048 = R.val % 2048; omega
    · show (R.val * 128 + j.val) % 128 = j.val; omega]
  rw [val_main_v16_apply, show idx_main_v16 (ix3 (tb R) (tp R) j) = ix3 (tb R) (tp R) ⟨640 + j.val, by omega⟩ from eq_ix3 _, v13_read]

theorem result3 (R : Fin 16384) (k : Fin 2) (d : Fin 64) : val_main_v133 (F := Ideal) x0 x2 x3 (ix3 R k d) = rPr x0 x2 x3 (tb R) (tp R) ⟨768 + (64 * k.val + d.val), by omega⟩ := by
  refine (val_main_v133_apply _ _ _ _).trans ?_
  show val_main_v132 (F := Ideal) x0 x2 x3 _ = _
  rw [val_main_v132_apply, show idx_main_v132 (ix3 R k d) = ix3 (tb R) (tp R) ⟨64 * k.val + d.val, by omega⟩ by
    refine (eq_ix3 _).trans ?_
    congr 1 <;> apply Fin.ext
    · show ((R.val * 2 + k.val) * 64 + d.val) / 262144 = R.val / 2048; omega
    · show ((R.val * 2 + k.val) * 64 + d.val) / 128 % 2048 = R.val % 2048; omega
    · show ((R.val * 2 + k.val) * 64 + d.val) % 128 = 64 * k.val + d.val; omega]
  rw [val_main_v17_apply, show idx_main_v17 (ix3 (tb R) (tp R) (⟨64 * k.val + d.val, by omega⟩ : Fin 128)) = ix3 (tb R) (tp R) ⟨768 + (64 * k.val + d.val), by omega⟩ from eq_ix3 _, v13_read]

theorem result4 (a : Fin 64) (k : Fin 2) (d : Fin 64) (i : Fin 256) : val_main_v136 (F := Ideal) x0 x2 x3 (ix4 a k d i)
    = rPr x0 x2 x3 (tb ⟨256 * a.val + i.val, by omega⟩) (tp ⟨256 * a.val + i.val, by omega⟩) ⟨896 + (64 * k.val + d.val), by omega⟩ := by
  refine (val_main_v136_apply _ _ _ _).trans ?_
  show val_main_v135 (F := Ideal) x0 x2 x3 _ = _
  rw [val_main_v135_apply, val_main_v134_apply, show idx_main_v134 (idx_main_v135 (ix4 a k d i)) = ix3 (tb ⟨256 * a.val + i.val, by omega⟩) (tp ⟨256 * a.val + i.val, by omega⟩) ⟨64 * k.val + d.val, by omega⟩ by
    refine (eq_ix3 _).trans ?_
    congr 1 <;> apply Fin.ext
    · show (((a.val * 256 + i.val) * 2 + k.val) * 64 + d.val) / 262144 = (256 * a.val + i.val) / 2048; omega
    · show (((a.val * 256 + i.val) * 2 + k.val) * 64 + d.val) / 128 % 2048 = (256 * a.val + i.val) % 2048; omega
    · show (((a.val * 256 + i.val) * 2 + k.val) * 64 + d.val) % 128 = 64 * k.val + d.val; omega]
  rw [val_main_v18_apply, show ∀ (b : Fin 8) (p : Fin 2048), idx_main_v18 (ix3 b p (⟨64 * k.val + d.val, by omega⟩ : Fin 128)) = ix3 b p ⟨896 + (64 * k.val + d.val), by omega⟩ from fun _ _ => eq_ix3 _, v13_read]

theorem result5 (R : Fin 16384) (k : Fin 2) (d : Fin 64) : val_main_v138 (F := Ideal) x0 x2 x3 (ix3 R k d) = rPr x0 x2 x3 (tb R) (tp R) ⟨1024 + (64 * k.val + d.val), by omega⟩ := by
  refine (val_main_v138_apply _ _ _ _).trans ?_
  show val_main_v137 (F := Ideal) x0 x2 x3 _ = _
  rw [val_main_v137_apply, show idx_main_v137 (ix3 R k d) = ix3 (tb R) (tp R) ⟨64 * k.val + d.val, by omega⟩ by
    refine (eq_ix3 _).trans ?_
    congr 1 <;> apply Fin.ext
    · show ((R.val * 2 + k.val) * 64 + d.val) / 262144 = R.val / 2048; omega
    · show ((R.val * 2 + k.val) * 64 + d.val) / 128 % 2048 = R.val % 2048; omega
    · show ((R.val * 2 + k.val) * 64 + d.val) % 128 = 64 * k.val + d.val; omega]
  rw [val_main_v19_apply, show idx_main_v19 (ix3 (tb R) (tp R) (⟨64 * k.val + d.val, by omega⟩ : Fin 128)) = ix3 (tb R) (tp R) ⟨1024 + (64 * k.val + d.val), by omega⟩ from eq_ix3 _, v13_read]

theorem result6 (a : Fin 64) (k : Fin 2) (d : Fin 64) (i : Fin 256) : val_main_v141 (F := Ideal) x0 x2 x3 (ix4 a k d i)
    = rPr x0 x2 x3 (tb ⟨256 * a.val + i.val, by omega⟩) (tp ⟨256 * a.val + i.val, by omega⟩) ⟨1152 + (64 * k.val + d.val), by omega⟩ := by
  refine (val_main_v141_apply _ _ _ _).trans ?_
  show val_main_v140 (F := Ideal) x0 x2 x3 _ = _
  rw [val_main_v140_apply, val_main_v139_apply, show idx_main_v139 (idx_main_v140 (ix4 a k d i)) = ix3 (tb ⟨256 * a.val + i.val, by omega⟩) (tp ⟨256 * a.val + i.val, by omega⟩) ⟨64 * k.val + d.val, by omega⟩ by
    refine (eq_ix3 _).trans ?_
    congr 1 <;> apply Fin.ext
    · show (((a.val * 256 + i.val) * 2 + k.val) * 64 + d.val) / 262144 = (256 * a.val + i.val) / 2048; omega
    · show (((a.val * 256 + i.val) * 2 + k.val) * 64 + d.val) / 128 % 2048 = (256 * a.val + i.val) % 2048; omega
    · show (((a.val * 256 + i.val) * 2 + k.val) * 64 + d.val) % 128 = 64 * k.val + d.val; omega]
  rw [val_main_v20_apply, show ∀ (b : Fin 8) (p : Fin 2048), idx_main_v20 (ix3 b p (⟨64 * k.val + d.val, by omega⟩ : Fin 128)) = ix3 b p ⟨1152 + (64 * k.val + d.val), by omega⟩ from fun _ _ => eq_ix3 _, v13_read]

theorem result7 (R : Fin 16384) (j : Fin 1536) : val_main_v142 (F := Ideal) x0 x2 x3 (ix2 R j) = gate (rPr x0 x2 x3 (tb R) (tp R) ⟨1280 + j.val / 64, by omega⟩) := by
  rw [val_main_v142_apply, val_main_v119_apply, val_main_v118_apply, show idx_main_v118 (idx_main_v119 (idx_main_v142 (ix2 R j))) = ix3 (tb R) (tp R) ⟨j.val / 64, by omega⟩ by
    refine (eq_ix3 _).trans ?_
    congr 1 <;> apply Fin.ext
    · show (R.val * 1536 + j.val) / 3145728 = R.val / 2048; omega
    · show (R.val * 1536 + j.val) / 1536 % 2048 = R.val % 2048; omega
    · show (R.val * 1536 + j.val) / 64 % 24 = j.val / 64; omega]
  rw [val_main_v117_apply, val_main_v116_apply, val_main_v115_apply, val_main_v114_apply, val_main_v113_apply, val_main_v112_apply, val_main_v21_apply,
    show idx_main_v21 (ix3 (tb R) (tp R) (⟨j.val / 64, by omega⟩ : Fin 24)) = ix3 (tb R) (tp R) ⟨1280 + j.val / 64, by omega⟩ from eq_ix3 _, v13_read]
  show Ideal.div (Ideal.ofBits FTy.f32 0x3F800000#32) (Ideal.ofBits FTy.f32 0x3F800000#32 + _) = _
  rw [one_bits]; rfl

theorem result8 (R : Fin 16384) (k : Fin 8) (d : Fin 96) : val_main_v144 (F := Ideal) x0 x1 x2 x3 x4 x6 (ix3 R k d)
    = tq (fun k => x0 (ix3 (tb R) (tp R) k)) (fun k => x2 (ix1 k)) (fun k c => x3 (ix2 k c)) (fun k => x4 (ix1 k)) (fun k c => x6 (ix2 k c)) (x1 (ix2 (tb R) (tp R))) k d := by
  refine (val_main_v144_apply _ _ _ _ _ _ _).trans ?_
  show val_main_v143 (F := Ideal) x0 x1 x2 x3 x4 x6 _ = _
  rw [val_main_v143_apply, show idx_main_v143 (ix3 R k d) = ix4 (tb R) (tp R) k d by
    refine (eq_ix4 _).trans ?_
    congr 1 <;> apply Fin.ext
    · show ((R.val * 8 + k.val) * 96 + d.val) / 1572864 = R.val / 2048; omega
    · show ((R.val * 8 + k.val) * 96 + d.val) / 768 % 2048 = R.val % 2048; omega
    · show ((R.val * 8 + k.val) * 96 + d.val) / 96 % 8 = k.val; omega
    · show ((R.val * 8 + k.val) * 96 + d.val) % 96 = d.val; omega]
  rw [val_main_v107_apply, val_main_v106_apply, val_main_v105_apply, val_main_v104_apply, val_main_v103_apply, val_main_v102_apply]
  show _ * Ideal.div (Ideal.ofBits FTy.f32 0x3F800000#32) _ = _
  rw [one_bits]
  refine congrArg (fun z : EReal => z * sc96) ?_
  unfold val_main_v101
  rw [concatenate_pair_apply]
  by_cases hd : d.val < 64
  · refine (dif_pos hd).trans ?_
    rw [dif_pos hd]
    refine (congrArg (val_main_v100 (F := Ideal) x0 x2 x3 x4 x6) (eq_ix4 _)).trans ?_
    show val_main_v100 (F := Ideal) x0 x2 x3 x4 x6 (ix4 (tb R) (tp R) k ⟨d.val, hd⟩) = _
    rw [val_main_v100_apply, show idx_main_v100 (ix4 (tb R) (tp R) k ⟨d.val, hd⟩) = ix4 (tb R) (tp R) k d from eq_ix4 _, v41_read]
  · refine (dif_neg hd).trans ?_
    rw [dif_neg hd]
    refine (congrArg (val_main_v90 (F := Ideal) x0 x1 x2 x3 x4 x6) (eq_ix4 _)).trans ?_
    show val_main_v90 (F := Ideal) x0 x1 x2 x3 x4 x6 (ix4 (tb R) (tp R) k ⟨d.val - 64, by omega⟩) = _
    rw [v90_read]

theorem result9 (R : Fin 16384) (k : Fin 8) (d : Fin 96) : val_main_v146 (F := Ideal) x0 x1 x2 x3 x5 x7 (ix3 R k d)
    = tk (fun k => x0 (ix3 (tb R) (tp R) k)) (fun k => x2 (ix1 k)) (fun k c => x3 (ix2 k c)) (fun k => x5 (ix1 k)) (fun k c => x7 (ix2 k c)) (x1 (ix2 (tb R) (tp R))) k d := by
  refine (val_main_v146_apply _ _ _ _ _ _ _).trans ?_
  show val_main_v145 (F := Ideal) x0 x1 x2 x3 x5 x7 _ = _
  rw [val_main_v145_apply, show idx_main_v145 (ix3 R k d) = ix4 (tb R) (tp R) k d by
    refine (eq_ix4 _).trans ?_
    congr 1 <;> apply Fin.ext
    · show ((R.val * 8 + k.val) * 96 + d.val) / 1572864 = R.val / 2048; omega
    · show ((R.val * 8 + k.val) * 96 + d.val) / 768 % 2048 = R.val % 2048; omega
    · show ((R.val * 8 + k.val) * 96 + d.val) / 96 % 8 = k.val; omega
    · show ((R.val * 8 + k.val) * 96 + d.val) % 96 = d.val; omega]
  unfold val_main_v111
  rw [concatenate_pair_apply]
  unfold tk
  by_cases hd : d.val < 64
  · refine (dif_pos hd).trans ?_
    rw [dif_pos hd]
    refine (congrArg (val_main_v108 (F := Ideal) x0 x2 x3 x5 x7) (eq_ix4 _)).trans ?_
    show val_main_v108 (F := Ideal) x0 x2 x3 x5 x7 (ix4 (tb R) (tp R) k ⟨d.val, hd⟩) = _
    rw [val_main_v108_apply, show idx_main_v108 (ix4 (tb R) (tp R) k ⟨d.val, hd⟩) = ix4 (tb R) (tp R) k ⟨d.val, by omega⟩ from eq_ix4 _, v56_read]
  · refine (dif_neg hd).trans ?_
    rw [dif_neg hd]
    refine (congrArg (val_main_v110 (F := Ideal) x0 x1 x2 x3) (eq_ix4 _)).trans ?_
    show val_main_v110 (F := Ideal) x0 x1 x2 x3 (ix4 (tb R) (tp R) k ⟨d.val - 64, by omega⟩) = _
    rw [val_main_v110_apply, val_main_v109_apply, show idx_main_v109 (idx_main_v110 (ix4 (tb R) (tp R) k ⟨d.val - 64, by omega⟩)) = ix3 (tb R) (tp R) ⟨d.val - 64, by omega⟩ from eq_ix3 _, v99_read]

theorem result10 (a : Fin 64) (g : Fin 4) (r : Fin 128) (i : Fin 256) : val_main_v151 (F := Ideal) x0 x2 x3 x5 x7 (ix4 a g r i)
    = rKvh x0 x2 x3 x5 x7 (tb ⟨256 * a.val + i.val, by omega⟩) (tp ⟨256 * a.val + i.val, by omega⟩) ⟨128 * ((128 * g.val + r.val) / 64) + (64 + (128 * g.val + r.val) % 64), by omega⟩ := by
  refine (val_main_v151_apply _ _ _ _ _ _).trans ?_
  show val_main_v150 (F := Ideal) x0 x2 x3 x5 x7 _ = _
  rw [val_main_v150_apply, val_main_v149_apply, val_main_v148_apply, val_main_v147_apply, show idx_main_v147 (idx_main_v148 (idx_main_v149 (idx_main_v150 (ix4 a g r i))))
      = ix4 (tb ⟨256 * a.val + i.val, by omega⟩) (tp ⟨256 * a.val + i.val, by omega⟩) ⟨(128 * g.val + r.val) / 64, by omega⟩ ⟨64 + (128 * g.val + r.val) % 64, by omega⟩ by
    refine (eq_ix4 _).trans ?_
    congr 1 <;> apply Fin.ext
    · show ((((a.val * 256 + i.val) * 4 + g.val) * 128 + r.val) / 512 * 512 + (((a.val * 256 + i.val) * 4 + g.val) * 128 + r.val) % 512) / 1048576 = (256 * a.val + i.val) / 2048; omega
    · show ((((a.val * 256 + i.val) * 4 + g.val) * 128 + r.val) / 512 * 512 + (((a.val * 256 + i.val) * 4 + g.val) * 128 + r.val) % 512) / 512 % 2048 = (256 * a.val + i.val) % 2048; omega
    · show ((((a.val * 256 + i.val) * 4 + g.val) * 128 + r.val) / 512 * 512 + (((a.val * 256 + i.val) * 4 + g.val) * 128 + r.val) % 512) / 64 % 8 = (128 * g.val + r.val) / 64; omega
    · show 64 + ((((a.val * 256 + i.val) * 4 + g.val) * 128 + r.val) / 512 * 512 + (((a.val * 256 + i.val) * 4 + g.val) * 128 + r.val) % 512) % 64 = 64 + (128 * g.val + r.val) % 64; omega]
  rw [v56_read]

theorem result11 (R : Fin 16384) (j : Fin 1024) : val_main_v158 (F := Ideal) x0 x2 x3 (ix2 R j) = gate (rPr x0 x2 x3 (tb R) (tp R) ⟨1720 + j.val, by omega⟩) := by
  rw [val_main_v158_apply, show idx_main_v158 (ix2 R j) = ix3 (tb R) (tp R) j by
    refine (eq_ix3 _).trans ?_
    congr 1 <;> apply Fin.ext
    · show (R.val * 1024 + j.val) / 2097152 = R.val / 2048; omega
    · show (R.val * 1024 + j.val) / 1024 % 2048 = R.val % 2048; omega
    · show (R.val * 1024 + j.val) % 1024 = j.val; omega]
  rw [val_main_v157_apply, val_main_v156_apply, val_main_v155_apply, val_main_v154_apply, val_main_v153_apply, val_main_v152_apply, val_main_v25_apply, show idx_main_v25 (ix3 (tb R) (tp R) j) = ix3 (tb R) (tp R) ⟨1720 + j.val, by omega⟩ from eq_ix3 _, v13_read]
  show Ideal.div (Ideal.ofBits FTy.f32 0x3F800000#32) (Ideal.ofBits FTy.f32 0x3F800000#32 + _) = _
  rw [one_bits]; rfl

theorem result12 (R : Fin 16384) (j : Fin 1024) : val_main_v165 (F := Ideal) x0 x2 x3 (ix2 R j) = gate (rPr x0 x2 x3 (tb R) (tp R) ⟨2744 + j.val, by omega⟩) := by
  rw [val_main_v165_apply, show idx_main_v165 (ix2 R j) = ix3 (tb R) (tp R) j by
    refine (eq_ix3 _).trans ?_
    congr 1 <;> apply Fin.ext
    · show (R.val * 1024 + j.val) / 2097152 = R.val / 2048; omega
    · show (R.val * 1024 + j.val) / 1024 % 2048 = R.val % 2048; omega
    · show (R.val * 1024 + j.val) % 1024 = j.val; omega]
  rw [val_main_v164_apply, val_main_v163_apply, val_main_v162_apply, val_main_v161_apply, val_main_v160_apply, val_main_v159_apply, val_main_v26_apply, show idx_main_v26 (ix3 (tb R) (tp R) j) = ix3 (tb R) (tp R) ⟨2744 + j.val, by omega⟩ from eq_ix3 _, v13_read]
  show Ideal.div (Ideal.ofBits FTy.f32 0x3F800000#32) (Ideal.ofBits FTy.f32 0x3F800000#32 + _) = _
  rw [one_bits]; rfl

end Cert.Reference3Ideal.RefValue

end
-- ==== Proof.Proj.Algebraic.lean ====
module

public import proofs.«01_k».proof.Defs
public import proofs.«01_k».proof.Proof.Proj.Run
public import proofs.«01_k».proof.Proof.Proj.RefValue
public import proofs.«01_k».proof.Proof.Algebraic
public import proofs.«01_k».proof.Proof.Gen.Pre_real3
public import proofs.«01_k».proof.Proof.Gen.Kernel3Ideal.Frame

/-!
The projection call: kernel and reference end with the same thirteen arrays.
-/

@[expose] public section

set_option maxRecDepth 16384
set_option maxHeartbeats 2000000

noncomputable section

namespace Cert.Proj

open Idealize.ShloMosaic Idealize.ShloMosaic.TcCoe Idealize.ShloMosaic.Pointwise Idealize.SL.Sem Cert.Kernel3Ideal

theorem frame_ideal : Cert.quiescent_Kernel3Ideal := fun m g _ => Cert.Kernel3Ideal.Gen.frame (F := Ideal) m g

theorem frame_reference : Cert.quiescent_Reference3Ideal := fun m g _ =>
  (θ_run Cert.Reference3Ideal.defs _ _).mono (fun r h => ⟨fun c => (h c).2.2.2.2.2.2.2.2.2.2.2.2.2, Idealize.ShloMosaic.sem_eq_zero_of_no_sems (by decide) r.2⟩)
    (Cert.Reference3Ideal.Value.run (F := Ideal) m g)

theorem preserves : Cert.preserves_Kernel3_Kernel3Ideal :=
  IdealRules.named_const.statement Cert.Kernel3Ideal.κ "qscale" .f32 0x3E16C740#32 (((Real.sqrt 96)⁻¹ * (Real.log 2)⁻¹ : ℝ) : EReal) rfl

theorem real_args (m : (ℓ : Loc nD τ sig) → Buf (Elt Ideal) ℓ) (h : Cert.Pre_Kernel3Ideal_real3 m) (c : Dev nD) : Result.Real3 m c :=
  ⟨fun k => ⟨_, Cert.Algebraic.real_of _ (congrFun (h c).1 (ix1 k))⟩, fun k j => ⟨_, Cert.Algebraic.real_of _ (congrFun (h c).2.1 (ix2 k j))⟩,
    fun k => ⟨_, Cert.Algebraic.real_of _ (congrFun (h c).2.2.1 (ix1 k))⟩, fun k j => ⟨_, Cert.Algebraic.real_of _ (congrFun (h c).2.2.2 (ix2 k j))⟩⟩

theorem eq0 (m : (ℓ : Loc nD τ sig) → Buf (Elt Ideal) ℓ) (c : Dev nD) : Cert.Reference3Ideal.Read.val_main_v127 (F := Ideal) (m ((c.tc : Thread nD τ).loc main_arg0)) (m ((c.tc : Thread nD τ).loc main_arg2)) (m ((c.tc : Thread nD τ).loc main_arg3)) = Result.res0 m c := by
  funext y
  obtain ⟨R, h, d, rfl⟩ : ∃ (R : Fin 16384) (h : Fin 8) (d : Fin 64), y = ix3 R h d := ⟨y 0, y 1, y 2, eq_ix3 y⟩
  exact Cert.Reference3Ideal.RefValue.result0 _ _ _ R h d

theorem eq1 (m : (ℓ : Loc nD τ sig) → Buf (Elt Ideal) ℓ) (c : Dev nD) : Cert.Reference3Ideal.Read.val_main_v129 (F := Ideal) (m ((c.tc : Thread nD τ).loc main_arg0)) (m ((c.tc : Thread nD τ).loc main_arg2)) (m ((c.tc : Thread nD τ).loc main_arg3)) = Result.res1 m c := by
  funext y
  obtain ⟨R, j, rfl⟩ : ∃ (R : Fin 16384) (j : Fin 128), y = ix2 R j := ⟨y 0, y 1, eq_ix2 y⟩
  exact Cert.Reference3Ideal.RefValue.result1 _ _ _ R j

theorem eq2 (m : (ℓ : Loc nD τ sig) → Buf (Elt Ideal) ℓ) (c : Dev nD) : Cert.Reference3Ideal.Read.val_main_v131 (F := Ideal) (m ((c.tc : Thread nD τ).loc main_arg0)) (m ((c.tc : Thread nD τ).loc main_arg2)) (m ((c.tc : Thread nD τ).loc main_arg3)) = Result.res2 m c := by
  funext y
  obtain ⟨R, j, rfl⟩ : ∃ (R : Fin 16384) (j : Fin 128), y = ix2 R j := ⟨y 0, y 1, eq_ix2 y⟩
  exact Cert.Reference3Ideal.RefValue.result2 _ _ _ R j

theorem eq3 (m : (ℓ : Loc nD τ sig) → Buf (Elt Ideal) ℓ) (c : Dev nD) : Cert.Reference3Ideal.Read.val_main_v133 (F := Ideal) (m ((c.tc : Thread nD τ).loc main_arg0)) (m ((c.tc : Thread nD τ).loc main_arg2)) (m ((c.tc : Thread nD τ).loc main_arg3)) = Result.res3 m c := by
  funext y
  obtain ⟨R, h, d, rfl⟩ : ∃ (R : Fin 16384) (h : Fin 2) (d : Fin 64), y = ix3 R h d := ⟨y 0, y 1, y 2, eq_ix3 y⟩
  exact Cert.Reference3Ideal.RefValue.result3 _ _ _ R h d

theorem eq4 (m : (ℓ : Loc nD τ sig) → Buf (Elt Ideal) ℓ) (c : Dev nD) : Cert.Reference3Ideal.Read.val_main_v136 (F := Ideal) (m ((c.tc : Thread nD τ).loc main_arg0)) (m ((c.tc : Thread nD τ).loc main_arg2)) (m ((c.tc : Thread nD τ).loc main_arg3)) = Result.res4 m c := by
  funext y
  obtain ⟨a, h, d, i, rfl⟩ : ∃ (a : Fin 64) (h : Fin 2) (d : Fin 64) (i : Fin 256), y = ix4 a h d i := ⟨y 0, y 1, y 2, y 3, eq_ix4 y⟩
  exact Cert.Reference3Ideal.RefValue.result4 _ _ _ a h d i

theorem eq5 (m : (ℓ : Loc nD τ sig) → Buf (Elt Ideal) ℓ) (c : Dev nD) : Cert.Reference3Ideal.Read.val_main_v138 (F := Ideal) (m ((c.tc : Thread nD τ).loc main_arg0)) (m ((c.tc : Thread nD τ).loc main_arg2)) (m ((c.tc : Thread nD τ).loc main_arg3)) = Result.res5 m c := by
  funext y
  obtain ⟨R, h, d, rfl⟩ : ∃ (R : Fin 16384) (h : Fin 2) (d : Fin 64), y = ix3 R h d := ⟨y 0, y 1, y 2, eq_ix3 y⟩
  exact Cert.Reference3Ideal.RefValue.result5 _ _ _ R h d

theorem eq6 (m : (ℓ : Loc nD τ sig) → Buf (Elt Ideal) ℓ) (c : Dev nD) : Cert.Reference3Ideal.Read.val_main_v141 (F := Ideal) (m ((c.tc : Thread nD τ).loc main_arg0)) (m ((c.tc : Thread nD τ).loc main_arg2)) (m ((c.tc : Thread nD τ).loc main_arg3)) = Result.res6 m c := by
  funext y
  obtain ⟨a, h, d, i, rfl⟩ : ∃ (a : Fin 64) (h : Fin 2) (d : Fin 64) (i : Fin 256), y = ix4 a h d i := ⟨y 0, y 1, y 2, y 3, eq_ix4 y⟩
  exact Cert.Reference3Ideal.RefValue.result6 _ _ _ a h d i

theorem eq7 (m : (ℓ : Loc nD τ sig) → Buf (Elt Ideal) ℓ) (c : Dev nD) : Cert.Reference3Ideal.Read.val_main_v142 (F := Ideal) (m ((c.tc : Thread nD τ).loc main_arg0)) (m ((c.tc : Thread nD τ).loc main_arg2)) (m ((c.tc : Thread nD τ).loc main_arg3)) = Result.res7 m c := by
  funext y
  obtain ⟨R, j, rfl⟩ : ∃ (R : Fin 16384) (j : Fin 1536), y = ix2 R j := ⟨y 0, y 1, eq_ix2 y⟩
  exact Cert.Reference3Ideal.RefValue.result7 _ _ _ R j

theorem eq8 (m : (ℓ : Loc nD τ sig) → Buf (Elt Ideal) ℓ) (c : Dev nD) : Cert.Reference3Ideal.Read.val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) = Result.res8 m c := by
  funext y
  obtain ⟨R, h, d, rfl⟩ : ∃ (R : Fin 16384) (h : Fin 8) (d : Fin 96), y = ix3 R h d := ⟨y 0, y 1, y 2, eq_ix3 y⟩
  exact Cert.Reference3Ideal.RefValue.result8 _ _ _ _ _ _ R h d

theorem eq9 (m : (ℓ : Loc nD τ sig) → Buf (Elt Ideal) ℓ) (c : Dev nD) : Cert.Reference3Ideal.Read.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) = Result.res9 m c := by
  funext y
  obtain ⟨R, h, d, rfl⟩ : ∃ (R : Fin 16384) (h : Fin 8) (d : Fin 96), y = ix3 R h d := ⟨y 0, y 1, y 2, eq_ix3 y⟩
  exact Cert.Reference3Ideal.RefValue.result9 _ _ _ _ _ _ R h d

theorem eq10 (m : (ℓ : Loc nD τ sig) → Buf (Elt Ideal) ℓ) (c : Dev nD) : Cert.Reference3Ideal.Read.val_main_v151 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg7)) = Result.res10 m c := by
  funext y
  obtain ⟨a, h, d, i, rfl⟩ : ∃ (a : Fin 64) (h : Fin 4) (d : Fin 128) (i : Fin 256), y = ix4 a h d i := ⟨y 0, y 1, y 2, y 3, eq_ix4 y⟩
  exact Cert.Reference3Ideal.RefValue.result10 _ _ _ _ _ a h d i

theorem eq11 (m : (ℓ : Loc nD τ sig) → Buf (Elt Ideal) ℓ) (c : Dev nD) : Cert.Reference3Ideal.Read.val_main_v158 (F := Ideal) (m ((c.tc : Thread nD τ).loc main_arg0)) (m ((c.tc : Thread nD τ).loc main_arg2)) (m ((c.tc : Thread nD τ).loc main_arg3)) = Result.res11 m c := by
  funext y
  obtain ⟨R, j, rfl⟩ : ∃ (R : Fin 16384) (j : Fin 1024), y = ix2 R j := ⟨y 0, y 1, eq_ix2 y⟩
  exact Cert.Reference3Ideal.RefValue.result11 _ _ _ R j

theorem eq12 (m : (ℓ : Loc nD τ sig) → Buf (Elt Ideal) ℓ) (c : Dev nD) : Cert.Reference3Ideal.Read.val_main_v165 (F := Ideal) (m ((c.tc : Thread nD τ).loc main_arg0)) (m ((c.tc : Thread nD τ).loc main_arg2)) (m ((c.tc : Thread nD τ).loc main_arg3)) = Result.res12 m c := by
  funext y
  obtain ⟨R, j, rfl⟩ : ∃ (R : Fin 16384) (j : Fin 1024), y = ix2 R j := ⟨y 0, y 1, eq_ix2 y⟩
  exact Cert.Reference3Ideal.RefValue.result12 _ _ _ R j

theorem algebraic : Cert.algebraic_Kernel3Ideal_Reference3Ideal_pre_real3 := fun m g m' g' hp hagree =>
  ⟨fun c => Result.res0 m c, fun c => Result.res1 m c, fun c => Result.res2 m c, fun c => Result.res3 m c, fun c => Result.res4 m c, fun c => Result.res5 m c, fun c => Result.res6 m c, fun c => Result.res7 m c, fun c => Result.res8 m c, fun c => Result.res9 m c, fun c => Result.res10 m c, fun c => Result.res11 m c, fun c => Result.res12 m c,
    Result.run m g (real_args m hp),
    (θ_run Cert.Reference3Ideal.defs _ _).mono (fun r h c => ⟨(h c).1.trans (by
        obtain ⟨e0, e1, e2, e3, e4, e5, e6, e7⟩ := hagree c
        rw [Cert.Reference3Ideal.Read.val_main_v127_eq]
        show Cert.Reference3Ideal.Read.val_main_v127 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res0 m c
        rw [e0, e2, e3]
        exact eq0 m c),
      (h c).2.1.trans (by
        obtain ⟨e0, e1, e2, e3, e4, e5, e6, e7⟩ := hagree c
        rw [Cert.Reference3Ideal.Read.val_main_v129_eq]
        show Cert.Reference3Ideal.Read.val_main_v129 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res1 m c
        rw [e0, e2, e3]
        exact eq1 m c),
      (h c).2.2.1.trans (by
        obtain ⟨e0, e1, e2, e3, e4, e5, e6, e7⟩ := hagree c
        rw [Cert.Reference3Ideal.Read.val_main_v131_eq]
        show Cert.Reference3Ideal.Read.val_main_v131 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res2 m c
        rw [e0, e2, e3]
        exact eq2 m c),
      (h c).2.2.2.1.trans (by
        obtain ⟨e0, e1, e2, e3, e4, e5, e6, e7⟩ := hagree c
        rw [Cert.Reference3Ideal.Read.val_main_v133_eq]
        show Cert.Reference3Ideal.Read.val_main_v133 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res3 m c
        rw [e0, e2, e3]
        exact eq3 m c),
      (h c).2.2.2.2.1.trans (by
        obtain ⟨e0, e1, e2, e3, e4, e5, e6, e7⟩ := hagree c
        rw [Cert.Reference3Ideal.Read.val_main_v136_eq]
        show Cert.Reference3Ideal.Read.val_main_v136 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res4 m c
        rw [e0, e2, e3]
        exact eq4 m c),
      (h c).2.2.2.2.2.1.trans (by
        obtain ⟨e0, e1, e2, e3, e4, e5, e6, e7⟩ := hagree c
        rw [Cert.Reference3Ideal.Read.val_main_v138_eq]
        show Cert.Reference3Ideal.Read.val_main_v138 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res5 m c
        rw [e0, e2, e3]
        exact eq5 m c),
      (h c).2.2.2.2.2.2.1.trans (by
        obtain ⟨e0, e1, e2, e3, e4, e5, e6, e7⟩ := hagree c
        rw [Cert.Reference3Ideal.Read.val_main_v141_eq]
        show Cert.Reference3Ideal.Read.val_main_v141 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res6 m c
        rw [e0, e2, e3]
        exact eq6 m c),
      (h c).2.2.2.2.2.2.2.1.trans (by
        obtain ⟨e0, e1, e2, e3, e4, e5, e6, e7⟩ := hagree c
        rw [Cert.Reference3Ideal.Read.val_main_v142_eq]
        show Cert.Reference3Ideal.Read.val_main_v142 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res7 m c
        rw [e0, e2, e3]
        exact eq7 m c),
      (h c).2.2.2.2.2.2.2.2.1.trans (by
        obtain ⟨e0, e1, e2, e3, e4, e5, e6, e7⟩ := hagree c
        rw [Cert.Reference3Ideal.Read.val_main_v144_eq]
        show Cert.Reference3Ideal.Read.val_main_v144 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg6)) = Result.res8 m c
        rw [e0, e1, e2, e3, e4, e6]
        exact eq8 m c),
      (h c).2.2.2.2.2.2.2.2.2.1.trans (by
        obtain ⟨e0, e1, e2, e3, e4, e5, e6, e7⟩ := hagree c
        rw [Cert.Reference3Ideal.Read.val_main_v146_eq]
        show Cert.Reference3Ideal.Read.val_main_v146 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7)) = Result.res9 m c
        rw [e0, e1, e2, e3, e5, e7]
        exact eq9 m c),
      (h c).2.2.2.2.2.2.2.2.2.2.1.trans (by
        obtain ⟨e0, e1, e2, e3, e4, e5, e6, e7⟩ := hagree c
        rw [Cert.Reference3Ideal.Read.val_main_v151_eq]
        show Cert.Reference3Ideal.Read.val_main_v151 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg7)) = Result.res10 m c
        rw [e0, e2, e3, e5, e7]
        exact eq10 m c),
      (h c).2.2.2.2.2.2.2.2.2.2.2.1.trans (by
        obtain ⟨e0, e1, e2, e3, e4, e5, e6, e7⟩ := hagree c
        rw [Cert.Reference3Ideal.Read.val_main_v158_eq]
        show Cert.Reference3Ideal.Read.val_main_v158 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res11 m c
        rw [e0, e2, e3]
        exact eq11 m c),
      (h c).2.2.2.2.2.2.2.2.2.2.2.2.1.trans (by
        obtain ⟨e0, e1, e2, e3, e4, e5, e6, e7⟩ := hagree c
        rw [Cert.Reference3Ideal.Read.val_main_v165_eq]
        show Cert.Reference3Ideal.Read.val_main_v165 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = Result.res12 m c
        rw [e0, e2, e3]
        exact eq12 m c),
      (h c).2.2.2.2.2.2.2.2.2.2.2.2.2⟩) (Cert.Reference3Ideal.Value.run (F := Ideal) m' g')⟩

end Cert.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_real3
public import proofs.«01_k».proof.Proof.Run
public import proofs.«01_k».proof.Proof.AsPrinted.Run
public import proofs.«01_k».proof.Proof.Algebraic
public import proofs.«01_k».proof.Proof.Mix.Algebraic
public import proofs.«01_k».proof.Proof.Proj.Frame
public import proofs.«01_k».proof.Proof.Proj.Algebraic

@[expose] public section

noncomputable section

namespace Cert.Proof

open Idealize.ShloMosaic Idealize.SL.Sem

/-- The reference's frame: the generated run of its host operations, every counter still at zero. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_real3.Gen.facts,
  fun m g _ => Cert.Kernel.Body.frame_main m g, fun m g _ => Cert.KernelIdeal.Body.frame_main m g, fun m g _ => Cert.KernelIdeal.Body.frame_main m g,
  frame_reference, fun m g _ => frame_reference m g trivial, Cert.Mix.frame_printed, Cert.Mix.frame_ideal, Cert.Mix.frame_reference,
  Cert.Proj.frame_printed, Cert.Proj.frame_ideal, fun m g _ => Cert.Proj.frame_ideal m g trivial, Cert.Proj.frame_reference, fun m g _ => Cert.Proj.frame_reference m g trivial,
  IdealRules.named_const.statement Cert.KernelIdeal.κ "mask" .f32 0xF149F2CA#32 ⊥ rfl, Cert.Algebraic.algebraic, trivial, Cert.Mix.algebraic,
  Cert.Proj.preserves, Cert.Proj.algebraic⟩

end Cert.Proof

end
